-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_HeadsKernel (m : (ℓ : Loc Cert.HeadsKernel.nD Cert.HeadsKernel.τ Cert.HeadsKernel.sig) → Buf (Elt Bits) ℓ) : Prop :=
  True

def Pre_HeadsKernelIdeal (m : (ℓ : Loc Cert.HeadsKernelIdeal.nD Cert.HeadsKernelIdeal.τ Cert.HeadsKernelIdeal.sig) → Buf (Elt Ideal) ℓ) : Prop :=
  True

def Pre_HeadsReferenceIdeal (m : (ℓ : Loc Cert.HeadsReferenceIdeal.nD Cert.HeadsReferenceIdeal.τ Cert.HeadsReferenceIdeal.sig) → Buf (Elt Ideal) ℓ) : Prop :=
  True

def Pre_RouteKernel (m : (ℓ : Loc Cert.RouteKernel.nD Cert.RouteKernel.τ Cert.RouteKernel.sig) → Buf (Elt Bits) ℓ) : Prop :=
  True

def Pre_RouteKernelIdeal (m : (ℓ : Loc Cert.RouteKernelIdeal.nD Cert.RouteKernelIdeal.τ Cert.RouteKernelIdeal.sig) → Buf (Elt Ideal) ℓ) : Prop :=
  True

def Pre_RouteKernelIdeal_real [hPre_real : Cert.Pre_real.Facts] (m : (ℓ : Loc Cert.RouteKernelIdeal.nD Cert.RouteKernelIdeal.τ Cert.RouteKernelIdeal.sig) → Buf (Elt Ideal) ℓ) : Prop :=
  ∀ c : Dev Cert.RouteKernelIdeal.nD,
    (Cert.Pre_real.fn (F := Ideal) (m ((c.tc : Thread Cert.RouteKernelIdeal.nD Cert.RouteKernelIdeal.τ).loc Cert.RouteKernelIdeal.main_arg0)) (m ((c.tc : Thread Cert.RouteKernelIdeal.nD Cert.RouteKernelIdeal.τ).loc Cert.RouteKernelIdeal.main_arg1)) (m ((c.tc : Thread Cert.RouteKernelIdeal.nD Cert.RouteKernelIdeal.τ).loc Cert.RouteKernelIdeal.main_arg2)) (m ((c.tc : Thread Cert.RouteKernelIdeal.nD Cert.RouteKernelIdeal.τ).loc Cert.RouteKernelIdeal.main_arg3)) (m ((c.tc : Thread Cert.RouteKernelIdeal.nD Cert.RouteKernelIdeal.τ).loc Cert.RouteKernelIdeal.main_arg4)) (m ((c.tc : Thread Cert.RouteKernelIdeal.nD Cert.RouteKernelIdeal.τ).loc Cert.RouteKernelIdeal.main_arg5)) (m ((c.tc : Thread Cert.RouteKernelIdeal.nD Cert.RouteKernelIdeal.τ).loc Cert.RouteKernelIdeal.main_arg6)) (m ((c.tc : Thread Cert.RouteKernelIdeal.nD Cert.RouteKernelIdeal.τ).loc Cert.RouteKernelIdeal.main_arg7))) = (fun _ => 1#1)

def Pre_RouteReferenceIdeal (m : (ℓ : Loc Cert.RouteReferenceIdeal.nD Cert.RouteReferenceIdeal.τ Cert.RouteReferenceIdeal.sig) → Buf (Elt Ideal) ℓ) : Prop :=
  True

def Pre_RouteReferenceIdeal_real [hPre_real : Cert.Pre_real.Facts] (m : (ℓ : Loc Cert.RouteReferenceIdeal.nD Cert.RouteReferenceIdeal.τ Cert.RouteReferenceIdeal.sig) → Buf (Elt Ideal) ℓ) : Prop :=
  ∀ c : Dev Cert.RouteReferenceIdeal.nD,
    (Cert.Pre_real.fn (F := Ideal) (m ((c.tc : Thread Cert.RouteReferenceIdeal.nD Cert.RouteReferenceIdeal.τ).loc Cert.RouteReferenceIdeal.main_arg0)) (m ((c.tc : Thread Cert.RouteReferenceIdeal.nD Cert.RouteReferenceIdeal.τ).loc Cert.RouteReferenceIdeal.main_arg1)) (m ((c.tc : Thread Cert.RouteReferenceIdeal.nD Cert.RouteReferenceIdeal.τ).loc Cert.RouteReferenceIdeal.main_arg2)) (m ((c.tc : Thread Cert.RouteReferenceIdeal.nD Cert.RouteReferenceIdeal.τ).loc Cert.RouteReferenceIdeal.main_arg3)) (m ((c.tc : Thread Cert.RouteReferenceIdeal.nD Cert.RouteReferenceIdeal.τ).loc Cert.RouteReferenceIdeal.main_arg4)) (m ((c.tc : Thread Cert.RouteReferenceIdeal.nD Cert.RouteReferenceIdeal.τ).loc Cert.RouteReferenceIdeal.main_arg5)) (m ((c.tc : Thread Cert.RouteReferenceIdeal.nD Cert.RouteReferenceIdeal.τ).loc Cert.RouteReferenceIdeal.main_arg6)) (m ((c.tc : Thread Cert.RouteReferenceIdeal.nD Cert.RouteReferenceIdeal.τ).loc Cert.RouteReferenceIdeal.main_arg7))) = (fun _ => 1#1)

def Pre_RouteOutKernel (m : (ℓ : Loc Cert.RouteOutKernel.nD Cert.RouteOutKernel.τ Cert.RouteOutKernel.sig) → Buf (Elt Bits) ℓ) : Prop :=
  True

def Pre_RouteOutKernelIdeal (m : (ℓ : Loc Cert.RouteOutKernelIdeal.nD Cert.RouteOutKernelIdeal.τ Cert.RouteOutKernelIdeal.sig) → Buf (Elt Ideal) ℓ) : Prop :=
  True

def Pre_RouteOutKernelIdeal_real_out [hPre_real_out : Cert.Pre_real_out.Facts] (m : (ℓ : Loc Cert.RouteOutKernelIdeal.nD Cert.RouteOutKernelIdeal.τ Cert.RouteOutKernelIdeal.sig) → Buf (Elt Ideal) ℓ) : Prop :=
  ∀ c : Dev Cert.RouteOutKernelIdeal.nD,
    (Cert.Pre_real_out.fn (F := Ideal) (m ((c.tc : Thread Cert.RouteOutKernelIdeal.nD Cert.RouteOutKernelIdeal.τ).loc Cert.RouteOutKernelIdeal.main_arg0)) (m ((c.tc : Thread Cert.RouteOutKernelIdeal.nD Cert.RouteOutKernelIdeal.τ).loc Cert.RouteOutKernelIdeal.main_arg1)) (m ((c.tc : Thread Cert.RouteOutKernelIdeal.nD Cert.RouteOutKernelIdeal.τ).loc Cert.RouteOutKernelIdeal.main_arg2)) (m ((c.tc : Thread Cert.RouteOutKernelIdeal.nD Cert.RouteOutKernelIdeal.τ).loc Cert.RouteOutKernelIdeal.main_arg3)) (m ((c.tc : Thread Cert.RouteOutKernelIdeal.nD Cert.RouteOutKernelIdeal.τ).loc Cert.RouteOutKernelIdeal.main_arg4)) (m ((c.tc : Thread Cert.RouteOutKernelIdeal.nD Cert.RouteOutKernelIdeal.τ).loc Cert.RouteOutKernelIdeal.main_arg5)) (m ((c.tc : Thread Cert.RouteOutKernelIdeal.nD Cert.RouteOutKernelIdeal.τ).loc Cert.RouteOutKernelIdeal.main_arg6)) (m ((c.tc : Thread Cert.RouteOutKernelIdeal.nD Cert.RouteOutKernelIdeal.τ).loc Cert.RouteOutKernelIdeal.main_arg7))) = (fun _ => 1#1)

def Pre_RouteOutReferenceIdeal (m : (ℓ : Loc Cert.RouteOutReferenceIdeal.nD Cert.RouteOutReferenceIdeal.τ Cert.RouteOutReferenceIdeal.sig) → Buf (Elt Ideal) ℓ) : Prop :=
  True

def Pre_RouteOutReferenceIdeal_real_out [hPre_real_out : Cert.Pre_real_out.Facts] (m : (ℓ : Loc Cert.RouteOutReferenceIdeal.nD Cert.RouteOutReferenceIdeal.τ Cert.RouteOutReferenceIdeal.sig) → Buf (Elt Ideal) ℓ) : Prop :=
  ∀ c : Dev Cert.RouteOutReferenceIdeal.nD,
    (Cert.Pre_real_out.fn (F := Ideal) (m ((c.tc : Thread Cert.RouteOutReferenceIdeal.nD Cert.RouteOutReferenceIdeal.τ).loc Cert.RouteOutReferenceIdeal.main_arg0)) (m ((c.tc : Thread Cert.RouteOutReferenceIdeal.nD Cert.RouteOutReferenceIdeal.τ).loc Cert.RouteOutReferenceIdeal.main_arg1)) (m ((c.tc : Thread Cert.RouteOutReferenceIdeal.nD Cert.RouteOutReferenceIdeal.τ).loc Cert.RouteOutReferenceIdeal.main_arg2)) (m ((c.tc : Thread Cert.RouteOutReferenceIdeal.nD Cert.RouteOutReferenceIdeal.τ).loc Cert.RouteOutReferenceIdeal.main_arg3)) (m ((c.tc : Thread Cert.RouteOutReferenceIdeal.nD Cert.RouteOutReferenceIdeal.τ).loc Cert.RouteOutReferenceIdeal.main_arg4)) (m ((c.tc : Thread Cert.RouteOutReferenceIdeal.nD Cert.RouteOutReferenceIdeal.τ).loc Cert.RouteOutReferenceIdeal.main_arg5)) (m ((c.tc : Thread Cert.RouteOutReferenceIdeal.nD Cert.RouteOutReferenceIdeal.τ).loc Cert.RouteOutReferenceIdeal.main_arg6)) (m ((c.tc : Thread Cert.RouteOutReferenceIdeal.nD Cert.RouteOutReferenceIdeal.τ).loc Cert.RouteOutReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def quiescent_HeadsKernel [hHeadsKernel : Cert.HeadsKernel.Facts] : Prop :=
  ∀ (m : (ℓ : Loc Cert.HeadsKernel.nD Cert.HeadsKernel.τ Cert.HeadsKernel.sig) → Buf (Elt Bits) ℓ) (g : Dev Cert.HeadsKernel.nD → PrngReg), Pre_HeadsKernel m →
    θ_run (Cert.HeadsKernel.defs (F := Bits)) (onTc (τ := Cert.HeadsKernel.τ) (Cert.HeadsKernel.main (F := Bits))) ⟨m, fun _ => 0, g⟩ (fun r => (∀ c : Dev Cert.HeadsKernel.nD,
      r.2.mem ((c.tc : Thread Cert.HeadsKernel.nD Cert.HeadsKernel.τ).loc Cert.HeadsKernel.main_arg0) = m ((c.tc : Thread Cert.HeadsKernel.nD Cert.HeadsKernel.τ).loc Cert.HeadsKernel.main_arg0)
      ∧ r.2.mem ((c.tc : Thread Cert.HeadsKernel.nD Cert.HeadsKernel.τ).loc Cert.HeadsKernel.main_arg1) = m ((c.tc : Thread Cert.HeadsKernel.nD Cert.HeadsKernel.τ).loc Cert.HeadsKernel.main_arg1)
      ∧ r.2.mem ((c.tc : Thread Cert.HeadsKernel.nD Cert.HeadsKernel.τ).loc Cert.HeadsKernel.main_arg2) = m ((c.tc : Thread Cert.HeadsKernel.nD Cert.HeadsKernel.τ).loc Cert.HeadsKernel.main_arg2)
      ∧ r.2.mem ((c.tc : Thread Cert.HeadsKernel.nD Cert.HeadsKernel.τ).loc Cert.HeadsKernel.main_arg3) = m ((c.tc : Thread Cert.HeadsKernel.nD Cert.HeadsKernel.τ).loc Cert.HeadsKernel.main_arg3)
      ∧ r.2.mem ((c.tc : Thread Cert.HeadsKernel.nD Cert.HeadsKernel.τ).loc Cert.HeadsKernel.main_arg4) = m ((c.tc : Thread Cert.HeadsKernel.nD Cert.HeadsKernel.τ).loc Cert.HeadsKernel.main_arg4)
      ∧ r.2.mem ((c.tc : Thread Cert.HeadsKernel.nD Cert.HeadsKernel.τ).loc Cert.HeadsKernel.main_arg5) = m ((c.tc : Thread Cert.HeadsKernel.nD Cert.HeadsKernel.τ).loc Cert.HeadsKernel.main_arg5)
      ∧ r.2.mem ((c.tc : Thread Cert.HeadsKernel.nD Cert.HeadsKernel.τ).loc Cert.HeadsKernel.main_arg6) = m ((c.tc : Thread Cert.HeadsKernel.nD Cert.HeadsKernel.τ).loc Cert.HeadsKernel.main_arg6)
      ∧ r.2.mem ((c.tc : Thread Cert.HeadsKernel.nD Cert.HeadsKernel.τ).loc Cert.HeadsKernel.main_arg7) = m ((c.tc : Thread Cert.HeadsKernel.nD Cert.HeadsKernel.τ).loc Cert.HeadsKernel.main_arg7))
      ∧ r.2.sem = fun _ => 0)

def quiescent_HeadsKernelIdeal [hHeadsKernelIdeal : Cert.HeadsKernelIdeal.Facts] : Prop :=
  ∀ (m : (ℓ : Loc Cert.HeadsKernelIdeal.nD Cert.HeadsKernelIdeal.τ Cert.HeadsKernelIdeal.sig) → Buf (Elt Ideal) ℓ) (g : Dev Cert.HeadsKernelIdeal.nD → PrngReg), Pre_HeadsKernelIdeal m →
    θ_run (Cert.HeadsKernelIdeal.defs (F := Ideal)) (onTc (τ := Cert.HeadsKernelIdeal.τ) (Cert.HeadsKernelIdeal.main (F := Ideal))) ⟨m, fun _ => 0, g⟩ (fun r => (∀ c : Dev Cert.HeadsKernelIdeal.nD,
      r.2.mem ((c.tc : Thread Cert.HeadsKernelIdeal.nD Cert.HeadsKernelIdeal.τ).loc Cert.HeadsKernelIdeal.main_arg0) = m ((c.tc : Thread Cert.HeadsKernelIdeal.nD Cert.HeadsKernelIdeal.τ).loc Cert.HeadsKernelIdeal.main_arg0)
      ∧ r.2.mem ((c.tc : Thread Cert.HeadsKernelIdeal.nD Cert.HeadsKernelIdeal.τ).loc Cert.HeadsKernelIdeal.main_arg1) = m ((c.tc : Thread Cert.HeadsKernelIdeal.nD Cert.HeadsKernelIdeal.τ).loc Cert.HeadsKernelIdeal.main_arg1)
      ∧ r.2.mem ((c.tc : Thread Cert.HeadsKernelIdeal.nD Cert.HeadsKernelIdeal.τ).loc Cert.HeadsKernelIdeal.main_arg2) = m ((c.tc : Thread Cert.HeadsKernelIdeal.nD Cert.HeadsKernelIdeal.τ).loc Cert.HeadsKernelIdeal.main_arg2)
      ∧ r.2.mem ((c.tc : Thread Cert.HeadsKernelIdeal.nD Cert.HeadsKernelIdeal.τ).loc Cert.HeadsKernelIdeal.main_arg3) = m ((c.tc : Thread Cert.HeadsKernelIdeal.nD Cert.HeadsKernelIdeal.τ).loc Cert.HeadsKernelIdeal.main_arg3)
      ∧ r.2.mem ((c.tc : Thread Cert.HeadsKernelIdeal.nD Cert.HeadsKernelIdeal.τ).loc Cert.HeadsKernelIdeal.main_arg4) = m ((c.tc : Thread Cert.HeadsKernelIdeal.nD Cert.HeadsKernelIdeal.τ).loc Cert.HeadsKernelIdeal.main_arg4)
      ∧ r.2.mem ((c.tc : Thread Cert.HeadsKernelIdeal.nD Cert.HeadsKernelIdeal.τ).loc Cert.HeadsKernelIdeal.main_arg5) = m ((c.tc : Thread Cert.HeadsKernelIdeal.nD Cert.HeadsKernelIdeal.τ).loc Cert.HeadsKernelIdeal.main_arg5)
      ∧ r.2.mem ((c.tc : Thread Cert.HeadsKernelIdeal.nD Cert.HeadsKernelIdeal.τ).loc Cert.HeadsKernelIdeal.main_arg6) = m ((c.tc : Thread Cert.HeadsKernelIdeal.nD Cert.HeadsKernelIdeal.τ).loc Cert.HeadsKernelIdeal.main_arg6)
      ∧ r.2.mem ((c.tc : Thread Cert.HeadsKernelIdeal.nD Cert.HeadsKernelIdeal.τ).loc Cert.HeadsKernelIdeal.main_arg7) = m ((c.tc : Thread Cert.HeadsKernelIdeal.nD Cert.HeadsKernelIdeal.τ).loc Cert.HeadsKernelIdeal.main_arg7))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2)
      ∧ r.2.mem ((c.tc : Thread Cert.HeadsReferenceIdeal.nD Cert.HeadsReferenceIdeal.τ).loc Cert.HeadsReferenceIdeal.main_arg3) = m ((c.tc : Thread Cert.HeadsReferenceIdeal.nD Cert.HeadsReferenceIdeal.τ).loc Cert.HeadsReferenceIdeal.main_arg3)
      ∧ r.2.mem ((c.tc : Thread Cert.HeadsReferenceIdeal.nD Cert.HeadsReferenceIdeal.τ).loc Cert.HeadsReferenceIdeal.main_arg4) = m ((c.tc : Thread Cert.HeadsReferenceIdeal.nD Cert.HeadsReferenceIdeal.τ).loc Cert.HeadsReferenceIdeal.main_arg4)
      ∧ r.2.mem ((c.tc : Thread Cert.HeadsReferenceIdeal.nD Cert.HeadsReferenceIdeal.τ).loc Cert.HeadsReferenceIdeal.main_arg5) = m ((c.tc : Thread Cert.HeadsReferenceIdeal.nD Cert.HeadsReferenceIdeal.τ).loc Cert.HeadsReferenceIdeal.main_arg5)
      ∧ r.2.mem ((c.tc : Thread Cert.HeadsReferenceIdeal.nD Cert.HeadsReferenceIdeal.τ).loc Cert.HeadsReferenceIdeal.main_arg6) = m ((c.tc : Thread Cert.HeadsReferenceIdeal.nD Cert.HeadsReferenceIdeal.τ).loc Cert.HeadsReferenceIdeal.main_arg6)
      ∧ r.2.mem ((c.tc : Thread Cert.HeadsReferenceIdeal.nD Cert.HeadsReferenceIdeal.τ).loc Cert.HeadsReferenceIdeal.main_arg7) = m ((c.tc : Thread Cert.HeadsReferenceIdeal.nD Cert.HeadsReferenceIdeal.τ).loc Cert.HeadsReferenceIdeal.main_arg7))
      ∧ r.2.sem = fun _ => 0)

def quiescent_RouteKernel [hRouteKernel : Cert.RouteKernel.Facts] : Prop :=
  ∀ (m : (ℓ : Loc Cert.RouteKernel.nD Cert.RouteKernel.τ Cert.RouteKernel.sig) → Buf (Elt Bits) ℓ) (g : Dev Cert.RouteKernel.nD → PrngReg), Pre_RouteKernel m →
    θ_run (Cert.RouteKernel.defs (F := Bits)) (onTc (τ := Cert.RouteKernel.τ) (Cert.RouteKernel.main (F := Bits))) ⟨m, fun _ => 0, g⟩ (fun r => (∀ c : Dev Cert.RouteKernel.nD,
      r.2.mem ((c.tc : Thread Cert.RouteKernel.nD Cert.RouteKernel.τ).loc Cert.RouteKernel.main_arg0) = m ((c.tc : Thread Cert.RouteKernel.nD Cert.RouteKernel.τ).loc Cert.RouteKernel.main_arg0)
      ∧ r.2.mem ((c.tc : Thread Cert.RouteKernel.nD Cert.RouteKernel.τ).loc Cert.RouteKernel.main_arg1) = m ((c.tc : Thread Cert.RouteKernel.nD Cert.RouteKernel.τ).loc Cert.RouteKernel.main_arg1)
      ∧ r.2.mem ((c.tc : Thread Cert.RouteKernel.nD Cert.RouteKernel.τ).loc Cert.RouteKernel.main_arg2) = m ((c.tc : Thread Cert.RouteKernel.nD Cert.RouteKernel.τ).loc Cert.RouteKernel.main_arg2)
      ∧ r.2.mem ((c.tc : Thread Cert.RouteKernel.nD Cert.RouteKernel.τ).loc Cert.RouteKernel.main_arg3) = m ((c.tc : Thread Cert.RouteKernel.nD Cert.RouteKernel.τ).loc Cert.RouteKernel.main_arg3)
      ∧ r.2.mem ((c.tc : Thread Cert.RouteKernel.nD Cert.RouteKernel.τ).loc Cert.RouteKernel.main_arg4) = m ((c.tc : Thread Cert.RouteKernel.nD Cert.RouteKernel.τ).loc Cert.RouteKernel.main_arg4)
      ∧ r.2.mem ((c.tc : Thread Cert.RouteKernel.nD Cert.RouteKernel.τ).loc Cert.RouteKernel.main_arg5) = m ((c.tc : Thread Cert.RouteKernel.nD Cert.RouteKernel.τ).loc Cert.RouteKernel.main_arg5)
      ∧ r.2.mem ((c.tc : Thread Cert.RouteKernel.nD Cert.RouteKernel.τ).loc Cert.RouteKernel.main_arg6) = m ((c.tc : Thread Cert.RouteKernel.nD Cert.RouteKernel.τ).loc Cert.RouteKernel.main_arg6)
      ∧ r.2.mem ((c.tc : Thread Cert.RouteKernel.nD Cert.RouteKernel.τ).loc Cert.RouteKernel.main_arg7) = m ((c.tc : Thread Cert.RouteKernel.nD Cert.RouteKernel.τ).loc Cert.RouteKernel.main_arg7))
      ∧ r.2.sem = fun _ => 0)

def quiescent_RouteKernelIdeal [hRouteKernelIdeal : Cert.RouteKernelIdeal.Facts] : Prop :=
  ∀ (m : (ℓ : Loc Cert.RouteKernelIdeal.nD Cert.RouteKernelIdeal.τ Cert.RouteKernelIdeal.sig) → Buf (Elt Ideal) ℓ) (g : Dev Cert.RouteKernelIdeal.nD → PrngReg), Pre_RouteKernelIdeal m →
    θ_run (Cert.RouteKernelIdeal.defs (F := Ideal)) (onTc (τ := Cert.RouteKernelIdeal.τ) (Cert.RouteKernelIdeal.main (F := Ideal))) ⟨m, fun _ => 0, g⟩ (fun r => (∀ c : Dev Cert.RouteKernelIdeal.nD,
      r.2.mem ((c.tc : Thread Cert.RouteKernelIdeal.nD Cert.RouteKernelIdeal.τ).loc Cert.RouteKernelIdeal.main_arg0) = m ((c.tc : Thread Cert.RouteKernelIdeal.nD Cert.RouteKernelIdeal.τ).loc Cert.RouteKernelIdeal.main_arg0)
      ∧ r.2.mem ((c.tc : Thread Cert.RouteKernelIdeal.nD Cert.RouteKernelIdeal.τ).loc Cert.RouteKernelIdeal.main_arg1) = m ((c.tc : Thread Cert.RouteKernelIdeal.nD Cert.RouteKernelIdeal.τ).loc Cert.RouteKernelIdeal.main_arg1)
      ∧ r.2.mem ((c.tc : Thread Cert.RouteKernelIdeal.nD Cert.RouteKernelIdeal.τ).loc Cert.RouteKernelIdeal.main_arg2) = m ((c.tc : Thread Cert.RouteKernelIdeal.nD Cert.RouteKernelIdeal.τ).loc Cert.RouteKernelIdeal.main_arg2)
      ∧ r.2.mem ((c.tc : Thread Cert.RouteKernelIdeal.nD Cert.RouteKernelIdeal.τ).loc Cert.RouteKernelIdeal.main_arg3) = m ((c.tc : Thread Cert.RouteKernelIdeal.nD Cert.RouteKernelIdeal.τ).loc Cert.RouteKernelIdeal.main_arg3)
      ∧ r.2.mem ((c.tc : Thread Cert.RouteKernelIdeal.nD Cert.RouteKernelIdeal.τ).loc Cert.RouteKernelIdeal.main_arg4) = m ((c.tc : Thread Cert.RouteKernelIdeal.nD Cert.RouteKernelIdeal.τ).loc Cert.RouteKernelIdeal.main_arg4)
      ∧ r.2.mem ((c.tc : Thread Cert.RouteKernelIdeal.nD Cert.RouteKernelIdeal.τ).loc Cert.RouteKernelIdeal.main_arg5) = m ((c.tc : Thread Cert.RouteKernelIdeal.nD Cert.RouteKernelIdeal.τ).loc Cert.RouteKernelIdeal.main_arg5)
      ∧ r.2.mem ((c.tc : Thread Cert.RouteKernelIdeal.nD Cert.RouteKernelIdeal.τ).loc Cert.RouteKernelIdeal.main_arg6) = m ((c.tc : Thread Cert.RouteKernelIdeal.nD Cert.RouteKernelIdeal.τ).loc Cert.RouteKernelIdeal.main_arg6)
      ∧ r.2.mem ((c.tc : Thread Cert.RouteKernelIdeal.nD Cert.RouteKernelIdeal.τ).loc Cert.RouteKernelIdeal.main_arg7) = m ((c.tc : Thread Cert.RouteKernelIdeal.nD Cert.RouteKernelIdeal.τ).loc Cert.RouteKernelIdeal.main_arg7))
      ∧ r.2.sem = fun _ => 0)

def quiescent_RouteKernelIdeal_pre_real [hRouteKernelIdeal : Cert.RouteKernelIdeal.Facts] [hPre_real : Cert.Pre_real.Facts] : Prop :=
  ∀ (m : (ℓ : Loc Cert.RouteKernelIdeal.nD Cert.RouteKernelIdeal.τ Cert.RouteKernelIdeal.sig) → Buf (Elt Ideal) ℓ) (g : Dev Cert.RouteKernelIdeal.nD → PrngReg), Pre_RouteKernelIdeal_real m →
    θ_run (Cert.RouteKernelIdeal.defs (F := Ideal)) (onTc (τ := Cert.RouteKernelIdeal.τ) (Cert.RouteKernelIdeal.main (F := Ideal))) ⟨m, fun _ => 0, g⟩ (fun r => (∀ c : Dev Cert.RouteKernelIdeal.nD,
      r.2.mem ((c.tc : Thread Cert.RouteKernelIdeal.nD Cert.RouteKernelIdeal.τ).loc Cert.RouteKernelIdeal.main_arg0) = m ((c.tc : Thread Cert.RouteKernelIdeal.nD Cert.RouteKernelIdeal.τ).loc Cert.RouteKernelIdeal.main_arg0)
      ∧ r.2.mem ((c.tc : Thread Cert.RouteKernelIdeal.nD Cert.RouteKernelIdeal.τ).loc Cert.RouteKernelIdeal.main_arg1) = m ((c.tc : Thread Cert.RouteKernelIdeal.nD Cert.RouteKernelIdeal.τ).loc Cert.RouteKernelIdeal.main_arg1)
      ∧ r.2.mem ((c.tc : Thread Cert.RouteKernelIdeal.nD Cert.RouteKernelIdeal.τ).loc Cert.RouteKernelIdeal.main_arg2) = m ((c.tc : Thread Cert.RouteKernelIdeal.nD Cert.RouteKernelIdeal.τ).loc Cert.RouteKernelIdeal.main_arg2)
      ∧ r.2.mem ((c.tc : Thread Cert.RouteKernelIdeal.nD Cert.RouteKernelIdeal.τ).loc Cert.RouteKernelIdeal.main_arg3) = m ((c.tc : Thread Cert.RouteKernelIdeal.nD Cert.RouteKernelIdeal.τ).loc Cert.RouteKernelIdeal.main_arg3)
      ∧ r.2.mem ((c.tc : Thread Cert.RouteKernelIdeal.nD Cert.RouteKernelIdeal.τ).loc Cert.RouteKernelIdeal.main_arg4) = m ((c.tc : Thread Cert.RouteKernelIdeal.nD Cert.RouteKernelIdeal.τ).loc Cert.RouteKernelIdeal.main_arg4)
      ∧ r.2.mem ((c.tc : Thread Cert.RouteKernelIdeal.nD Cert.RouteKernelIdeal.τ).loc Cert.RouteKernelIdeal.main_arg5) = m ((c.tc : Thread Cert.RouteKernelIdeal.nD Cert.RouteKernelIdeal.τ).loc Cert.RouteKernelIdeal.main_arg5)
      ∧ r.2.mem ((c.tc : Thread Cert.RouteKernelIdeal.nD Cert.RouteKernelIdeal.τ).loc Cert.RouteKernelIdeal.main_arg6) = m ((c.tc : Thread Cert.RouteKernelIdeal.nD Cert.RouteKernelIdeal.τ).loc Cert.RouteKernelIdeal.main_arg6)
      ∧ r.2.mem ((c.tc : Thread Cert.RouteKernelIdeal.nD Cert.RouteKernelIdeal.τ).loc Cert.RouteKernelIdeal.main_arg7) = m ((c.tc : Thread Cert.RouteKernelIdeal.nD Cert.RouteKernelIdeal.τ).loc Cert.RouteKernelIdeal.main_arg7))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2)
      ∧ r.2.mem ((c.tc : Thread Cert.RouteReferenceIdeal.nD Cert.RouteReferenceIdeal.τ).loc Cert.RouteReferenceIdeal.main_arg3) = m ((c.tc : Thread Cert.RouteReferenceIdeal.nD Cert.RouteReferenceIdeal.τ).loc Cert.RouteReferenceIdeal.main_arg3)
      ∧ r.2.mem ((c.tc : Thread Cert.RouteReferenceIdeal.nD Cert.RouteReferenceIdeal.τ).loc Cert.RouteReferenceIdeal.main_arg4) = m ((c.tc : Thread Cert.RouteReferenceIdeal.nD Cert.RouteReferenceIdeal.τ).loc Cert.RouteReferenceIdeal.main_arg4)
      ∧ r.2.mem ((c.tc : Thread Cert.RouteReferenceIdeal.nD Cert.RouteReferenceIdeal.τ).loc Cert.RouteReferenceIdeal.main_arg5) = m ((c.tc : Thread Cert.RouteReferenceIdeal.nD Cert.RouteReferenceIdeal.τ).loc Cert.RouteReferenceIdeal.main_arg5)
      ∧ r.2.mem ((c.tc : Thread Cert.RouteReferenceIdeal.nD Cert.RouteReferenceIdeal.τ).loc Cert.RouteReferenceIdeal.main_arg6) = m ((c.tc : Thread Cert.RouteReferenceIdeal.nD Cert.RouteReferenceIdeal.τ).loc Cert.RouteReferenceIdeal.main_arg6)
      ∧ r.2.mem ((c.tc : Thread Cert.RouteReferenceIdeal.nD Cert.RouteReferenceIdeal.τ).loc Cert.RouteReferenceIdeal.main_arg7) = m ((c.tc : Thread Cert.RouteReferenceIdeal.nD Cert.RouteReferenceIdeal.τ).loc Cert.RouteReferenceIdeal.main_arg7))
      ∧ r.2.sem = fun _ => 0)

def quiescent_RouteReferenceIdeal_pre_real [hRouteReferenceIdeal : Cert.RouteReferenceIdeal.Facts] [hPre_real : Cert.Pre_real.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal_real m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2)
      ∧ r.2.mem ((c.tc : Thread Cert.RouteReferenceIdeal.nD Cert.RouteReferenceIdeal.τ).loc Cert.RouteReferenceIdeal.main_arg3) = m ((c.tc : Thread Cert.RouteReferenceIdeal.nD Cert.RouteReferenceIdeal.τ).loc Cert.RouteReferenceIdeal.main_arg3)
      ∧ r.2.mem ((c.tc : Thread Cert.RouteReferenceIdeal.nD Cert.RouteReferenceIdeal.τ).loc Cert.RouteReferenceIdeal.main_arg4) = m ((c.tc : Thread Cert.RouteReferenceIdeal.nD Cert.RouteReferenceIdeal.τ).loc Cert.RouteReferenceIdeal.main_arg4)
      ∧ r.2.mem ((c.tc : Thread Cert.RouteReferenceIdeal.nD Cert.RouteReferenceIdeal.τ).loc Cert.RouteReferenceIdeal.main_arg5) = m ((c.tc : Thread Cert.RouteReferenceIdeal.nD Cert.RouteReferenceIdeal.τ).loc Cert.RouteReferenceIdeal.main_arg5)
      ∧ r.2.mem ((c.tc : Thread Cert.RouteReferenceIdeal.nD Cert.RouteReferenceIdeal.τ).loc Cert.RouteReferenceIdeal.main_arg6) = m ((c.tc : Thread Cert.RouteReferenceIdeal.nD Cert.RouteReferenceIdeal.τ).loc Cert.RouteReferenceIdeal.main_arg6)
      ∧ r.2.mem ((c.tc : Thread Cert.RouteReferenceIdeal.nD Cert.RouteReferenceIdeal.τ).loc Cert.RouteReferenceIdeal.main_arg7) = m ((c.tc : Thread Cert.RouteReferenceIdeal.nD Cert.RouteReferenceIdeal.τ).loc Cert.RouteReferenceIdeal.main_arg7))
      ∧ r.2.sem = fun _ => 0)

def quiescent_RouteOutKernel [hRouteOutKernel : Cert.RouteOutKernel.Facts] : Prop :=
  ∀ (m : (ℓ : Loc Cert.RouteOutKernel.nD Cert.RouteOutKernel.τ Cert.RouteOutKernel.sig) → Buf (Elt Bits) ℓ) (g : Dev Cert.RouteOutKernel.nD → PrngReg), Pre_RouteOutKernel m →
    θ_run (Cert.RouteOutKernel.defs (F := Bits)) (onTc (τ := Cert.RouteOutKernel.τ) (Cert.RouteOutKernel.main (F := Bits))) ⟨m, fun _ => 0, g⟩ (fun r => (∀ c : Dev Cert.RouteOutKernel.nD,
      r.2.mem ((c.tc : Thread Cert.RouteOutKernel.nD Cert.RouteOutKernel.τ).loc Cert.RouteOutKernel.main_arg0) = m ((c.tc : Thread Cert.RouteOutKernel.nD Cert.RouteOutKernel.τ).loc Cert.RouteOutKernel.main_arg0)
      ∧ r.2.mem ((c.tc : Thread Cert.RouteOutKernel.nD Cert.RouteOutKernel.τ).loc Cert.RouteOutKernel.main_arg1) = m ((c.tc : Thread Cert.RouteOutKernel.nD Cert.RouteOutKernel.τ).loc Cert.RouteOutKernel.main_arg1)
      ∧ r.2.mem ((c.tc : Thread Cert.RouteOutKernel.nD Cert.RouteOutKernel.τ).loc Cert.RouteOutKernel.main_arg2) = m ((c.tc : Thread Cert.RouteOutKernel.nD Cert.RouteOutKernel.τ).loc Cert.RouteOutKernel.main_arg2)
      ∧ r.2.mem ((c.tc : Thread Cert.RouteOutKernel.nD Cert.RouteOutKernel.τ).loc Cert.RouteOutKernel.main_arg3) = m ((c.tc : Thread Cert.RouteOutKernel.nD Cert.RouteOutKernel.τ).loc Cert.RouteOutKernel.main_arg3)
      ∧ r.2.mem ((c.tc : Thread Cert.RouteOutKernel.nD Cert.RouteOutKernel.τ).loc Cert.RouteOutKernel.main_arg4) = m ((c.tc : Thread Cert.RouteOutKernel.nD Cert.RouteOutKernel.τ).loc Cert.RouteOutKernel.main_arg4)
      ∧ r.2.mem ((c.tc : Thread Cert.RouteOutKernel.nD Cert.RouteOutKernel.τ).loc Cert.RouteOutKernel.main_arg5) = m ((c.tc : Thread Cert.RouteOutKernel.nD Cert.RouteOutKernel.τ).loc Cert.RouteOutKernel.main_arg5)
      ∧ r.2.mem ((c.tc : Thread Cert.RouteOutKernel.nD Cert.RouteOutKernel.τ).loc Cert.RouteOutKernel.main_arg6) = m ((c.tc : Thread Cert.RouteOutKernel.nD Cert.RouteOutKernel.τ).loc Cert.RouteOutKernel.main_arg6)
      ∧ r.2.mem ((c.tc : Thread Cert.RouteOutKernel.nD Cert.RouteOutKernel.τ).loc Cert.RouteOutKernel.main_arg7) = m ((c.tc : Thread Cert.RouteOutKernel.nD Cert.RouteOutKernel.τ).loc Cert.RouteOutKernel.main_arg7))
      ∧ r.2.sem = fun _ => 0)

def quiescent_RouteOutKernelIdeal [hRouteOutKernelIdeal : Cert.RouteOutKernelIdeal.Facts] : Prop :=
  ∀ (m : (ℓ : Loc Cert.RouteOutKernelIdeal.nD Cert.RouteOutKernelIdeal.τ Cert.RouteOutKernelIdeal.sig) → Buf (Elt Ideal) ℓ) (g : Dev Cert.RouteOutKernelIdeal.nD → PrngReg), Pre_RouteOutKernelIdeal m →
    θ_run (Cert.RouteOutKernelIdeal.defs (F := Ideal)) (onTc (τ := Cert.RouteOutKernelIdeal.τ) (Cert.RouteOutKernelIdeal.main (F := Ideal))) ⟨m, fun _ => 0, g⟩ (fun r => (∀ c : Dev Cert.RouteOutKernelIdeal.nD,
      r.2.mem ((c.tc : Thread Cert.RouteOutKernelIdeal.nD Cert.RouteOutKernelIdeal.τ).loc Cert.RouteOutKernelIdeal.main_arg0) = m ((c.tc : Thread Cert.RouteOutKernelIdeal.nD Cert.RouteOutKernelIdeal.τ).loc Cert.RouteOutKernelIdeal.main_arg0)
      ∧ r.2.mem ((c.tc : Thread Cert.RouteOutKernelIdeal.nD Cert.RouteOutKernelIdeal.τ).loc Cert.RouteOutKernelIdeal.main_arg1) = m ((c.tc : Thread Cert.RouteOutKernelIdeal.nD Cert.RouteOutKernelIdeal.τ).loc Cert.RouteOutKernelIdeal.main_arg1)
      ∧ r.2.mem ((c.tc : Thread Cert.RouteOutKernelIdeal.nD Cert.RouteOutKernelIdeal.τ).loc Cert.RouteOutKernelIdeal.main_arg2) = m ((c.tc : Thread Cert.RouteOutKernelIdeal.nD Cert.RouteOutKernelIdeal.τ).loc Cert.RouteOutKernelIdeal.main_arg2)
      ∧ r.2.mem ((c.tc : Thread Cert.RouteOutKernelIdeal.nD Cert.RouteOutKernelIdeal.τ).loc Cert.RouteOutKernelIdeal.main_arg3) = m ((c.tc : Thread Cert.RouteOutKernelIdeal.nD Cert.RouteOutKernelIdeal.τ).loc Cert.RouteOutKernelIdeal.main_arg3)
      ∧ r.2.mem ((c.tc : Thread Cert.RouteOutKernelIdeal.nD Cert.RouteOutKernelIdeal.τ).loc Cert.RouteOutKernelIdeal.main_arg4) = m ((c.tc : Thread Cert.RouteOutKernelIdeal.nD Cert.RouteOutKernelIdeal.τ).loc Cert.RouteOutKernelIdeal.main_arg4)
      ∧ r.2.mem ((c.tc : Thread Cert.RouteOutKernelIdeal.nD Cert.RouteOutKernelIdeal.τ).loc Cert.RouteOutKernelIdeal.main_arg5) = m ((c.tc : Thread Cert.RouteOutKernelIdeal.nD Cert.RouteOutKernelIdeal.τ).loc Cert.RouteOutKernelIdeal.main_arg5)
      ∧ r.2.mem ((c.tc : Thread Cert.RouteOutKernelIdeal.nD Cert.RouteOutKernelIdeal.τ).loc Cert.RouteOutKernelIdeal.main_arg6) = m ((c.tc : Thread Cert.RouteOutKernelIdeal.nD Cert.RouteOutKernelIdeal.τ).loc Cert.RouteOutKernelIdeal.main_arg6)
      ∧ r.2.mem ((c.tc : Thread Cert.RouteOutKernelIdeal.nD Cert.RouteOutKernelIdeal.τ).loc Cert.RouteOutKernelIdeal.main_arg7) = m ((c.tc : Thread Cert.RouteOutKernelIdeal.nD Cert.RouteOutKernelIdeal.τ).loc Cert.RouteOutKernelIdeal.main_arg7))
      ∧ r.2.sem = fun _ => 0)

def quiescent_RouteOutKernelIdeal_pre_real_out [hRouteOutKernelIdeal : Cert.RouteOutKernelIdeal.Facts] [hPre_real_out : Cert.Pre_real_out.Facts] : Prop :=
  ∀ (m : (ℓ : Loc Cert.RouteOutKernelIdeal.nD Cert.RouteOutKernelIdeal.τ Cert.RouteOutKernelIdeal.sig) → Buf (Elt Ideal) ℓ) (g : Dev Cert.RouteOutKernelIdeal.nD → PrngReg), Pre_RouteOutKernelIdeal_real_out m →
    θ_run (Cert.RouteOutKernelIdeal.defs (F := Ideal)) (onTc (τ := Cert.RouteOutKernelIdeal.τ) (Cert.RouteOutKernelIdeal.main (F := Ideal))) ⟨m, fun _ => 0, g⟩ (fun r => (∀ c : Dev Cert.RouteOutKernelIdeal.nD,
      r.2.mem ((c.tc : Thread Cert.RouteOutKernelIdeal.nD Cert.RouteOutKernelIdeal.τ).loc Cert.RouteOutKernelIdeal.main_arg0) = m ((c.tc : Thread Cert.RouteOutKernelIdeal.nD Cert.RouteOutKernelIdeal.τ).loc Cert.RouteOutKernelIdeal.main_arg0)
      ∧ r.2.mem ((c.tc : Thread Cert.RouteOutKernelIdeal.nD Cert.RouteOutKernelIdeal.τ).loc Cert.RouteOutKernelIdeal.main_arg1) = m ((c.tc : Thread Cert.RouteOutKernelIdeal.nD Cert.RouteOutKernelIdeal.τ).loc Cert.RouteOutKernelIdeal.main_arg1)
      ∧ r.2.mem ((c.tc : Thread Cert.RouteOutKernelIdeal.nD Cert.RouteOutKernelIdeal.τ).loc Cert.RouteOutKernelIdeal.main_arg2) = m ((c.tc : Thread Cert.RouteOutKernelIdeal.nD Cert.RouteOutKernelIdeal.τ).loc Cert.RouteOutKernelIdeal.main_arg2)
      ∧ r.2.mem ((c.tc : Thread Cert.RouteOutKernelIdeal.nD Cert.RouteOutKernelIdeal.τ).loc Cert.RouteOutKernelIdeal.main_arg3) = m ((c.tc : Thread Cert.RouteOutKernelIdeal.nD Cert.RouteOutKernelIdeal.τ).loc Cert.RouteOutKernelIdeal.main_arg3)
      ∧ r.2.mem ((c.tc : Thread Cert.RouteOutKernelIdeal.nD Cert.RouteOutKernelIdeal.τ).loc Cert.RouteOutKernelIdeal.main_arg4) = m ((c.tc : Thread Cert.RouteOutKernelIdeal.nD Cert.RouteOutKernelIdeal.τ).loc Cert.RouteOutKernelIdeal.main_arg4)
      ∧ r.2.mem ((c.tc : Thread Cert.RouteOutKernelIdeal.nD Cert.RouteOutKernelIdeal.τ).loc Cert.RouteOutKernelIdeal.main_arg5) = m ((c.tc : Thread Cert.RouteOutKernelIdeal.nD Cert.RouteOutKernelIdeal.τ).loc Cert.RouteOutKernelIdeal.main_arg5)
      ∧ r.2.mem ((c.tc : Thread Cert.RouteOutKernelIdeal.nD Cert.RouteOutKernelIdeal.τ).loc Cert.RouteOutKernelIdeal.main_arg6) = m ((c.tc : Thread Cert.RouteOutKernelIdeal.nD Cert.RouteOutKernelIdeal.τ).loc Cert.RouteOutKernelIdeal.main_arg6)
      ∧ r.2.mem ((c.tc : Thread Cert.RouteOutKernelIdeal.nD Cert.RouteOutKernelIdeal.τ).loc Cert.RouteOutKernelIdeal.main_arg7) = m ((c.tc : Thread Cert.RouteOutKernelIdeal.nD Cert.RouteOutKernelIdeal.τ).loc Cert.RouteOutKernelIdeal.main_arg7))
      ∧ r.2.sem = fun _ => 0)

def quiescent_RouteOutReferenceIdeal [hRouteOutReferenceIdeal : Cert.RouteOutReferenceIdeal.Facts] : Prop :=
  ∀ (m : (ℓ : Loc Cert.RouteOutReferenceIdeal.nD Cert.RouteOutReferenceIdeal.τ Cert.RouteOutReferenceIdeal.sig) → Buf (Elt Ideal) ℓ) (g : Dev Cert.RouteOutReferenceIdeal.nD → PrngReg), Pre_RouteOutReferenceIdeal m →
    θ_run (Cert.RouteOutReferenceIdeal.defs (F := Ideal)) (onTc (τ := Cert.RouteOutReferenceIdeal.τ) (Cert.RouteOutReferenceIdeal.main (F := Ideal))) ⟨m, fun _ => 0, g⟩ (fun r => (∀ c : Dev Cert.RouteOutReferenceIdeal.nD,
      r.2.mem ((c.tc : Thread Cert.RouteOutReferenceIdeal.nD Cert.RouteOutReferenceIdeal.τ).loc Cert.RouteOutReferenceIdeal.main_arg0) = m ((c.tc : Thread Cert.RouteOutReferenceIdeal.nD Cert.RouteOutReferenceIdeal.τ).loc Cert.RouteOutReferenceIdeal.main_arg0)
      ∧ r.2.mem ((c.tc : Thread Cert.RouteOutReferenceIdeal.nD Cert.RouteOutReferenceIdeal.τ).loc Cert.RouteOutReferenceIdeal.main_arg1) = m ((c.tc : Thread Cert.RouteOutReferenceIdeal.nD Cert.RouteOutReferenceIdeal.τ).loc Cert.RouteOutReferenceIdeal.main_arg1)
      ∧ r.2.mem ((c.tc : Thread Cert.RouteOutReferenceIdeal.nD Cert.RouteOutReferenceIdeal.τ).loc Cert.RouteOutReferenceIdeal.main_arg2) = m ((c.tc : Thread Cert.RouteOutReferenceIdeal.nD Cert.RouteOutReferenceIdeal.τ).loc Cert.RouteOutReferenceIdeal.main_arg2)
      ∧ r.2.mem ((c.tc : Thread Cert.RouteOutReferenceIdeal.nD Cert.RouteOutReferenceIdeal.τ).loc Cert.RouteOutReferenceIdeal.main_arg3) = m ((c.tc : Thread Cert.RouteOutReferenceIdeal.nD Cert.RouteOutReferenceIdeal.τ).loc Cert.RouteOutReferenceIdeal.main_arg3)
      ∧ r.2.mem ((c.tc : Thread Cert.RouteOutReferenceIdeal.nD Cert.RouteOutReferenceIdeal.τ).loc Cert.RouteOutReferenceIdeal.main_arg4) = m ((c.tc : Thread Cert.RouteOutReferenceIdeal.nD Cert.RouteOutReferenceIdeal.τ).loc Cert.RouteOutReferenceIdeal.main_arg4)
      ∧ r.2.mem ((c.tc : Thread Cert.RouteOutReferenceIdeal.nD Cert.RouteOutReferenceIdeal.τ).loc Cert.RouteOutReferenceIdeal.main_arg5) = m ((c.tc : Thread Cert.RouteOutReferenceIdeal.nD Cert.RouteOutReferenceIdeal.τ).loc Cert.RouteOutReferenceIdeal.main_arg5)
      ∧ r.2.mem ((c.tc : Thread Cert.RouteOutReferenceIdeal.nD Cert.RouteOutReferenceIdeal.τ).loc Cert.RouteOutReferenceIdeal.main_arg6) = m ((c.tc : Thread Cert.RouteOutReferenceIdeal.nD Cert.RouteOutReferenceIdeal.τ).loc Cert.RouteOutReferenceIdeal.main_arg6)
      ∧ r.2.mem ((c.tc : Thread Cert.RouteOutReferenceIdeal.nD Cert.RouteOutReferenceIdeal.τ).loc Cert.RouteOutReferenceIdeal.main_arg7) = m ((c.tc : Thread Cert.RouteOutReferenceIdeal.nD Cert.RouteOutReferenceIdeal.τ).loc Cert.RouteOutReferenceIdeal.main_arg7))
      ∧ r.2.sem = fun _ => 0)

def quiescent_RouteOutReferenceIdeal_pre_real_out [hRouteOutReferenceIdeal : Cert.RouteOutReferenceIdeal.Facts] [hPre_real_out : Cert.Pre_real_out.Facts] : Prop :=
  ∀ (m : (ℓ : Loc Cert.RouteOutReferenceIdeal.nD Cert.RouteOutReferenceIdeal.τ Cert.RouteOutReferenceIdeal.sig) → Buf (Elt Ideal) ℓ) (g : Dev Cert.RouteOutReferenceIdeal.nD → PrngReg), Pre_RouteOutReferenceIdeal_real_out m →
    θ_run (Cert.RouteOutReferenceIdeal.defs (F := Ideal)) (onTc (τ := Cert.RouteOutReferenceIdeal.τ) (Cert.RouteOutReferenceIdeal.main (F := Ideal))) ⟨m, fun _ => 0, g⟩ (fun r => (∀ c : Dev Cert.RouteOutReferenceIdeal.nD,
      r.2.mem ((c.tc : Thread Cert.RouteOutReferenceIdeal.nD Cert.RouteOutReferenceIdeal.τ).loc Cert.RouteOutReferenceIdeal.main_arg0) = m ((c.tc : Thread Cert.RouteOutReferenceIdeal.nD Cert.RouteOutReferenceIdeal.τ).loc Cert.RouteOutReferenceIdeal.main_arg0)
      ∧ r.2.mem ((c.tc : Thread Cert.RouteOutReferenceIdeal.nD Cert.RouteOutReferenceIdeal.τ).loc Cert.RouteOutReferenceIdeal.main_arg1) = m ((c.tc : Thread Cert.RouteOutReferenceIdeal.nD Cert.RouteOutReferenceIdeal.τ).loc Cert.RouteOutReferenceIdeal.main_arg1)
      ∧ r.2.mem ((c.tc : Thread Cert.RouteOutReferenceIdeal.nD Cert.RouteOutReferenceIdeal.τ).loc Cert.RouteOutReferenceIdeal.main_arg2) = m ((c.tc : Thread Cert.RouteOutReferenceIdeal.nD Cert.RouteOutReferenceIdeal.τ).loc Cert.RouteOutReferenceIdeal.main_arg2)
      ∧ r.2.mem ((c.tc : Thread Cert.RouteOutReferenceIdeal.nD Cert.RouteOutReferenceIdeal.τ).loc Cert.RouteOutReferenceIdeal.main_arg3) = m ((c.tc : Thread Cert.RouteOutReferenceIdeal.nD Cert.RouteOutReferenceIdeal.τ).loc Cert.RouteOutReferenceIdeal.main_arg3)
      ∧ r.2.mem ((c.tc : Thread Cert.RouteOutReferenceIdeal.nD Cert.RouteOutReferenceIdeal.τ).loc Cert.RouteOutReferenceIdeal.main_arg4) = m ((c.tc : Thread Cert.RouteOutReferenceIdeal.nD Cert.RouteOutReferenceIdeal.τ).loc Cert.RouteOutReferenceIdeal.main_arg4)
      ∧ r.2.mem ((c.tc : Thread Cert.RouteOutReferenceIdeal.nD Cert.RouteOutReferenceIdeal.τ).loc Cert.RouteOutReferenceIdeal.main_arg5) = m ((c.tc : Thread Cert.RouteOutReferenceIdeal.nD Cert.RouteOutReferenceIdeal.τ).loc Cert.RouteOutReferenceIdeal.main_arg5)
      ∧ r.2.mem ((c.tc : Thread Cert.RouteOutReferenceIdeal.nD Cert.RouteOutReferenceIdeal.τ).loc Cert.RouteOutReferenceIdeal.main_arg6) = m ((c.tc : Thread Cert.RouteOutReferenceIdeal.nD Cert.RouteOutReferenceIdeal.τ).loc Cert.RouteOutReferenceIdeal.main_arg6)
      ∧ r.2.mem ((c.tc : Thread Cert.RouteOutReferenceIdeal.nD Cert.RouteOutReferenceIdeal.τ).loc Cert.RouteOutReferenceIdeal.main_arg7) = m ((c.tc : Thread Cert.RouteOutReferenceIdeal.nD Cert.RouteOutReferenceIdeal.τ).loc Cert.RouteOutReferenceIdeal.main_arg7))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)) →
    ∃ (v0 : (c : Dev Cert.QkvKernelIdeal.nD) → Buf (Elt Ideal) ((c.tc : Thread Cert.QkvKernelIdeal.nD Cert.QkvKernelIdeal.τ).loc Cert.QkvKernelIdeal.main_v1)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v1) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v15) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)) →
    ∃ (v0 : (c : Dev Cert.InKernelIdeal.nD) → Buf (Elt Ideal) ((c.tc : Thread Cert.InKernelIdeal.nD Cert.InKernelIdeal.τ).loc Cert.InKernelIdeal.main_v1_0)) (v1 : (c : Dev Cert.InKernelIdeal.nD) → Buf (Elt Ideal) ((c.tc : Thread Cert.InKernelIdeal.nD Cert.InKernelIdeal.τ).loc Cert.InKernelIdeal.main_v1_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v1_0) = v0 c
          ∧ r.2.mem ((c.tc : Thread Cert.InKernelIdeal.nD Cert.InKernelIdeal.τ).loc Cert.InKernelIdeal.main_v1_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v15) = v0 c
          ∧ r.2.mem ((c.tc : Thread Cert.InReferenceIdeal.nD Cert.InReferenceIdeal.τ).loc Cert.InReferenceIdeal.main_v17) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)) →
    ∃ (v0 : (c : Dev Cert.OutKernelIdeal.nD) → Buf (Elt Ideal) ((c.tc : Thread Cert.OutKernelIdeal.nD Cert.OutKernelIdeal.τ).loc Cert.OutKernelIdeal.main_v14_0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v14_0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7))

def preserves_HeadsKernel_HeadsKernelIdeal : Prop :=
  True

def algebraic_HeadsKernelIdeal_HeadsReferenceIdeal [hHeadsKernelIdeal : Cert.HeadsKernelIdeal.Facts] [hHeadsReferenceIdeal : Cert.HeadsReferenceIdeal.Facts] : Prop :=
  ∀ (m : (ℓ : Loc Cert.HeadsKernelIdeal.nD Cert.HeadsKernelIdeal.τ Cert.HeadsKernelIdeal.sig) → Buf (Elt Ideal) ℓ) (g : Dev Cert.HeadsKernelIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsKernelIdeal m →
    (∀ c : Dev Cert.HeadsKernelIdeal.nD,
      m' ((c.tc : Thread Cert.HeadsReferenceIdeal.nD Cert.HeadsReferenceIdeal.τ).loc Cert.HeadsReferenceIdeal.main_arg0) = m ((c.tc : Thread Cert.HeadsKernelIdeal.nD Cert.HeadsKernelIdeal.τ).loc Cert.HeadsKernelIdeal.main_arg0)
      ∧ m' ((c.tc : Thread Cert.HeadsReferenceIdeal.nD Cert.HeadsReferenceIdeal.τ).loc Cert.HeadsReferenceIdeal.main_arg1) = m ((c.tc : Thread Cert.HeadsKernelIdeal.nD Cert.HeadsKernelIdeal.τ).loc Cert.HeadsKernelIdeal.main_arg1)
      ∧ m' ((c.tc : Thread Cert.HeadsReferenceIdeal.nD Cert.HeadsReferenceIdeal.τ).loc Cert.HeadsReferenceIdeal.main_arg2) = m ((c.tc : Thread Cert.HeadsKernelIdeal.nD Cert.HeadsKernelIdeal.τ).loc Cert.HeadsKernelIdeal.main_arg2)
      ∧ m' ((c.tc : Thread Cert.HeadsReferenceIdeal.nD Cert.HeadsReferenceIdeal.τ).loc Cert.HeadsReferenceIdeal.main_arg3) = m ((c.tc : Thread Cert.HeadsKernelIdeal.nD Cert.HeadsKernelIdeal.τ).loc Cert.HeadsKernelIdeal.main_arg3)
      ∧ m' ((c.tc : Thread Cert.HeadsReferenceIdeal.nD Cert.HeadsReferenceIdeal.τ).loc Cert.HeadsReferenceIdeal.main_arg4) = m ((c.tc : Thread Cert.HeadsKernelIdeal.nD Cert.HeadsKernelIdeal.τ).loc Cert.HeadsKernelIdeal.main_arg4)
      ∧ m' ((c.tc : Thread Cert.HeadsReferenceIdeal.nD Cert.HeadsReferenceIdeal.τ).loc Cert.HeadsReferenceIdeal.main_arg5) = m ((c.tc : Thread Cert.HeadsKernelIdeal.nD Cert.HeadsKernelIdeal.τ).loc Cert.HeadsKernelIdeal.main_arg5)
      ∧ m' ((c.tc : Thread Cert.HeadsReferenceIdeal.nD Cert.HeadsReferenceIdeal.τ).loc Cert.HeadsReferenceIdeal.main_arg6) = m ((c.tc : Thread Cert.HeadsKernelIdeal.nD Cert.HeadsKernelIdeal.τ).loc Cert.HeadsKernelIdeal.main_arg6)
      ∧ m' ((c.tc : Thread Cert.HeadsReferenceIdeal.nD Cert.HeadsReferenceIdeal.τ).loc Cert.HeadsReferenceIdeal.main_arg7) = m ((c.tc : Thread Cert.HeadsKernelIdeal.nD Cert.HeadsKernelIdeal.τ).loc Cert.HeadsKernelIdeal.main_arg7)) →
    ∃ (v0 : (c : Dev Cert.HeadsKernelIdeal.nD) → Buf (Elt Ideal) ((c.tc : Thread Cert.HeadsKernelIdeal.nD Cert.HeadsKernelIdeal.τ).loc Cert.HeadsKernelIdeal.main_v14_0)),
      θ_run (Cert.HeadsKernelIdeal.defs (F := Ideal)) (onTc (τ := Cert.HeadsKernelIdeal.τ) (Cert.HeadsKernelIdeal.main (F := Ideal))) ⟨m, fun _ => 0, g⟩ (fun r => ∀ c : Dev Cert.HeadsKernelIdeal.nD,
          r.2.mem ((c.tc : Thread Cert.HeadsKernelIdeal.nD Cert.HeadsKernelIdeal.τ).loc Cert.HeadsKernelIdeal.main_v14_0) = v0 c
          ∧ r.2.mem ((c.tc : Thread Cert.HeadsKernelIdeal.nD Cert.HeadsKernelIdeal.τ).loc Cert.HeadsKernelIdeal.main_arg0) = m ((c.tc : Thread Cert.HeadsKernelIdeal.nD Cert.HeadsKernelIdeal.τ).loc Cert.HeadsKernelIdeal.main_arg0)
          ∧ r.2.mem ((c.tc : Thread Cert.HeadsKernelIdeal.nD Cert.HeadsKernelIdeal.τ).loc Cert.HeadsKernelIdeal.main_arg1) = m ((c.tc : Thread Cert.HeadsKernelIdeal.nD Cert.HeadsKernelIdeal.τ).loc Cert.HeadsKernelIdeal.main_arg1)
          ∧ r.2.mem ((c.tc : Thread Cert.HeadsKernelIdeal.nD Cert.HeadsKernelIdeal.τ).loc Cert.HeadsKernelIdeal.main_arg2) = m ((c.tc : Thread Cert.HeadsKernelIdeal.nD Cert.HeadsKernelIdeal.τ).loc Cert.HeadsKernelIdeal.main_arg2)
          ∧ r.2.mem ((c.tc : Thread Cert.HeadsKernelIdeal.nD Cert.HeadsKernelIdeal.τ).loc Cert.HeadsKernelIdeal.main_arg3) = m ((c.tc : Thread Cert.HeadsKernelIdeal.nD Cert.HeadsKernelIdeal.τ).loc Cert.HeadsKernelIdeal.main_arg3)
          ∧ r.2.mem ((c.tc : Thread Cert.HeadsKernelIdeal.nD Cert.HeadsKernelIdeal.τ).loc Cert.HeadsKernelIdeal.main_arg4) = m ((c.tc : Thread Cert.HeadsKernelIdeal.nD Cert.HeadsKernelIdeal.τ).loc Cert.HeadsKernelIdeal.main_arg4)
          ∧ r.2.mem ((c.tc : Thread Cert.HeadsKernelIdeal.nD Cert.HeadsKernelIdeal.τ).loc Cert.HeadsKernelIdeal.main_arg5) = m ((c.tc : Thread Cert.HeadsKernelIdeal.nD Cert.HeadsKernelIdeal.τ).loc Cert.HeadsKernelIdeal.main_arg5)
          ∧ r.2.mem ((c.tc : Thread Cert.HeadsKernelIdeal.nD Cert.HeadsKernelIdeal.τ).loc Cert.HeadsKernelIdeal.main_arg6) = m ((c.tc : Thread Cert.HeadsKernelIdeal.nD Cert.HeadsKernelIdeal.τ).loc Cert.HeadsKernelIdeal.main_arg6)
          ∧ r.2.mem ((c.tc : Thread Cert.HeadsKernelIdeal.nD Cert.HeadsKernelIdeal.τ).loc Cert.HeadsKernelIdeal.main_arg7) = m ((c.tc : Thread Cert.HeadsKernelIdeal.nD Cert.HeadsKernelIdeal.τ).loc Cert.HeadsKernelIdeal.main_arg7))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v3) = v0 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1)
          ∧ r.2.mem ((c.tc : Thread Cert.HeadsReferenceIdeal.nD Cert.HeadsReferenceIdeal.τ).loc Cert.HeadsReferenceIdeal.main_arg2) = m' ((c.tc : Thread Cert.HeadsReferenceIdeal.nD Cert.HeadsReferenceIdeal.τ).loc Cert.HeadsReferenceIdeal.main_arg2)
          ∧ r.2.mem ((c.tc : Thread Cert.HeadsReferenceIdeal.nD Cert.HeadsReferenceIdeal.τ).loc Cert.HeadsReferenceIdeal.main_arg3) = m' ((c.tc : Thread Cert.HeadsReferenceIdeal.nD Cert.HeadsReferenceIdeal.τ).loc Cert.HeadsReferenceIdeal.main_arg3)
          ∧ r.2.mem ((c.tc : Thread Cert.HeadsReferenceIdeal.nD Cert.HeadsReferenceIdeal.τ).loc Cert.HeadsReferenceIdeal.main_arg4) = m' ((c.tc : Thread Cert.HeadsReferenceIdeal.nD Cert.HeadsReferenceIdeal.τ).loc Cert.HeadsReferenceIdeal.main_arg4)
          ∧ r.2.mem ((c.tc : Thread Cert.HeadsReferenceIdeal.nD Cert.HeadsReferenceIdeal.τ).loc Cert.HeadsReferenceIdeal.main_arg5) = m' ((c.tc : Thread Cert.HeadsReferenceIdeal.nD Cert.HeadsReferenceIdeal.τ).loc Cert.HeadsReferenceIdeal.main_arg5)
          ∧ r.2.mem ((c.tc : Thread Cert.HeadsReferenceIdeal.nD Cert.HeadsReferenceIdeal.τ).loc Cert.HeadsReferenceIdeal.main_arg6) = m' ((c.tc : Thread Cert.HeadsReferenceIdeal.nD Cert.HeadsReferenceIdeal.τ).loc Cert.HeadsReferenceIdeal.main_arg6)
          ∧ r.2.mem ((c.tc : Thread Cert.HeadsReferenceIdeal.nD Cert.HeadsReferenceIdeal.τ).loc Cert.HeadsReferenceIdeal.main_arg7) = m' ((c.tc : Thread Cert.HeadsReferenceIdeal.nD Cert.HeadsReferenceIdeal.τ).loc Cert.HeadsReferenceIdeal.main_arg7))

def preserves_RouteKernel_RouteKernelIdeal : Prop :=
  True

def algebraic_RouteKernelIdeal_RouteReferenceIdeal_pre_real [hRouteKernelIdeal : Cert.RouteKernelIdeal.Facts] [hRouteReferenceIdeal : Cert.RouteReferenceIdeal.Facts] [hPre_real : Cert.Pre_real.Facts] : Prop :=
  ∀ (m : (ℓ : Loc Cert.RouteKernelIdeal.nD Cert.RouteKernelIdeal.τ Cert.RouteKernelIdeal.sig) → Buf (Elt Ideal) ℓ) (g : Dev Cert.RouteKernelIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteKernelIdeal_real m →
    (∀ c : Dev Cert.RouteKernelIdeal.nD,
      m' ((c.tc : Thread Cert.RouteReferenceIdeal.nD Cert.RouteReferenceIdeal.τ).loc Cert.RouteReferenceIdeal.main_arg0) = m ((c.tc : Thread Cert.RouteKernelIdeal.nD Cert.RouteKernelIdeal.τ).loc Cert.RouteKernelIdeal.main_arg0)
      ∧ m' ((c.tc : Thread Cert.RouteReferenceIdeal.nD Cert.RouteReferenceIdeal.τ).loc Cert.RouteReferenceIdeal.main_arg1) = m ((c.tc : Thread Cert.RouteKernelIdeal.nD Cert.RouteKernelIdeal.τ).loc Cert.RouteKernelIdeal.main_arg1)
      ∧ m' ((c.tc : Thread Cert.RouteReferenceIdeal.nD Cert.RouteReferenceIdeal.τ).loc Cert.RouteReferenceIdeal.main_arg2) = m ((c.tc : Thread Cert.RouteKernelIdeal.nD Cert.RouteKernelIdeal.τ).loc Cert.RouteKernelIdeal.main_arg2)
      ∧ m' ((c.tc : Thread Cert.RouteReferenceIdeal.nD Cert.RouteReferenceIdeal.τ).loc Cert.RouteReferenceIdeal.main_arg3) = m ((c.tc : Thread Cert.RouteKernelIdeal.nD Cert.RouteKernelIdeal.τ).loc Cert.RouteKernelIdeal.main_arg3)
      ∧ m' ((c.tc : Thread Cert.RouteReferenceIdeal.nD Cert.RouteReferenceIdeal.τ).loc Cert.RouteReferenceIdeal.main_arg4) = m ((c.tc : Thread Cert.RouteKernelIdeal.nD Cert.RouteKernelIdeal.τ).loc Cert.RouteKernelIdeal.main_arg4)
      ∧ m' ((c.tc : Thread Cert.RouteReferenceIdeal.nD Cert.RouteReferenceIdeal.τ).loc Cert.RouteReferenceIdeal.main_arg5) = m ((c.tc : Thread Cert.RouteKernelIdeal.nD Cert.RouteKernelIdeal.τ).loc Cert.RouteKernelIdeal.main_arg5)
      ∧ m' ((c.tc : Thread Cert.RouteReferenceIdeal.nD Cert.RouteReferenceIdeal.τ).loc Cert.RouteReferenceIdeal.main_arg6) = m ((c.tc : Thread Cert.RouteKernelIdeal.nD Cert.RouteKernelIdeal.τ).loc Cert.RouteKernelIdeal.main_arg6)
      ∧ m' ((c.tc : Thread Cert.RouteReferenceIdeal.nD Cert.RouteReferenceIdeal.τ).loc Cert.RouteReferenceIdeal.main_arg7) = m ((c.tc : Thread Cert.RouteKernelIdeal.nD Cert.RouteKernelIdeal.τ).loc Cert.RouteKernelIdeal.main_arg7)) →
    ∃ (v0 : (c : Dev Cert.RouteKernelIdeal.nD) → Buf (Elt Ideal) ((c.tc : Thread Cert.RouteKernelIdeal.nD Cert.RouteKernelIdeal.τ).loc Cert.RouteKernelIdeal.main_v14_1)) (v1 : (c : Dev Cert.RouteKernelIdeal.nD) → Buf (Elt Ideal) ((c.tc : Thread Cert.RouteKernelIdeal.nD Cert.RouteKernelIdeal.τ).loc Cert.RouteKernelIdeal.main_v14_2)) (v2 : (c : Dev Cert.RouteKernelIdeal.nD) → Buf (Elt Ideal) ((c.tc : Thread Cert.RouteKernelIdeal.nD Cert.RouteKernelIdeal.τ).loc Cert.RouteKernelIdeal.main_v14_3)),
      θ_run (Cert.RouteKernelIdeal.defs (F := Ideal)) (onTc (τ := Cert.RouteKernelIdeal.τ) (Cert.RouteKernelIdeal.main (F := Ideal))) ⟨m, fun _ => 0, g⟩ (fun r => ∀ c : Dev Cert.RouteKernelIdeal.nD,
          r.2.mem ((c.tc : Thread Cert.RouteKernelIdeal.nD Cert.RouteKernelIdeal.τ).loc Cert.RouteKernelIdeal.main_v14_1) = v0 c
          ∧ r.2.mem ((c.tc : Thread Cert.RouteKernelIdeal.nD Cert.RouteKernelIdeal.τ).loc Cert.RouteKernelIdeal.main_v14_2) = v1 c
          ∧ r.2.mem ((c.tc : Thread Cert.RouteKernelIdeal.nD Cert.RouteKernelIdeal.τ).loc Cert.RouteKernelIdeal.main_v14_3) = v2 c
          ∧ r.2.mem ((c.tc : Thread Cert.RouteKernelIdeal.nD Cert.RouteKernelIdeal.τ).loc Cert.RouteKernelIdeal.main_arg0) = m ((c.tc : Thread Cert.RouteKernelIdeal.nD Cert.RouteKernelIdeal.τ).loc Cert.RouteKernelIdeal.main_arg0)
          ∧ r.2.mem ((c.tc : Thread Cert.RouteKernelIdeal.nD Cert.RouteKernelIdeal.τ).loc Cert.RouteKernelIdeal.main_arg1) = m ((c.tc : Thread Cert.RouteKernelIdeal.nD Cert.RouteKernelIdeal.τ).loc Cert.RouteKernelIdeal.main_arg1)
          ∧ r.2.mem ((c.tc : Thread Cert.RouteKernelIdeal.nD Cert.RouteKernelIdeal.τ).loc Cert.RouteKernelIdeal.main_arg2) = m ((c.tc : Thread Cert.RouteKernelIdeal.nD Cert.RouteKernelIdeal.τ).loc Cert.RouteKernelIdeal.main_arg2)
          ∧ r.2.mem ((c.tc : Thread Cert.RouteKernelIdeal.nD Cert.RouteKernelIdeal.τ).loc Cert.RouteKernelIdeal.main_arg3) = m ((c.tc : Thread Cert.RouteKernelIdeal.nD Cert.RouteKernelIdeal.τ).loc Cert.RouteKernelIdeal.main_arg3)
          ∧ r.2.mem ((c.tc : Thread Cert.RouteKernelIdeal.nD Cert.RouteKernelIdeal.τ).loc Cert.RouteKernelIdeal.main_arg4) = m ((c.tc : Thread Cert.RouteKernelIdeal.nD Cert.RouteKernelIdeal.τ).loc Cert.RouteKernelIdeal.main_arg4)
          ∧ r.2.mem ((c.tc : Thread Cert.RouteKernelIdeal.nD Cert.RouteKernelIdeal.τ).loc Cert.RouteKernelIdeal.main_arg5) = m ((c.tc : Thread Cert.RouteKernelIdeal.nD Cert.RouteKernelIdeal.τ).loc Cert.RouteKernelIdeal.main_arg5)
          ∧ r.2.mem ((c.tc : Thread Cert.RouteKernelIdeal.nD Cert.RouteKernelIdeal.τ).loc Cert.RouteKernelIdeal.main_arg6) = m ((c.tc : Thread Cert.RouteKernelIdeal.nD Cert.RouteKernelIdeal.τ).loc Cert.RouteKernelIdeal.main_arg6)
          ∧ r.2.mem ((c.tc : Thread Cert.RouteKernelIdeal.nD Cert.RouteKernelIdeal.τ).loc Cert.RouteKernelIdeal.main_arg7) = m ((c.tc : Thread Cert.RouteKernelIdeal.nD Cert.RouteKernelIdeal.τ).loc Cert.RouteKernelIdeal.main_arg7))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v78) = v0 c
          ∧ r.2.mem ((c.tc : Thread Cert.RouteReferenceIdeal.nD Cert.RouteReferenceIdeal.τ).loc Cert.RouteReferenceIdeal.main_v79) = v1 c
          ∧ r.2.mem ((c.tc : Thread Cert.RouteReferenceIdeal.nD Cert.RouteReferenceIdeal.τ).loc Cert.RouteReferenceIdeal.main_v82) = v2 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1)
          ∧ r.2.mem ((c.tc : Thread Cert.RouteReferenceIdeal.nD Cert.RouteReferenceIdeal.τ).loc Cert.RouteReferenceIdeal.main_arg2) = m' ((c.tc : Thread Cert.RouteReferenceIdeal.nD Cert.RouteReferenceIdeal.τ).loc Cert.RouteReferenceIdeal.main_arg2)
          ∧ r.2.mem ((c.tc : Thread Cert.RouteReferenceIdeal.nD Cert.RouteReferenceIdeal.τ).loc Cert.RouteReferenceIdeal.main_arg3) = m' ((c.tc : Thread Cert.RouteReferenceIdeal.nD Cert.RouteReferenceIdeal.τ).loc Cert.RouteReferenceIdeal.main_arg3)
          ∧ r.2.mem ((c.tc : Thread Cert.RouteReferenceIdeal.nD Cert.RouteReferenceIdeal.τ).loc Cert.RouteReferenceIdeal.main_arg4) = m' ((c.tc : Thread Cert.RouteReferenceIdeal.nD Cert.RouteReferenceIdeal.τ).loc Cert.RouteReferenceIdeal.main_arg4)
          ∧ r.2.mem ((c.tc : Thread Cert.RouteReferenceIdeal.nD Cert.RouteReferenceIdeal.τ).loc Cert.RouteReferenceIdeal.main_arg5) = m' ((c.tc : Thread Cert.RouteReferenceIdeal.nD Cert.RouteReferenceIdeal.τ).loc Cert.RouteReferenceIdeal.main_arg5)
          ∧ r.2.mem ((c.tc : Thread Cert.RouteReferenceIdeal.nD Cert.RouteReferenceIdeal.τ).loc Cert.RouteReferenceIdeal.main_arg6) = m' ((c.tc : Thread Cert.RouteReferenceIdeal.nD Cert.RouteReferenceIdeal.τ).loc Cert.RouteReferenceIdeal.main_arg6)
          ∧ r.2.mem ((c.tc : Thread Cert.RouteReferenceIdeal.nD Cert.RouteReferenceIdeal.τ).loc Cert.RouteReferenceIdeal.main_arg7) = m' ((c.tc : Thread Cert.RouteReferenceIdeal.nD Cert.RouteReferenceIdeal.τ).loc Cert.RouteReferenceIdeal.main_arg7))

def preserves_RouteOutKernel_RouteOutKernelIdeal : Prop :=
  True

def algebraic_RouteOutKernelIdeal_RouteOutReferenceIdeal_pre_real_out [hRouteOutKernelIdeal : Cert.RouteOutKernelIdeal.Facts] [hRouteOutReferenceIdeal : Cert.RouteOutReferenceIdeal.Facts] [hPre_real_out : Cert.Pre_real_out.Facts] : Prop :=
  ∀ (m : (ℓ : Loc Cert.RouteOutKernelIdeal.nD Cert.RouteOutKernelIdeal.τ Cert.RouteOutKernelIdeal.sig) → Buf (Elt Ideal) ℓ) (g : Dev Cert.RouteOutKernelIdeal.nD → PrngReg)
    (m' : (ℓ : Loc Cert.RouteOutReferenceIdeal.nD Cert.RouteOutReferenceIdeal.τ Cert.RouteOutReferenceIdeal.sig) → Buf (Elt Ideal) ℓ) (g' : Dev Cert.RouteOutReferenceIdeal.nD → PrngReg), Pre_RouteOutKernelIdeal_real_out m →
    (∀ c : Dev Cert.RouteOutKernelIdeal.nD,
      m' ((c.tc : Thread Cert.RouteOutReferenceIdeal.nD Cert.RouteOutReferenceIdeal.τ).loc Cert.RouteOutReferenceIdeal.main_arg0) = m ((c.tc : Thread Cert.RouteOutKernelIdeal.nD Cert.RouteOutKernelIdeal.τ).loc Cert.RouteOutKernelIdeal.main_arg0)
      ∧ m' ((c.tc : Thread Cert.RouteOutReferenceIdeal.nD Cert.RouteOutReferenceIdeal.τ).loc Cert.RouteOutReferenceIdeal.main_arg1) = m ((c.tc : Thread Cert.RouteOutKernelIdeal.nD Cert.RouteOutKernelIdeal.τ).loc Cert.RouteOutKernelIdeal.main_arg1)
      ∧ m' ((c.tc : Thread Cert.RouteOutReferenceIdeal.nD Cert.RouteOutReferenceIdeal.τ).loc Cert.RouteOutReferenceIdeal.main_arg2) = m ((c.tc : Thread Cert.RouteOutKernelIdeal.nD Cert.RouteOutKernelIdeal.τ).loc Cert.RouteOutKernelIdeal.main_arg2)
      ∧ m' ((c.tc : Thread Cert.RouteOutReferenceIdeal.nD Cert.RouteOutReferenceIdeal.τ).loc Cert.RouteOutReferenceIdeal.main_arg3) = m ((c.tc : Thread Cert.RouteOutKernelIdeal.nD Cert.RouteOutKernelIdeal.τ).loc Cert.RouteOutKernelIdeal.main_arg3)
      ∧ m' ((c.tc : Thread Cert.RouteOutReferenceIdeal.nD Cert.RouteOutReferenceIdeal.τ).loc Cert.RouteOutReferenceIdeal.main_arg4) = m ((c.tc : Thread Cert.RouteOutKernelIdeal.nD Cert.RouteOutKernelIdeal.τ).loc Cert.RouteOutKernelIdeal.main_arg4)
      ∧ m' ((c.tc : Thread Cert.RouteOutReferenceIdeal.nD Cert.RouteOutReferenceIdeal.τ).loc Cert.RouteOutReferenceIdeal.main_arg5) = m ((c.tc : Thread Cert.RouteOutKernelIdeal.nD Cert.RouteOutKernelIdeal.τ).loc Cert.RouteOutKernelIdeal.main_arg5)
      ∧ m' ((c.tc : Thread Cert.RouteOutReferenceIdeal.nD Cert.RouteOutReferenceIdeal.τ).loc Cert.RouteOutReferenceIdeal.main_arg6) = m ((c.tc : Thread Cert.RouteOutKernelIdeal.nD Cert.RouteOutKernelIdeal.τ).loc Cert.RouteOutKernelIdeal.main_arg6)
      ∧ m' ((c.tc : Thread Cert.RouteOutReferenceIdeal.nD Cert.RouteOutReferenceIdeal.τ).loc Cert.RouteOutReferenceIdeal.main_arg7) = m ((c.tc : Thread Cert.RouteOutKernelIdeal.nD Cert.RouteOutKernelIdeal.τ).loc Cert.RouteOutKernelIdeal.main_arg7)) →
    ∃ (v0 : (c : Dev Cert.RouteOutKernelIdeal.nD) → Buf (Elt Ideal) ((c.tc : Thread Cert.RouteOutKernelIdeal.nD Cert.RouteOutKernelIdeal.τ).loc Cert.RouteOutKernelIdeal.main_v14_1)) (v1 : (c : Dev Cert.RouteOutKernelIdeal.nD) → Buf (Elt Ideal) ((c.tc : Thread Cert.RouteOutKernelIdeal.nD Cert.RouteOutKernelIdeal.τ).loc Cert.RouteOutKernelIdeal.main_v14_2)) (v2 : (c : Dev Cert.RouteOutKernelIdeal.nD) → Buf (Elt Ideal) ((c.tc : Thread Cert.RouteOutKernelIdeal.nD Cert.RouteOutKernelIdeal.τ).loc Cert.RouteOutKernelIdeal.main_v14_3)),
      θ_run (Cert.RouteOutKernelIdeal.defs (F := Ideal)) (onTc (τ := Cert.RouteOutKernelIdeal.τ) (Cert.RouteOutKernelIdeal.main (F := Ideal))) ⟨m, fun _ => 0, g⟩ (fun r => ∀ c : Dev Cert.RouteOutKernelIdeal.nD,
          r.2.mem ((c.tc : Thread Cert.RouteOutKernelIdeal.nD Cert.RouteOutKernelIdeal.τ).loc Cert.RouteOutKernelIdeal.main_v14_1) = v0 c
          ∧ r.2.mem ((c.tc : Thread Cert.RouteOutKernelIdeal.nD Cert.RouteOutKernelIdeal.τ).loc Cert.RouteOutKernelIdeal.main_v14_2) = v1 c
          ∧ r.2.mem ((c.tc : Thread Cert.RouteOutKernelIdeal.nD Cert.RouteOutKernelIdeal.τ).loc Cert.RouteOutKernelIdeal.main_v14_3) = v2 c
          ∧ r.2.mem ((c.tc : Thread Cert.RouteOutKernelIdeal.nD Cert.RouteOutKernelIdeal.τ).loc Cert.RouteOutKernelIdeal.main_arg0) = m ((c.tc : Thread Cert.RouteOutKernelIdeal.nD Cert.RouteOutKernelIdeal.τ).loc Cert.RouteOutKernelIdeal.main_arg0)
          ∧ r.2.mem ((c.tc : Thread Cert.RouteOutKernelIdeal.nD Cert.RouteOutKernelIdeal.τ).loc Cert.RouteOutKernelIdeal.main_arg1) = m ((c.tc : Thread Cert.RouteOutKernelIdeal.nD Cert.RouteOutKernelIdeal.τ).loc Cert.RouteOutKernelIdeal.main_arg1)
          ∧ r.2.mem ((c.tc : Thread Cert.RouteOutKernelIdeal.nD Cert.RouteOutKernelIdeal.τ).loc Cert.RouteOutKernelIdeal.main_arg2) = m ((c.tc : Thread Cert.RouteOutKernelIdeal.nD Cert.RouteOutKernelIdeal.τ).loc Cert.RouteOutKernelIdeal.main_arg2)
          ∧ r.2.mem ((c.tc : Thread Cert.RouteOutKernelIdeal.nD Cert.RouteOutKernelIdeal.τ).loc Cert.RouteOutKernelIdeal.main_arg3) = m ((c.tc : Thread Cert.RouteOutKernelIdeal.nD Cert.RouteOutKernelIdeal.τ).loc Cert.RouteOutKernelIdeal.main_arg3)
          ∧ r.2.mem ((c.tc : Thread Cert.RouteOutKernelIdeal.nD Cert.RouteOutKernelIdeal.τ).loc Cert.RouteOutKernelIdeal.main_arg4) = m ((c.tc : Thread Cert.RouteOutKernelIdeal.nD Cert.RouteOutKernelIdeal.τ).loc Cert.RouteOutKernelIdeal.main_arg4)
          ∧ r.2.mem ((c.tc : Thread Cert.RouteOutKernelIdeal.nD Cert.RouteOutKernelIdeal.τ).loc Cert.RouteOutKernelIdeal.main_arg5) = m ((c.tc : Thread Cert.RouteOutKernelIdeal.nD Cert.RouteOutKernelIdeal.τ).loc Cert.RouteOutKernelIdeal.main_arg5)
          ∧ r.2.mem ((c.tc : Thread Cert.RouteOutKernelIdeal.nD Cert.RouteOutKernelIdeal.τ).loc Cert.RouteOutKernelIdeal.main_arg6) = m ((c.tc : Thread Cert.RouteOutKernelIdeal.nD Cert.RouteOutKernelIdeal.τ).loc Cert.RouteOutKernelIdeal.main_arg6)
          ∧ r.2.mem ((c.tc : Thread Cert.RouteOutKernelIdeal.nD Cert.RouteOutKernelIdeal.τ).loc Cert.RouteOutKernelIdeal.main_arg7) = m ((c.tc : Thread Cert.RouteOutKernelIdeal.nD Cert.RouteOutKernelIdeal.τ).loc Cert.RouteOutKernelIdeal.main_arg7))
      ∧ θ_run (Cert.RouteOutReferenceIdeal.defs (F := Ideal)) (onTc (τ := Cert.RouteOutReferenceIdeal.τ) (Cert.RouteOutReferenceIdeal.main (F := Ideal))) ⟨m', fun _ => 0, g'⟩ (fun r => ∀ c : Dev Cert.RouteOutReferenceIdeal.nD,
          r.2.mem ((c.tc : Thread Cert.RouteOutReferenceIdeal.nD Cert.RouteOutReferenceIdeal.τ).loc Cert.RouteOutReferenceIdeal.main_v78) = v0 c
          ∧ r.2.mem ((c.tc : Thread Cert.RouteOutReferenceIdeal.nD Cert.RouteOutReferenceIdeal.τ).loc Cert.RouteOutReferenceIdeal.main_v79) = v1 c
          ∧ r.2.mem ((c.tc : Thread Cert.RouteOutReferenceIdeal.nD Cert.RouteOutReferenceIdeal.τ).loc Cert.RouteOutReferenceIdeal.main_v82) = v2 c
          ∧ r.2.mem ((c.tc : Thread Cert.RouteOutReferenceIdeal.nD Cert.RouteOutReferenceIdeal.τ).loc Cert.RouteOutReferenceIdeal.main_arg0) = m' ((c.tc : Thread Cert.RouteOutReferenceIdeal.nD Cert.RouteOutReferenceIdeal.τ).loc Cert.RouteOutReferenceIdeal.main_arg0)
          ∧ r.2.mem ((c.tc : Thread Cert.RouteOutReferenceIdeal.nD Cert.RouteOutReferenceIdeal.τ).loc Cert.RouteOutReferenceIdeal.main_arg1) = m' ((c.tc : Thread Cert.RouteOutReferenceIdeal.nD Cert.RouteOutReferenceIdeal.τ).loc Cert.RouteOutReferenceIdeal.main_arg1)
          ∧ r.2.mem ((c.tc : Thread Cert.RouteOutReferenceIdeal.nD Cert.RouteOutReferenceIdeal.τ).loc Cert.RouteOutReferenceIdeal.main_arg2) = m' ((c.tc : Thread Cert.RouteOutReferenceIdeal.nD Cert.RouteOutReferenceIdeal.τ).loc Cert.RouteOutReferenceIdeal.main_arg2)
          ∧ r.2.mem ((c.tc : Thread Cert.RouteOutReferenceIdeal.nD Cert.RouteOutReferenceIdeal.τ).loc Cert.RouteOutReferenceIdeal.main_arg3) = m' ((c.tc : Thread Cert.RouteOutReferenceIdeal.nD Cert.RouteOutReferenceIdeal.τ).loc Cert.RouteOutReferenceIdeal.main_arg3)
          ∧ r.2.mem ((c.tc : Thread Cert.RouteOutReferenceIdeal.nD Cert.RouteOutReferenceIdeal.τ).loc Cert.RouteOutReferenceIdeal.main_arg4) = m' ((c.tc : Thread Cert.RouteOutReferenceIdeal.nD Cert.RouteOutReferenceIdeal.τ).loc Cert.RouteOutReferenceIdeal.main_arg4)
          ∧ r.2.mem ((c.tc : Thread Cert.RouteOutReferenceIdeal.nD Cert.RouteOutReferenceIdeal.τ).loc Cert.RouteOutReferenceIdeal.main_arg5) = m' ((c.tc : Thread Cert.RouteOutReferenceIdeal.nD Cert.RouteOutReferenceIdeal.τ).loc Cert.RouteOutReferenceIdeal.main_arg5)
          ∧ r.2.mem ((c.tc : Thread Cert.RouteOutReferenceIdeal.nD Cert.RouteOutReferenceIdeal.τ).loc Cert.RouteOutReferenceIdeal.main_arg6) = m' ((c.tc : Thread Cert.RouteOutReferenceIdeal.nD Cert.RouteOutReferenceIdeal.τ).loc Cert.RouteOutReferenceIdeal.main_arg6)
          ∧ r.2.mem ((c.tc : Thread Cert.RouteOutReferenceIdeal.nD Cert.RouteOutReferenceIdeal.τ).loc Cert.RouteOutReferenceIdeal.main_arg7) = m' ((c.tc : Thread Cert.RouteOutReferenceIdeal.nD Cert.RouteOutReferenceIdeal.τ).loc Cert.RouteOutReferenceIdeal.main_arg7))

def Claim : Prop :=
  ∃ (hKernel : Cert.Kernel.Facts) (hKernelIdeal : Cert.KernelIdeal.Facts) (hReferenceIdeal : Cert.ReferenceIdeal.Facts) (hQkvKernel : Cert.QkvKernel.Facts) (hQkvKernelIdeal : Cert.QkvKernelIdeal.Facts) (hQkvReferenceIdeal : Cert.QkvReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hHeadsKernel : Cert.HeadsKernel.Facts) (hHeadsKernelIdeal : Cert.HeadsKernelIdeal.Facts) (hHeadsReferenceIdeal : Cert.HeadsReferenceIdeal.Facts) (hRouteKernel : Cert.RouteKernel.Facts) (hRouteKernelIdeal : Cert.RouteKernelIdeal.Facts) (hRouteReferenceIdeal : Cert.RouteReferenceIdeal.Facts) (hRouteOutKernel : Cert.RouteOutKernel.Facts) (hRouteOutKernelIdeal : Cert.RouteOutKernelIdeal.Facts) (hRouteOutReferenceIdeal : Cert.RouteOutReferenceIdeal.Facts) (hPre_finite : Cert.Pre_finite.Facts) (hPre_real : Cert.Pre_real.Facts) (hPre_real_out : Cert.Pre_real_out.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_HeadsKernel (hHeadsKernel := hHeadsKernel)
    ∧ quiescent_HeadsKernelIdeal (hHeadsKernelIdeal := hHeadsKernelIdeal)
    ∧ quiescent_HeadsReferenceIdeal (hHeadsReferenceIdeal := hHeadsReferenceIdeal)
    ∧ quiescent_RouteKernel (hRouteKernel := hRouteKernel)
    ∧ quiescent_RouteKernelIdeal (hRouteKernelIdeal := hRouteKernelIdeal)
    ∧ quiescent_RouteKernelIdeal_pre_real (hRouteKernelIdeal := hRouteKernelIdeal) (hPre_real := hPre_real)
    ∧ quiescent_RouteReferenceIdeal (hRouteReferenceIdeal := hRouteReferenceIdeal)
    ∧ quiescent_RouteReferenceIdeal_pre_real (hRouteReferenceIdeal := hRouteReferenceIdeal) (hPre_real := hPre_real)
    ∧ quiescent_RouteOutKernel (hRouteOutKernel := hRouteOutKernel)
    ∧ quiescent_RouteOutKernelIdeal (hRouteOutKernelIdeal := hRouteOutKernelIdeal)
    ∧ quiescent_RouteOutKernelIdeal_pre_real_out (hRouteOutKernelIdeal := hRouteOutKernelIdeal) (hPre_real_out := hPre_real_out)
    ∧ quiescent_RouteOutReferenceIdeal (hRouteOutReferenceIdeal := hRouteOutReferenceIdeal)
    ∧ quiescent_RouteOutReferenceIdeal_pre_real_out (hRouteOutReferenceIdeal := hRouteOutReferenceIdeal) (hPre_real_out := hPre_real_out)
    ∧ preserves_Kernel_KernelIdeal
    ∧ algebraic_KernelIdeal_ReferenceIdeal_pre_finite (hKernelIdeal := hKernelIdeal) (hReferenceIdeal := hReferenceIdeal) (hPre_finite := hPre_finite)
    ∧ preserves_QkvKernel_QkvKernelIdeal
    ∧ algebraic_QkvKernelIdeal_QkvReferenceIdeal (hQkvKernelIdeal := hQkvKernelIdeal) (hQkvReferenceIdeal := hQkvReferenceIdeal)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
    ∧ preserves_HeadsKernel_HeadsKernelIdeal
    ∧ algebraic_HeadsKernelIdeal_HeadsReferenceIdeal (hHeadsKernelIdeal := hHeadsKernelIdeal) (hHeadsReferenceIdeal := hHeadsReferenceIdeal)
    ∧ preserves_RouteKernel_RouteKernelIdeal
    ∧ algebraic_RouteKernelIdeal_RouteReferenceIdeal_pre_real (hRouteKernelIdeal := hRouteKernelIdeal) (hRouteReferenceIdeal := hRouteReferenceIdeal) (hPre_real := hPre_real)
    ∧ preserves_RouteOutKernel_RouteOutKernelIdeal
    ∧ algebraic_RouteOutKernelIdeal_RouteOutReferenceIdeal_pre_real_out (hRouteOutKernelIdeal := hRouteOutKernelIdeal) (hRouteOutReferenceIdeal := hRouteOutReferenceIdeal) (hPre_real_out := hPre_real_out)
-- ==== Pre_finite.lean ====
abbrev S32768x1536 : Shape := ⟨2, ![32768, 1536]⟩
abbrev S32x16 : Shape := ⟨2, ![32, 16]⟩
abbrev S16 : Shape := ⟨1, ![16]⟩
abbrev S_ : Shape := ⟨0, ![]⟩

class Facts : Prop where
  bitsLt_bf16_f32 : FTy.bits .bf16 < FTy.bits .f32
  bcast_S_S32768x1536 : S_.BroadcastsInDim S32768x1536 (![] : Fin 0 → Fin S32768x1536.rank)
  reducesTo_S32768x1536_S_d0_1 : S32768x1536.ReducesTo [0, 1] S_
  h_S_ : 0 < S_.numel
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S32768x1536 .bf16) (main_arg1 : FVec F S32x16 .f32) (main_arg2 : FVec F S16 .f32) : IVec S_ 1 :=
  let main_v0 : FVec F S32768x1536 .f32 := (extf .f32 · bitsLt_bf16_f32) main_arg0
  let main_v1 : FVec F S32768x1536 .f32 := Host.absf main_v0
  let main_cst : FVec F S_ .f32 := constant S_ .f32 0x7F800000#32
  let main_v2 : FVec F S32768x1536 .f32 := broadcastInDim S32768x1536 ![] bcast_S_S32768x1536 main_cst
  let main_v3 : IVec S32768x1536 1 := cmpf .olt main_v1 main_v2
  let main_c : IVec S_ 1 := constantI S_ 1 1#1
  let main_v4 : IVec S_ 1 := (fun x v => Host.reduce IntOp.andi x v reducesTo_S32768x1536_S_d0_1 h_S_) main_v3 main_c
  let main_v5 : FVec F S32x16 .f32 := Host.absf main_arg1
  let main_cst_0 : FVec F S_ .f32 := constant S_ .f32 0x7F800000#32
  let main_v6 : FVec F S32x16 .f32 := broadcastInDim S32x16 ![] bcast_S_S32x16 main_cst_0
  let main_v7 : IVec S32x16 1 := cmpf .olt main_v5 main_v6
  let main_c_1 : IVec S_ 1 := constantI S_ 1 1#1
  let main_v8 : IVec S_ 1 := (fun x v => Host.reduce IntOp.andi x v reducesTo_S32x16_S_d0_1 h_S_) main_v7 main_c_1
  let main_v9 : IVec S_ 1 := andi main_v4 main_v8
  let main_v10 : FVec F S16 .f32 := Host.absf main_arg2
  let main_cst_2 : FVec F S_ .f32 := constant S_ .f32 0x7F800000#32
  let main_v11 : FVec F S16 .f32 := broadcastInDim S16 ![] bcast_S_S16 main_cst_2
  let main_v12 : IVec S16 1 := cmpf .olt main_v10 main_v11
  let main_c_3 : IVec S_ 1 := constantI S_ 1 1#1
  let main_v13 : IVec S_ 1 := (fun x v => Host.reduce IntOp.andi x v reducesTo_S16_S_d0 h_S_) main_v12 main_c_3
  let main_v14 : IVec S_ 1 := andi main_v9 main_v13
  main_v14
-- ==== Pre_real.lean ====
abbrev S32768x1024 : Shape := ⟨2, ![32768, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32768x1024 .bf16) (main_arg1 : FVec F S1024x1024 .bf16) (main_arg2 : FVec F S32768x1024 .f32) (main_arg3 : FVec F S1024 .f32) (main_arg4 : FVec F S1024x8 .f32) (main_arg5 : FVec F S8 .f32) (main_arg6 : FVec F S1024x64 .f32) (main_arg7 : FVec F S64 .f32) : IVec S_ 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x8 .f32 := Host.absf main_arg4
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S8 .f32 := Host.absf main_arg5
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S1024x64 .f32 := Host.absf main_arg6
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg7 main_v13 main_v16
-- ==== Pre_real_out.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32768x2048 .bf16) (main_arg1 : FVec F S2048x1024 .bf16) (main_arg2 : FVec F S32768x1024 .f32) (main_arg3 : FVec F S1024 .f32) (main_arg4 : FVec F S1024x8 .f32) (main_arg5 : FVec F S8 .f32) (main_arg6 : FVec F S1024x64 .f32) (main_arg7 : FVec F S64 .f32) : IVec S_ 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x8 .f32 := Host.absf main_arg4
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S8 .f32 := Host.absf main_arg5
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S1024x64 .f32 := Host.absf main_arg6
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg7 main_v13 main_v16
-- ==== Kernel.lean ====
abbrev S32768x1536 : Shape := ⟨2, ![32768, 1536]⟩
abbrev S32x16 : Shape := ⟨2, ![32, 16]⟩
abbrev S16 : Shape := ⟨1, ![16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S32 : Shape := ⟨1, ![32]⟩
abbrev S32x1x1 : Shape := ⟨3, ![32, 1, 1]⟩
abbrev S32x128x256 : Shape := ⟨3, ![32, 128, 256]⟩
abbrev S16x32 : Shape := ⟨2, ![16, 32]⟩
abbrev S16x128x256 : Shape := ⟨3, ![16, 128, 256]⟩
abbrev S1x1x256 : Shape := ⟨3, ![1, 1, 256]⟩
abbrev S1x16x128x256 : Shape := ⟨4, ![1, 16, 128, 256]⟩
abbrev S2x16x128x256 : Shape := ⟨4, ![2, 16, 128, 256]⟩
abbrev S32768x1024 : Shape := ⟨2, ![32768, 1024]⟩
abbrev S128x1024 : Shape := ⟨2, ![128, 1024]⟩
abbrev S128x64 : Shape := ⟨2, ![128, 64]⟩
abbrev S256x64 : Shape := ⟨2, ![256, 64]⟩
abbrev S1x1x128x256 : Shape := ⟨4, ![1, 1, 128, 256]⟩
abbrev S1 : Shape := ⟨1, ![1]⟩

abbrev nBuf : Space → Nat
  | .hbm => 76
  | .vmem => 13
  | .smem => 1
  | _ => 0

abbrev bufTy : (tb : Table) → Fin (tcTables nBuf tb) → BufTy
  | .hbm, ⟨0, _⟩ => ⟨S32768x1536, .bf16⟩
  | .hbm, ⟨1, _⟩ => ⟨S32x16, .f32⟩
  | .hbm, ⟨2, _⟩ => ⟨S16, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i32⟩
  | .hbm, ⟨23, _⟩ => ⟨S_, .i32⟩
  | .hbm, ⟨24, _⟩ => ⟨S128x256, .i32⟩
  | .hbm, ⟨25, _⟩ => ⟨S128x256, .i32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i1⟩
  | .hbm, ⟨47, _⟩ => ⟨S128x256, .i32⟩
  | .hbm, ⟨48, _⟩ => ⟨S1x128x256, .i32⟩
  | .hbm, ⟨49, _⟩ => ⟨S32, .i32⟩
  | .hbm, ⟨50, _⟩ => ⟨S32x1x1, .i32⟩
  | .hbm, ⟨51, _⟩ => ⟨S32x128x256, .i32⟩
  | .hbm, ⟨52, _⟩ => ⟨S32x128x256, .i32⟩
  | .hbm, ⟨53, _⟩ => ⟨S32x128x256, .i1⟩
  | .hbm, ⟨54, _⟩ => ⟨S32x128x256, .f32⟩
  | .hbm, ⟨55, _⟩ => ⟨S16x32, .f32⟩
  | .hbm, ⟨56, _⟩ => ⟨S16x128x256, .f32⟩
  | .hbm, ⟨57, _⟩ => ⟨S1x128x256, .i1⟩
  | .hbm, ⟨58, _⟩ => ⟨S_, .f32⟩
  | .hbm, ⟨59, _⟩ => ⟨S_, .f32⟩
  | .hbm, ⟨60, _⟩ => ⟨S16x128x256, .i1⟩
  | .hbm, ⟨61, _⟩ => ⟨S16x128x256, .f32⟩
  | .hbm, ⟨62, _⟩ => ⟨S16x128x256, .f32⟩
  | .hbm, ⟨63, _⟩ => ⟨S_, .i32⟩
  | .hbm, ⟨64, _⟩ => ⟨S1x256, .i32⟩
  | .hbm, ⟨65, _⟩ => ⟨S1x256, .i1⟩
  | .hbm, ⟨66, _⟩ => ⟨S1x1x256, .i1⟩
  | .hbm, ⟨67, _⟩ => ⟨S_, .f32⟩
  | .hbm, ⟨68, _⟩ => ⟨S_, .f32⟩
  | .hbm, ⟨69, _⟩ => ⟨S16x128x256, .i1⟩
  | .hbm, ⟨70, _⟩ => ⟨S16x128x256, .f32⟩
  | .hbm, ⟨71, _⟩ => ⟨S16x128x256, .f32⟩
  | .hbm, ⟨72, _⟩ => ⟨S1x16x128x256, .f32⟩
  | .hbm, ⟨73, _⟩ => ⟨S1x16x128x256, .f32⟩
  | .hbm, ⟨74, _⟩ => ⟨S2x16x128x256, .f32⟩
  | .hbm, ⟨75, _⟩ => ⟨S32768x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S2x16x128x256, .f32⟩
  | .local _ .vmem, ⟨11, _⟩ => ⟨S128x1024, .bf16⟩
  | .local _ .vmem, ⟨12, _⟩ => ⟨S128x1024, .bf16⟩
  | .local _ .smem, ⟨0, _⟩ => ⟨S16, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 16], ![false, false]⟩

def k0_off1 (i : grid0.Coords) : Fin 4 → Nat :=
  let arg1 : BitVec 32 := BitVec.ofNat 32 (i 1).val
  let c1_i32 : BitVec 32 := 1#32
  let v0 : BitVec 32 := Scalar.minsi arg1 c1_i32
  let v11 : Index := Scalar.indexCast v0
  let c0_10 : Index := 0#32
  let c0_11 : Index := 0#32
  let c0_12 : Index := 0#32
  ![v11.toNat, 0, 0, 0]
def k0_off2 (i : grid0.Coords) : Fin 4 → Nat :=
  let arg1 : BitVec 32 := BitVec.ofNat 32 (i 1).val
  let c1_i32 : BitVec 32 := 1#32
  let v0 : BitVec 32 := Scalar.minsi arg1 c1_i32
  let v42 : Index := Scalar.indexCast v0
  let c1 : Index := 1#32
  let c0_24 : Index := 0#32
  let c0_25 : Index := 0#32
  ![v42.toNat, 1, 0, 0]
def k0_off3 (i : grid0.Coords) : Fin 4 → Nat :=
  let arg1 : BitVec 32 := BitVec.ofNat 32 (i 1).val
  let c1_i32 : BitVec 32 := 1#32
  let v0 : BitVec 32 := Scalar.minsi arg1 c1_i32
  let v73 : Index := Scalar.indexCast v0
  let c2 : Index := 2#32
  let c0_37 : Index := 0#32
  let c0_38 : Index := 0#32
  ![v73.toNat, 2, 0, 0]
def k0_off4 (i : grid0.Coords) : Fin 4 → Nat :=
  let arg1 : BitVec 32 := BitVec.ofNat 32 (i 1).val
  let c1_i32 : BitVec 32 := 1#32
  let v0 : BitVec 32 := Scalar.minsi arg1 c1_i32
  let v104 : Index := Scalar.indexCast v0
  let c3 : Index := 3#32
  let c0_50 : Index := 0#32
  let c0_51 : Index := 0#32
  ![v104.toNat, 3, 0, 0]
def k0_off5 (i : grid0.Coords) : Fin 4 → Nat :=
  let arg1 : BitVec 32 := BitVec.ofNat 32 (i 1).val
  let c1_i32 : BitVec 32 := 1#32
  let v0 : BitVec 32 := Scalar.minsi arg1 c1_i32
  let v141 : Index := Scalar.indexCast v0
  let c4 : Index := 4#32
  let c0_71 : Index := 0#32
  let c0_72 : Index := 0#32
  ![v141.toNat, 4, 0, 0]
def k0_off6 (i : grid0.Coords) : Fin 4 → Nat :=
  let arg1 : BitVec 32 := BitVec.ofNat 32 (i 1).val
  let c1_i32 : BitVec 32 := 1#32
  let v0 : BitVec 32 := Scalar.minsi arg1 c1_i32
  let v172 : Index := Scalar.indexCast v0
  let c5 : Index := 5#32
  let c0_84 : Index := 0#32
  let c0_85 : Index := 0#32
  ![v172.toNat, 5, 0, 0]
def k0_off7 (i : grid0.Coords) : Fin 4 → Nat :=
  let arg1 : BitVec 32 := BitVec.ofNat 32 (i 1).val
  let c1_i32 : BitVec 32 := 1#32
  let v0 : BitVec 32 := Scalar.minsi arg1 c1_i32
  let v203 : Index := Scalar.indexCast v0
  let c6 : Index := 6#32
  let c0_97 : Index := 0#32
  let c0_98 : Index := 0#32
  ![v203.toNat, 6, 0, 0]
def k0_off8 (i : grid0.Coords) : Fin 4 → Nat :=
  let arg1 : BitVec 32 := BitVec.ofNat 32 (i 1).val
  let c1_i32 : BitVec 32 := 1#32
  let v0 : BitVec 32 := Scalar.minsi arg1 c1_i32
  let v234 : Index := Scalar.indexCast v0
  let c7 : Index := 7#32
  let c0_110 : Index := 0#32
  let c0_111 : Index := 0#32
  ![v234.toNat, 7, 0, 0]
def k0_off9 (i : grid0.Coords) : Fin 4 → Nat :=
  let arg1 : BitVec 32 := BitVec.ofNat 32 (i 1).val
  let c1_i32 : BitVec 32 := 1#32
  let v0 : BitVec 32 := Scalar.minsi arg1 c1_i32
  let v271 : Index := Scalar.indexCast v0
  let c8 : Index := 8#32
  let c0_131 : Index := 0#32
  let c0_132 : Index := 0#32
  ![v271.toNat, 8, 0, 0]
def k0_off10 (i : grid0.Coords) : Fin 4 → Nat :=
  let arg1 : BitVec 32 := BitVec.ofNat 32 (i 1).val
  let c1_i32 : BitVec 32 := 1#32
  let v0 : BitVec 32 := Scalar.minsi arg1 c1_i32
  let v302 : Index := Scalar.indexCast v0
  let c9 : Index := 9#32
  let c0_144 : Index := 0#32
  let c0_145 : Index := 0#32
  ![v302.toNat, 9, 0, 0]
def k0_off11 (i : grid0.Coords) : Fin 4 → Nat :=
  let arg1 : BitVec 32 := BitVec.ofNat 32 (i 1).val
  let c1_i32 : BitVec 32 := 1#32
  let v0 : BitVec 32 := Scalar.minsi arg1 c1_i32
  let v333 : Index := Scalar.indexCast v0
  let c10 : Index := 10#32
  let c0_157 : Index := 0#32
  let c0_158 : Index := 0#32
  ![v333.toNat, 10, 0, 0]
def k0_off12 (i : grid0.Coords) : Fin 4 → Nat :=
  let arg1 : BitVec 32 := BitVec.ofNat 32 (i 1).val
  let c1_i32 : BitVec 32 := 1#32
  let v0 : BitVec 32 := Scalar.minsi arg1 c1_i32
  let v364 : Index := Scalar.indexCast v0
  let c11 : Index := 11#32
  let c0_170 : Index := 0#32
  let c0_171 : Index := 0#32
  ![v364.toNat, 11, 0, 0]
def k0_off13 (i : grid0.Coords) : Fin 4 → Nat :=
  let arg1 : BitVec 32 := BitVec.ofNat 32 (i 1).val
  let c1_i32 : BitVec 32 := 1#32
  let v0 : BitVec 32 := Scalar.minsi arg1 c1_i32
  let v401 : Index := Scalar.indexCast v0
  let c12 : Index := 12#32
  let c0_191 : Index := 0#32
  let c0_192 : Index := 0#32
  ![v401.toNat, 12, 0, 0]
def k0_off14 (i : grid0.Coords) : Fin 4 → Nat :=
  let arg1 : BitVec 32 := BitVec.ofNat 32 (i 1).val
  let c1_i32 : BitVec 32 := 1#32
  let v0 : BitVec 32 := Scalar.minsi arg1 c1_i32
  let v432 : Index := Scalar.indexCast v0
  let c13 : Index := 13#32
  let c0_204 : Index := 0#32
  let c0_205 : Index := 0#32
  ![v432.toNat, 13, 0, 0]
def k0_off15 (i : grid0.Coords) : Fin 4 → Nat :=
  let arg1 : BitVec 32 := BitVec.ofNat 32 (i 1).val
  let c1_i32 : BitVec 32 := 1#32
  let v0 : BitVec 32 := Scalar.minsi arg1 c1_i32
  let v463 : Index := Scalar.indexCast v0
  let c14 : Index := 14#32
  let c0_217 : Index := 0#32
  let c0_218 : Index := 0#32
  ![v463.toNat, 14, 0, 0]
def k0_off16 (i : grid0.Coords) : Fin 4 → Nat :=
  let arg1 : BitVec 32 := BitVec.ofNat 32 (i 1).val
  let c1_i32 : BitVec 32 := 1#32
  let v0 : BitVec 32 := Scalar.minsi arg1 c1_i32
  let v494 : Index := Scalar.indexCast v0
  let c15 : Index := 15#32
  let c0_230 : Index := 0#32
  let c0_231 : Index := 0#32
  ![v494.toNat, 15, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some ((8⁻¹ * (Real.log 2)⁻¹ : ℝ) : EReal)
  | _ => none
-- ==== ReferenceIdeal.lean ====
abbrev S32768x1536 : Shape := ⟨2, ![32768, 1536]⟩
abbrev S32x16 : Shape := ⟨2, ![32, 16]⟩
abbrev S16 : Shape := ⟨1, ![16]⟩
abbrev S16x2048x1536 : Shape := ⟨3, ![16, 2048, 1536]⟩
abbrev S16x2048x1024 : Shape := ⟨3, ![16, 2048, 1024]⟩
abbrev S16x16x128x4x4x64 : Shape := ⟨6, ![16, 16, 128, 4, 4, 64]⟩
abbrev S16x2048x256 : Shape := ⟨3, ![16, 2048, 256]⟩
abbrev S16x16x128x4x64 : Shape := ⟨5, ![16, 16, 128, 4, 64]⟩
abbrev S16x15x128x4x64 : Shape := ⟨5, ![16, 15, 128, 4, 64]⟩
abbrev S_ : Shape := ⟨0, ![]⟩
abbrev S16x16x256x4x64 : Shape := ⟨5, ![16, 16, 256, 4, 64]⟩
abbrev S16x4x16x256x128x4 : Shape := ⟨6, ![16, 4, 16, 256, 128, 4]⟩
abbrev S16x4x4x16x128x256 : Shape := ⟨6, ![16, 4, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S128x256x1 : Shape := ⟨3, ![128, 256, 1]⟩
abbrev S128x256x16 : Shape := ⟨3, ![128, 256, 16]⟩
abbrev S4x4x128x256 : Shape := ⟨4, ![4, 4, 128, 256]⟩
abbrev S1x4x4x1x128x256 : Shape := ⟨6, ![1, 4, 4, 1, 128, 256]⟩
abbrev S4x4 : Shape := ⟨2, ![4, 4]⟩
abbrev S1x4x4x1x1x1 : Shape := ⟨6, ![1, 4, 4, 1, 1, 1]⟩
abbrev S16x4x4x16x128 : Shape := ⟨5, ![16, 4, 4, 16, 128]⟩
abbrev S16x4x4x16x128x1 : Shape := ⟨6, ![16, 4, 4, 16, 128, 1]⟩
abbrev S16x16x4x64x4x128 : Shape := ⟨6, ![16, 16, 4, 64, 4, 128]⟩
abbrev S32768x1024 : Shape := ⟨2, ![32768, 1024]⟩

abbrev nBuf : Space → Nat
  | .hbm => 134
  | .vmem => 0
  | .smem => 0
  | _ => 0

abbrev hbmTy0_0 (i : Nat) : BufTy := match i % 128 with
  | 0 => ⟨S32768x1536, .bf16⟩
  | 1 => ⟨S32x16, .f32⟩
  | 2 => ⟨S16, .f32⟩
  | 3 => ⟨S16x2048x1536, .bf16⟩
  | 4 => ⟨S16x2048x1024, .bf16⟩
  | 5 => ⟨S16x16x128x4x4x64, .bf16⟩
  | 6 => ⟨S16x2048x256, .bf16⟩
  | 7 => ⟨S16x2048x256, .bf16⟩
  | 8 => ⟨S16x16x128x4x64, .bf16⟩
  | 9 => ⟨S16x16x128x4x64, .bf16⟩
  | 10 => ⟨S16x15x128x4x64, .bf16⟩
  | 11 => ⟨S_, .i32⟩
  | 12 => ⟨S_, .bf16⟩
  | 13 => ⟨S16x16x128x4x64, .bf16⟩
  | 14 => ⟨S16x16x256x4x64, .bf16⟩
  | 15 => ⟨S16x15x128x4x64, .bf16⟩
  | 16 => ⟨S_, .i32⟩
  | 17 => ⟨S_, .bf16⟩
  | 18 => ⟨S16x16x128x4x64, .bf16⟩
  | 19 => ⟨S16x16x256x4x64, .bf16⟩
  | 20 => ⟨S16x4x16x256x128x4, .f32⟩
  | 21 => ⟨S16x4x4x16x128x256, .f32⟩
  | 22 => ⟨S_, .f32⟩
  | 23 => ⟨S16x4x4x16x128x256, .f32⟩
  | 24 => ⟨S16x4x4x16x128x256, .f32⟩
  | 25 => ⟨S128, .i32⟩
  | 26 => ⟨S128x1, .i32⟩
  | 27 => ⟨S256, .i32⟩
  | 28 => ⟨S1x256, .i32⟩
  | 29 => ⟨S_, .i32⟩
  | 30 => ⟨S128x1, .i32⟩
  | 31 => ⟨S128x1, .i32⟩
  | 32 => ⟨S128x256, .i32⟩
  | 33 => ⟨S128x256, .i32⟩
  | 34 => ⟨S128x256, .i32⟩
  | 35 => ⟨S_, .i32⟩
  | 36 => ⟨S128x256, .i32⟩
  | 37 => ⟨S128x256, .i1⟩
  | 38 => ⟨S_, .i32⟩
  | 39 => ⟨S128x256, .i32⟩
  | 40 => ⟨S128x256, .i1⟩
  | 41 => ⟨S128x256, .i1⟩
  | 42 => ⟨S16, .i32⟩
  | 43 => ⟨S16x1, .i32⟩
  | 44 => ⟨S_, .i32⟩
  | 45 => ⟨S16x1, .i32⟩
  | 46 => ⟨S16x1, .i1⟩
  | 47 => ⟨S256, .i32⟩
  | 48 => ⟨S1x256, .i32⟩
  | 49 => ⟨S_, .i32⟩
  | 50 => ⟨S1x256, .i32⟩
  | 51 => ⟨S1x256, .i1⟩
  | 52 => ⟨S16x256, .i1⟩
  | 53 => ⟨S16x256, .i1⟩
  | 54 => ⟨S16x256, .i1⟩
  | 55 => ⟨S1x128x256, .i1⟩
  | 56 => ⟨S16x1x256, .i1⟩
  | 57 => ⟨S16x1x256, .i1⟩
  | 58 => ⟨S16x128x256, .i1⟩
  | 59 => ⟨S16x128x256, .i1⟩
  | 60 => ⟨S16x128x256, .i1⟩
  | 61 => ⟨S_, .i32⟩
  | 62 => ⟨S128x256, .i32⟩
  | 63 => ⟨S128x256, .i32⟩
  | 64 => ⟨S_, .i32⟩
  | 65 => ⟨S128x256, .i32⟩
  | 66 => ⟨S128x256, .i32⟩
  | 67 => ⟨S128x256, .f32⟩
  | 68 => ⟨S_, .f32⟩
  | 69 => ⟨S128x256, .f32⟩
  | 70 => ⟨S128x256, .f32⟩
  | 71 => ⟨S128x256, .f32⟩
  | 72 => ⟨S_, .f32⟩
  | 73 => ⟨S128x256, .f32⟩
  | 74 => ⟨S128x256, .f32⟩
  | 75 => ⟨S_, .f32⟩
  | 76 => ⟨S128x256, .f32⟩
  | 77 => ⟨S128x256, .f32⟩
  | 78 => ⟨S128x256, .i32⟩
  | 79 => ⟨S_, .i32⟩
  | 80 => ⟨S128x256, .i32⟩
  | 81 => ⟨S128x256, .i32⟩
  | 82 => ⟨S_, .i32⟩
  | 83 => ⟨S128x256, .i32⟩
  | 84 => ⟨S128x256, .i32⟩
  | 85 => ⟨S_, .i32⟩
  | 86 => ⟨S128x256, .i32⟩
  | 87 => ⟨S128x256, .i1⟩
  | 88 => ⟨S128x256, .i32⟩
  | 89 => ⟨S_, .i32⟩
  | 90 => ⟨S128x256, .i32⟩
  | 91 => ⟨S128x256, .i1⟩
  | 92 => ⟨S_, .i32⟩
  | 93 => ⟨S128x256, .i32⟩
  | 94 => ⟨S128x256, .i32⟩
  | 95 => ⟨S128x256, .i32⟩
  | 96 => ⟨S128x256x1, .i32⟩
  | 97 => ⟨S128x256x16, .f32⟩
  | 98 => ⟨S16x128x256, .f32⟩
  | 99 => ⟨S4x4x128x256, .f32⟩
  | 100 => ⟨S1x4x4x1x128x256, .f32⟩
  | 101 => ⟨S16x4x4x16x128x256, .f32⟩
  | 102 => ⟨S16x4x4x16x128x256, .f32⟩
  | 103 => ⟨S_, .f32⟩
  | 104 => ⟨S_, .f32⟩
  | 105 => ⟨S16x4x4x16x128x256, .i1⟩
  | 106 => ⟨S16x4x4x16x128x256, .f32⟩
  | 107 => ⟨S16x4x4x16x128x256, .f32⟩
  | 108 => ⟨S4x4, .f32⟩
  | 109 => ⟨S1x4x4x1x1x1, .f32⟩
  | 110 => ⟨S_, .f32⟩
  | 111 => ⟨S16x4x4x16x128, .f32⟩
  | 112 => ⟨S16x4x4x16x128x1, .f32⟩
  | 113 => ⟨S16x4x4x16x128x1, .f32⟩
  | 114 => ⟨S16x4x4x16x128x1, .f32⟩
  | 115 => ⟨S16x4x4x16x128x256, .f32⟩
  | 116 => ⟨S16x4x4x16x128x256, .f32⟩
  | 117 => ⟨S16x4x4x16x128x256, .f32⟩
  | 118 => ⟨S_, .f32⟩
  | 119 => ⟨S16x4x4x16x128, .f32⟩
  | 120 => ⟨S16x4x4x16x128x1, .f32⟩
  | 121 => ⟨S16x4x4x16x128x1, .f32⟩
  | 122 => ⟨S16x4x4x16x128x1, .f32⟩
  | 123 => ⟨S16x4x4x16x128x1, .f32⟩
  | 124 => ⟨S16x4x4x16x128x1, .f32⟩
  | 125 => ⟨S16x4x4x16x128x256, .f32⟩
  | 126 => ⟨S16x4x4x16x128x256, .f32⟩
  | 127 => ⟨S16x4x4x16x128x256, .bf16⟩
  | _ => ⟨S32768x1536, .bf16⟩

abbrev hbmTy0_1 (i : Nat) : BufTy := match i % 128 with
  | 0 => ⟨S16x4x4x16x128x256, .f32⟩
  | 1 => ⟨S16x16x256x4x64, .f32⟩
  | 2 => ⟨S16x16x4x64x4x128, .f32⟩
  | 3 => ⟨S16x16x128x4x4x64, .f32⟩
  | 4 => ⟨S32768x1024, .f32⟩
  | 5 => ⟨S32768x1024, .bf16⟩
  | _ => ⟨S32768x1536, .bf16⟩

abbrev hbmTy (i : Nat) : BufTy := match i / 128 with
  | 0 => hbmTy0_0 i
  | 1 => hbmTy0_1 i
  | _ => ⟨S32768x1536, .bf16⟩

abbrev bufTy : (tb : Table) → Fin (tcTables nBuf tb) → BufTy
  | .hbm, ⟨i, _⟩ => hbmTy i
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_6 : Ref sig .tc := ⟨.hbm, 61, rfl⟩
abbrev main_v48 : Ref sig .tc := ⟨.hbm, 62, rfl⟩
abbrev main_v49 : Ref sig .tc := ⟨.hbm, 63, rfl⟩
abbrev main_c_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_11 : Ref sig .tc := ⟨.hbm, 79, rfl⟩
abbrev main_v61 : Ref sig .tc := ⟨.hbm, 80, rfl⟩
abbrev main_v62 : Ref sig .tc := ⟨.hbm, 81, rfl⟩
abbrev main_c_12 : Ref sig .tc := ⟨.hbm, 82, rfl⟩
abbrev main_v63 : Ref sig .tc := ⟨.hbm, 83, rfl⟩
abbrev main_v64 : Ref sig .tc := ⟨.hbm, 84, rfl⟩
abbrev main_c_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_14 : Ref sig .tc := ⟨.hbm, 89, rfl⟩
abbrev main_v68 : Ref sig .tc := ⟨.hbm, 90, rfl⟩
abbrev main_v69 : Ref sig .tc := ⟨.hbm, 91, rfl⟩
abbrev main_c_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_18 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]
-- ==== QkvKernel.lean ====
abbrev S32768x1024 : Shape := ⟨2, ![32768, 1024]⟩
abbrev S1024 : Shape := ⟨1, ![1024]⟩
abbrev S1024x1536 : Shape := ⟨2, ![1024, 1536]⟩
abbrev S1x1024 : Shape := ⟨2, ![1, 1024]⟩
abbrev S32768x1536 : Shape := ⟨2, ![32768, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1536, .bf16⟩
  | .hbm, ⟨3, _⟩ => ⟨S1x1024, .f32⟩
  | .hbm, ⟨4, _⟩ => ⟨S32768x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1536, .bf16⟩
  | .local _ .vmem, ⟨5, _⟩ => ⟨S512x1536, .bf16⟩
  | .local _ .vmem, ⟨6, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvReferenceIdeal.lean ====
abbrev S32768x1024 : Shape := ⟨2, ![32768, 1024]⟩
abbrev S1024 : Shape := ⟨1, ![1024]⟩
abbrev S1024x1536 : Shape := ⟨2, ![1024, 1536]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x1536 : Shape := ⟨2, ![32768, 1536]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1536, .bf16⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1024x1536, .f32⟩
  | .hbm, ⟨20, _⟩ => ⟨S32768x1536, .f32⟩
  | .hbm, ⟨21, _⟩ => ⟨S32768x1536, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== InKernel.lean ====
abbrev S32768x1024 : Shape := ⟨2, ![32768, 1024]⟩
abbrev S1024 : Shape := ⟨1, ![1024]⟩
abbrev S1024x5120 : Shape := ⟨2, ![1024, 5120]⟩
abbrev S1024x128 : Shape := ⟨2, ![1024, 128]⟩
abbrev S1x1024 : Shape := ⟨2, ![1, 1024]⟩
abbrev S32768x5120 : Shape := ⟨2, ![32768, 5120]⟩
abbrev S32768x128 : Shape := ⟨2, ![32768, 128]⟩
abbrev S1024x1024 : Shape := ⟨2, ![1024, 1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5120, .bf16⟩
  | .hbm, ⟨3, _⟩ => ⟨S1024x128, .bf16⟩
  | .hbm, ⟨4, _⟩ => ⟨S1x1024, .f32⟩
  | .hbm, ⟨5, _⟩ => ⟨S32768x5120, .bf16⟩
  | .hbm, ⟨6, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5120, .bf16⟩
  | .local _ .vmem, ⟨4, _⟩ => ⟨S1024x128, .bf16⟩
  | .local _ .vmem, ⟨5, _⟩ => ⟨S1024x5120, .bf16⟩
  | .local _ .vmem, ⟨6, _⟩ => ⟨S1024x5120, .bf16⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InReferenceIdeal.lean ====
abbrev S32768x1024 : Shape := ⟨2, ![32768, 1024]⟩
abbrev S1024 : Shape := ⟨1, ![1024]⟩
abbrev S1024x5120 : Shape := ⟨2, ![1024, 5120]⟩
abbrev S1024x128 : Shape := ⟨2, ![1024, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5120 : Shape := ⟨2, ![32768, 5120]⟩
abbrev S32768x128 : Shape := ⟨2, ![32768, 128]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5120, .bf16⟩
  | .hbm, ⟨3, _⟩ => ⟨S1024x128, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1024x5120, .f32⟩
  | .hbm, ⟨21, _⟩ => ⟨S32768x5120, .f32⟩
  | .hbm, ⟨22, _⟩ => ⟨S32768x5120, .bf16⟩
  | .hbm, ⟨23, _⟩ => ⟨S1024x128, .f32⟩
  | .hbm, ⟨24, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OutKernel.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S1024x56 : Shape := ⟨2, ![1024, 56]⟩
abbrev S1024x128 : Shape := ⟨2, ![1024, 128]⟩
abbrev S56 : Shape := ⟨1, ![56]⟩
abbrev S128 : Shape := ⟨1, ![128]⟩
abbrev S128x1 : Shape := ⟨2, ![128, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S8x32768 : Shape := ⟨2, ![8, 32768]⟩
abbrev S32768x128 : Shape := ⟨2, ![32768, 128]⟩
abbrev S128x128 : Shape := ⟨2, ![128, 128]⟩
abbrev S512x2048 : Shape := ⟨2, ![512, 2048]⟩
abbrev S512x1024 : Shape := ⟨2, ![512, 1024]⟩
abbrev S8x512 : Shape := ⟨2, ![8, 512]⟩
abbrev S512x128 : Shape := ⟨2, ![512, 128]⟩
abbrev S256x1024 : Shape := ⟨2, ![256, 1024]⟩
abbrev S128x1024 : Shape := ⟨2, ![128, 1024]⟩
abbrev S256x512 : Shape := ⟨2, ![256, 512]⟩
abbrev S128x512 : Shape := ⟨2, ![128, 512]⟩

abbrev nBuf : Space → Nat
  | .hbm => 28
  | .vmem => 18
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .bf16⟩
  | .hbm, ⟨2, _⟩ => ⟨S32768x1024, .f32⟩
  | .hbm, ⟨3, _⟩ => ⟨S1024, .f32⟩
  | .hbm, ⟨4, _⟩ => ⟨S1024x8, .f32⟩
  | .hbm, ⟨5, _⟩ => ⟨S8, .f32⟩
  | .hbm, ⟨6, _⟩ => ⟨S1024x64, .f32⟩
  | .hbm, ⟨7, _⟩ => ⟨S64, .f32⟩
  | .hbm, ⟨8, _⟩ => ⟨S_, .f32⟩
  | .hbm, ⟨9, _⟩ => ⟨S1024x56, .f32⟩
  | .hbm, ⟨10, _⟩ => ⟨S1024x128, .f32⟩
  | .hbm, ⟨11, _⟩ => ⟨S_, .f32⟩
  | .hbm, ⟨12, _⟩ => ⟨S56, .f32⟩
  | .hbm, ⟨13, _⟩ => ⟨S128, .f32⟩
  | .hbm, ⟨14, _⟩ => ⟨S128x1, .f32⟩
  | .hbm, ⟨15, _⟩ => ⟨S512, .i32⟩
  | .hbm, ⟨16, _⟩ => ⟨S512x1, .i32⟩
  | .hbm, ⟨17, _⟩ => ⟨S512, .i32⟩
  | .hbm, ⟨18, _⟩ => ⟨S1x512, .i32⟩
  | .hbm, ⟨19, _⟩ => ⟨S512x512, .i32⟩
  | .hbm, ⟨20, _⟩ => ⟨S512x512, .i32⟩
  | .hbm, ⟨21, _⟩ => ⟨S512x512, .i1⟩
  | .hbm, ⟨22, _⟩ => ⟨S512x512, .bf16⟩
  | .hbm, ⟨23, _⟩ => ⟨S1x1024, .f32⟩
  | .hbm, ⟨24, _⟩ => ⟨S32768x1024, .f32⟩
  | .hbm, ⟨25, _⟩ => ⟨S8x32768, .i32⟩
  | .hbm, ⟨26, _⟩ => ⟨S32768x128, .f32⟩
  | .hbm, ⟨27, _⟩ => ⟨S128x128, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x128, .f32⟩
  | .local _ .vmem, ⟨7, _⟩ => ⟨S128x1, .f32⟩
  | .local _ .vmem, ⟨8, _⟩ => ⟨S512x512, .bf16⟩
  | .local _ .vmem, ⟨9, _⟩ => ⟨S512x1024, .f32⟩
  | .local _ .vmem, ⟨10, _⟩ => ⟨S512x1024, .f32⟩
  | .local _ .vmem, ⟨11, _⟩ => ⟨S8x512, .i32⟩
  | .local _ .vmem, ⟨12, _⟩ => ⟨S8x512, .i32⟩
  | .local _ .vmem, ⟨13, _⟩ => ⟨S512x128, .f32⟩
  | .local _ .vmem, ⟨14, _⟩ => ⟨S512x128, .f32⟩
  | .local _ .vmem, ⟨15, _⟩ => ⟨S128x128, .f32⟩
  | .local _ .vmem, ⟨16, _⟩ => ⟨S128x128, .f32⟩
  | .local _ .vmem, ⟨17, _⟩ => ⟨S256x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OutKernelIdeal.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S1024x56 : Shape := ⟨2, ![1024, 56]⟩
abbrev S1024x128 : Shape := ⟨2, ![1024, 128]⟩
abbrev S56 : Shape := ⟨1, ![56]⟩
abbrev S128 : Shape := ⟨1, ![128]⟩
abbrev S128x1 : Shape := ⟨2, ![128, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S8x32768 : Shape := ⟨2, ![8, 32768]⟩
abbrev S32768x128 : Shape := ⟨2, ![32768, 128]⟩
abbrev S128x128 : Shape := ⟨2, ![128, 128]⟩
abbrev S512x2048 : Shape := ⟨2, ![512, 2048]⟩
abbrev S512x1024 : Shape := ⟨2, ![512, 1024]⟩
abbrev S8x512 : Shape := ⟨2, ![8, 512]⟩
abbrev S512x128 : Shape := ⟨2, ![512, 128]⟩
abbrev S256x1024 : Shape := ⟨2, ![256, 1024]⟩
abbrev S128x1024 : Shape := ⟨2, ![128, 1024]⟩
abbrev S256x512 : Shape := ⟨2, ![256, 512]⟩
abbrev S128x512 : Shape := ⟨2, ![128, 512]⟩

abbrev nBuf : Space → Nat
  | .hbm => 28
  | .vmem => 18
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .bf16⟩
  | .hbm, ⟨2, _⟩ => ⟨S32768x1024, .f32⟩
  | .hbm, ⟨3, _⟩ => ⟨S1024, .f32⟩
  | .hbm, ⟨4, _⟩ => ⟨S1024x8, .f32⟩
  | .hbm, ⟨5, _⟩ => ⟨S8, .f32⟩
  | .hbm, ⟨6, _⟩ => ⟨S1024x64, .f32⟩
  | .hbm, ⟨7, _⟩ => ⟨S64, .f32⟩
  | .hbm, ⟨8, _⟩ => ⟨S_, .f32⟩
  | .hbm, ⟨9, _⟩ => ⟨S1024x56, .f32⟩
  | .hbm, ⟨10, _⟩ => ⟨S1024x128, .f32⟩
  | .hbm, ⟨11, _⟩ => ⟨S_, .f32⟩
  | .hbm, ⟨12, _⟩ => ⟨S56, .f32⟩
  | .hbm, ⟨13, _⟩ => ⟨S128, .f32⟩
  | .hbm, ⟨14, _⟩ => ⟨S128x1, .f32⟩
  | .hbm, ⟨15, _⟩ => ⟨S512, .i32⟩
  | .hbm, ⟨16, _⟩ => ⟨S512x1, .i32⟩
  | .hbm, ⟨17, _⟩ => ⟨S512, .i32⟩
  | .hbm, ⟨18, _⟩ => ⟨S1x512, .i32⟩
  | .hbm, ⟨19, _⟩ => ⟨S512x512, .i32⟩
  | .hbm, ⟨20, _⟩ => ⟨S512x512, .i32⟩
  | .hbm, ⟨21, _⟩ => ⟨S512x512, .i1⟩
  | .hbm, ⟨22, _⟩ => ⟨S512x512, .bf16⟩
  | .hbm, ⟨23, _⟩ => ⟨S1x1024, .f32⟩
  | .hbm, ⟨24, _⟩ => ⟨S32768x1024, .f32⟩
  | .hbm, ⟨25, _⟩ => ⟨S8x32768, .i32⟩
  | .hbm, ⟨26, _⟩ => ⟨S32768x128, .f32⟩
  | .hbm, ⟨27, _⟩ => ⟨S128x128, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x128, .f32⟩
  | .local _ .vmem, ⟨7, _⟩ => ⟨S128x1, .f32⟩
  | .local _ .vmem, ⟨8, _⟩ => ⟨S512x512, .bf16⟩
  | .local _ .vmem, ⟨9, _⟩ => ⟨S512x1024, .f32⟩
  | .local _ .vmem, ⟨10, _⟩ => ⟨S512x1024, .f32⟩
  | .local _ .vmem, ⟨11, _⟩ => ⟨S8x512, .i32⟩
  | .local _ .vmem, ⟨12, _⟩ => ⟨S8x512, .i32⟩
  | .local _ .vmem, ⟨13, _⟩ => ⟨S512x128, .f32⟩
  | .local _ .vmem, ⟨14, _⟩ => ⟨S512x128, .f32⟩
  | .local _ .vmem, ⟨15, _⟩ => ⟨S128x128, .f32⟩
  | .local _ .vmem, ⟨16, _⟩ => ⟨S128x128, .f32⟩
  | .local _ .vmem, ⟨17, _⟩ => ⟨S256x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OutReferenceIdeal.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩

abbrev nBuf : Space → Nat
  | .hbm => 12
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .bf16⟩
  | .hbm, ⟨2, _⟩ => ⟨S32768x1024, .f32⟩
  | .hbm, ⟨3, _⟩ => ⟨S1024, .f32⟩
  | .hbm, ⟨4, _⟩ => ⟨S1024x8, .f32⟩
  | .hbm, ⟨5, _⟩ => ⟨S8, .f32⟩
  | .hbm, ⟨6, _⟩ => ⟨S1024x64, .f32⟩
  | .hbm, ⟨7, _⟩ => ⟨S64, .f32⟩
  | .hbm, ⟨8, _⟩ => ⟨S32768x2048, .f32⟩
  | .hbm, ⟨9, _⟩ => ⟨S2048x1024, .f32⟩
  | .hbm, ⟨10, _⟩ => ⟨S32768x1024, .f32⟩
  | .hbm, ⟨11, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩

abbrev nD : Nat := 1
abbrev τ : Topo := Topo.v7x

variable {F : FTy → Type} [FloatOps F]
-- ==== HeadsKernel.lean ====
abbrev S32768x1024 : Shape := ⟨2, ![32768, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S1024x56 : Shape := ⟨2, ![1024, 56]⟩
abbrev S1024x128 : Shape := ⟨2, ![1024, 128]⟩
abbrev S56 : Shape := ⟨1, ![56]⟩
abbrev S128 : Shape := ⟨1, ![128]⟩
abbrev S128x1 : Shape := ⟨2, ![128, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S8x32768 : Shape := ⟨2, ![8, 32768]⟩
abbrev S32768x128 : Shape := ⟨2, ![32768, 128]⟩
abbrev S128x128 : Shape := ⟨2, ![128, 128]⟩
abbrev S512x1024 : Shape := ⟨2, ![512, 1024]⟩
abbrev S8x512 : Shape := ⟨2, ![8, 512]⟩
abbrev S512x128 : Shape := ⟨2, ![512, 128]⟩
abbrev S256x1024 : Shape := ⟨2, ![256, 1024]⟩
abbrev S128x1024 : Shape := ⟨2, ![128, 1024]⟩
abbrev S256x512 : Shape := ⟨2, ![256, 512]⟩
abbrev S128x512 : Shape := ⟨2, ![128, 512]⟩

abbrev nBuf : Space → Nat
  | .hbm => 28
  | .vmem => 18
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S1024, .f32⟩
  | .hbm, ⟨4, _⟩ => ⟨S1024x8, .f32⟩
  | .hbm, ⟨5, _⟩ => ⟨S8, .f32⟩
  | .hbm, ⟨6, _⟩ => ⟨S1024x64, .f32⟩
  | .hbm, ⟨7, _⟩ => ⟨S64, .f32⟩
  | .hbm, ⟨8, _⟩ => ⟨S_, .f32⟩
  | .hbm, ⟨9, _⟩ => ⟨S1024x56, .f32⟩
  | .hbm, ⟨10, _⟩ => ⟨S1024x128, .f32⟩
  | .hbm, ⟨11, _⟩ => ⟨S_, .f32⟩
  | .hbm, ⟨12, _⟩ => ⟨S56, .f32⟩
  | .hbm, ⟨13, _⟩ => ⟨S128, .f32⟩
  | .hbm, ⟨14, _⟩ => ⟨S128x1, .f32⟩
  | .hbm, ⟨15, _⟩ => ⟨S512, .i32⟩
  | .hbm, ⟨16, _⟩ => ⟨S512x1, .i32⟩
  | .hbm, ⟨17, _⟩ => ⟨S512, .i32⟩
  | .hbm, ⟨18, _⟩ => ⟨S1x512, .i32⟩
  | .hbm, ⟨19, _⟩ => ⟨S512x512, .i32⟩
  | .hbm, ⟨20, _⟩ => ⟨S512x512, .i32⟩
  | .hbm, ⟨21, _⟩ => ⟨S512x512, .i1⟩
  | .hbm, ⟨22, _⟩ => ⟨S512x512, .bf16⟩
  | .hbm, ⟨23, _⟩ => ⟨S1x1024, .f32⟩
  | .hbm, ⟨24, _⟩ => ⟨S32768x1024, .f32⟩
  | .hbm, ⟨25, _⟩ => ⟨S8x32768, .i32⟩
  | .hbm, ⟨26, _⟩ => ⟨S32768x128, .f32⟩
  | .hbm, ⟨27, _⟩ => ⟨S128x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x128, .f32⟩
  | .local _ .vmem, ⟨7, _⟩ => ⟨S128x1, .f32⟩
  | .local _ .vmem, ⟨8, _⟩ => ⟨S512x512, .bf16⟩
  | .local _ .vmem, ⟨9, _⟩ => ⟨S512x1024, .f32⟩
  | .local _ .vmem, ⟨10, _⟩ => ⟨S512x1024, .f32⟩
  | .local _ .vmem, ⟨11, _⟩ => ⟨S8x512, .i32⟩
  | .local _ .vmem, ⟨12, _⟩ => ⟨S8x512, .i32⟩
  | .local _ .vmem, ⟨13, _⟩ => ⟨S512x128, .f32⟩
  | .local _ .vmem, ⟨14, _⟩ => ⟨S512x128, .f32⟩
  | .local _ .vmem, ⟨15, _⟩ => ⟨S128x128, .f32⟩
  | .local _ .vmem, ⟨16, _⟩ => ⟨S128x128, .f32⟩
  | .local _ .vmem, ⟨17, _⟩ => ⟨S256x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== HeadsReferenceIdeal.lean ====
abbrev S32768x1024 : Shape := ⟨2, ![32768, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S1024, .f32⟩
  | .hbm, ⟨4, _⟩ => ⟨S1024x8, .f32⟩
  | .hbm, ⟨5, _⟩ => ⟨S8, .f32⟩
  | .hbm, ⟨6, _⟩ => ⟨S1024x64, .f32⟩
  | .hbm, ⟨7, _⟩ => ⟨S64, .f32⟩
  | .hbm, ⟨8, _⟩ => ⟨S32768x1024, .f32⟩
  | .hbm, ⟨9, _⟩ => ⟨S1024x1024, .f32⟩
  | .hbm, ⟨10, _⟩ => ⟨S32768x1024, .f32⟩
  | .hbm, ⟨11, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩

abbrev nD : Nat := 1
abbrev τ : Topo := Topo.v7x

variable {F : FTy → Type} [FloatOps F]
-- ==== RouteKernel.lean ====
abbrev S32768x1024 : Shape := ⟨2, ![32768, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S1024x56 : Shape := ⟨2, ![1024, 56]⟩
abbrev S1024x128 : Shape := ⟨2, ![1024, 128]⟩
abbrev S56 : Shape := ⟨1, ![56]⟩
abbrev S128 : Shape := ⟨1, ![128]⟩
abbrev S128x1 : Shape := ⟨2, ![128, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S8x32768 : Shape := ⟨2, ![8, 32768]⟩
abbrev S32768x128 : Shape := ⟨2, ![32768, 128]⟩
abbrev S128x128 : Shape := ⟨2, ![128, 128]⟩
abbrev S512x1024 : Shape := ⟨2, ![512, 1024]⟩
abbrev S8x512 : Shape := ⟨2, ![8, 512]⟩
abbrev S512x128 : Shape := ⟨2, ![512, 128]⟩
abbrev S256x1024 : Shape := ⟨2, ![256, 1024]⟩
abbrev S128x1024 : Shape := ⟨2, ![128, 1024]⟩
abbrev S256x512 : Shape := ⟨2, ![256, 512]⟩
abbrev S128x512 : Shape := ⟨2, ![128, 512]⟩

abbrev nBuf : Space → Nat
  | .hbm => 28
  | .vmem => 18
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S1024, .f32⟩
  | .hbm, ⟨4, _⟩ => ⟨S1024x8, .f32⟩
  | .hbm, ⟨5, _⟩ => ⟨S8, .f32⟩
  | .hbm, ⟨6, _⟩ => ⟨S1024x64, .f32⟩
  | .hbm, ⟨7, _⟩ => ⟨S64, .f32⟩
  | .hbm, ⟨8, _⟩ => ⟨S_, .f32⟩
  | .hbm, ⟨9, _⟩ => ⟨S1024x56, .f32⟩
  | .hbm, ⟨10, _⟩ => ⟨S1024x128, .f32⟩
  | .hbm, ⟨11, _⟩ => ⟨S_, .f32⟩
  | .hbm, ⟨12, _⟩ => ⟨S56, .f32⟩
  | .hbm, ⟨13, _⟩ => ⟨S128, .f32⟩
  | .hbm, ⟨14, _⟩ => ⟨S128x1, .f32⟩
  | .hbm, ⟨15, _⟩ => ⟨S512, .i32⟩
  | .hbm, ⟨16, _⟩ => ⟨S512x1, .i32⟩
  | .hbm, ⟨17, _⟩ => ⟨S512, .i32⟩
  | .hbm, ⟨18, _⟩ => ⟨S1x512, .i32⟩
  | .hbm, ⟨19, _⟩ => ⟨S512x512, .i32⟩
  | .hbm, ⟨20, _⟩ => ⟨S512x512, .i32⟩
  | .hbm, ⟨21, _⟩ => ⟨S512x512, .i1⟩
  | .hbm, ⟨22, _⟩ => ⟨S512x512, .bf16⟩
  | .hbm, ⟨23, _⟩ => ⟨S1x1024, .f32⟩
  | .hbm, ⟨24, _⟩ => ⟨S32768x1024, .f32⟩
  | .hbm, ⟨25, _⟩ => ⟨S8x32768, .i32⟩
  | .hbm, ⟨26, _⟩ => ⟨S32768x128, .f32⟩
  | .hbm, ⟨27, _⟩ => ⟨S128x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x128, .f32⟩
  | .local _ .vmem, ⟨7, _⟩ => ⟨S128x1, .f32⟩
  | .local _ .vmem, ⟨8, _⟩ => ⟨S512x512, .bf16⟩
  | .local _ .vmem, ⟨9, _⟩ => ⟨S512x1024, .f32⟩
  | .local _ .vmem, ⟨10, _⟩ => ⟨S512x1024, .f32⟩
  | .local _ .vmem, ⟨11, _⟩ => ⟨S8x512, .i32⟩
  | .local _ .vmem, ⟨12, _⟩ => ⟨S8x512, .i32⟩
  | .local _ .vmem, ⟨13, _⟩ => ⟨S512x128, .f32⟩
  | .local _ .vmem, ⟨14, _⟩ => ⟨S512x128, .f32⟩
  | .local _ .vmem, ⟨15, _⟩ => ⟨S128x128, .f32⟩
  | .local _ .vmem, ⟨16, _⟩ => ⟨S128x128, .f32⟩
  | .local _ .vmem, ⟨17, _⟩ => ⟨S256x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RouteKernelIdeal.lean ====
abbrev S32768x1024 : Shape := ⟨2, ![32768, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S1024x56 : Shape := ⟨2, ![1024, 56]⟩
abbrev S1024x128 : Shape := ⟨2, ![1024, 128]⟩
abbrev S56 : Shape := ⟨1, ![56]⟩
abbrev S128 : Shape := ⟨1, ![128]⟩
abbrev S128x1 : Shape := ⟨2, ![128, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S8x32768 : Shape := ⟨2, ![8, 32768]⟩
abbrev S32768x128 : Shape := ⟨2, ![32768, 128]⟩
abbrev S128x128 : Shape := ⟨2, ![128, 128]⟩
abbrev S512x1024 : Shape := ⟨2, ![512, 1024]⟩
abbrev S8x512 : Shape := ⟨2, ![8, 512]⟩
abbrev S512x128 : Shape := ⟨2, ![512, 128]⟩
abbrev S256x1024 : Shape := ⟨2, ![256, 1024]⟩
abbrev S128x1024 : Shape := ⟨2, ![128, 1024]⟩
abbrev S256x512 : Shape := ⟨2, ![256, 512]⟩
abbrev S128x512 : Shape := ⟨2, ![128, 512]⟩

abbrev nBuf : Space → Nat
  | .hbm => 28
  | .vmem => 18
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .bf16⟩
  | .hbm, ⟨2, _⟩ => ⟨S32768x1024, .f32⟩
  | .hbm, ⟨3, _⟩ => ⟨S1024, .f32⟩
  | .hbm, ⟨4, _⟩ => ⟨S1024x8, .f32⟩
  | .hbm, ⟨5, _⟩ => ⟨S8, .f32⟩
  | .hbm, ⟨6, _⟩ => ⟨S1024x64, .f32⟩
  | .hbm, ⟨7, _⟩ => ⟨S64, .f32⟩
  | .hbm, ⟨8, _⟩ => ⟨S_, .f32⟩
  | .hbm, ⟨9, _⟩ => ⟨S1024x56, .f32⟩
  | .hbm, ⟨10, _⟩ => ⟨S1024x128, .f32⟩
  | .hbm, ⟨11, _⟩ => ⟨S_, .f32⟩
  | .hbm, ⟨12, _⟩ => ⟨S56, .f32⟩
  | .hbm, ⟨13, _⟩ => ⟨S128, .f32⟩
  | .hbm, ⟨14, _⟩ => ⟨S128x1, .f32⟩
  | .hbm, ⟨15, _⟩ => ⟨S512, .i32⟩
  | .hbm, ⟨16, _⟩ => ⟨S512x1, .i32⟩
  | .hbm, ⟨17, _⟩ => ⟨S512, .i32⟩
  | .hbm, ⟨18, _⟩ => ⟨S1x512, .i32⟩
  | .hbm, ⟨19, _⟩ => ⟨S512x512, .i32⟩
  | .hbm, ⟨20, _⟩ => ⟨S512x512, .i32⟩
  | .hbm, ⟨21, _⟩ => ⟨S512x512, .i1⟩
  | .hbm, ⟨22, _⟩ => ⟨S512x512, .bf16⟩
  | .hbm, ⟨23, _⟩ => ⟨S1x1024, .f32⟩
  | .hbm, ⟨24, _⟩ => ⟨S32768x1024, .f32⟩
  | .hbm, ⟨25, _⟩ => ⟨S8x32768, .i32⟩
  | .hbm, ⟨26, _⟩ => ⟨S32768x128, .f32⟩
  | .hbm, ⟨27, _⟩ => ⟨S128x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x128, .f32⟩
  | .local _ .vmem, ⟨7, _⟩ => ⟨S128x1, .f32⟩
  | .local _ .vmem, ⟨8, _⟩ => ⟨S512x512, .bf16⟩
  | .local _ .vmem, ⟨9, _⟩ => ⟨S512x1024, .f32⟩
  | .local _ .vmem, ⟨10, _⟩ => ⟨S512x1024, .f32⟩
  | .local _ .vmem, ⟨11, _⟩ => ⟨S8x512, .i32⟩
  | .local _ .vmem, ⟨12, _⟩ => ⟨S8x512, .i32⟩
  | .local _ .vmem, ⟨13, _⟩ => ⟨S512x128, .f32⟩
  | .local _ .vmem, ⟨14, _⟩ => ⟨S512x128, .f32⟩
  | .local _ .vmem, ⟨15, _⟩ => ⟨S128x128, .f32⟩
  | .local _ .vmem, ⟨16, _⟩ => ⟨S128x128, .f32⟩
  | .local _ .vmem, ⟨17, _⟩ => ⟨S256x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RouteReferenceIdeal.lean ====
abbrev S32768x1024 : Shape := ⟨2, ![32768, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8 : Shape := ⟨2, ![32768, 8]⟩
abbrev S1x8 : Shape := ⟨2, ![1, 8]⟩
abbrev S32768x64 : Shape := ⟨2, ![32768, 64]⟩
abbrev S1x64 : Shape := ⟨2, ![1, 64]⟩
abbrev S32768x8x8 : Shape := ⟨3, ![32768, 8, 8]⟩
abbrev S32768x1x1 : Shape := ⟨3, ![32768, 1, 1]⟩
abbrev S1 : Shape := ⟨1, ![1]⟩
abbrev S1x1x1 : Shape := ⟨3, ![1, 1, 1]⟩
abbrev S32768x1x8 : Shape := ⟨3, ![32768, 1, 8]⟩
abbrev S32768x2 : Shape := ⟨2, ![32768, 2]⟩
abbrev S65536 : Shape := ⟨1, ![65536]⟩
abbrev S65536x1 : Shape := ⟨2, ![65536, 1]⟩
abbrev S65536x64 : Shape := ⟨2, ![65536, 64]⟩
abbrev S32768x4 : Shape := ⟨2, ![32768, 4]⟩
abbrev S4x32768 : Shape := ⟨2, ![4, 32768]⟩
abbrev S8x32768 : Shape := ⟨2, ![8, 32768]⟩
abbrev S32768x128 : Shape := ⟨2, ![32768, 128]⟩
abbrev S128 : Shape := ⟨1, ![128]⟩
abbrev S128x1 : Shape := ⟨2, ![128, 1]⟩
abbrev S128x128 : Shape := ⟨2, ![128, 128]⟩

abbrev nBuf : Space → Nat
  | .hbm => 137
  | .vmem => 0
  | .smem => 0
  | _ => 0

abbrev hbmTy0_0 (i : Nat) : BufTy := match i % 128 with
  | 0 => ⟨S32768x1024, .bf16⟩
  | 1 => ⟨S1024x1024, .bf16⟩
  | 2 => ⟨S32768x1024, .f32⟩
  | 3 => ⟨S1024, .f32⟩
  | 4 => ⟨S1024x8, .f32⟩
  | 5 => ⟨S8, .f32⟩
  | 6 => ⟨S1024x64, .f32⟩
  | 7 => ⟨S64, .f32⟩
  | 8 => ⟨S32768x1024, .f32⟩
  | 9 => ⟨S1024x1024, .f32⟩
  | 10 => ⟨S32768x1024, .f32⟩
  | 11 => ⟨S32768x1024, .f32⟩
  | 12 => ⟨S32768x1024, .f32⟩
  | 13 => ⟨S_, .f32⟩
  | 14 => ⟨S32768, .f32⟩
  | 15 => ⟨S32768x1, .f32⟩
  | 16 => ⟨S_, .f32⟩
  | 17 => ⟨S32768x1, .f32⟩
  | 18 => ⟨S32768x1, .f32⟩
  | 19 => ⟨S_, .f32⟩
  | 20 => ⟨S32768x1, .f32⟩
  | 21 => ⟨S32768x1, .f32⟩
  | 22 => ⟨S32768x1, .f32⟩
  | 23 => ⟨S32768x1024, .f32⟩
  | 24 => ⟨S32768x1024, .f32⟩
  | 25 => ⟨S1x1024, .f32⟩
  | 26 => ⟨S32768x1024, .f32⟩
  | 27 => ⟨S32768x1024, .f32⟩
  | 28 => ⟨S32768x8, .f32⟩
  | 29 => ⟨S1x8, .f32⟩
  | 30 => ⟨S32768x8, .f32⟩
  | 31 => ⟨S32768x8, .f32⟩
  | 32 => ⟨S_, .f32⟩
  | 33 => ⟨S32768, .f32⟩
  | 34 => ⟨S_, .f32⟩
  | 35 => ⟨S32768, .f32⟩
  | 36 => ⟨S32768, .f32⟩
  | 37 => ⟨S32768x1, .f32⟩
  | 38 => ⟨S32768x8, .f32⟩
  | 39 => ⟨S32768x8, .f32⟩
  | 40 => ⟨S32768x8, .f32⟩
  | 41 => ⟨S_, .f32⟩
  | 42 => ⟨S32768, .f32⟩
  | 43 => ⟨S32768x1, .f32⟩
  | 44 => ⟨S32768x8, .f32⟩
  | 45 => ⟨S32768x8, .f32⟩
  | 46 => ⟨S32768x1, .f32⟩
  | 47 => ⟨S32768x1, .i32⟩
  | 48 => ⟨S32768x64, .f32⟩
  | 49 => ⟨S1x64, .f32⟩
  | 50 => ⟨S32768x64, .f32⟩
  | 51 => ⟨S32768x64, .f32⟩
  | 52 => ⟨S32768x8x8, .f32⟩
  | 53 => ⟨S32768x1x1, .i32⟩
  | 54 => ⟨S_, .i32⟩
  | 55 => ⟨S32768x1x1, .i32⟩
  | 56 => ⟨S32768x1x1, .i1⟩
  | 57 => ⟨S_, .i32⟩
  | 58 => ⟨S32768x1x1, .i32⟩
  | 59 => ⟨S32768x1x1, .i32⟩
  | 60 => ⟨S32768x1x1, .i32⟩
  | 61 => ⟨S1, .i32⟩
  | 62 => ⟨S_, .i32⟩
  | 63 => ⟨S32768x1x1, .i32⟩
  | 64 => ⟨S32768x1x1, .i1⟩
  | 65 => ⟨S1x1x1, .i32⟩
  | 66 => ⟨S32768x1x1, .i32⟩
  | 67 => ⟨S32768x1x1, .i1⟩
  | 68 => ⟨S32768x1x1, .i1⟩
  | 69 => ⟨S_, .i1⟩
  | 70 => ⟨S32768x1, .i1⟩
  | 71 => ⟨S32768x1x8, .f32⟩
  | 72 => ⟨S32768x1x8, .i1⟩
  | 73 => ⟨S_, .f32⟩
  | 74 => ⟨S32768x1x8, .f32⟩
  | 75 => ⟨S32768x1x8, .f32⟩
  | 76 => ⟨S32768x8, .f32⟩
  | 77 => ⟨S_, .f32⟩
  | 78 => ⟨S32768, .f32⟩
  | 79 => ⟨S_, .f32⟩
  | 80 => ⟨S32768, .f32⟩
  | 81 => ⟨S32768, .f32⟩
  | 82 => ⟨S32768x1, .f32⟩
  | 83 => ⟨S32768x8, .f32⟩
  | 84 => ⟨S32768x8, .f32⟩
  | 85 => ⟨S32768x8, .f32⟩
  | 86 => ⟨S_, .f32⟩
  | 87 => ⟨S32768, .f32⟩
  | 88 => ⟨S32768x1, .f32⟩
  | 89 => ⟨S32768x8, .f32⟩
  | 90 => ⟨S32768x8, .f32⟩
  | 91 => ⟨S32768x2, .f32⟩
  | 92 => ⟨S32768x2, .i32⟩
  | 93 => ⟨S_, .f32⟩
  | 94 => ⟨S32768, .f32⟩
  | 95 => ⟨S32768x1, .f32⟩
  | 96 => ⟨S32768x2, .f32⟩
  | 97 => ⟨S32768x2, .f32⟩
  | 98 => ⟨S32768x2, .f32⟩
  | 99 => ⟨S32768x2, .f32⟩
  | 100 => ⟨S_, .i32⟩
  | 101 => ⟨S32768x1, .i32⟩
  | 102 => ⟨S32768x1, .i32⟩
  | 103 => ⟨S32768x2, .i32⟩
  | 104 => ⟨S32768x2, .i32⟩
  | 105 => ⟨S65536, .i32⟩
  | 106 => ⟨S65536x1, .i32⟩
  | 107 => ⟨S64, .i32⟩
  | 108 => ⟨S1x64, .i32⟩
  | 109 => ⟨S65536x64, .i32⟩
  | 110 => ⟨S65536x64, .i32⟩
  | 111 => ⟨S65536x64, .i1⟩
  | 112 => ⟨S65536x64, .i32⟩
  | 113 => ⟨S_, .i32⟩
  | 114 => ⟨S_, .i32⟩
  | 115 => ⟨S65536x64, .i32⟩
  | 116 => ⟨S65536x64, .i32⟩
  | 117 => ⟨S65536x64, .i32⟩
  | 118 => ⟨S_, .i32⟩
  | 119 => ⟨S65536, .i32⟩
  | 120 => ⟨S32768x2, .i32⟩
  | 121 => ⟨S_, .i32⟩
  | 122 => ⟨S64, .i32⟩
  | 123 => ⟨S64, .f32⟩
  | 124 => ⟨S32768x4, .i32⟩
  | 125 => ⟨S4x32768, .i32⟩
  | 126 => ⟨S_, .i32⟩
  | 127 => ⟨S_, .i32⟩
  | _ => ⟨S32768x1024, .bf16⟩

abbrev hbmTy0_1 (i : Nat) : BufTy := match i % 128 with
  | 0 => ⟨S8x32768, .i32⟩
  | 1 => ⟨S_, .i32⟩
  | 2 => ⟨S_, .f32⟩
  | 3 => ⟨S32768x128, .f32⟩
  | 4 => ⟨S_, .i32⟩
  | 5 => ⟨S_, .f32⟩
  | 6 => ⟨S128, .f32⟩
  | 7 => ⟨S128x1, .f32⟩
  | 8 => ⟨S128x128, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_values : Ref sig .tc := ⟨.hbm, 46, rfl⟩
abbrev main_indices : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_c : Ref sig .tc := ⟨.hbm, 54, rfl⟩
abbrev main_call0_v0 : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_1 : Ref sig .tc := ⟨.hbm, 61, rfl⟩
abbrev main_call0_c_2 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_c_3 : Ref sig .tc := ⟨.hbm, 69, rfl⟩
abbrev main_call0_v11 : Ref sig .tc := ⟨.hbm, 70, rfl⟩
abbrev main_call0_v12 : Ref sig .tc := ⟨.hbm, 71, rfl⟩
abbrev main_call0_v13 : Ref sig .tc := ⟨.hbm, 72, rfl⟩
abbrev main_call0_cst : Ref sig .tc := ⟨.hbm, 73, rfl⟩
abbrev main_call0_v14 : Ref sig .tc := ⟨.hbm, 74, rfl⟩
abbrev main_v38 : Ref sig .tc := ⟨.hbm, 75, rfl⟩
abbrev main_v39 : Ref sig .tc := ⟨.hbm, 76, rfl⟩
abbrev main_cst_5 : Ref sig .tc := ⟨.hbm, 77, rfl⟩
abbrev main_v40 : Ref sig .tc := ⟨.hbm, 78, rfl⟩
abbrev main_cst_6 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_7 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_values_8 : Ref sig .tc := ⟨.hbm, 91, rfl⟩
abbrev main_indices_9 : Ref sig .tc := ⟨.hbm, 92, rfl⟩
abbrev main_cst_10 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_call1_call0_c : Ref sig .tc := ⟨.hbm, 113, rfl⟩
abbrev main_call1_call0_v0 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_11 : Ref sig .tc := ⟨.hbm, 118, rfl⟩
abbrev main_v72 : Ref sig .tc := ⟨.hbm, 119, rfl⟩
abbrev main_v73 : Ref sig .tc := ⟨.hbm, 120, rfl⟩
abbrev main_c_12 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_c_13 : Ref sig .tc := ⟨.hbm, 126, rfl⟩
abbrev main_call2_v0 : Ref sig .tc := ⟨.hbm, 127, rfl⟩
abbrev main_v78 : Ref sig .tc := ⟨.hbm, 128, rfl⟩
abbrev main_c_14 : Ref sig .tc := ⟨.hbm, 129, rfl⟩
abbrev main_call3_v0 : Ref sig .tc := ⟨.hbm, 130, rfl⟩
abbrev main_v79 : Ref sig .tc := ⟨.hbm, 131, rfl⟩
abbrev main_c_15 : Ref sig .tc := ⟨.hbm, 132, rfl⟩
abbrev main_call4_v0 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩

abbrev nD : Nat := 1
abbrev τ : Topo := Topo.v7x

variable {F : FTy → Type} [FloatOps F]
-- ==== RouteOutKernel.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S1024x56 : Shape := ⟨2, ![1024, 56]⟩
abbrev S1024x128 : Shape := ⟨2, ![1024, 128]⟩
abbrev S56 : Shape := ⟨1, ![56]⟩
abbrev S128 : Shape := ⟨1, ![128]⟩
abbrev S128x1 : Shape := ⟨2, ![128, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S8x32768 : Shape := ⟨2, ![8, 32768]⟩
abbrev S32768x128 : Shape := ⟨2, ![32768, 128]⟩
abbrev S128x128 : Shape := ⟨2, ![128, 128]⟩
abbrev S512x2048 : Shape := ⟨2, ![512, 2048]⟩
abbrev S512x1024 : Shape := ⟨2, ![512, 1024]⟩
abbrev S8x512 : Shape := ⟨2, ![8, 512]⟩
abbrev S512x128 : Shape := ⟨2, ![512, 128]⟩
abbrev S256x1024 : Shape := ⟨2, ![256, 1024]⟩
abbrev S128x1024 : Shape := ⟨2, ![128, 1024]⟩
abbrev S256x512 : Shape := ⟨2, ![256, 512]⟩
abbrev S128x512 : Shape := ⟨2, ![128, 512]⟩

abbrev nBuf : Space → Nat
  | .hbm => 28
  | .vmem => 18
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .bf16⟩
  | .hbm, ⟨2, _⟩ => ⟨S32768x1024, .f32⟩
  | .hbm, ⟨3, _⟩ => ⟨S1024, .f32⟩
  | .hbm, ⟨4, _⟩ => ⟨S1024x8, .f32⟩
  | .hbm, ⟨5, _⟩ => ⟨S8, .f32⟩
  | .hbm, ⟨6, _⟩ => ⟨S1024x64, .f32⟩
  | .hbm, ⟨7, _⟩ => ⟨S64, .f32⟩
  | .hbm, ⟨8, _⟩ => ⟨S_, .f32⟩
  | .hbm, ⟨9, _⟩ => ⟨S1024x56, .f32⟩
  | .hbm, ⟨10, _⟩ => ⟨S1024x128, .f32⟩
  | .hbm, ⟨11, _⟩ => ⟨S_, .f32⟩
  | .hbm, ⟨12, _⟩ => ⟨S56, .f32⟩
  | .hbm, ⟨13, _⟩ => ⟨S128, .f32⟩
  | .hbm, ⟨14, _⟩ => ⟨S128x1, .f32⟩
  | .hbm, ⟨15, _⟩ => ⟨S512, .i32⟩
  | .hbm, ⟨16, _⟩ => ⟨S512x1, .i32⟩
  | .hbm, ⟨17, _⟩ => ⟨S512, .i32⟩
  | .hbm, ⟨18, _⟩ => ⟨S1x512, .i32⟩
  | .hbm, ⟨19, _⟩ => ⟨S512x512, .i32⟩
  | .hbm, ⟨20, _⟩ => ⟨S512x512, .i32⟩
  | .hbm, ⟨21, _⟩ => ⟨S512x512, .i1⟩
  | .hbm, ⟨22, _⟩ => ⟨S512x512, .bf16⟩
  | .hbm, ⟨23, _⟩ => ⟨S1x1024, .f32⟩
  | .hbm, ⟨24, _⟩ => ⟨S32768x1024, .f32⟩
  | .hbm, ⟨25, _⟩ => ⟨S8x32768, .i32⟩
  | .hbm, ⟨26, _⟩ => ⟨S32768x128, .f32⟩
  | .hbm, ⟨27, _⟩ => ⟨S128x128, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x128, .f32⟩
  | .local _ .vmem, ⟨7, _⟩ => ⟨S128x1, .f32⟩
  | .local _ .vmem, ⟨8, _⟩ => ⟨S512x512, .bf16⟩
  | .local _ .vmem, ⟨9, _⟩ => ⟨S512x1024, .f32⟩
  | .local _ .vmem, ⟨10, _⟩ => ⟨S512x1024, .f32⟩
  | .local _ .vmem, ⟨11, _⟩ => ⟨S8x512, .i32⟩
  | .local _ .vmem, ⟨12, _⟩ => ⟨S8x512, .i32⟩
  | .local _ .vmem, ⟨13, _⟩ => ⟨S512x128, .f32⟩
  | .local _ .vmem, ⟨14, _⟩ => ⟨S512x128, .f32⟩
  | .local _ .vmem, ⟨15, _⟩ => ⟨S128x128, .f32⟩
  | .local _ .vmem, ⟨16, _⟩ => ⟨S128x128, .f32⟩
  | .local _ .vmem, ⟨17, _⟩ => ⟨S256x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RouteOutReferenceIdeal.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8 : Shape := ⟨2, ![32768, 8]⟩
abbrev S1x8 : Shape := ⟨2, ![1, 8]⟩
abbrev S32768x64 : Shape := ⟨2, ![32768, 64]⟩
abbrev S1x64 : Shape := ⟨2, ![1, 64]⟩
abbrev S32768x8x8 : Shape := ⟨3, ![32768, 8, 8]⟩
abbrev S32768x1x1 : Shape := ⟨3, ![32768, 1, 1]⟩
abbrev S1 : Shape := ⟨1, ![1]⟩
abbrev S1x1x1 : Shape := ⟨3, ![1, 1, 1]⟩
abbrev S32768x1x8 : Shape := ⟨3, ![32768, 1, 8]⟩
abbrev S32768x2 : Shape := ⟨2, ![32768, 2]⟩
abbrev S65536 : Shape := ⟨1, ![65536]⟩
abbrev S65536x1 : Shape := ⟨2, ![65536, 1]⟩
abbrev S65536x64 : Shape := ⟨2, ![65536, 64]⟩
abbrev S32768x4 : Shape := ⟨2, ![32768, 4]⟩
abbrev S4x32768 : Shape := ⟨2, ![4, 32768]⟩
abbrev S8x32768 : Shape := ⟨2, ![8, 32768]⟩
abbrev S32768x128 : Shape := ⟨2, ![32768, 128]⟩
abbrev S128 : Shape := ⟨1, ![128]⟩
abbrev S128x1 : Shape := ⟨2, ![128, 1]⟩
abbrev S128x128 : Shape := ⟨2, ![128, 128]⟩

abbrev nBuf : Space → Nat
  | .hbm => 137
  | .vmem => 0
  | .smem => 0
  | _ => 0

abbrev hbmTy0_0 (i : Nat) : BufTy := match i % 128 with
  | 0 => ⟨S32768x2048, .bf16⟩
  | 1 => ⟨S2048x1024, .bf16⟩
  | 2 => ⟨S32768x1024, .f32⟩
  | 3 => ⟨S1024, .f32⟩
  | 4 => ⟨S1024x8, .f32⟩
  | 5 => ⟨S8, .f32⟩
  | 6 => ⟨S1024x64, .f32⟩
  | 7 => ⟨S64, .f32⟩
  | 8 => ⟨S32768x2048, .f32⟩
  | 9 => ⟨S2048x1024, .f32⟩
  | 10 => ⟨S32768x1024, .f32⟩
  | 11 => ⟨S32768x1024, .f32⟩
  | 12 => ⟨S32768x1024, .f32⟩
  | 13 => ⟨S_, .f32⟩
  | 14 => ⟨S32768, .f32⟩
  | 15 => ⟨S32768x1, .f32⟩
  | 16 => ⟨S_, .f32⟩
  | 17 => ⟨S32768x1, .f32⟩
  | 18 => ⟨S32768x1, .f32⟩
  | 19 => ⟨S_, .f32⟩
  | 20 => ⟨S32768x1, .f32⟩
  | 21 => ⟨S32768x1, .f32⟩
  | 22 => ⟨S32768x1, .f32⟩
  | 23 => ⟨S32768x1024, .f32⟩
  | 24 => ⟨S32768x1024, .f32⟩
  | 25 => ⟨S1x1024, .f32⟩
  | 26 => ⟨S32768x1024, .f32⟩
  | 27 => ⟨S32768x1024, .f32⟩
  | 28 => ⟨S32768x8, .f32⟩
  | 29 => ⟨S1x8, .f32⟩
  | 30 => ⟨S32768x8, .f32⟩
  | 31 => ⟨S32768x8, .f32⟩
  | 32 => ⟨S_, .f32⟩
  | 33 => ⟨S32768, .f32⟩
  | 34 => ⟨S_, .f32⟩
  | 35 => ⟨S32768, .f32⟩
  | 36 => ⟨S32768, .f32⟩
  | 37 => ⟨S32768x1, .f32⟩
  | 38 => ⟨S32768x8, .f32⟩
  | 39 => ⟨S32768x8, .f32⟩
  | 40 => ⟨S32768x8, .f32⟩
  | 41 => ⟨S_, .f32⟩
  | 42 => ⟨S32768, .f32⟩
  | 43 => ⟨S32768x1, .f32⟩
  | 44 => ⟨S32768x8, .f32⟩
  | 45 => ⟨S32768x8, .f32⟩
  | 46 => ⟨S32768x1, .f32⟩
  | 47 => ⟨S32768x1, .i32⟩
  | 48 => ⟨S32768x64, .f32⟩
  | 49 => ⟨S1x64, .f32⟩
  | 50 => ⟨S32768x64, .f32⟩
  | 51 => ⟨S32768x64, .f32⟩
  | 52 => ⟨S32768x8x8, .f32⟩
  | 53 => ⟨S32768x1x1, .i32⟩
  | 54 => ⟨S_, .i32⟩
  | 55 => ⟨S32768x1x1, .i32⟩
  | 56 => ⟨S32768x1x1, .i1⟩
  | 57 => ⟨S_, .i32⟩
  | 58 => ⟨S32768x1x1, .i32⟩
  | 59 => ⟨S32768x1x1, .i32⟩
  | 60 => ⟨S32768x1x1, .i32⟩
  | 61 => ⟨S1, .i32⟩
  | 62 => ⟨S_, .i32⟩
  | 63 => ⟨S32768x1x1, .i32⟩
  | 64 => ⟨S32768x1x1, .i1⟩
  | 65 => ⟨S1x1x1, .i32⟩
  | 66 => ⟨S32768x1x1, .i32⟩
  | 67 => ⟨S32768x1x1, .i1⟩
  | 68 => ⟨S32768x1x1, .i1⟩
  | 69 => ⟨S_, .i1⟩
  | 70 => ⟨S32768x1, .i1⟩
  | 71 => ⟨S32768x1x8, .f32⟩
  | 72 => ⟨S32768x1x8, .i1⟩
  | 73 => ⟨S_, .f32⟩
  | 74 => ⟨S32768x1x8, .f32⟩
  | 75 => ⟨S32768x1x8, .f32⟩
  | 76 => ⟨S32768x8, .f32⟩
  | 77 => ⟨S_, .f32⟩
  | 78 => ⟨S32768, .f32⟩
  | 79 => ⟨S_, .f32⟩
  | 80 => ⟨S32768, .f32⟩
  | 81 => ⟨S32768, .f32⟩
  | 82 => ⟨S32768x1, .f32⟩
  | 83 => ⟨S32768x8, .f32⟩
  | 84 => ⟨S32768x8, .f32⟩
  | 85 => ⟨S32768x8, .f32⟩
  | 86 => ⟨S_, .f32⟩
  | 87 => ⟨S32768, .f32⟩
  | 88 => ⟨S32768x1, .f32⟩
  | 89 => ⟨S32768x8, .f32⟩
  | 90 => ⟨S32768x8, .f32⟩
  | 91 => ⟨S32768x2, .f32⟩
  | 92 => ⟨S32768x2, .i32⟩
  | 93 => ⟨S_, .f32⟩
  | 94 => ⟨S32768, .f32⟩
  | 95 => ⟨S32768x1, .f32⟩
  | 96 => ⟨S32768x2, .f32⟩
  | 97 => ⟨S32768x2, .f32⟩
  | 98 => ⟨S32768x2, .f32⟩
  | 99 => ⟨S32768x2, .f32⟩
  | 100 => ⟨S_, .i32⟩
  | 101 => ⟨S32768x1, .i32⟩
  | 102 => ⟨S32768x1, .i32⟩
  | 103 => ⟨S32768x2, .i32⟩
  | 104 => ⟨S32768x2, .i32⟩
  | 105 => ⟨S65536, .i32⟩
  | 106 => ⟨S65536x1, .i32⟩
  | 107 => ⟨S64, .i32⟩
  | 108 => ⟨S1x64, .i32⟩
  | 109 => ⟨S65536x64, .i32⟩
  | 110 => ⟨S65536x64, .i32⟩
  | 111 => ⟨S65536x64, .i1⟩
  | 112 => ⟨S65536x64, .i32⟩
  | 113 => ⟨S_, .i32⟩
  | 114 => ⟨S_, .i32⟩
  | 115 => ⟨S65536x64, .i32⟩
  | 116 => ⟨S65536x64, .i32⟩
  | 117 => ⟨S65536x64, .i32⟩
  | 118 => ⟨S_, .i32⟩
  | 119 => ⟨S65536, .i32⟩
  | 120 => ⟨S32768x2, .i32⟩
  | 121 => ⟨S_, .i32⟩
  | 122 => ⟨S64, .i32⟩
  | 123 => ⟨S64, .f32⟩
  | 124 => ⟨S32768x4, .i32⟩
  | 125 => ⟨S4x32768, .i32⟩
  | 126 => ⟨S_, .i32⟩
  | 127 => ⟨S_, .i32⟩
  | _ => ⟨S32768x2048, .bf16⟩

abbrev hbmTy0_1 (i : Nat) : BufTy := match i % 128 with
  | 0 => ⟨S8x32768, .i32⟩
  | 1 => ⟨S_, .i32⟩
  | 2 => ⟨S_, .f32⟩
  | 3 => ⟨S32768x128, .f32⟩
  | 4 => ⟨S_, .i32⟩
  | 5 => ⟨S_, .f32⟩
  | 6 => ⟨S128, .f32⟩
  | 7 => ⟨S128x1, .f32⟩
  | 8 => ⟨S128x128, .f32⟩
  | _ => ⟨S32768x2048, .bf16⟩

abbrev hbmTy (i : Nat) : BufTy := match i / 128 with
  | 0 => hbmTy0_0 i
  | 1 => hbmTy0_1 i
  | _ => ⟨S32768x2048, .bf16⟩

abbrev bufTy : (tb : Table) → Fin (tcTables nBuf tb) → BufTy
  | .hbm, ⟨i, _⟩ => hbmTy i
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_values : Ref sig .tc := ⟨.hbm, 46, rfl⟩
abbrev main_indices : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_c : Ref sig .tc := ⟨.hbm, 54, rfl⟩
abbrev main_call0_v0 : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_1 : Ref sig .tc := ⟨.hbm, 61, rfl⟩
abbrev main_call0_c_2 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_c_3 : Ref sig .tc := ⟨.hbm, 69, rfl⟩
abbrev main_call0_v11 : Ref sig .tc := ⟨.hbm, 70, rfl⟩
abbrev main_call0_v12 : Ref sig .tc := ⟨.hbm, 71, rfl⟩
abbrev main_call0_v13 : Ref sig .tc := ⟨.hbm, 72, rfl⟩
abbrev main_call0_cst : Ref sig .tc := ⟨.hbm, 73, rfl⟩
abbrev main_call0_v14 : Ref sig .tc := ⟨.hbm, 74, rfl⟩
abbrev main_v38 : Ref sig .tc := ⟨.hbm, 75, rfl⟩
abbrev main_v39 : Ref sig .tc := ⟨.hbm, 76, rfl⟩
abbrev main_cst_5 : Ref sig .tc := ⟨.hbm, 77, rfl⟩
abbrev main_v40 : Ref sig .tc := ⟨.hbm, 78, rfl⟩
abbrev main_cst_6 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_7 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_values_8 : Ref sig .tc := ⟨.hbm, 91, rfl⟩
abbrev main_indices_9 : Ref sig .tc := ⟨.hbm, 92, rfl⟩
abbrev main_cst_10 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_call1_call0_c : Ref sig .tc := ⟨.hbm, 113, rfl⟩
abbrev main_call1_call0_v0 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_11 : Ref sig .tc := ⟨.hbm, 118, rfl⟩
abbrev main_v72 : Ref sig .tc := ⟨.hbm, 119, rfl⟩
abbrev main_v73 : Ref sig .tc := ⟨.hbm, 120, rfl⟩
abbrev main_c_12 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_c_13 : Ref sig .tc := ⟨.hbm, 126, rfl⟩
abbrev main_call2_v0 : Ref sig .tc := ⟨.hbm, 127, rfl⟩
abbrev main_v78 : Ref sig .tc := ⟨.hbm, 128, rfl⟩
abbrev main_c_14 : Ref sig .tc := ⟨.hbm, 129, rfl⟩
abbrev main_call3_v0 : Ref sig .tc := ⟨.hbm, 130, rfl⟩
abbrev main_v79 : Ref sig .tc := ⟨.hbm, 131, rfl⟩
abbrev main_c_15 : Ref sig .tc := ⟨.hbm, 132, rfl⟩
abbrev main_call4_v0 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩

abbrev nD : Nat := 1
abbrev τ : Topo := Topo.v7x

variable {F : FTy → Type} [FloatOps F]
-- ==== Proof.RouteBlock.lean ====
/- WHAT A GRID POINT OF THE ROUTER LEAVES. The first point splits the router's matrix into its two pieces and keeps them in
   scratch memory (`scr`); every point reads them there, so each point's blocks are one function of the blocks it was handed and of what was counted
   before it (`idsBlk`, `gatesBlk`, `tally`). -/
module

public import proofs.«01_k».proof.Proof.Gen.RouteKernelIdeal.Value
public import Idealize.ShloMosaic.Lib.ValueIdx
public import Idealize.ShloMosaic.Lib.Pointwise

@[expose] public section

set_option maxRecDepth 16384

noncomputable section

namespace Cert.RouteKernelIdeal.Block

open Cert.RouteKernelIdeal Cert.RouteKernelIdeal.Gen
open Idealize.ShloMosaic Idealize.ShloMosaic.TcCoe Idealize.SL.Sem
open Idealize.ShloMosaic.Pipeline (Dat)
open scoped BigOperators

/-! ## The blocks as functions of the logits -/

/-- The row numbers of a column of 128. -/
def rows : IVec S128x512 32 := iota .tc S128x512 32 [0] iota_S128x512_d0_w32

variable {F : FTy → Type} [FloatOps F]

/-- The block of the chosen experts' numbers; its rows 2 and 3 hold the ranks, taken from `rk`. -/
def idsBlk (p : FVec F S256x512 .f32) (q : FVec F S128x512 .f32) (b : Vec F S128x1 .f32) (rk : FVec F S128x512 .f32) (z : F .f32) : IVec S8x512 32 :=
  k0_pay34 (k0_pay19 rows (k0_pay16 p q b) (k0_pay18 p q b)) (k0_pay22 rows (k0_pay16 p q b) (k0_pay18 p q b))
    (k0_pay29 rows (k0_pay16 p q b) (k0_pay18 p q b)) (k0_pay30 rows (k0_pay16 p q b) (k0_pay18 p q b)) rk z

/-- The block of the chosen experts' weights. -/
def gatesBlk (p : FVec F S256x512 .f32) (q : FVec F S128x512 .f32) (b : Vec F S128x1 .f32) : FVec F S512x128 .f32 :=
  k0_pay1 rows (k0_pay27 rows (k0_pay15 p q b) (k0_pay16 p q b) (k0_pay17 p q b) (k0_pay18 p q b))
    (k0_pay28 rows (k0_pay15 p q b) (k0_pay16 p q b) (k0_pay17 p q b) (k0_pay18 p q b)) k0_pay35

/-- The router's matrix as scratch memory holds it: the rounded matrix, then what rounding took away. -/
def scr (w : Vec F S1024x128 .f32) : Vec F S256x1024 .bf16 :=
  View.canon [⟨Rect.unit ![128, 0] ![128, 1024] inb_S256x1024_S128x1024_128_0, k0_pay7 w⟩,
    ⟨Rect.unit ![0, 0] ![128, 1024] inb_S256x1024_S128x1024_0_0, k0_pay6 w⟩]

/-- The rounded matrix alone. -/
def half (y : Vec F S256x1024 .bf16) : Vec F S128x1024 .bf16 := View.ld y (Rect.unit ![0, 0] ![128, 1024] inb_S256x1024_S128x1024_0_0)

/-- The products of the normalised rows `x` with both pieces. -/
def prodP (x : Vec F S512x1024 .f32) (g : Vec F S1x1024 .f32) (y : Vec F S256x1024 .bf16) : FVec F S256x512 .f32 := k0_pay10 x g y

/-- The product of what rounding the rows took away. -/
def prodQ (x : Vec F S512x1024 .f32) (g : Vec F S1x1024 .f32) (y : Vec F S256x1024 .bf16) : FVec F S128x512 .f32 := k0_pay11 x g (half y)

/-- Where a token chose an expert: 1 at the rows of its two experts, 0 elsewhere. -/
def hits (p : FVec F S256x512 .f32) (q : FVec F S128x512 .f32) (b : Vec F S128x1 .f32) : FVec F S128x512 .f32 := k0_pay31 rows (k0_pay16 p q b) (k0_pay18 p q b)

/-- How many tokens chose each expert up to and with this block, `y` being what the blocks before it counted. -/
def tally (p : FVec F S256x512 .f32) (q : FVec F S128x512 .f32) (b : Vec F S128x1 .f32) (y : Vec F S128x128 .f32) : Vec F S128x128 .f32 := k0_pay33 (hits p q b) y

/-- How many tokens before this one chose each expert. -/
def ranks (p : FVec F S256x512 .f32) (q : FVec F S128x512 .f32) (b : Vec F S128x1 .f32) (e : Vec F S512x512 .bf16) (y : Vec F S128x128 .f32) : FVec F S128x512 .f32 :=
  k0_pay32 rows (k0_pay16 p q b) (k0_pay18 p q b) e (View.ld y (Rect.unit ![0, 0] ![128, 1] inb_S128x128_S128x1_0_0))

/-! ## What a point leaves -/

theorem hz : (![0, 0] : Fin 2 → Nat) = fun _ => 0 := funext fun a => by fin_cases a <;> rfl

/-- The scratch memory read whole after the two stores. -/
theorem read_scr {F : FTy → Type} [FloatOps F] {sig : RefSig} {κ : Kind} {sp : Space} (v : View sig κ sp S256x1024 .bf16) (w w' : Vec F S128x1024 .bf16) :
    v.readCov [⟨Rect.unit ![128, 0] ![128, 1024] inb_S256x1024_S128x1024_128_0, w⟩,
      ⟨Rect.unit ![0, 0] ![128, 1024] inb_S256x1024_S128x1024_0_0, w'⟩]
      (Rect.unit ![0, 0] ![256, 1024] inb_S256x1024_S256x1024_0_0).toLoadRect
      = View.canon [⟨Rect.unit ![128, 0] ![128, 1024] inb_S256x1024_S128x1024_128_0, w⟩, ⟨Rect.unit ![0, 0] ![128, 1024] inb_S256x1024_S128x1024_0_0, w'⟩] := by
  rw [View.readCov_eq_canon']
  refine funext fun j => congrArg (View.canon _) (funext fun a => Fin.ext ?_)
  show (![0, 0] : Fin 2 → Nat) a + 1 * (j a).val = (j a).val
  rw [one_mul, show (![0, 0] : Fin 2 → Nat) a = 0 from congrFun hz a, zero_add]

/-- Its upper half read after the two stores. -/
theorem read_half {F : FTy → Type} [FloatOps F] {sig : RefSig} {κ : Kind} {sp : Space} (v : View sig κ sp S256x1024 .bf16) (w w' : Vec F S128x1024 .bf16) :
    v.readCov [⟨Rect.unit ![128, 0] ![128, 1024] inb_S256x1024_S128x1024_128_0, w⟩,
      ⟨Rect.unit ![0, 0] ![128, 1024] inb_S256x1024_S128x1024_0_0, w'⟩]
      (Rect.unit ![0, 0] ![128, 1024] inb_S256x1024_S128x1024_0_0).toLoadRect
      = half (View.canon [⟨Rect.unit ![128, 0] ![128, 1024] inb_S256x1024_S128x1024_128_0, w⟩, ⟨Rect.unit ![0, 0] ![128, 1024] inb_S256x1024_S128x1024_0_0, w'⟩]) := by
  rw [View.readCov_eq_canon']
  refine funext fun j => ?_
  unfold half View.ld
  exact congrArg (View.canon _) (funext fun a => Fin.ext rfl)

/-- The first lane of the counts read after they were stored. -/
theorem read_col {F : FTy → Type} [FloatOps F] {sig : RefSig} {κ : Kind} {sp : Space} (v : View sig κ sp S128x128 .f32) (w : Vec F S128x128 .f32) :
    v.readCov [⟨Rect.unit ![0, 0] ![128, 128] inb_S128x128_S128x128_0_0, w⟩]
      (Rect.unit ![0, 0] ![128, 1] inb_S128x128_S128x1_0_0).toLoadRect = View.ld w (Rect.unit ![0, 0] ![128, 1] inb_S128x128_S128x1_0_0) := by
  rw [View.readCov_eq_canon', View.canon_unit_zero (S := S128x128) hz]

/-- Of two stores of all the counts the later one stays. -/
theorem canon_top {F : FTy → Type} [FloatOps F] (w w' : Vec F S128x128 .f32) :
    View.canon [⟨Rect.unit ![0, 0] ![128, 128] inb_S128x128_S128x128_0_0, w⟩, ⟨Rect.unit ![0, 0] ![128, 128] inb_S128x128_S128x128_0_0, w'⟩] = w := by
  refine funext fun j => ?_
  have e : (Rect.unit (s := S128x128) ![0, 0] ![128, 128] inb_S128x128_S128x128_0_0).emb j = j := funext fun a => Fin.ext (by
    match a with
    | ⟨0, _⟩ => show 0 + 1 * (j 0).val = (j 0).val; omega
    | ⟨1, _⟩ => show 0 + 1 * (j 1).val = (j 1).val; omega)
  have h := View.canon_cons_emb (Val := Elt F) (Rect.unit (s := S128x128) ![0, 0] ![128, 128] inb_S128x128_S128x128_0_0) w [⟨Rect.unit ![0, 0] ![128, 128] inb_S128x128_S128x128_0_0, w'⟩] j
  rw [e] at h
  exact h

variable (c : Dev nD) (i : grid0.Coords) (a1 : Memref sig .tc .vmem S512x1024 .bf16) (h1 : a1.IsWhole)
  (a2 : Memref sig .tc .vmem S1024x1024 .bf16) (h2 : a2.IsWhole) (a3 : Memref sig .tc .vmem S512x1024 .f32) (h3 : a3.IsWhole)
  (a4 : Memref sig .tc .vmem S1x1024 .f32) (h4 : a4.IsWhole) (a5 : Memref sig .tc .vmem S1024x128 .f32) (h5 : a5.IsWhole)
  (a6 : Memref sig .tc .vmem S128x1 .f32) (h6 : a6.IsWhole) (a7 : Memref sig .tc .vmem S512x512 .bf16) (h7 : a7.IsWhole)
  (a8 : Memref sig .tc .vmem S512x1024 .f32) (h8 : a8.IsWhole) (a9 : Memref sig .tc .vmem S8x512 .i32) (h9 : a9.IsWhole)
  (a10 : Memref sig .tc .vmem S512x128 .f32) (h10 : a10.IsWhole) (a11 : Memref sig .tc .vmem S128x128 .f32) (h11 : a11.IsWhole)
  (a12 : Memref sig .tc .vmem S128x128 .f32) (h12 : a12.IsWhole) (a13 : Memref sig .tc .vmem S256x1024 .bf16) (h13 : a13.IsWhole)
  (x0 : Vec F S512x1024 .bf16) (x1 : Vec F S1024x1024 .bf16) (x2 : Vec F S512x1024 .f32) (x3 : Vec F S1x1024 .f32)
  (x4 : Vec F S1024x128 .f32) (x5 : Vec F S128x1 .f32) (x6 : Vec F S512x512 .bf16)
  (y0 : Vec F S128x128 .f32) (y1 : Vec F S256x1024 .bf16)

/-- What the first point counts. -/
theorem tallyA_eq (hc : cond0_0 i) :
    sout0_A_0 c i a1 h1 a2 h2 a3 h3 a4 h4 a5 h5 a6 h6 a7 h7 a8 h8 a9 h9 a10 h10 a11 h11 a12 h12 a13 h13 hc x0 x1 x2 x3 x4 x5 x6 = tally (prodP (k0_pay2 x2 x0 x1) x3 (scr x4)) (prodQ (k0_pay2 x2 x0 x1) x3 (scr x4)) x5 k0_pay3 := by
  unfold sout0_A_0
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h12.read_unread, h13.read_unread]
  simp only [View.ld_unit_zero (S := S512x1024) hz, View.ld_unit_zero (S := S1024x1024) hz, View.ld_unit_zero (S := S1x1024) hz, View.ld_unit_zero (S := S128x1) hz, View.ld_unit_zero (S := S512x512) hz, View.readCov_unit_zero (S := S512x1024) _ hz, View.ld_unit_zero (S := S1024x128) hz, View.ld_unit_zero (S := S256x1024) hz, View.ld_unit_zero (S := S128x128) hz, read_scr, read_half, read_col, View.readCov_cons_toLoadRect]
  exact (canon_top _ _).trans rfl

/-- What a later point counts. -/
theorem tallyB_eq (hc : ¬cond0_0 i) :
    sout0_B_0 c i a1 h1 a2 h2 a3 h3 a4 h4 a5 h5 a6 h6 a7 h7 a8 h8 a9 h9 a10 h10 a11 h11 a12 h12 a13 h13 hc x0 x1 x2 x3 x4 x5 x6 y0 y1 = tally (prodP (k0_pay2 x2 x0 x1) x3 y1) (prodQ (k0_pay2 x2 x0 x1) x3 y1) x5 y0 := by
  unfold sout0_B_0
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h12.read_unread, h13.read_unread]
  simp only [View.canon_unit_zero (S := S128x128) hz, View.ld_unit_zero (S := S512x1024) hz, View.ld_unit_zero (S := S1024x1024) hz, View.ld_unit_zero (S := S1x1024) hz, View.ld_unit_zero (S := S128x1) hz, View.ld_unit_zero (S := S512x512) hz, View.readCov_unit_zero (S := S512x1024) _ hz, View.ld_unit_zero (S := S1024x128) hz, View.ld_unit_zero (S := S256x1024) hz, View.ld_unit_zero (S := S128x128) hz, read_scr, read_half, read_col, View.readCov_cons_toLoadRect]
  rfl

/-- And what each leaves of it in the third result. -/
theorem countsA_eq (hc : cond0_0 i) :
    out0_A_10 c i a1 h1 a2 h2 a3 h3 a4 h4 a5 h5 a6 h6 a7 h7 a8 h8 a9 h9 a10 h10 a11 h11 a12 h12 a13 h13 hc x0 x1 x2 x3 x4 x5 x6 = tally (prodP (k0_pay2 x2 x0 x1) x3 (scr x4)) (prodQ (k0_pay2 x2 x0 x1) x3 (scr x4)) x5 k0_pay3 := by
  unfold out0_A_10
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h12.read_unread, h13.read_unread]
  simp only [View.canon_unit_zero (S := S128x128) hz, View.ld_unit_zero (S := S512x1024) hz, View.ld_unit_zero (S := S1024x1024) hz, View.ld_unit_zero (S := S1x1024) hz, View.ld_unit_zero (S := S128x1) hz, View.ld_unit_zero (S := S512x512) hz, View.readCov_unit_zero (S := S512x1024) _ hz, View.ld_unit_zero (S := S1024x128) hz, View.ld_unit_zero (S := S256x1024) hz, View.ld_unit_zero (S := S128x128) hz, read_scr, read_half, read_col, View.readCov_cons_toLoadRect]
  rfl

theorem countsB_eq (hc : ¬cond0_0 i) :
    out0_B_10 c i a1 h1 a2 h2 a3 h3 a4 h4 a5 h5 a6 h6 a7 h7 a8 h8 a9 h9 a10 h10 a11 h11 a12 h12 a13 h13 hc x0 x1 x2 x3 x4 x5 x6 y0 y1 = tally (prodP (k0_pay2 x2 x0 x1) x3 y1) (prodQ (k0_pay2 x2 x0 x1) x3 y1) x5 y0 := by
  unfold out0_B_10
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h12.read_unread, h13.read_unread]
  simp only [View.canon_unit_zero (S := S128x128) hz, View.ld_unit_zero (S := S512x1024) hz, View.ld_unit_zero (S := S1024x1024) hz, View.ld_unit_zero (S := S1x1024) hz, View.ld_unit_zero (S := S128x1) hz, View.ld_unit_zero (S := S512x512) hz, View.readCov_unit_zero (S := S512x1024) _ hz, View.ld_unit_zero (S := S1024x128) hz, View.ld_unit_zero (S := S256x1024) hz, View.ld_unit_zero (S := S128x128) hz, read_scr, read_half, read_col, View.readCov_cons_toLoadRect]
  rfl

/-- What the first point leaves in scratch memory. -/
theorem scrA_eq (hc : cond0_0 i) :
    sout0_A_1 c i a1 h1 a2 h2 a3 h3 a4 h4 a5 h5 a6 h6 a7 h7 a8 h8 a9 h9 a10 h10 a11 h11 a12 h12 a13 h13 hc x0 x1 x2 x3 x4 x5 x6 = scr x4 := by
  unfold sout0_A_1
  rw [View.read_writes_junk_eq_canon]
  unfold kernelRun0_A
  dsimp only
  sl_unfold_words
  simp only [View.readAt_eq_ld, h5.read_unread]
  rw [View.ld_unit_zero hz]
  rfl

/-- The ids' block after the first point. -/
theorem idsA_eq (hc : cond0_0 i) :
    out0_A_8 c i a1 h1 a2 h2 a3 h3 a4 h4 a5 h5 a6 h6 a7 h7 a8 h8 a9 h9 a10 h10 a11 h11 a12 h12 a13 h13 hc x0 x1 x2 x3 x4 x5 x6 = idsBlk (prodP (k0_pay2 x2 x0 x1) x3 (scr x4)) (prodQ (k0_pay2 x2 x0 x1) x3 (scr x4)) x5 (ranks (prodP (k0_pay2 x2 x0 x1) x3 (scr x4)) (prodQ (k0_pay2 x2 x0 x1) x3 (scr x4)) x5 x6 k0_pay3) (FloatOps.ofBits .f32 0x00000000#32) := by
  unfold out0_A_8
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h12.read_unread, h13.read_unread]
  simp only [View.canon_unit_zero (S := S8x512) hz, View.ld_unit_zero (S := S512x1024) hz, View.ld_unit_zero (S := S1024x1024) hz, View.ld_unit_zero (S := S1x1024) hz, View.ld_unit_zero (S := S128x1) hz, View.ld_unit_zero (S := S512x512) hz, View.readCov_unit_zero (S := S512x1024) _ hz, View.ld_unit_zero (S := S1024x128) hz, View.ld_unit_zero (S := S256x1024) hz, View.ld_unit_zero (S := S128x128) hz, read_scr, read_half, read_col, View.readCov_cons_toLoadRect]
  rfl

/-- The weights' block after the first point. -/
theorem gatesA_eq (hc : cond0_0 i) :
    out0_A_9 c i a1 h1 a2 h2 a3 h3 a4 h4 a5 h5 a6 h6 a7 h7 a8 h8 a9 h9 a10 h10 a11 h11 a12 h12 a13 h13 hc x0 x1 x2 x3 x4 x5 x6 = gatesBlk (prodP (k0_pay2 x2 x0 x1) x3 (scr x4)) (prodQ (k0_pay2 x2 x0 x1) x3 (scr x4)) x5 := by
  unfold out0_A_9
  rw [View.read_writes_junk_eq_canon]
  unfold kernelRun0_A
  dsimp only
  sl_unfold_words
  simp only [View.readAt_eq_ld, h1.read_unread, h2.read_unread, h3.read_unread, h4.read_unread, h5.read_unread, h6.read_unread, h13.read_unread]
  simp only [View.canon_unit_zero (S := S512x128) hz, View.ld_unit_zero (S := S512x1024) hz, View.ld_unit_zero (S := S1024x1024) hz, View.ld_unit_zero (S := S1x1024) hz, View.ld_unit_zero (S := S128x1) hz, View.readCov_unit_zero (S := S512x1024) _ hz, View.ld_unit_zero (S := S1024x128) hz, read_scr, read_half]
  rfl

/-- The ids' block after a later point. -/
theorem idsB_eq (hc : ¬cond0_0 i) :
    out0_B_8 c i a1 h1 a2 h2 a3 h3 a4 h4 a5 h5 a6 h6 a7 h7 a8 h8 a9 h9 a10 h10 a11 h11 a12 h12 a13 h13 hc x0 x1 x2 x3 x4 x5 x6 y0 y1 = idsBlk (prodP (k0_pay2 x2 x0 x1) x3 y1) (prodQ (k0_pay2 x2 x0 x1) x3 y1) x5 (ranks (prodP (k0_pay2 x2 x0 x1) x3 y1) (prodQ (k0_pay2 x2 x0 x1) x3 y1) x5 x6 y0) (FloatOps.ofBits .f32 0x00000000#32) := by
  unfold out0_B_8
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h12.read_unread, h13.read_unread]
  simp only [View.canon_unit_zero (S := S8x512) hz, View.ld_unit_zero (S := S512x1024) hz, View.ld_unit_zero (S := S1024x1024) hz, View.ld_unit_zero (S := S1x1024) hz, View.ld_unit_zero (S := S128x1) hz, View.ld_unit_zero (S := S512x512) hz, View.readCov_unit_zero (S := S512x1024) _ hz, View.ld_unit_zero (S := S1024x128) hz, View.ld_unit_zero (S := S256x1024) hz, View.ld_unit_zero (S := S128x128) hz, read_scr, read_half, read_col, View.readCov_cons_toLoadRect]
  rfl

/-- The weights' block after a later point. -/
theorem gatesB_eq (hc : ¬cond0_0 i) :
    out0_B_9 c i a1 h1 a2 h2 a3 h3 a4 h4 a5 h5 a6 h6 a7 h7 a8 h8 a9 h9 a10 h10 a11 h11 a12 h12 a13 h13 hc x0 x1 x2 x3 x4 x5 x6 y0 y1 = gatesBlk (prodP (k0_pay2 x2 x0 x1) x3 y1) (prodQ (k0_pay2 x2 x0 x1) x3 y1) x5 := by
  unfold out0_B_9
  rw [View.read_writes_junk_eq_canon]
  unfold kernelRun0_B
  dsimp only
  sl_unfold_words
  simp only [View.readAt_eq_ld, h1.read_unread, h2.read_unread, h3.read_unread, h4.read_unread, h5.read_unread, h6.read_unread, h13.read_unread]
  simp only [View.canon_unit_zero (S := S512x128) hz, View.ld_unit_zero (S := S512x1024) hz, View.ld_unit_zero (S := S1024x1024) hz, View.ld_unit_zero (S := S1x1024) hz, View.ld_unit_zero (S := S128x1) hz, View.readCov_unit_zero (S := S512x1024) _ hz, View.ld_unit_zero (S := S256x1024) hz]
  rfl

end Cert.RouteKernelIdeal.Block

end
-- ==== Proof.Norm.lean ====
/- ONE NORMALISED ELEMENT. Both norm-and-project kernels and their references scale a row by the reciprocal root of its mean
   square plus a small constant, and then by a weight. `nrm` is that element over the extended reals, stated once. -/
module

public import Idealize.ShloMosaic.PureOps.Ideal.Laws

@[expose] public section

noncomputable section

namespace Cert.Proof

open Idealize.ShloMosaic
open scoped BigOperators

/-- The element `v` of the row `row`, divided by the row's root mean square (the square's mean over 1024 entries, plus the
    small constant), times the weight `g`. -/
def nrm (row : Fin 1024 → EReal) (v g : EReal) : EReal :=
  v * Ideal.rsqrt (Ideal.div (∑ j, row j * row j) (Ideal.ofBits .f32 0x44800000#32) + Ideal.ofBits .f32 0x358637BD#32) * g

end Cert.Proof

end
-- ==== Proof.RouteArray.lean ====
/- THE ROUTER'S LOGITS, AND WHAT EVERY POINT WRITES BACK. Every point finds the router's matrix in scratch memory (`scr_after`), so a point's
   blocks are one function of its blocks and of what was counted before it (`ids_flushed`, `gates_flushed`, `counts_flushed`), and its logits
   are read entry by entry (`logit_apply`). -/
module

public import proofs.«01_k».proof.Proof.RouteBlock
public import proofs.«01_k».proof.Proof.Norm

@[expose] public section

set_option maxRecDepth 16384

noncomputable section

namespace Cert.RouteKernelIdeal.Block

open Cert.RouteKernelIdeal Cert.RouteKernelIdeal.Gen Cert.Proof
open Idealize.ShloMosaic Idealize.ShloMosaic.TcCoe Idealize.SL.Sem
open Idealize.ShloMosaic.Pipeline (Dat)
open scoped BigOperators

/-! ## The two pieces of the matrix -/

theorem pay6_apply (w : Vec Ideal S1024x128 .f32) (r : Fin 128) (k : Fin 1024) : k0_pay6 (F := Ideal) w (ix2 r k) = w (ix2 k r) := by
  unfold k0_pay6 k0_pay5 k0_pay4
  simp only [pointwise]

theorem pay7_apply (w : Vec Ideal S1024x128 .f32) (r : Fin 128) (k : Fin 1024) : k0_pay7 (F := Ideal) w (ix2 r k) = w (ix2 k r) - w (ix2 k r) := by
  unfold k0_pay7 k0_pay5 k0_pay4
  simp only [pointwise]

/-- The lower half's rows. -/
theorem scr_hi (w : Vec Ideal S1024x128 .f32) (r : Fin 128) (k : Fin 1024) (q : Fin 256) (hq : q.val = 128 + r.val) :
    scr (F := Ideal) w (ix2 q k) = w (ix2 k r) - w (ix2 k r) := by
  unfold scr
  have e : (ix2 q k : S256x1024.Idx) = (Rect.unit (s := S256x1024) ![128, 0] ![128, 1024] inb_S256x1024_S128x1024_128_0).emb (ix2 r k : S128x1024.Idx) :=
    funext fun a => Fin.ext (by
      match a with
      | ⟨0, _⟩ => show q.val = 128 + 1 * r.val; omega
      | ⟨1, _⟩ => show k.val = 0 + 1 * k.val; omega)
  rw [e, View.canon_cons_emb]
  exact pay7_apply w r k

/-- The upper half's rows. -/
theorem scr_lo (w : Vec Ideal S1024x128 .f32) (r : Fin 128) (k : Fin 1024) (q : Fin 256) (hq : q.val = r.val) :
    scr (F := Ideal) w (ix2 q k) = w (ix2 k r) := by
  unfold scr
  have e : (ix2 q k : S256x1024.Idx) = (Rect.unit (s := S256x1024) ![0, 0] ![128, 1024] inb_S256x1024_S128x1024_0_0).emb (ix2 r k : S128x1024.Idx) :=
    funext fun a => Fin.ext (by
      match a with
      | ⟨0, _⟩ => show q.val = 0 + 1 * r.val; omega
      | ⟨1, _⟩ => show k.val = 0 + 1 * k.val; omega)
  rw [View.canon_cons_of_not_mem _ _ (by
    rw [Rect.mem_set_unit]
    intro h
    have h0 : 128 ≤ q.val := (h (0 : Fin 2)).1
    have := r.isLt
    omega), e, View.canon_cons_emb]
  exact pay6_apply w r k

theorem half_apply (w : Vec Ideal S1024x128 .f32) (r : Fin 128) (k : Fin 1024) : half (scr (F := Ideal) w) (ix2 r k) = w (ix2 k r) := by
  have e : (Rect.unit (s := S256x1024) ![0, 0] ![128, 1024] inb_S256x1024_S128x1024_0_0).emb (ix2 r k : S128x1024.Idx) = (ix2 (⟨r.val, by omega⟩ : Fin 256) k : S256x1024.Idx) :=
    funext fun a => Fin.ext (by
      match a with
      | ⟨0, _⟩ => show 0 + 1 * r.val = r.val; omega
      | ⟨1, _⟩ => show 0 + 1 * k.val = k.val; omega)
  unfold half View.ld
  exact (congrArg (scr (F := Ideal) w) e).trans (scr_lo w r k _ rfl)

/-! ## One logit -/

/-- The block at row `r`, column `n`. -/
theorem pay2_apply (x : Vec Ideal S512x1024 .f32) (a : Vec Ideal S512x1024 .bf16) (w : Vec Ideal S1024x1024 .bf16) (r : Fin 512) (n : Fin 1024) :
    k0_pay2 (F := Ideal) x a w (ix2 r n) = x (ix2 r n) + ∑ k : Fin 1024, a (ix2 r k) * w (ix2 k n) := by
  unfold k0_pay2
  simp only [pointwise]
  rw [show (0 : EReal) + ∑ k : Fin 1024, a (ix2 r k) * w (ix2 k n) = ∑ k : Fin 1024, a (ix2 r k) * w (ix2 k n) from zero_add _]

/-- The normalised block at row `r`, column `k`. -/
theorem pay8_apply (x : Vec Ideal S512x1024 .f32) (g : Vec Ideal S1x1024 .f32) (r : Fin 512) (k : Fin 1024) :
    k0_pay8 (F := Ideal) x g (ix2 r k) = nrm (fun j => x (ix2 r j)) (x (ix2 r k)) (g (ix2 0 k)) := by
  unfold k0_pay8 nrm
  simp only [pointwise]
  rfl

theorem pay10_apply (x : Vec Ideal S512x1024 .f32) (g : Vec Ideal S1x1024 .f32) (y : Vec Ideal S256x1024 .bf16) (q : Fin 256) (c : Fin 512) :
    k0_pay10 (F := Ideal) x g y (ix2 q c) = ∑ k : Fin 1024, y (ix2 q k) * k0_pay8 (F := Ideal) x g (ix2 c k) := by
  unfold k0_pay10 k0_pay9
  simp only [pointwise]
  exact zero_add _

theorem pay11_apply (x : Vec Ideal S512x1024 .f32) (g : Vec Ideal S1x1024 .f32) (y : Vec Ideal S128x1024 .bf16) (r : Fin 128) (c : Fin 512) :
    k0_pay11 (F := Ideal) x g y (ix2 r c) = ∑ k : Fin 1024, y (ix2 r k) * (k0_pay8 (F := Ideal) x g (ix2 c k) - k0_pay8 (F := Ideal) x g (ix2 c k)) := by
  unfold k0_pay11 k0_pay9
  simp only [pointwise]
  exact zero_add _

theorem pay12_apply (p : FVec Ideal S256x512 .f32) (q : FVec Ideal S128x512 .f32) (b : Vec Ideal S128x1 .f32) (r : Fin 128) (c : Fin 512) :
    k0_pay12 (F := Ideal) p q b (ix2 r c) = p (ix2 (⟨r.val, by omega⟩ : Fin 256) c) + (p (ix2 (⟨128 + r.val, by omega⟩ : Fin 256) c) + q (ix2 r c)) + b (ix2 r 0) := by
  unfold k0_pay12
  simp only [pointwise]
  have e1 : ∀ h1 h2, (ix2 (⟨(![0, 0] : Fin 2 → ℕ) 0 + r.val, h1⟩ : Fin 256) (⟨(![0, 0] : Fin 2 → ℕ) 1 + c.val, h2⟩ : Fin 512) : S256x512.Idx) = ix2 (⟨r.val, by omega⟩ : Fin 256) c :=
    fun _ _ => congrArg₂ ix2 (Fin.ext (Nat.zero_add _)) (Fin.ext (Nat.zero_add _))
  have e2 : ∀ h1 h2, (ix2 (⟨(![128, 0] : Fin 2 → ℕ) 0 + r.val, h1⟩ : Fin 256) (⟨(![128, 0] : Fin 2 → ℕ) 1 + c.val, h2⟩ : Fin 512) : S256x512.Idx) = ix2 (⟨128 + r.val, by omega⟩ : Fin 256) c :=
    fun _ _ => congrArg₂ ix2 (Fin.ext rfl) (Fin.ext (Nat.zero_add _))
  rw [e1, e2]
  rfl

/-- The logit of row `r` of the matrix at column `c`: the product with the rounded matrix, and two products that vanish when
    the entries are numbers. -/
theorem logit_apply (x : Vec Ideal S512x1024 .f32) (g : Vec Ideal S1x1024 .f32) (w : Vec Ideal S1024x128 .f32) (b : Vec Ideal S128x1 .f32)
    (r : Fin 128) (c : Fin 512) (h : Fin 1024 → EReal) (hh : ∀ k, k0_pay8 (F := Ideal) x g (ix2 c k) = h k) :
    k0_pay12 (F := Ideal) (prodP x g (scr w)) (prodQ x g (scr w)) b (ix2 r c)
      = ∑ k, w (ix2 k r) * h k + (∑ k, (w (ix2 k r) - w (ix2 k r)) * h k + ∑ k, w (ix2 k r) * (h k - h k)) + b (ix2 r 0) := by
  rw [pay12_apply]
  unfold prodP prodQ
  rw [pay10_apply, pay10_apply, pay11_apply]
  simp only [hh, scr_lo w r _ (⟨r.val, by omega⟩ : Fin 256) rfl, scr_hi w r _ (⟨128 + r.val, by omega⟩ : Fin 256) rfl, half_apply]

/-! ## The arrays handed to the region -/

/-- The router's matrix: the experts' columns, the groups' columns, zeros. -/
def wr (we : Vec Ideal S1024x64 .f32) (wg : Vec Ideal S1024x8 .f32) : Vec Ideal S1024x128 .f32 :=
  concatenate S1024x128 1 [⟨S1024x64, we⟩, ⟨S1024x8, wg⟩, ⟨S1024x56, broadcastInDim S1024x56 ![] bcast_S_S1024x56 (constant (F := Ideal) S_ .f32 0x00000000#32)⟩]
    concatenates_S1024x64_S1024x8_S1024x56_S1024x128_d1

/-- An expert's column. -/
theorem wr_expert (we : Vec Ideal S1024x64 .f32) (wg : Vec Ideal S1024x8 .f32) (k : Fin 1024) (e : Fin 64) :
    wr we wg (ix2 k (⟨e.val, by omega⟩ : Fin 128)) = we (ix2 k e) := by
  unfold wr
  simp only [pointwise]
  exact (dif_pos trivial).trans rfl

/-- A group's column. -/
theorem wr_group (we : Vec Ideal S1024x64 .f32) (wg : Vec Ideal S1024x8 .f32) (k : Fin 1024) (g : Fin 8) :
    wr we wg (ix2 k (⟨64 + g.val, by omega⟩ : Fin 128)) = wg (ix2 k g) := by
  unfold wr
  simp only [pointwise]
  refine (dif_neg (show ¬64 + g.val < 64 by omega)).trans ((dif_pos (show 64 + g.val - 64 < 8 by omega)).trans ?_)
  exact congrArg wg (congrArg₂ ix2 (Fin.ext rfl) (Fin.ext (Nat.add_sub_cancel_left (n := 64) (m := g.val))))

/-- The bias, laid out as the matrix's columns are. -/
def br (be : Vec Ideal S64 .f32) (bg : Vec Ideal S8 .f32) : Vec Ideal S128x1 .f32 :=
  shapeCast S128x1 (concatenate S128 0 [⟨S64, be⟩, ⟨S8, bg⟩, ⟨S56, broadcastInDim S56 ![] bcast_S_S56 (constant (F := Ideal) S_ .f32 0x00000000#32)⟩]
    concatenates_S64_S8_S56_S128_d0) shapeCasts_S128_S128x1

/-- An expert's bias. -/
theorem br_expert (be : Vec Ideal S64 .f32) (bg : Vec Ideal S8 .f32) (e : Fin 64) : br be bg (ix2 (⟨e.val, by omega⟩ : Fin 128) 0) = be (ix1 e) := by
  unfold br
  simp only [pointwise]
  exact (dif_pos trivial).trans rfl

/-- A group's bias. -/
theorem br_group (be : Vec Ideal S64 .f32) (bg : Vec Ideal S8 .f32) (g : Fin 8) : br be bg (ix2 (⟨64 + g.val, by omega⟩ : Fin 128) 0) = bg (ix1 g) := by
  unfold br
  simp only [pointwise]
  refine (dif_neg (show ¬64 + g.val < 64 by omega)).trans ((dif_pos (show 64 + g.val - 64 < 8 by omega)).trans ?_)
  exact congrArg bg (congrArg ix1 (Fin.ext (Nat.add_sub_cancel_left (n := 64) (m := g.val))))

/-- The square of ones and zeros. -/
def earlier : Vec Ideal S512x512 .bf16 :=
  uitofp (F := Ideal) .bf16 (cmpi .slt (broadcastInDim S512x512 ![0, 1] bcast_S512x1_S512x512_0_1 (broadcastInDim S512x1 ![0] bcast_S512_S512x1_0 (iotaInDim S512 32 0)))
    (broadcastInDim S512x512 ![0, 1] bcast_S1x512_S512x512_0_1 (broadcastInDim S1x512 ![1] bcast_S512_S1x512_1 (iotaInDim S512 32 0))))

/-- It is 1 where the row is before the column. -/
theorem earlier_apply (j k : Fin 512) : earlier (ix2 j k) = (((if j.val < k.val then 1 else 0 : ℕ) : ℝ) : EReal) := by
  unfold earlier
  simp only [pointwise]
  have hi : ∀ i : Fin 512, (BitVec.ofNat 32 i.val).toInt = i.val := fun i => by
    have := i.isLt
    rw [BitVec.toInt_eq_toNat_of_lt (by simp only [BitVec.toNat_ofNat]; omega), BitVec.toNat_ofNat, Nat.mod_eq_of_lt (by omega)]
  have hw : IntOp.cmpi .slt (BitVec.ofNat 32 j.val) (BitVec.ofNat 32 k.val) = BitVec.ofBool (decide (j.val < k.val)) := by
    refine congrArg BitVec.ofBool ?_
    dsimp only
    rw [BitVec.slt_eq_decide, hi, hi]
    exact decide_eq_decide.mpr Nat.cast_lt
  refine (congrArg (fun w : BitVec 1 => ((w.toNat : ℝ) : EReal)) hw).trans ?_
  by_cases h : j.val < k.val
  · rw [decide_eq_true h, if_pos h]; rfl
  · rw [decide_eq_false h, if_neg h]; rfl

variable (m : (ℓ : Loc nD τ sig) → Buf (Elt Ideal) ℓ) (ρ : Dev nD → PrngReg)

theorem V_w (c : Dev nD) : (V m c main_v1 : Vec Ideal S1024x128 .f32) = wr (m ((c : Thread nD τ).loc main_arg6)) (m ((c : Thread nD τ).loc main_arg4)) := by
  show StableHlo.after hostOps0 _ (main_v1 : Ref sig .tc) = _
  after_results
  rfl

theorem V_b (c : Dev nD) : (V m c main_v4 : Vec Ideal S128x1 .f32) = br (m ((c : Thread nD τ).loc main_arg7)) (m ((c : Thread nD τ).loc main_arg5)) := by
  show StableHlo.after hostOps0 _ (main_v4 : Ref sig .tc) = _
  after_results
  rfl

theorem V_g (c : Dev nD) : (V m c main_v13 : Vec Ideal S1x1024 .f32) = shapeCast S1x1024 (m ((c : Thread nD τ).loc main_arg3)) shapeCasts_S1024_S1x1024 := by
  show StableHlo.after hostOps0 _ (main_v13 : Ref sig .tc) = _
  after_results
  rfl

theorem V_e (c : Dev nD) : (V m c main_v12 : Vec Ideal S512x512 .bf16) = earlier := by
  show StableHlo.after hostOps0 _ (main_v12 : Ref sig .tc) = _
  after_results
  rfl

/-! ## The blocks -/

/-- Where point `t`'s blocks lie. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_8.index t (0 : Fin 2) = 0 ∧ win0_8.index t (1 : Fin 2) = t.val
    ∧ win0_9.index t (0 : Fin 2) = t.val ∧ win0_9.index t (1 : Fin 2) = 0
    ∧ win0_10.index t (0 : Fin 2) = 0 ∧ win0_10.index t (1 : Fin 2) = 0 :=
  (by decide +kernel : ∀ t : Fin grid0.N, _)

theorem N_eq : cfg0.N = 64 := N_0

/-- The row of the whole array that row `r` of point `t`'s block is. -/
def row (t : Fin cfg0.N) (r : Fin 512) : Fin 32768 :=
  ⟨t.val * 512 + r.val, by have := t.isLt; have := r.isLt; have := N_eq; omega⟩

theorem iblk0_apply (c : Dev nD) (t : Fin cfg0.N) (r : Fin 512) (k : Fin 1024) :
    (iblk m c 0 t : Vec Ideal S512x1024 .bf16) (ix2 r k) = m ((c : Thread nD τ).loc main_arg0) (ix2 (row t r) k) := by
  obtain ⟨e0, e1, -⟩ := idx_facts t
  refine (congrFun (V_main_arg0 m c) _).trans (congrArg (m ((c : Thread nD τ).loc main_arg0)) (funext fun a => Fin.ext ?_))
  match a with
  | ⟨0, _⟩ => show win0_0.index t (0 : Fin 2) * 512 + 1 * r.val = t.val * 512 + r.val; omega
  | ⟨1, _⟩ => show win0_0.index t (1 : Fin 2) * 1024 + 1 * k.val = k.val; omega

theorem iblk1_apply (c : Dev nD) (t : Fin cfg0.N) (k : Fin 1024) (n : Fin 1024) :
    (iblk m c 1 t : Vec Ideal S1024x1024 .bf16) (ix2 k n) = m ((c : Thread nD τ).loc main_arg1) (ix2 k n) := by
  obtain ⟨-, -, e0, e1, -⟩ := idx_facts t
  refine (congrFun (V_main_arg1 m c) _).trans (congrArg (m ((c : Thread nD τ).loc main_arg1)) (funext fun a => Fin.ext ?_))
  match a with
  | ⟨0, _⟩ => show win0_1.index t (0 : Fin 2) * 1024 + 1 * k.val = k.val; omega
  | ⟨1, _⟩ => show win0_1.index t (1 : Fin 2) * 1024 + 1 * n.val = n.val; omega

theorem iblk2_apply (c : Dev nD) (t : Fin cfg0.N) (r : Fin 512) (n : Fin 1024) :
    (iblk m c 2 t : Vec Ideal S512x1024 .f32) (ix2 r n) = m ((c : Thread nD τ).loc main_arg2) (ix2 (row t r) n) := by
  obtain ⟨-, -, -, -, e0, e1, -⟩ := idx_facts t
  refine (congrFun (V_main_arg2 m c) _).trans (congrArg (m ((c : Thread nD τ).loc main_arg2)) (funext fun a => Fin.ext ?_))
  match a with
  | ⟨0, _⟩ => show win0_2.index t (0 : Fin 2) * 512 + 1 * r.val = t.val * 512 + r.val; omega
  | ⟨1, _⟩ => show win0_2.index t (1 : Fin 2) * 1024 + 1 * n.val = n.val; omega

theorem iblk3_apply (c : Dev nD) (t : Fin cfg0.N) (k : Fin 1024) :
    (iblk m c 3 t : Vec Ideal S1x1024 .f32) (ix2 0 k) = m ((c : Thread nD τ).loc main_arg3) (ix1 k) := by
  obtain ⟨-, -, -, -, -, -, e0, e1, -⟩ := idx_facts t
  have h : (iblk m c 3 t : Vec Ideal S1x1024 .f32) (ix2 0 k) = (V m c main_v13 : Vec Ideal S1x1024 .f32) (ix2 0 k) := by
    refine congrArg (V m c main_v13 : Vec Ideal S1x1024 .f32) (funext fun a => Fin.ext ?_)
    match a with
    | ⟨0, _⟩ => show win0_3.index t (0 : Fin 2) * 1 + 1 * 0 = 0; omega
    | ⟨1, _⟩ => show win0_3.index t (1 : Fin 2) * 1024 + 1 * k.val = k.val; omega
  rw [h, V_g]
  simp only [pointwise]

/-- The router's matrix and bias, of the arguments in memory. -/
abbrev memW (c : Dev nD) : Vec Ideal S1024x128 .f32 := wr (m ((c : Thread nD τ).loc main_arg6)) (m ((c : Thread nD τ).loc main_arg4))
abbrev memB (c : Dev nD) : Vec Ideal S128x1 .f32 := br (m ((c : Thread nD τ).loc main_arg7)) (m ((c : Thread nD τ).loc main_arg5))

/-- Every point is handed the whole of the router's matrix. -/
theorem iblk4_eq (c : Dev nD) (t : Fin cfg0.N) : (iblk m c 4 t : Vec Ideal S1024x128 .f32) = memW m c := by
  obtain ⟨-, -, -, -, -, -, -, -, e0, e1, -⟩ := idx_facts t
  refine Eq.trans ?_ (V_w m c)
  refine funext fun (y : S1024x128.Idx) => congrArg (V m c main_v1 : Vec Ideal S1024x128 .f32) (funext fun a => Fin.ext ?_)
  match a with
  | ⟨0, _⟩ => show win0_4.index t (0 : Fin 2) * 1024 + 1 * (y 0).val = (y 0).val; omega
  | ⟨1, _⟩ => show win0_4.index t (1 : Fin 2) * 128 + 1 * (y 1).val = (y 1).val; omega

/-- And the whole of its bias. -/
theorem iblk5_eq (c : Dev nD) (t : Fin cfg0.N) : (iblk m c 5 t : Vec Ideal S128x1 .f32) = memB m c := by
  obtain ⟨-, -, -, -, -, -, -, -, -, -, e0, e1, -⟩ := idx_facts t
  refine Eq.trans ?_ (V_b m c)
  refine funext fun (y : S128x1.Idx) => congrArg (V m c main_v4 : Vec Ideal S128x1 .f32) (funext fun a => Fin.ext ?_)
  match a with
  | ⟨0, _⟩ => show win0_5.index t (0 : Fin 2) * 128 + 1 * (y 0).val = (y 0).val; omega
  | ⟨1, _⟩ => show win0_5.index t (1 : Fin 2) * 1 + 1 * (y 1).val = (y 1).val; omega

/-- Every point is handed the whole of it. -/
theorem iblk6_apply (c : Dev nD) (t : Fin cfg0.N) (j k : Fin 512) :
    (iblk m c 6 t : Vec Ideal S512x512 .bf16) (ix2 j k) = (((if j.val < k.val then 1 else 0 : ℕ) : ℝ) : EReal) := by
  obtain ⟨-, -, -, -, -, -, -, -, -, -, -, -, e0, e1, -⟩ := idx_facts t
  refine (congrArg (V m c main_v12 : Vec Ideal S512x512 .bf16) (funext fun a => Fin.ext ?_)).trans ((congrFun (V_e m c) (ix2 j k)).trans (earlier_apply j k))
  match a with
  | ⟨0, _⟩ => show win0_6.index t (0 : Fin 2) * 512 + 1 * j.val = j.val; omega
  | ⟨1, _⟩ => show win0_6.index t (1 : Fin 2) * 512 + 1 * k.val = k.val; omega

/-! ## What a point writes back -/

/-- The scratch memory after any point. -/
theorem scr_after (c : Dev nD) (n : ℕ) (hn : n < cfg0.N) : (outsAt0 m c n hn).2.2.2.2.2 = scr (memW m c) := by
  induction n with
  | zero =>
    have e := outsAt0_A m c (⟨0, hn⟩ : Fin cfg0.N) (Nat.zero_mod _)
    refine (congrArg (fun x => x.2.2.2.2.2) e).trans ?_
    dsimp only
    rw [scrA_eq, iblk4_eq]
  | succ n ih =>
    have h0 : ¬(n + 1) % 64 = 0 := by have := N_eq; omega
    have e := outsAt0_B m c (⟨n + 1, hn⟩ : Fin cfg0.N) h0
    exact (congrArg (fun x => x.2.2.2.2.2) e).trans (ih (Nat.lt_of_succ_lt hn))

/-- The two products of point `t`. -/
abbrev P (c : Dev nD) (t : Fin cfg0.N) : FVec Ideal S256x512 .f32 :=
  prodP (k0_pay2 (iblk m c 2 t) (iblk m c 0 t) (iblk m c 1 t)) (iblk m c 3 t) (scr (memW m c))
abbrev Q (c : Dev nD) (t : Fin cfg0.N) : FVec Ideal S128x512 .f32 :=
  prodQ (k0_pay2 (iblk m c 2 t) (iblk m c 0 t) (iblk m c 1 t)) (iblk m c 3 t) (scr (memW m c))

/-- What the points before point `t` counted. -/
def before (c : Dev nD) (t : Fin cfg0.N) : Vec Ideal S128x128 .f32 :=
  if t.val % 64 = 0 then k0_pay3 (F := Ideal) else (outsAt0 m c (t.val - 1) (Nat.lt_of_le_of_lt (Nat.sub_le _ _) t.isLt)).2.2.2.2.1

/-- What point `t` counted with them. -/
theorem tally_after (c : Dev nD) (t : Fin cfg0.N) :
    (outsAt0 m c t.val t.isLt).2.2.2.2.1 = tally (P m c t) (Q m c t) (memB m c) (before m c t) := by
  unfold before
  by_cases h : t.val % 64 = 0
  · refine (congrArg (fun x => x.2.2.2.2.1) (outsAt0_A m c t h)).trans ?_
    dsimp only
    rw [tallyA_eq, iblk4_eq, iblk5_eq, if_pos h]
  · refine (congrArg (fun x => x.2.2.2.2.1) (outsAt0_B m c t h)).trans ?_
    dsimp only
    rw [tallyB_eq, iblk5_eq, scr_after, if_neg h]

theorem ids_flushed (c : Dev nD) (t : Fin cfg0.N) : (dats m 0 c).flushed 8 t = (cfg0.win 8).cut (grid0.coords t)
    (idsBlk (P m c t) (Q m c t) (memB m c)
      (ranks (P m c t) (Q m c t) (memB m c) (iblk m c 6 t) (before m c t)) (FloatOps.ofBits .f32 0x00000000#32)) := by
  unfold before
  by_cases h : t.val % 64 = 0
  · rw [Value.flushed8_A m c t h, idsA_eq, iblk4_eq, iblk5_eq, if_pos h]
  · rw [Value.flushed8_B m c t h, idsB_eq, iblk5_eq, scr_after, if_neg h]

theorem counts_flushed (c : Dev nD) (t : Fin cfg0.N) : (dats m 0 c).flushed 10 t = (cfg0.win 10).cut (grid0.coords t)
    (tally (P m c t) (Q m c t) (memB m c) (before m c t)) := by
  unfold before
  by_cases h : t.val % 64 = 0
  · rw [Value.flushed10_A m c t h, countsA_eq, iblk4_eq, iblk5_eq, if_pos h]
  · rw [Value.flushed10_B m c t h, countsB_eq, iblk5_eq, scr_after, if_neg h]

theorem gates_flushed (c : Dev nD) (t : Fin cfg0.N) :
    (dats m 0 c).flushed 9 t = (cfg0.win 9).cut (grid0.coords t) (gatesBlk (P m c t) (Q m c t) (memB m c)) := by
  by_cases h : t.val % 64 = 0
  · rw [Value.flushed9_A m c t h, gatesA_eq, iblk4_eq, iblk5_eq]
  · rw [Value.flushed9_B m c t h, gatesB_eq, iblk5_eq, scr_after]

end Cert.RouteKernelIdeal.Block

end
-- ==== Proof.RouteMath.lean ====
/- CHOOSING THE GREATEST. The router picks the greatest of eight numbers, and then the greatest of the others, a tie going to the
   lower position. `nth` is the position a stable descending sort puts at a place; `nth_le` and `nth_lt` say what it is. A
   column of 128 entries is read by its maximum and by the least row that holds the maximum (`col_max`, `col_first`). -/
module

public import Idealize.ShloMosaic.Lib.SortPrefix
public import Idealize.ShloMosaic.PureOps.Ideal.Laws

@[expose] public section

noncomputable section

namespace Cert.Proof

open Idealize.ShloMosaic
open scoped BigOperators

/-! ## The order -/

/-- `k` goes before `k'`: its number is greater. -/
def gtB {n : ℕ} (f : Fin n → ℝ) (k k' : Fin n) : Bool := decide (f k' < f k)

/-- `k` goes before `k'`: its number is greater, or equal at a lower position. -/
def gtP {n : ℕ} (f : Fin n → ℝ) (k k' : Fin n) : Bool := decide (f k' < f k) || (decide (f k = f k') && decide (k < k'))

theorem gtP_total {n : ℕ} (f : Fin n → ℝ) : StrictTotalBefore (gtP f) :=
  StrictTotalBefore.of_key_then_position (fun a b : ℝ => decide (b < a)) f (fun a => by simp)
    (fun a b c h h' => by simp only [decide_eq_true_eq] at *; exact h'.trans h)
    (fun a b => by simp only [decide_eq_true_eq]; rcases lt_trichotomy a b with h | h | h <;> simp [h])

/-- On a list in the order of the positions, the stable sort by the numbers alone is the sort by the numbers and then the position. -/
theorem sort_eq {n : ℕ} (f : Fin n → ℝ) (l : List (Fin n)) (hl : l.Pairwise (· < ·)) : stableSort (gtB f) l = stableSort (gtP f) l := by
  induction l with
  | nil => rfl
  | cons a l ih =>
    obtain ⟨h1, h2⟩ := List.pairwise_cons.mp hl
    unfold stableSort
    rw [ih h2]
    refine insertBefore_congr _ _ a _ fun b hb => ?_
    have hab := h1 b ((perm_stableSort _ l).mem_iff.mp hb)
    unfold gtB gtP
    simp [not_lt.mpr hab.le]

/-- The position of the number at place `r`, greatest first. -/
def nth (f : Fin 8 → ℝ) (r : Fin 8) : Fin 8 := sortedFrom (gtB f) r

theorem nth_eq (f : Fin 8 → ℝ) (r : Fin 8) : nth f r = sortedFrom (gtP f) r := by
  unfold nth sortedFrom
  rw [List.get_of_eq (show sortPositions 8 (gtB f) = sortPositions 8 (gtP f) from sort_eq f _ (List.pairwise_lt_finRange 8))]
  rfl

theorem nth_order (f : Fin 8 → ℝ) {i j : Fin 8} (h : i < j) :
    f (nth f j) ≤ f (nth f i) ∧ (nth f j < nth f i → f (nth f j) < f (nth f i)) := by
  have hB := gtP_total f
  have e := sortedFrom_noInversion (gtP f) (gtP f) (fun a b h => hB.asymm a b h) (fun _ _ h => h) hB.negTrans i j h
  rw [← nth_eq, ← nth_eq] at e
  unfold gtP at e
  simp only [Bool.or_eq_false_iff, decide_eq_false_iff_not, not_lt, Bool.and_eq_false_iff] at e
  refine ⟨e.1, fun hl => lt_of_le_of_ne e.1 fun he => ?_⟩
  rcases e.2 with h' | h'
  · exact h' he
  · exact absurd hl (not_lt.mpr h')

theorem nth_surj (f : Fin 8 → ℝ) (k : Fin 8) : ∃ j, nth f j = k := sortedFrom_surjective _ k

theorem nth_inj (f : Fin 8 → ℝ) {i j : Fin 8} (h : nth f i = nth f j) : i = j := sortedFrom_injective _ h

/-- No number is above the first. -/
theorem first_le (f : Fin 8 → ℝ) (k : Fin 8) : f k ≤ f (nth f 0) := by
  obtain ⟨j, rfl⟩ := nth_surj f k
  rcases eq_or_ne j 0 with rfl | h
  · exact le_rfl
  · exact (nth_order f (Fin.pos_of_ne_zero h)).1

/-- A number at a lower position is below the first. -/
theorem first_lt (f : Fin 8 → ℝ) (k : Fin 8) (hk : k < nth f 0) : f k < f (nth f 0) := by
  obtain ⟨j, rfl⟩ := nth_surj f k
  rcases eq_or_ne j 0 with rfl | h
  · exact absurd hk (lt_irrefl _)
  · exact (nth_order f (Fin.pos_of_ne_zero h)).2 hk

theorem second_ne (f : Fin 8 → ℝ) : nth f 1 ≠ nth f 0 := fun h => absurd (nth_inj f h) (by decide)

/-- No number but the first is above the second. -/
theorem second_le (f : Fin 8 → ℝ) (k : Fin 8) (hk : k ≠ nth f 0) : f k ≤ f (nth f 1) := by
  obtain ⟨j, rfl⟩ := nth_surj f k
  rcases eq_or_ne j 1 with rfl | h
  · exact le_rfl
  · have h0 : j ≠ 0 := fun e => hk (congrArg (nth f) e)
    exact (nth_order f (show (1 : Fin 8) < j by omega)).1

/-- A number at a lower position, but the first, is below the second. -/
theorem second_lt (f : Fin 8 → ℝ) (k : Fin 8) (hk : k ≠ nth f 0) (hl : k < nth f 1) : f k < f (nth f 1) := by
  obtain ⟨j, rfl⟩ := nth_surj f k
  rcases eq_or_ne j 1 with rfl | h
  · exact absurd hl (lt_irrefl _)
  · have h0 : j ≠ 0 := fun e => hk (congrArg (nth f) e)
    exact (nth_order f (show (1 : Fin 8) < j by omega)).2 hl

/-- The places depend on the order of the numbers alone. -/
theorem nth_congr (f g : Fin 8 → ℝ) (h : ∀ k k', f k < f k' ↔ g k < g k') (r : Fin 8) : nth f r = nth g r := by
  have e : gtB f = gtB g := funext fun k => funext fun k' => by unfold gtB; simp only [h]
  unfold nth; rw [e]

/-! ## A column of 128 entries -/

/-- The maximum of a column, at a row that attains it. -/
theorem col_max (v : Fin 128 → EReal) (a : Fin 128) (h : ∀ r, v r ≤ v a) : Finset.fold max ⊥ v Finset.univ = v a := by
  refine le_antisymm ?_ ?_
  · exact (Finset.fold_max_le _).mpr ⟨bot_le, fun r _ => h r⟩
  · exact (Finset.le_fold_max _).mpr (Or.inr ⟨a, Finset.mem_univ _, le_rfl⟩)

/-- Row `base + k` of a column. -/
def at8 (base : ℕ) (hb : base + 8 ≤ 128) (k : Fin 8) : Fin 128 := ⟨base + k.val, by omega⟩

/-- A sum over a column that is zero outside eight rows. -/
theorem col_sum (v : Fin 128 → EReal) (base : ℕ) (hb : base + 8 ≤ 128) (h : ∀ r : Fin 128, (r.val < base ∨ base + 8 ≤ r.val) → v r = 0) :
    ∑ r, v r = ∑ k : Fin 8, v (at8 base hb k) := by
  have hinj : Function.Injective (at8 base hb) := fun a b e => Fin.ext (by have := congrArg Fin.val e; unfold at8 at this; simp only at this; omega)
  rw [show ∑ k : Fin 8, v (at8 base hb k) = ∑ r ∈ Finset.univ.map ⟨at8 base hb, hinj⟩, v r from (Finset.sum_map Finset.univ (⟨at8 base hb, hinj⟩ : Fin 8 ↪ Fin 128) v).symm]
  refine (Finset.sum_subset (Finset.subset_univ _) fun r _ hr => h r ?_).symm
  by_contra hc
  push Not at hc
  exact hr (Finset.mem_map.mpr ⟨⟨r.val - base, by omega⟩, Finset.mem_univ _, Fin.ext (by show base + (r.val - base) = r.val; omega)⟩)

/-! ## Eight numbers among 128 rows -/

/-- Eight entries at the rows from `base`, minus infinity elsewhere. -/
def spread (base : ℕ) (f : Fin 8 → EReal) (r : Fin 128) : EReal :=
  if h : base ≤ r.val ∧ r.val < base + 8 then f ⟨r.val - base, by omega⟩ else ⊥

theorem spread_at8 (base : ℕ) (hb : base + 8 ≤ 128) (f : Fin 8 → EReal) (k : Fin 8) : spread base f (at8 base hb k) = f k := by
  unfold spread at8
  have := k.isLt
  rw [dif_pos ⟨by dsimp only; omega, by dsimp only; omega⟩]
  exact congrArg f (Fin.ext (Nat.add_sub_cancel_left base k.val))

theorem spread_off (base : ℕ) (f : Fin 8 → EReal) (r : Fin 128) (h : r.val < base ∨ base + 8 ≤ r.val) : spread base f r = ⊥ := by
  unfold spread
  rw [dif_neg (by omega)]

/-- A row is one of the eight, or outside. -/
theorem at8_or (base : ℕ) (hb : base + 8 ≤ 128) (r : Fin 128) : (∃ k, r = at8 base hb k) ∨ (r.val < base ∨ base + 8 ≤ r.val) := by
  by_cases h : base ≤ r.val ∧ r.val < base + 8
  · exact Or.inl ⟨⟨r.val - base, by omega⟩, Fin.ext (by show r.val = base + (r.val - base); omega)⟩
  · exact Or.inr (by omega)

/-- The maximum of the column is the greatest of the eight. -/
theorem spread_max (base : ℕ) (hb : base + 8 ≤ 128) (f : Fin 8 → EReal) (i : Fin 8) (h : ∀ k, f k ≤ f i) :
    Finset.fold max ⊥ (spread base f) Finset.univ = f i := by
  rw [col_max (spread base f) (at8 base hb i), spread_at8]
  intro r
  rw [spread_at8]
  rcases at8_or base hb r with ⟨k, rfl⟩ | h'
  · rw [spread_at8]; exact h k
  · rw [spread_off base f r h']; exact bot_le

/-- The least of `n` words, one of which is at most every other, signed. -/
theorem min_word (g : Fin 128 → BitVec 32) (a : Fin 128) (h0 : (g a).toInt ≤ (2147483647#32 : BitVec 32).toInt) (h : ∀ r, (g a).toInt ≤ (g r).toInt) :
    Finset.fold IntOp.minsi 2147483647#32 g Finset.univ = g a := by
  have hr : ∀ s : Finset (Fin 128), (g a).toInt ≤ (Finset.fold IntOp.minsi 2147483647#32 g s).toInt := fun s => by
    induction s using Finset.induction_on with
    | empty => exact h0
    | insert x s hx ih =>
      rw [Finset.fold_insert hx]
      unfold IntOp.minsi
      split
      · exact h x
      · exact ih
  rw [← Finset.insert_erase (Finset.mem_univ a), Finset.fold_insert (Finset.notMem_erase _ _)]
  have := hr (Finset.univ.erase a)
  unfold IntOp.minsi
  rw [BitVec.slt_eq_decide]
  split
  · rfl
  · rename_i hn
    exact BitVec.eq_of_toInt_eq (le_antisymm (by simpa using hn) this)

/-- The least row at which the column holds `M`. -/
theorem first_row (v : Fin 128 → EReal) (M : EReal) (a : Fin 128) (ha : v a = M) (hl : ∀ r, r < a → v r ≠ M) :
    Finset.fold IntOp.minsi 2147483647#32 (fun r => if v r = M then BitVec.ofNat 32 r.val else 128#32) Finset.univ = BitVec.ofNat 32 a.val := by
  have hw : ∀ r : Fin 128, (BitVec.ofNat 32 r.val).toInt = r.val := by decide
  rw [min_word _ a]
  · exact if_pos ha
  · rw [if_pos ha, hw]; have := a.isLt; show (a.val : ℤ) ≤ 2147483647; omega
  · intro r
    rw [if_pos ha, hw]
    split
    · rename_i hr
      rw [hw]
      by_contra hc
      exact hl r (by omega) hr
    · have := a.isLt; show (a.val : ℤ) ≤ 128; omega

/-- Among eight numbers the least row is the first position that holds the value. -/
theorem spread_first (base : ℕ) (hb : base + 8 ≤ 128) (f : Fin 8 → EReal) (i : Fin 8) (hne : f i ≠ ⊥) (h : ∀ k, k < i → f k ≠ f i) :
    Finset.fold IntOp.minsi 2147483647#32 (fun r => if spread base f r = f i then BitVec.ofNat 32 r.val else 128#32) Finset.univ
      = BitVec.ofNat 32 (base + i.val) := by
  refine first_row (spread base f) (f i) (at8 base hb i) (spread_at8 base hb f i) fun r hr => ?_
  rcases at8_or base hb r with ⟨k, rfl⟩ | h'
  · rw [spread_at8]
    exact h k (by have : base + k.val < base + i.val := hr; exact Fin.lt_def.mpr (by omega))
  · rw [spread_off base f r h']; exact hne.symm

/-- The sum of the exponentials over the column is the sum over the eight. -/
theorem spread_sum (base : ℕ) (hb : base + 8 ≤ 128) (f : Fin 8 → ℝ) (M : ℝ) :
    ∑ r, Ideal.exp (spread base (fun k => (f k : EReal)) r - (M : EReal)) = ((∑ k, Real.exp (f k - M) : ℝ) : EReal) := by
  rw [col_sum _ base hb fun r hr => by rw [spread_off base _ r hr, EReal.bot_sub]; rfl,
    show ((∑ k, Real.exp (f k - M) : ℝ) : EReal) = ∑ k, ((Real.exp (f k - M) : ℝ) : EReal) from
      map_sum (⟨⟨Real.toEReal, EReal.coe_zero⟩, EReal.coe_add⟩ : ℝ →+ EReal) _ _]
  refine Finset.sum_congr rfl fun k _ => ?_
  rw [spread_at8, ← EReal.coe_sub]
  rfl

/-- A column that keeps its entries at the eight rows alone. -/
theorem spread_select (base : ℕ) (hb : base + 8 ≤ 128) (f : Fin 8 → EReal) (L : Fin 128 → EReal) (hL : ∀ k, L (at8 base hb k) = f k) (C : BitVec 1) (r : Fin 128)
    (hC : C = BitVec.ofBool (decide (base ≤ r.val ∧ r.val < base + 8))) : Scalar.select C (L r) ⊥ = spread base f r := by
  subst hC
  unfold Scalar.select
  rcases at8_or base hb r with ⟨k, rfl⟩ | h'
  · have := k.isLt
    rw [show decide (base ≤ (at8 base hb k).val ∧ (at8 base hb k).val < base + 8) = true from decide_eq_true ⟨by show base ≤ base + k.val; omega, by show base + k.val < base + 8; omega⟩,
      if_pos (by decide), spread_at8, hL]
  · rw [decide_eq_false (by omega), if_neg (by decide), spread_off base f r h']

/-- The eight numbers without the one at `i`. -/
def drop (f : Fin 8 → EReal) (i k : Fin 8) : EReal := if k = i then ⊥ else f k

/-- The column without the row of the one at `i`. -/
theorem spread_drop (base : ℕ) (hb : base + 8 ≤ 128) (f : Fin 8 → EReal) (i : Fin 8) (C : BitVec 1) (r : Fin 128)
    (hC : C = BitVec.ofBool (decide (r = at8 base hb i))) : Scalar.select C ⊥ (spread base f r) = spread base (drop f i) r := by
  subst hC
  unfold Scalar.select
  rcases at8_or base hb r with ⟨k, rfl⟩ | h'
  · rw [spread_at8, spread_at8]
    unfold drop
    by_cases h : k = i
    · subst h; rw [decide_eq_true rfl, if_pos (by decide), if_pos rfl]
    · rw [decide_eq_false (fun e => h (Fin.ext (by have := congrArg Fin.val e; change base + k.val = base + i.val at this; omega))), if_neg (by decide), if_neg h]
  · rw [spread_off base _ r h', spread_off base _ r h', ite_self]

/-! ## The weights -/

/-- The softmax of eight numbers, shifted by the greatest. -/
def smx (f : Fin 8 → ℝ) (k : Fin 8) : ℝ := Real.exp (f k - f (nth f 0)) / ∑ j, Real.exp (f j - f (nth f 0))

/-- The weight of the expert at place `r`: its share of the two chosen, times the group's probability. -/
def gate (g f : Fin 8 → ℝ) (r : Fin 8) : ℝ := smx f (nth f r) / (smx f (nth f 0) + smx f (nth f 1)) * smx g (nth g 0)

theorem expsum_pos (f : Fin 8 → ℝ) (M : ℝ) : 0 < ∑ k, Real.exp (f k - M) :=
  Finset.sum_pos (fun k _ => Real.exp_pos _) ⟨0, Finset.mem_univ _⟩

theorem smx_pos (f : Fin 8 → ℝ) (k : Fin 8) : 0 < smx f k := div_pos (Real.exp_pos _) (expsum_pos f _)

theorem smx_first (f : Fin 8 → ℝ) : smx f (nth f 0) = 1 / ∑ j, Real.exp (f j - f (nth f 0)) := by
  unfold smx
  rw [sub_self, Real.exp_zero]

/-- The softmax keeps the order. -/
theorem smx_lt (f : Fin 8 → ℝ) (k k' : Fin 8) : smx f k < smx f k' ↔ f k < f k' := by
  unfold smx
  rw [div_lt_div_iff_of_pos_right (expsum_pos f _), Real.exp_lt_exp, sub_lt_sub_iff_right]

/-- The quotient of two numbers, the divisor positive. -/
theorem div_real (x y : ℝ) (hy : 0 < y) : Ideal.div (x : EReal) (y : EReal) = ((x / y : ℝ) : EReal) := by
  unfold Ideal.div
  rw [if_neg (by simpa using hy.ne'), ← EReal.coe_inv, ← EReal.coe_mul, div_eq_mul_inv]

end Cert.Proof

end
-- ==== Proof.AttnBlock.lean ====
/- WHAT ONE BLOCK OF THE ATTENTION HOLDS. A grid point takes 128 queries of all sixteen heads and the keys and values of its own
   block of 128 rows and of the block before; a head's output is the softmax over the 256 logits and the sink (`head`). The sixteen
   heads' stores are the columns of one function of the point's blocks (`out_eq`). -/
module

public import proofs.«01_k».proof.Proof.Gen.KernelIdeal.Value
public import Idealize.ShloMosaic.Lib.ValueIdx
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.KernelIdeal.Block

open Cert.KernelIdeal Cert.KernelIdeal.Gen
open Idealize.ShloMosaic Idealize.ShloMosaic.TcCoe Idealize.SL.Sem
open Idealize.ShloMosaic.Pipeline (Dat)
open scoped BigOperators

/-- The softmax in base two over the logits `l` and the sink `s`, applied to the values `v`: the sink takes part in the maximum and in
    the denominator and has no value. -/
def head (l : Fin 256 → EReal) (s : EReal) (v : Fin 256 → EReal) : EReal :=
  Ideal.div (∑ k, Ideal.exp2 (l k - max (Finset.fold max ⊥ l Finset.univ) s) * v k)
    ((∑ k, Ideal.exp2 (l k - max (Finset.fold max ⊥ l Finset.univ) s)) + Ideal.exp2 (s - max (Finset.fold max ⊥ l Finset.univ) s))

/-- The scale of a query's product with a key. -/
abbrev qs : EReal := ((8⁻¹ * (Real.log 2)⁻¹ : ℝ) : EReal)
/-- The change from base e to base two. -/
abbrev lg : EReal := (((Real.log 2)⁻¹ : ℝ) : EReal)

theorem named_qs : Named.named (F := Ideal) (φ := .f32) κ "qscale" 0x3E38AA3B#32 = qs := IdealRules.named_const.ideal_named_scalar _ _ _ _ rfl
theorem named_lg : Named.named (F := Ideal) (φ := .f32) κ "log2e" 0x3FB8AA3B#32 = lg := IdealRules.named_const.ideal_named_scalar _ _ _ _ rfl
theorem ninf : Ideal.ofBits .f32 0xFF800000#32 = ⊥ := by simp [Ideal.ofBits, Ideal.ieee]

/-- One head at row `r`, column `d`. -/
theorem pay6_apply (kb vb : Vec Ideal S256x64 .bf16) (q : Vec Ideal S128x64 .bf16) (b : Vec Ideal S1x1x128x256 .f32) (s : EReal) (r : Fin 128) (d : Fin 64) :
    k0_pay6 (F := Ideal) kb vb q b s (ix2 r d)
      = head (fun k => (∑ j : Fin 64, q (ix2 r j) * kb (ix2 k j)) * qs + b (ix4 0 0 r k) * lg) (s * lg) (fun k => vb (ix2 k d)) := by
  unfold k0_pay6
  simp only [pointwise, named_qs, named_lg, ninf]
  simp only [zero_add]
  rfl

/-- The keys of two blocks under one another. -/
theorem pay2_apply (kp kc : Vec Ideal S128x64 .bf16) (r : Fin 256) (d : Fin 64) :
    k0_pay2 (F := Ideal) kp kc (ix2 r d) = if h : r.val < 128 then kp (ix2 ⟨r.val, h⟩ d) else kc (ix2 ⟨r.val - 128, by omega⟩ d) := by
  unfold k0_pay2
  simp only [pointwise]
  rfl

/-- Where head `h`'s keys and values lie among the 256 columns of the four groups. -/
abbrev kcol (h : Fin 16) (d : Fin 64) : Fin 256 := ⟨h.val / 4 * 64 + d.val, by omega⟩
/-- Where head `h`'s queries and results lie among the 1024 columns. -/
abbrev qcol (h : Fin 16) (d : Fin 64) : Fin 1024 := ⟨h.val * 64 + d.val, by omega⟩

/-- Column `j` of two blocks of 128 rows under one another, at row `k`. -/
def two (p c : Vec Ideal S128x256 .bf16) (k : Fin 256) (j : Fin 256) : EReal :=
  if h : k.val < 128 then p (ix2 ⟨k.val, h⟩ j) else c (ix2 ⟨k.val - 128, by omega⟩ j)

/-- What the point leaves at row `r`, head `h`, column `d` of the head: `tb` is the table that the point takes of the two. -/
def point (tb : Fin 2) (x0 : Vec Ideal S16 .f32) (x1 : Vec Ideal S128x1024 .bf16) (x2 x3 x4 x5 : Vec Ideal S128x256 .bf16)
    (x6 : Vec Ideal S2x16x128x256 .f32) (r : Fin 128) (h : Fin 16) (d : Fin 64) : EReal :=
  head (fun k => (∑ j : Fin 64, x1 (ix2 r (qcol h j)) * two x2 x3 k (kcol h j)) * qs + x6 (ix4 tb h r k) * lg) (x0 (ix1 h) * lg)
    (fun k => two x4 x5 k (kcol h d))

/-- The table of the point. -/
abbrev tbl (i : grid0.Coords) : Fin 2 := ⟨min (i 1).val 1, by omega⟩

/-- A head's payload, from what its loads hold. -/
theorem piece_of (tb : Fin 2) (x0 : Vec Ideal S16 .f32) (x1 : Vec Ideal S128x1024 .bf16) (x2 x3 x4 x5 : Vec Ideal S128x256 .bf16)
    (x6 : Vec Ideal S2x16x128x256 .f32) (h : Fin 16) (r : Fin 128) (d : Fin 64)
    (kp kc vp vc : Vec Ideal S128x64 .bf16) (q : Vec Ideal S128x64 .bf16) (b : Vec Ideal S1x1x128x256 .f32) (s : EReal)
    (hkp : ∀ (k : Fin 128) (j : Fin 64), kp (ix2 k j) = x2 (ix2 k (kcol h j))) (hkc : ∀ (k : Fin 128) (j : Fin 64), kc (ix2 k j) = x3 (ix2 k (kcol h j)))
    (hvp : ∀ (k : Fin 128) (j : Fin 64), vp (ix2 k j) = x4 (ix2 k (kcol h j))) (hvc : ∀ (k : Fin 128) (j : Fin 64), vc (ix2 k j) = x5 (ix2 k (kcol h j)))
    (hq : ∀ j : Fin 64, q (ix2 r j) = x1 (ix2 r (qcol h j))) (hb : ∀ k : Fin 256, b (ix4 0 0 r k) = x6 (ix4 tb h r k)) (hs : s = x0 (ix1 h)) :
    k0_pay6 (F := Ideal) (k0_pay2 kp kc) (k0_pay2 vp vc) q b s (ix2 r d) = point tb x0 x1 x2 x3 x4 x5 x6 r h d := by
  rw [pay6_apply]
  unfold point two
  simp only [pay2_apply, hkp, hkc, hvp, hvc, hq, hb, hs]

/-- A head's payload, from the rectangles that its loads name. -/
theorem piece (i : grid0.Coords) (x0 : Vec Ideal S16 .f32) (x1 : Vec Ideal S128x1024 .bf16) (x2 x3 x4 x5 : Vec Ideal S128x256 .bf16)
    (x6 : Vec Ideal S2x16x128x256 .f32) (h : Fin 16) (oq ok os : Nat) (ob : Fin 4 → Nat) (hq : oq = h.val * 64) (hk : ok = h.val / 4 * 64)
    (hs : os = h.val) (hb : ob = ![min (i 1).val 1, h.val, 0, 0])
    (ik : ∀ a, (![0, ok] : Fin 2 → Nat) a + S128x64.size a ≤ S128x256.size a)
    (iq : ∀ a, (![0, oq] : Fin 2 → Nat) a + S128x64.size a ≤ S128x1024.size a)
    (ib : ∀ a, ob a + S1x1x128x256.size a ≤ S2x16x128x256.size a)
    (is : ∀ a, (![os] : Fin 1 → Nat) a + S1.size a ≤ S16.size a) (y : (Rect.unit (s := S16) ![os] S1.size is).shape.Idx)
    (r : Fin 128) (d : Fin 64) :
    k0_pay6 (F := Ideal) (k0_pay2 (View.ld x2 (Rect.unit (s := S128x256) ![0, ok] S128x64.size ik)) (View.ld x3 (Rect.unit (s := S128x256) ![0, ok] S128x64.size ik)))
        (k0_pay2 (View.ld x4 (Rect.unit (s := S128x256) ![0, ok] S128x64.size ik)) (View.ld x5 (Rect.unit (s := S128x256) ![0, ok] S128x64.size ik)))
        (View.ld x1 (Rect.unit (s := S128x1024) ![0, oq] S128x64.size iq)) (View.ld x6 (Rect.unit (s := S2x16x128x256) ob S1x1x128x256.size ib))
        (View.ld x0 (Rect.unit (s := S16) ![os] S1.size is) y) (ix2 r d)
      = point (tbl i) x0 x1 x2 x3 x4 x5 x6 r h d := by
  subst hq hk hs hb
  have e0 : View.ld x0 (Rect.unit (s := S16) ![h.val] S1.size is) y = x0 (ix1 h) :=
    View.ld_unit_apply_of _ _ _ _ _ _ fun a => by
      match a with
      | ⟨0, _⟩ => show h.val = h.val + (y 0).val; have : (y 0).val < 1 := (y 0).isLt; omega
  have e1 : ∀ j : Fin 64, View.ld x1 (Rect.unit (s := S128x1024) ![0, h.val * 64] S128x64.size iq) (ix2 r j) = x1 (ix2 r (qcol h j)) := fun j =>
    View.ld_unit_apply_of _ _ _ _ _ _ fun a => by
      match a with
      | ⟨0, _⟩ => show r.val = 0 + r.val; omega
      | ⟨1, _⟩ => rfl
  have e6 : ∀ k : Fin 256, View.ld x6 (Rect.unit (s := S2x16x128x256) ![min (i 1).val 1, h.val, 0, 0] S1x1x128x256.size ib) (ix4 0 0 r k) = x6 (ix4 (tbl i) h r k) := fun k =>
    View.ld_unit_apply_of _ _ _ _ _ _ fun a => by
      match a with
      | ⟨0, _⟩ => rfl
      | ⟨1, _⟩ => rfl
      | ⟨2, _⟩ => show r.val = 0 + r.val; omega
      | ⟨3, _⟩ => show k.val = 0 + k.val; omega
  have e2 : ∀ (x : Vec Ideal S128x256 .bf16) (k : Fin 128) (j : Fin 64),
      View.ld x (Rect.unit (s := S128x256) ![0, h.val / 4 * 64] S128x64.size ik) (ix2 k j) = x (ix2 k (kcol h j)) := fun x k j =>
    View.ld_unit_apply_of _ _ _ _ _ _ fun a => by
      match a with
      | ⟨0, _⟩ => show k.val = 0 + k.val; omega
      | ⟨1, _⟩ => rfl
  exact piece_of (tbl i) x0 x1 x2 x3 x4 x5 x6 h r d _ _ _ _ _ _ _ (e2 x2) (e2 x3) (e2 x4) (e2 x5) e1 e6 e0

/-- What the point leaves, as a function of the block's index. -/
def whole (tb : Fin 2) (x0 : Vec Ideal S16 .f32) (x1 : Vec Ideal S128x1024 .bf16) (x2 x3 x4 x5 : Vec Ideal S128x256 .bf16)
    (x6 : Vec Ideal S2x16x128x256 .f32) : Vec Ideal S128x1024 .bf16 := fun y =>
  point tb x0 x1 x2 x3 x4 x5 x6 (y 0) ⟨(y 1).val / 64, by have : (y 1).val < 1024 := (y 1).isLt; omega⟩ ⟨(y 1).val % 64, by omega⟩

/-- At the place of head `h`'s column `d`. -/
theorem whole_of (tb : Fin 2) (x0 : Vec Ideal S16 .f32) (x1 : Vec Ideal S128x1024 .bf16) (x2 x3 x4 x5 : Vec Ideal S128x256 .bf16)
    (x6 : Vec Ideal S2x16x128x256 .f32) (r : Fin 128) (h : Fin 16) (d : Fin 64) (y : S128x1024.Idx) (h0 : (y 0).val = r.val)
    (h1 : (y 1).val = h.val * 64 + d.val) : whole tb x0 x1 x2 x3 x4 x5 x6 y = point tb x0 x1 x2 x3 x4 x5 x6 r h d := by
  have e0 : y 0 = r := Fin.ext h0
  have e1 : (⟨(y 1).val / 64, by have : (y 1).val < 1024 := (y 1).isLt; omega⟩ : Fin 16) = h := Fin.ext (by show (y 1).val / 64 = h.val; omega)
  have e2 : (⟨(y 1).val % 64, by omega⟩ : Fin 64) = d := Fin.ext (by show (y 1).val % 64 = d.val; omega)
  unfold whole
  rw [e1, e2]
  exact congrArg (fun r => point tb x0 x1 x2 x3 x4 x5 x6 r h d) e0

/-- One head's store is its columns of `whole`. -/
theorem piece_whole (i : grid0.Coords) (x0 : Vec Ideal S16 .f32) (x1 : Vec Ideal S128x1024 .bf16) (x2 x3 x4 x5 : Vec Ideal S128x256 .bf16)
    (x6 : Vec Ideal S2x16x128x256 .f32) (h : Fin 16) (oq ok os : Nat) (ob : Fin 4 → Nat) (hq : oq = h.val * 64) (hk : ok = h.val / 4 * 64)
    (hs : os = h.val) (hb : ob = ![min (i 1).val 1, h.val, 0, 0])
    (ik : ∀ a, (![0, ok] : Fin 2 → Nat) a + S128x64.size a ≤ S128x256.size a)
    (iq io : ∀ a, (![0, oq] : Fin 2 → Nat) a + S128x64.size a ≤ S128x1024.size a)
    (ib : ∀ a, ob a + S1x1x128x256.size a ≤ S2x16x128x256.size a)
    (is : ∀ a, (![os] : Fin 1 → Nat) a + S1.size a ≤ S16.size a) (y : (Rect.unit (s := S16) ![os] S1.size is).shape.Idx)
    (x : S128x64.Idx) :
    k0_pay6 (F := Ideal) (k0_pay2 (View.ld x2 (Rect.unit (s := S128x256) ![0, ok] S128x64.size ik)) (View.ld x3 (Rect.unit (s := S128x256) ![0, ok] S128x64.size ik)))
        (k0_pay2 (View.ld x4 (Rect.unit (s := S128x256) ![0, ok] S128x64.size ik)) (View.ld x5 (Rect.unit (s := S128x256) ![0, ok] S128x64.size ik)))
        (View.ld x1 (Rect.unit (s := S128x1024) ![0, oq] S128x64.size iq)) (View.ld x6 (Rect.unit (s := S2x16x128x256) ob S1x1x128x256.size ib))
        (View.ld x0 (Rect.unit (s := S16) ![os] S1.size is) y) x
      = whole (tbl i) x0 x1 x2 x3 x4 x5 x6 ((Rect.unit (s := S128x1024) ![0, oq] S128x64.size io).emb x) := by
  obtain ⟨r, d, rfl⟩ : ∃ (r : Fin 128) (d : Fin 64), x = ix2 r d := ⟨x 0, x 1, ValueIdx.eq_ix2 x⟩
  rw [piece i x0 x1 x2 x3 x4 x5 x6 h oq ok os ob hq hk hs hb ik iq ib is y r d]
  refine (whole_of (tbl i) x0 x1 x2 x3 x4 x5 x6 r h d _ ?_ ?_).symm
  · refine (Rect.idx_unit_val _ _ _ _ _).trans ?_
    show 0 + r.val = r.val
    omega
  · refine (Rect.idx_unit_val _ _ _ _ _).trans ?_
    show oq + d.val = h.val * 64 + d.val
    omega

theorem out_eq (c : Dev nD) (i : grid0.Coords) (a2 : Memref sig .tc .smem S16 .f32) (h2 : a2.IsWhole) (a3 : Memref sig .tc .vmem S128x1024 .bf16) (h3 : a3.IsWhole) (a4 : Memref sig .tc .vmem S128x256 .bf16) (h4 : a4.IsWhole) (a5 : Memref sig .tc .vmem S128x256 .bf16) (h5 : a5.IsWhole) (a6 : Memref sig .tc .vmem S128x256 .bf16) (h6 : a6.IsWhole) (a7 : Memref sig .tc .vmem S128x256 .bf16) (h7 : a7.IsWhole) (a8 : Memref sig .tc .vmem S2x16x128x256 .f32) (h8 : a8.IsWhole) (a9 : Memref sig .tc .vmem S128x1024 .bf16) (h9 : a9.IsWhole)
    (x0 : Vec Ideal S16 .f32) (x1 : Vec Ideal S128x1024 .bf16) (x2 : Vec Ideal S128x256 .bf16) (x3 : Vec Ideal S128x256 .bf16) (x4 : Vec Ideal S128x256 .bf16) (x5 : Vec Ideal S128x256 .bf16) (x6 : Vec Ideal S2x16x128x256 .f32) :
    out0_A_7 (F := Ideal) c i a2 h2 a3 h3 a4 h4 a5 h5 a6 h6 a7 h7 a8 h8 a9 h9 x0 x1 x2 x3 x4 x5 x6 = whole (tbl i) x0 x1 x2 x3 x4 x5 x6 := by
  unfold out0_A_7
  rw [View.read_writes_eq_canon _ _ _ (cover0_A_7 c i a2 h2 a3 h3 a4 h4 a5 h5 a6 h6 a7 h7 a8 h8 a9 h9 x0 x1 x2 x3 x4 x5 x6)]
  funext y
  have hc := cover0_A_7 (F := Ideal) c i a2 h2 a3 h3 a4 h4 a5 h5 a6 h6 a7 h7 a8 h8 a9 h9 x0 x1 x2 x3 x4 x5 x6 y
  refine View.canon_apply_of_pieces (whole (tbl i) x0 x1 x2 x3 x4 x5 x6) _ ?_ y hc
  clear hc
  unfold kernelRun0_A
  dsimp only
  sl_unfold_words
  simp only [View.readAt_eq_ld, h2.read_unread, h3.read_unread, h4.read_unread, h5.read_unread, h6.read_unread, h7.read_unread, h8.read_unread]
  refine View.PiecesOf.mem (G := whole (tbl i) x0 x1 x2 x3 x4 x5 x6) ?_
  refine ⟨?_, ?_, ?_, ?_, ?_, ?_, ?_, ?_, ?_, ?_, ?_, ?_, ?_, ?_, ?_, ?_, trivial⟩
  · exact fun x => piece_whole i x0 x1 x2 x3 x4 x5 x6 15 _ _ _ _ rfl rfl rfl (k0_off16_eq i) _ _ inb_S128x1024_S128x64_0_960 _ _ _ x
  · exact fun x => piece_whole i x0 x1 x2 x3 x4 x5 x6 14 _ _ _ _ rfl rfl rfl (k0_off15_eq i) _ _ inb_S128x1024_S128x64_0_896 _ _ _ x
  · exact fun x => piece_whole i x0 x1 x2 x3 x4 x5 x6 13 _ _ _ _ rfl rfl rfl (k0_off14_eq i) _ _ inb_S128x1024_S128x64_0_832 _ _ _ x
  · exact fun x => piece_whole i x0 x1 x2 x3 x4 x5 x6 12 _ _ _ _ rfl rfl rfl (k0_off13_eq i) _ _ inb_S128x1024_S128x64_0_768 _ _ _ x
  · exact fun x => piece_whole i x0 x1 x2 x3 x4 x5 x6 11 _ _ _ _ rfl rfl rfl (k0_off12_eq i) _ _ inb_S128x1024_S128x64_0_704 _ _ _ x
  · exact fun x => piece_whole i x0 x1 x2 x3 x4 x5 x6 10 _ _ _ _ rfl rfl rfl (k0_off11_eq i) _ _ inb_S128x1024_S128x64_0_640 _ _ _ x
  · exact fun x => piece_whole i x0 x1 x2 x3 x4 x5 x6 9 _ _ _ _ rfl rfl rfl (k0_off10_eq i) _ _ inb_S128x1024_S128x64_0_576 _ _ _ x
  · exact fun x => piece_whole i x0 x1 x2 x3 x4 x5 x6 8 _ _ _ _ rfl rfl rfl (k0_off9_eq i) _ _ inb_S128x1024_S128x64_0_512 _ _ _ x
  · exact fun x => piece_whole i x0 x1 x2 x3 x4 x5 x6 7 _ _ _ _ rfl rfl rfl (k0_off8_eq i) _ _ inb_S128x1024_S128x64_0_448 _ _ _ x
  · exact fun x => piece_whole i x0 x1 x2 x3 x4 x5 x6 6 _ _ _ _ rfl rfl rfl (k0_off7_eq i) _ _ inb_S128x1024_S128x64_0_384 _ _ _ x
  · exact fun x => piece_whole i x0 x1 x2 x3 x4 x5 x6 5 _ _ _ _ rfl rfl rfl (k0_off6_eq i) _ _ inb_S128x1024_S128x64_0_320 _ _ _ x
  · exact fun x => piece_whole i x0 x1 x2 x3 x4 x5 x6 4 _ _ _ _ rfl rfl rfl (k0_off5_eq i) _ _ inb_S128x1024_S128x64_0_256 _ _ _ x
  · exact fun x => piece_whole i x0 x1 x2 x3 x4 x5 x6 3 _ _ _ _ rfl rfl rfl (k0_off4_eq i) _ _ inb_S128x1024_S128x64_0_192 _ _ _ x
  · exact fun x => piece_whole i x0 x1 x2 x3 x4 x5 x6 2 _ _ _ _ rfl rfl rfl (k0_off3_eq i) _ _ inb_S128x1024_S128x64_0_128 _ _ _ x
  · exact fun x => piece_whole i x0 x1 x2 x3 x4 x5 x6 1 _ _ _ _ rfl rfl rfl (k0_off2_eq i) _ _ inb_S128x1024_S128x64_0_64 _ _ _ x
  · exact fun x => piece_whole i x0 x1 x2 x3 x4 x5 x6 0 _ _ _ _ rfl rfl rfl (k0_off1_eq i) _ _ inb_S128x1024_S128x64_0_0 _ _ _ x

end Cert.KernelIdeal.Block
-- ==== Proof.RouteColumn.lean ====
/- ONE TOKEN OF THE ROUTER. A column of a point's logits holds the group's eight numbers at the rows 64 to 71 and the experts' 64 numbers at
   the rows before them. The kernel picks the group and its two experts by maxima and least rows; the numbers it leaves are
   `ids_apply`, and the weights `gates_apply`. -/
module

public import proofs.«01_k».proof.Proof.RouteArray
public import proofs.«01_k».proof.Proof.RouteMath
public import proofs.«01_k».proof.Proof.AttnBlock

@[expose] public section

set_option maxRecDepth 16384

noncomputable section

namespace Cert.RouteKernelIdeal.Block

open Cert.RouteKernelIdeal Cert.RouteKernelIdeal.Gen Cert.Proof
open Idealize.ShloMosaic Idealize.ShloMosaic.TcCoe Idealize.SL.Sem
open scoped BigOperators

theorem ninf : Ideal.ofBits .f32 0xFF800000#32 = ⊥ := by simp [Ideal.ofBits, Ideal.ieee]

theorem rows_apply (r : Fin 128) (c : Fin 512) : rows (ix2 r c) = BitVec.ofNat 32 r.val := by
  unfold rows
  simp only [pointwise]
  exact congrArg (BitVec.ofNat 32) (by show 0 * 128 + r.val = r.val; omega)

/-- What is asked of a token's column: the group's logits and the experts', all numbers. -/
structure Column (p : FVec Ideal S256x512 .f32) (q : FVec Ideal S128x512 .f32) (b : Vec Ideal S128x1 .f32) (c : Fin 512) (lg : Fin 8 → ℝ) (le : Fin 64 → ℝ) : Prop where
  group : ∀ g : Fin 8, k0_pay12 (F := Ideal) p q b (ix2 (at8 64 (by decide) g) c) = (lg g : EReal)
  expert : ∀ e : Fin 64, k0_pay12 (F := Ideal) p q b (ix2 (⟨e.val, by omega⟩ : Fin 128) c) = (le e : EReal)

/-- The experts' logits of group `a`. -/
def inGroup (le : Fin 64 → ℝ) (a k : Fin 8) : ℝ := le ⟨8 * a.val + k.val, by omega⟩

theorem base_le (a : Fin 8) : 8 * a.val + 8 ≤ 128 := by omega

variable {p : FVec Ideal S256x512 .f32} {q : FVec Ideal S128x512 .f32} {b : Vec Ideal S128x1 .f32} {c : Fin 512} {lg : Fin 8 → ℝ} {le : Fin 64 → ℝ}

/-! ## The group -/

theorem group_col (h : Column p q b c lg le) (r : Fin 128) : k0_pay13 (F := Ideal) p q b (ix2 r c) = spread 64 (fun g => (lg g : EReal)) r := by
  unfold k0_pay13
  simp only [pointwise]
  rw [ninf]
  refine spread_select 64 (by decide) _ (fun r => k0_pay12 (F := Ideal) p q b (ix2 r c)) h.group _ r ?_
  have hw : ∀ r : Fin 128, IntOp.andi (IntOp.cmpi .sge (BitVec.ofNat 32 (0 * 128 + r.val)) 64#32) (IntOp.cmpi .slt (BitVec.ofNat 32 (0 * 128 + r.val)) 72#32)
      = BitVec.ofBool (decide (64 ≤ r.val ∧ r.val < 64 + 8)) := by decide
  exact hw r

theorem group_max (h : Column p q b c lg le) : k0_pay14 (F := Ideal) p q b (ix2 0 c) = (lg (nth lg 0) : EReal) := by
  unfold k0_pay14
  simp only [pointwise]
  rw [ninf, show (fun k => k0_pay13 (F := Ideal) p q b (ix2 k c)) = spread 64 (fun g => (lg g : EReal)) from funext (group_col h)]
  exact spread_max 64 (by decide) _ (nth lg 0) fun k => EReal.coe_le_coe_iff.mpr (first_le lg k)

/-- The greatest probability of a group. -/
theorem group_prob (h : Column p q b c lg le) : k0_pay15 (F := Ideal) p q b (ix2 0 c) = (smx lg (nth lg 0) : EReal) := by
  unfold k0_pay15
  simp only [pointwise]
  have e : ∀ k : Fin 128, Ideal.exp (k0_pay13 (F := Ideal) p q b (ix2 k c) - k0_pay14 (F := Ideal) p q b (ix2 0 c))
      = Ideal.exp (spread 64 (fun g => (lg g : EReal)) k - (lg (nth lg 0) : EReal)) := fun k => by rw [group_col h, group_max h]
  refine (congrArg (Ideal.div 1) ((Finset.sum_congr rfl fun k _ => e k).trans (spread_sum 64 (by decide) lg (lg (nth lg 0))))).trans ?_
  rw [smx_first]
  exact div_real 1 _ (expsum_pos lg _)

/-! ## Its experts -/

theorem expert_col (h : Column p q b c lg le) (r : Fin 128) :
    k0_pay16 (F := Ideal) p q b (ix2 r c) = spread (8 * (nth lg 0).val) (fun k => (inGroup le (nth lg 0) k : EReal)) r := by
  unfold k0_pay16
  simp only [pointwise]
  rw [ninf]
  refine spread_select (8 * (nth lg 0).val) (base_le _) _ (fun r => k0_pay12 (F := Ideal) p q b (ix2 r c)) (fun k => h.expert ⟨8 * (nth lg 0).val + k.val, by omega⟩) _ r ?_
  have hm : Finset.fold IntOp.minsi 2147483647#32 (fun k : Fin 128 => if k0_pay13 (F := Ideal) p q b (ix2 k c) = k0_pay14 (F := Ideal) p q b (ix2 0 c)
      then BitVec.ofNat 32 (0 * 128 + k.val) else 128#32) Finset.univ = BitVec.ofNat 32 (64 + (nth lg 0).val) := by
    rw [group_max h, show (fun k : Fin 128 => if k0_pay13 (F := Ideal) p q b (ix2 k c) = (lg (nth lg 0) : EReal) then BitVec.ofNat 32 (0 * 128 + k.val) else 128#32)
      = fun k : Fin 128 => if spread 64 (fun g => (lg g : EReal)) k = (lg (nth lg 0) : EReal) then BitVec.ofNat 32 k.val else 128#32 from funext fun k => by
        rw [group_col h, show 0 * 128 + k.val = k.val by omega]]
    exact spread_first 64 (by decide) (fun g => (lg g : EReal)) (nth lg 0) (EReal.coe_ne_bot _) fun k hk => (EReal.coe_lt_coe_iff.mpr (first_lt lg k hk)).ne
  have hw : ∀ (r : Fin 128) (a : Fin 8), IntOp.andi (IntOp.cmpi .slt (BitVec.ofNat 32 (0 * 128 + r.val)) 64#32)
      (IntOp.cmpi .eq (IntOp.shrsi .vector (BitVec.ofNat 32 (0 * 128 + r.val)) 3#32) (BitVec.ofNat 32 (64 + a.val) - 64#32))
      = BitVec.ofBool (decide (8 * a.val ≤ r.val ∧ r.val < 8 * a.val + 8)) := by decide
  exact (congrArg (fun m => IntOp.andi (IntOp.cmpi .slt (BitVec.ofNat 32 (0 * 128 + r.val)) 64#32)
    (IntOp.cmpi .eq (IntOp.shrsi .vector (BitVec.ofNat 32 (0 * 128 + r.val)) 3#32) (m - 64#32))) hm).trans (hw r (nth lg 0))

theorem expert_max (h : Column p q b c lg le) : k0_pay17 (F := Ideal) p q b (ix2 0 c) = (inGroup le (nth lg 0) (nth (inGroup le (nth lg 0)) 0) : EReal) := by
  unfold k0_pay17
  simp only [pointwise]
  rw [ninf, show (fun k => k0_pay16 (F := Ideal) p q b (ix2 k c)) = spread (8 * (nth lg 0).val) (fun k => (inGroup le (nth lg 0) k : EReal)) from funext (expert_col h)]
  exact spread_max _ (base_le _) _ (nth (inGroup le (nth lg 0)) 0) fun k => EReal.coe_le_coe_iff.mpr (first_le _ k)

theorem expert_maxs (h : Column p q b c lg le) (r : Fin 128) : k0_pay18 (F := Ideal) p q b (ix2 r c) = (inGroup le (nth lg 0) (nth (inGroup le (nth lg 0)) 0) : EReal) := by
  unfold k0_pay18
  simp only [pointwise]
  exact expert_max h

/-! ## The first and the second, from any column of eight numbers -/

section
variable {v74 v77 : FVec Ideal S128x512 .f32} {v65 v76 : FVec Ideal S1x512 .f32} {a : Fin 8} {f : Fin 8 → ℝ}

theorem first_num (hv : ∀ r, v74 (ix2 r c) = spread (8 * a.val) (fun k => (f k : EReal)) r) (hm : ∀ r, v77 (ix2 r c) = (f (nth f 0) : EReal)) :
    k0_pay19 (F := Ideal) rows v74 v77 (ix2 0 c) = BitVec.ofNat 32 (8 * a.val + (nth f 0).val) := by
  unfold k0_pay19
  simp only [pointwise]
  rw [show (fun k : Fin 128 => if v74 (ix2 k c) = v77 (ix2 k c) then rows (ix2 k c) else 128#32)
    = fun k : Fin 128 => if spread (8 * a.val) (fun k => (f k : EReal)) k = (f (nth f 0) : EReal) then BitVec.ofNat 32 k.val else 128#32 from funext fun k => by
      rw [hv, hm, rows_apply]]
  exact spread_first (8 * a.val) (base_le a) (fun k => (f k : EReal)) (nth f 0) (EReal.coe_ne_bot _) fun k hk => (EReal.coe_lt_coe_iff.mpr (first_lt f k hk)).ne

theorem rest_col (hv : ∀ r, v74 (ix2 r c) = spread (8 * a.val) (fun k => (f k : EReal)) r) (hm : ∀ r, v77 (ix2 r c) = (f (nth f 0) : EReal)) (r : Fin 128) :
    k0_pay20 (F := Ideal) rows v74 v77 (ix2 r c) = spread (8 * a.val) (drop (fun k => (f k : EReal)) (nth f 0)) r := by
  unfold k0_pay20
  simp only [pointwise]
  rw [ninf, hv]
  refine spread_drop (8 * a.val) (base_le a) _ _ _ r ?_
  have hw : ∀ (r : Fin 128) (a i : Fin 8), IntOp.cmpi .eq (BitVec.ofNat 32 r.val) (BitVec.ofNat 32 (8 * a.val + i.val))
      = BitVec.ofBool (decide (r = at8 (8 * a.val) (base_le a) i)) := fun r a i => by
    have := r.isLt
    unfold IntOp.cmpi at8
    refine congrArg BitVec.ofBool ?_
    dsimp only
    by_cases h : r.val = 8 * a.val + i.val
    · rw [h, beq_self_eq_true, decide_eq_true (Fin.ext h)]
    · rw [decide_eq_false (fun e => h (congrArg Fin.val e)), beq_eq_false_iff_ne]
      intro e
      have := congrArg BitVec.toNat e
      simp only [BitVec.toNat_ofNat] at this
      omega
  rw [rows_apply]
  exact (congrArg (IntOp.cmpi .eq _) (first_num hv hm)).trans (hw r a (nth f 0))

theorem drop_second (f : Fin 8 → ℝ) : drop (fun k => (f k : EReal)) (nth f 0) (nth f 1) = (f (nth f 1) : EReal) := if_neg (second_ne f)

theorem second_max (hv : ∀ r, v74 (ix2 r c) = spread (8 * a.val) (fun k => (f k : EReal)) r) (hm : ∀ r, v77 (ix2 r c) = (f (nth f 0) : EReal)) :
    k0_pay21 (F := Ideal) rows v74 v77 (ix2 0 c) = (f (nth f 1) : EReal) := by
  unfold k0_pay21
  simp only [pointwise]
  rw [ninf, show (fun k => k0_pay20 (F := Ideal) rows v74 v77 (ix2 k c)) = spread (8 * a.val) (drop (fun k => (f k : EReal)) (nth f 0)) from funext (rest_col hv hm)]
  refine (spread_max (8 * a.val) (base_le a) _ (nth f 1) fun k => ?_).trans (drop_second f)
  rw [drop_second]
  unfold drop
  split
  · exact bot_le
  · rename_i hk; exact EReal.coe_le_coe_iff.mpr (second_le f k hk)

theorem second_num (hv : ∀ r, v74 (ix2 r c) = spread (8 * a.val) (fun k => (f k : EReal)) r) (hm : ∀ r, v77 (ix2 r c) = (f (nth f 0) : EReal)) :
    k0_pay22 (F := Ideal) rows v74 v77 (ix2 0 c) = BitVec.ofNat 32 (8 * a.val + (nth f 1).val) := by
  unfold k0_pay22
  simp only [pointwise]
  have e : (fun k : Fin 128 => if k0_pay20 (F := Ideal) rows v74 v77 (ix2 k c) = k0_pay21 (F := Ideal) rows v74 v77 (ix2 0 c) then rows (ix2 k c) else 128#32)
    = fun k : Fin 128 => if spread (8 * a.val) (drop (fun k => (f k : EReal)) (nth f 0)) k = drop (fun k => (f k : EReal)) (nth f 0) (nth f 1) then BitVec.ofNat 32 k.val else 128#32 :=
    funext fun k => by rw [rest_col hv hm, second_max hv hm, rows_apply, drop_second]
  refine (congrArg (fun g => Finset.fold IntOp.minsi 2147483647#32 g Finset.univ) e).trans ?_
  refine spread_first (8 * a.val) (base_le a) _ (nth f 1) (by rw [drop_second]; exact EReal.coe_ne_bot _) fun k hk => ?_
  rw [drop_second]
  unfold drop
  split
  · exact (EReal.coe_ne_bot _).symm
  · rename_i h0; exact (EReal.coe_lt_coe_iff.mpr (second_lt f k h0 hk)).ne

theorem exps_sum (hv : ∀ r, v74 (ix2 r c) = spread (8 * a.val) (fun k => (f k : EReal)) r) (h6 : v76 (ix2 0 c) = (f (nth f 0) : EReal)) :
    k0_pay23 (F := Ideal) v74 v76 (ix2 0 c) = ((∑ k, Real.exp (f k - f (nth f 0)) : ℝ) : EReal) := by
  unfold k0_pay23
  simp only [pointwise]
  have e : ∀ k : Fin 128, Ideal.exp (v74 (ix2 k c) - v76 (ix2 0 c)) = Ideal.exp (spread (8 * a.val) (fun k => (f k : EReal)) k - (f (nth f 0) : EReal)) := fun k => by rw [hv, h6]
  exact (Finset.sum_congr rfl fun k _ => e k).trans (spread_sum (8 * a.val) (base_le a) f _)

theorem share1 (f : Fin 8 → ℝ) : Ideal.div 1 ((∑ k, Real.exp (f k - f (nth f 0)) : ℝ) : EReal) = (smx f (nth f 0) : EReal) :=
  (div_real 1 _ (expsum_pos f _)).trans (by rw [smx_first])

theorem share2 (f : Fin 8 → ℝ) : Ideal.div (Ideal.exp ((f (nth f 1) : EReal) - (f (nth f 0) : EReal))) ((∑ k, Real.exp (f k - f (nth f 0)) : ℝ) : EReal) = (smx f (nth f 1) : EReal) :=
  div_real _ _ (expsum_pos f _)

theorem gate_of (g f : Fin 8 → ℝ) (r : Fin 8) :
    Ideal.div (smx f (nth f r) : EReal) ((smx f (nth f 0) : EReal) + (smx f (nth f 1) : EReal)) * (smx g (nth g 0) : EReal) = (gate g f r : EReal) := by
  rw [← EReal.coe_add, div_real _ _ (add_pos (smx_pos f _) (smx_pos f _)), ← EReal.coe_mul]
  rfl

theorem first_gate (hv : ∀ r, v74 (ix2 r c) = spread (8 * a.val) (fun k => (f k : EReal)) r) (hm : ∀ r, v77 (ix2 r c) = (f (nth f 0) : EReal)) (h6 : v76 (ix2 0 c) = (f (nth f 0) : EReal))
    (h5 : v65 (ix2 0 c) = (smx lg (nth lg 0) : EReal)) : k0_pay27 (F := Ideal) rows v65 v74 v76 v77 (ix2 0 c) = (gate lg f 0 : EReal) := by
  have e : Ideal.div (Ideal.exp (k0_pay21 (F := Ideal) rows v74 v77 (ix2 0 c) - v76 (ix2 0 c))) (k0_pay23 (F := Ideal) v74 v76 (ix2 0 c)) = (smx f (nth f 1) : EReal) := by
    rw [exps_sum hv h6, second_max hv hm, h6]; exact share2 f
  have e' : Ideal.div 1 (k0_pay23 (F := Ideal) v74 v76 (ix2 0 c)) = (smx f (nth f 0) : EReal) := by
    rw [exps_sum hv h6]; exact share1 f
  unfold k0_pay27 k0_pay26 k0_pay25 k0_pay24
  simp only [pointwise]
  refine Eq.trans ?_ (gate_of lg f 0)
  rw [← e, ← e', ← h5]

theorem second_gate (hv : ∀ r, v74 (ix2 r c) = spread (8 * a.val) (fun k => (f k : EReal)) r) (hm : ∀ r, v77 (ix2 r c) = (f (nth f 0) : EReal)) (h6 : v76 (ix2 0 c) = (f (nth f 0) : EReal))
    (h5 : v65 (ix2 0 c) = (smx lg (nth lg 0) : EReal)) : k0_pay28 (F := Ideal) rows v65 v74 v76 v77 (ix2 0 c) = (gate lg f 1 : EReal) := by
  have e : Ideal.div (Ideal.exp (k0_pay21 (F := Ideal) rows v74 v77 (ix2 0 c) - v76 (ix2 0 c))) (k0_pay23 (F := Ideal) v74 v76 (ix2 0 c)) = (smx f (nth f 1) : EReal) := by
    rw [exps_sum hv h6, second_max hv hm, h6]; exact share2 f
  have e' : Ideal.div 1 (k0_pay23 (F := Ideal) v74 v76 (ix2 0 c)) = (smx f (nth f 0) : EReal) := by
    rw [exps_sum hv h6]; exact share1 f
  unfold k0_pay28 k0_pay26 k0_pay25 k0_pay24
  simp only [pointwise]
  refine Eq.trans ?_ (gate_of lg f 1)
  rw [← e, ← e', ← h5]

end

/-! ## A token's column of the two blocks -/

/-- The number of the expert at place `s`. -/
def pick (lg : Fin 8 → ℝ) (le : Fin 64 → ℝ) (s : Fin 8) : ℕ := 8 * (nth lg 0).val + (nth (inGroup le (nth lg 0)) s).val

theorem pick_lt (lg : Fin 8 → ℝ) (le : Fin 64 → ℝ) (s : Fin 8) : pick lg le s < 64 := by unfold pick; omega

theorem pick_ne (lg : Fin 8 → ℝ) (le : Fin 64 → ℝ) : pick lg le 1 ≠ pick lg le 0 := fun h => by
  unfold pick at h
  exact second_ne (inGroup le (nth lg 0)) (Fin.ext (by omega))

/-- The expert at place `s`, as a row. -/
abbrev pickRow (lg : Fin 8 → ℝ) (le : Fin 64 → ℝ) (s : Fin 8) : Fin 128 := ⟨pick lg le s, by have := pick_lt lg le s; omega⟩

/-- The weight at column `n` of a token: the two experts', then zeros. -/
def weight (lg : Fin 8 → ℝ) (le : Fin 64 → ℝ) (n : ℕ) : EReal :=
  if n = 0 then (gate lg (inGroup le (nth lg 0)) 0 : EReal) else if n = 1 then (gate lg (inGroup le (nth lg 0)) 1 : EReal) else 0

theorem word_eq (a b : ℕ) (ha : a < 65536) (hb : b < 65536) : IntOp.cmpi .eq (BitVec.ofNat 32 a) (BitVec.ofNat 32 b) = BitVec.ofBool (decide (a = b)) := by
  unfold IntOp.cmpi
  refine congrArg BitVec.ofBool ?_
  dsimp only
  by_cases h : a = b
  · rw [h, beq_self_eq_true, decide_eq_true rfl]
  · rw [decide_eq_false h, beq_eq_false_iff_ne]
    intro e
    have := congrArg BitVec.toNat e
    simp only [BitVec.toNat_ofNat] at this
    omega

/-- A number held exactly, turned back into a word. -/
theorem nat_word (n : ℕ) (hn : n ≤ 65536) : Ideal.fptosi 32 ((n : ℝ) : EReal) = BitVec.ofNat 32 n := by
  rw [Ideal.fptosi, Ideal.toIntClamped_coe, if_pos (Nat.cast_nonneg n), Int.floor_natCast, min_eq_right (by norm_num; omega), max_eq_right (by omega)]
  exact BitVec.ofInt_natCast 32 n

theorem hit1 (h : Column p q b c lg le) (r : Fin 128) :
    k0_pay29 (F := Ideal) rows (k0_pay16 p q b) (k0_pay18 p q b) (ix2 r c) = BitVec.ofBool (decide (r.val = pick lg le 0)) := by
  unfold k0_pay29
  simp only [pointwise]
  have e := first_num (a := nth lg 0) (f := inGroup le (nth lg 0)) (expert_col h) (expert_maxs h)
  rw [rows_apply]
  refine (congrArg (IntOp.cmpi .eq (BitVec.ofNat 32 r.val)) e).trans ?_
  exact word_eq _ _ (by omega) (by have := pick_lt lg le 0; unfold pick at this; omega)

theorem hit2 (h : Column p q b c lg le) (r : Fin 128) :
    k0_pay30 (F := Ideal) rows (k0_pay16 p q b) (k0_pay18 p q b) (ix2 r c) = BitVec.ofBool (decide (r.val = pick lg le 1)) := by
  unfold k0_pay30
  simp only [pointwise]
  have e := second_num (a := nth lg 0) (f := inGroup le (nth lg 0)) (expert_col h) (expert_maxs h)
  rw [rows_apply]
  refine (congrArg (IntOp.cmpi .eq (BitVec.ofNat 32 r.val)) e).trans ?_
  exact word_eq _ _ (by omega) (by have := pick_lt lg le 1; unfold pick at this; omega)

/-- A sum of the entries a row is picked from is the entry picked. -/
theorem sel_sum (v : IVec S128x512 1) (rk : FVec Ideal S128x512 .f32) (a : Fin 128) (hv : ∀ k : Fin 128, v (ix2 k c) = BitVec.ofBool (decide (k.val = a.val))) :
    ∑ k : Fin 128, (Scalar.select (v (ix2 k c)) (rk (ix2 k c)) 0 : EReal) = rk (ix2 a c) := by
  rw [Finset.sum_eq_single a]
  · rw [hv, decide_eq_true rfl]; exact if_pos rfl
  · intro k _ hk
    rw [hv, decide_eq_false fun e => hk (Fin.ext e)]
    exact if_neg (by decide)
  · exact fun hn => absurd (Finset.mem_univ a) hn

/-- A token's column of the numbers' array: its two experts, what was counted of each before it, zeros. -/
def idsWord (lg : Fin 8 → ℝ) (le : Fin 64 → ℝ) (n0 n1 : ℕ) (s : ℕ) : BitVec 32 :=
  BitVec.ofNat 32 (if s = 0 then pick lg le 0 else if s = 1 then pick lg le 1 else if s = 2 then n0 else if s = 3 then n1 else 0)

theorem ids_apply (h : Column p q b c lg le) (rk : FVec Ideal S128x512 .f32) (n0 n1 : ℕ) (b0 : n0 ≤ 65536) (b1 : n1 ≤ 65536)
    (h0 : rk (ix2 (pickRow lg le 0) c) = ((n0 : ℝ) : EReal)) (h1 : rk (ix2 (pickRow lg le 1) c) = ((n1 : ℝ) : EReal)) (s : Fin 8) :
    idsBlk p q b rk (FloatOps.ofBits .f32 0x00000000#32) (ix2 s c) = idsWord lg le n0 n1 s.val := by
  have e0 := first_num (a := nth lg 0) (f := inGroup le (nth lg 0)) (expert_col h) (expert_maxs h)
  have e1 := second_num (a := nth lg 0) (f := inGroup le (nth lg 0)) (expert_col h) (expert_maxs h)
  have e2 := sel_sum _ rk (pickRow lg le 0) (hit1 h)
  have e3 := sel_sum _ rk (pickRow lg le 1) (hit2 h)
  unfold idsBlk
  generalize k0_pay19 (F := Ideal) rows (k0_pay16 p q b) (k0_pay18 p q b) = v82 at e0 ⊢
  generalize k0_pay22 (F := Ideal) rows (k0_pay16 p q b) (k0_pay18 p q b) = v94 at e1 ⊢
  generalize k0_pay29 (F := Ideal) rows (k0_pay16 p q b) (k0_pay18 p q b) = v111 at e2 ⊢
  generalize k0_pay30 (F := Ideal) rows (k0_pay16 p q b) (k0_pay18 p q b) = v113 at e3 ⊢
  unfold k0_pay34
  simp only [pointwise]
  have f2 := (congrArg (Ideal.fptosi 32) (e2.trans h0)).trans (nat_word n0 b0)
  have f3 := (congrArg (Ideal.fptosi 32) (e3.trans h1)).trans (nat_word n1 b1)
  have hne : ∀ (s : Fin 8) (k : Fin 4), s.val ≠ k.val → ¬IntOp.cmpi .eq (BitVec.ofNat 32 (0 * 8 + s.val)) (BitVec.ofNat 32 k.val) = 1 := by decide
  unfold Scalar.select at f2 f3 ⊢
  unfold idsWord
  by_cases s0 : s.val = 0
  · obtain rfl : s = 0 := Fin.ext s0
    exact (if_pos rfl).trans e0
  refine (if_neg (hne s 0 s0)).trans ?_
  rw [if_neg s0]
  by_cases s1 : s.val = 1
  · obtain rfl : s = 1 := Fin.ext s1
    exact (if_pos rfl).trans e1
  refine (if_neg (hne s 1 s1)).trans ?_
  rw [if_neg s1]
  by_cases s2 : s.val = 2
  · obtain rfl : s = 2 := Fin.ext s2
    exact (if_pos rfl).trans f2
  refine (if_neg (hne s 2 s2)).trans ?_
  rw [if_neg s2]
  by_cases s3 : s.val = 3
  · obtain rfl : s = 3 := Fin.ext s3
    exact (if_pos rfl).trans f3
  refine (if_neg (hne s 3 s3)).trans ?_
  rw [if_neg s3]

theorem gates_apply (h : Column p q b c lg le) (r : Fin 128) : gatesBlk (F := Ideal) p q b (ix2 c r) = weight lg le r.val := by
  unfold gatesBlk k0_pay1 k0_pay35
  simp only [pointwise]
  rw [rows_apply]
  have hw : ∀ r : Fin 128, (IntOp.cmpi .eq (BitVec.ofNat 32 r.val) 0#32 = BitVec.ofBool (decide (r.val = 0))) ∧ (IntOp.cmpi .eq (BitVec.ofNat 32 r.val) 1#32 = BitVec.ofBool (decide (r.val = 1))) := by decide
  rw [(hw r).1, (hw r).2]
  have e0 := first_gate (lg := lg) (v65 := k0_pay15 (F := Ideal) p q b) (expert_col h) (expert_maxs h) (expert_max h) (group_prob h)
  have e1 := second_gate (lg := lg) (v65 := k0_pay15 (F := Ideal) p q b) (expert_col h) (expert_maxs h) (expert_max h) (group_prob h)
  unfold weight Scalar.select
  by_cases h0 : r.val = 0
  · rw [decide_eq_true h0, if_pos (by decide), if_pos h0]; exact e0
  · rw [decide_eq_false h0, if_neg (by decide), if_neg h0]
    by_cases h1 : r.val = 1
    · rw [decide_eq_true h1, if_pos (by decide), if_pos h1]; exact e1
    · rw [decide_eq_false h1, if_neg (by decide), if_neg h1]

end Cert.RouteKernelIdeal.Block

end
-- ==== Proof.AttnFinite.lean ====
/- The precondition of the attention's value claim: every element of the three arguments is a real number. -/
module

public import proofs.«01_k».proof.Proof.Gen.Pre_finite
public import Idealize.ShloMosaic.Lib.ReduceAll
public import Idealize.ShloMosaic.PureOps.Ideal
public import Idealize.ShloMosaic.Lib.Pointwise

@[expose] public section

noncomputable section

namespace Cert.Pre_finite

open Idealize.ShloMosaic

/-- A number whose absolute value is below infinity is a real. -/
theorem real_of_lt (y : EReal) (h : BitVec.ofBool (decide (max y (-y) < (Ideal.ofBits .f32 0x7F800000#32 : EReal))) = 1#1) : ∃ z : ℝ, y = (z : EReal) := by
  have e : (Ideal.ofBits .f32 0x7F800000#32 : EReal) = ⊤ := by simp [Ideal.ofBits, Ideal.ieee]
  rw [e] at h
  induction y using EReal.rec with
  | bot => simp at h
  | top => simp at h
  | coe z => exact ⟨z, rfl⟩

/-- Two bits whose conjunction is set are both set. -/
theorem andi_one : ∀ a b : BitVec 1, a &&& b = 1#1 → a = 1#1 ∧ b = 1#1 := by decide

instance : Subsingleton S_.Idx := ⟨fun _ _ => funext fun a => a.elim0⟩

/-- What the precondition says. -/
theorem reals (x : FVec Ideal S32768x1536 .bf16) (rel : FVec Ideal S32x16 .f32) (s : FVec Ideal S16 .f32) (h : fn (F := Ideal) x rel s = fun _ => 1#1) :
    (∀ i, ∃ z : ℝ, x i = (z : EReal)) ∧ (∀ i, ∃ z : ℝ, rel i = (z : EReal)) ∧ (∀ i, ∃ z : ℝ, s i = (z : EReal)) := by
  have e := congrFun h (Shape.Idx.first Facts.h_S_)
  obtain ⟨e12, e3⟩ := andi_one _ _ e
  obtain ⟨e1, e2⟩ := andi_one _ _ e12
  exact ⟨fun i => real_of_lt (x i) (Host.reduce_andi_all _ _ _ _ _ e1 i), fun i => real_of_lt (rel i) (Host.reduce_andi_all _ _ _ _ _ e2 i),
    fun i => real_of_lt (s i) (Host.reduce_andi_all _ _ _ _ _ e3 i)⟩

end Cert.Pre_finite

end
-- ==== Proof.RouteReal.lean ====
/- WHAT THE ROUTER'S PRECONDITION GIVES. The weight of the norm and the router's matrices and biases are real numbers; a normalised row is
   then real whatever the row holds, and so is every logit. -/
module

public import proofs.«01_k».proof.Proof.Gen.Pre_real
public import proofs.«01_k».proof.Proof.AttnFinite
public import proofs.«01_k».proof.Proof.Norm

@[expose] public section

noncomputable section

namespace Cert.Pre_real

open Idealize.ShloMosaic

instance : Subsingleton S_.Idx := ⟨fun _ _ => funext fun a => a.elim0⟩

/-- What the precondition says. -/
theorem reals (a : FVec Ideal S32768x1024 .bf16) (w : FVec Ideal S1024x1024 .bf16) (x : FVec Ideal S32768x1024 .f32) (ln : FVec Ideal S1024 .f32)
    (wg : FVec Ideal S1024x8 .f32) (bg : FVec Ideal S8 .f32) (we : FVec Ideal S1024x64 .f32) (be : FVec Ideal S64 .f32)
    (h : fn (F := Ideal) a w x ln wg bg we be = fun _ => 1#1) :
    (∀ i, ∃ z : ℝ, ln i = (z : EReal)) ∧ (∀ i, ∃ z : ℝ, wg i = (z : EReal)) ∧ (∀ i, ∃ z : ℝ, bg i = (z : EReal))
      ∧ (∀ i, ∃ z : ℝ, we i = (z : EReal)) ∧ (∀ i, ∃ z : ℝ, be i = (z : EReal)) := by
  have e := congrFun h (Shape.Idx.first Facts.h_S_)
  obtain ⟨e, e5⟩ := Cert.Pre_finite.andi_one _ _ e
  obtain ⟨e, e4⟩ := Cert.Pre_finite.andi_one _ _ e
  obtain ⟨e, e3⟩ := Cert.Pre_finite.andi_one _ _ e
  obtain ⟨e1, e2⟩ := Cert.Pre_finite.andi_one _ _ e
  exact ⟨fun i => Cert.Pre_finite.real_of_lt (ln i) (Host.reduce_andi_all _ _ _ _ _ e1 i), fun i => Cert.Pre_finite.real_of_lt (wg i) (Host.reduce_andi_all _ _ _ _ _ e2 i),
    fun i => Cert.Pre_finite.real_of_lt (bg i) (Host.reduce_andi_all _ _ _ _ _ e3 i), fun i => Cert.Pre_finite.real_of_lt (we i) (Host.reduce_andi_all _ _ _ _ _ e4 i),
    fun i => Cert.Pre_finite.real_of_lt (be i) (Host.reduce_andi_all _ _ _ _ _ e5 i)⟩

end Cert.Pre_real

namespace Cert.Proof

open Idealize.ShloMosaic
open scoped BigOperators

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) _ _

theorem square_nonneg (x : EReal) : 0 ≤ x * x := by
  induction x using EReal.rec with
  | bot => simp
  | top => simp
  | coe z => rw [← EReal.coe_mul]; exact_mod_cast mul_self_nonneg z

theorem square_top (x : EReal) (h : ¬∃ z : ℝ, x = (z : EReal)) : x * x = ⊤ := by
  induction x using EReal.rec with
  | bot => simp
  | top => simp
  | coe z => exact absurd ⟨z, rfl⟩ h

theorem count_real : Ideal.ofBits .f32 0x44800000#32 = ((1024 : ℝ) : EReal) := by
  simp [Ideal.ofBits, Ideal.ieee]
  rw [← EReal.coe_mul]
  norm_num

theorem small_real : ∃ z : ℝ, 0 < z ∧ Ideal.ofBits .f32 0x358637BD#32 = (z : EReal) := by
  simp [Ideal.ofBits, Ideal.ieee]
  rw [← EReal.coe_mul]
  exact ⟨_, by norm_num, rfl⟩

/-- A normalised element is real when the weight is: an infinite entry makes the mean square infinite, and its reciprocal root is zero. -/
theorem nrm_real (row : Fin 1024 → EReal) (k : Fin 1024) (g : EReal) (hg : ∃ z : ℝ, g = (z : EReal)) : ∃ z : ℝ, nrm row (row k) g = (z : EReal) := by
  obtain ⟨g, rfl⟩ := hg
  obtain ⟨s, hs, es⟩ := small_real
  unfold nrm
  rw [count_real, es]
  by_cases h : ∀ j, ∃ z : ℝ, row j = (z : EReal)
  · choose f hf using h
    have e : ∑ j, row j * row j = ((∑ j, f j * f j : ℝ) : EReal) := by
      rw [coe_sum]; exact Finset.sum_congr rfl fun j _ => by rw [hf, EReal.coe_mul]
    have hp : 0 < (∑ j, f j * f j) / 1024 + s := add_pos_of_nonneg_of_pos (div_nonneg (Finset.sum_nonneg fun j _ => mul_self_nonneg _) (by norm_num)) hs
    rw [e, hf, show Ideal.div ((∑ j, f j * f j : ℝ) : EReal) ((1024 : ℝ) : EReal) = (((∑ j, f j * f j) / 1024 : ℝ) : EReal) by
      unfold Ideal.div
      rw [if_neg (by exact_mod_cast (by norm_num : (1024 : ℝ) ≠ 0)), ← EReal.coe_inv, ← EReal.coe_mul, div_eq_mul_inv],
      ← EReal.coe_add, Ideal.rsqrt_coe, if_neg hp.not_gt, if_neg hp.ne', ← EReal.coe_mul, ← EReal.coe_mul]
    exact ⟨_, rfl⟩
  · push Not at h
    obtain ⟨j, hj⟩ := h
    have e : ∑ j, row j * row j = ⊤ :=
      top_le_iff.mp ((square_top (row j) (fun ⟨z, hz⟩ => hj z hz)).symm.le.trans (Finset.single_le_sum (f := fun j => row j * row j) (fun i _ => square_nonneg (row i)) (Finset.mem_univ j)))
    have e2 : Ideal.div ⊤ ((1024 : ℝ) : EReal) = ⊤ := by
      unfold Ideal.div
      rw [if_neg (by exact_mod_cast (by norm_num : (1024 : ℝ) ≠ 0)), ← EReal.coe_inv]
      exact EReal.top_mul_coe_of_pos (by norm_num)
    rw [e, e2, EReal.top_add_coe, show Ideal.rsqrt ⊤ = 0 from rfl, mul_zero, zero_mul]
    exact ⟨0, rfl⟩

/-- A product of numbers, plus a number, is a number. -/
theorem dot_real (h w : Fin 1024 → EReal) (b : EReal) (hh : ∀ k, ∃ z : ℝ, h k = (z : EReal)) (hw : ∀ k, ∃ z : ℝ, w k = (z : EReal)) (hb : ∃ z : ℝ, b = (z : EReal)) :
    ∃ z : ℝ, ∑ k, h k * w k + b = (z : EReal) := by
  choose f hf using hh
  choose g hg using hw
  obtain ⟨b, rfl⟩ := hb
  refine ⟨∑ k, f k * g k + b, ?_⟩
  rw [EReal.coe_add, coe_sum]
  exact congrArg (· + (b : EReal)) (Finset.sum_congr rfl fun k _ => by rw [hf, hg, EReal.coe_mul])

/-- The product in three pieces: what is left of a number when the number itself is taken away is zero. -/
theorem split_dot (h w : Fin 1024 → EReal) (b : EReal) (hh : ∀ k, ∃ z : ℝ, h k = (z : EReal)) (hw : ∀ k, ∃ z : ℝ, w k = (z : EReal)) :
    ∑ k, w k * h k + (∑ k, (w k - w k) * h k + ∑ k, w k * (h k - h k)) + b = ∑ k, h k * w k + b := by
  have z : ∀ x : EReal, (∃ z : ℝ, x = (z : EReal)) → x - x = 0 := fun x ⟨z, hz⟩ => by rw [hz, ← EReal.coe_sub, sub_self, EReal.coe_zero]
  have e1 : ∑ k, (w k - w k) * h k = 0 := Finset.sum_eq_zero fun k _ => by rw [z _ (hw k), zero_mul]
  have e2 : ∑ k, w k * (h k - h k) = 0 := Finset.sum_eq_zero fun k _ => by rw [z _ (hh k), mul_zero]
  rw [e1, e2, add_zero, add_zero]
  exact congrArg (· + b) (Finset.sum_congr rfl fun k _ => mul_comm _ _)

/-! ## A token's logits -/

/-- A token's row: the block's own input plus the projected heads. -/
def tokRow (a : Fin 1024 → EReal) (w : Fin 1024 → Fin 1024 → EReal) (x : Fin 1024 → EReal) (n : Fin 1024) : EReal := x n + ∑ k, a k * w k n

/-- The router's input at one token. -/
def tokNorm (a : Fin 1024 → EReal) (w : Fin 1024 → Fin 1024 → EReal) (x ln : Fin 1024 → EReal) (k : Fin 1024) : EReal :=
  nrm (tokRow a w x) (tokRow a w x k) (ln k)

theorem tokNorm_real (a : Fin 1024 → EReal) (w : Fin 1024 → Fin 1024 → EReal) (x ln : Fin 1024 → EReal) (hl : ∀ k, ∃ z : ℝ, ln k = (z : EReal)) (k : Fin 1024) :
    ∃ z : ℝ, tokNorm a w x ln k = (z : EReal) := nrm_real _ _ _ (hl k)

/-- One logit, as a real number. -/
def tokLogit (a : Fin 1024 → EReal) (w : Fin 1024 → Fin 1024 → EReal) (x ln wc : Fin 1024 → EReal) (b : EReal) : ℝ :=
  (∑ k, tokNorm a w x ln k * wc k + b).toReal

theorem tokLogit_eq (a : Fin 1024 → EReal) (w : Fin 1024 → Fin 1024 → EReal) (x ln wc : Fin 1024 → EReal) (b : EReal)
    (hl : ∀ k, ∃ z : ℝ, ln k = (z : EReal)) (hw : ∀ k, ∃ z : ℝ, wc k = (z : EReal)) (hb : ∃ z : ℝ, b = (z : EReal)) :
    ∑ k, tokNorm a w x ln k * wc k + b = (tokLogit a w x ln wc b : EReal) := by
  obtain ⟨z, hz⟩ := dot_real (tokNorm a w x ln) wc b (tokNorm_real a w x ln hl) hw hb
  unfold tokLogit
  rw [hz, EReal.toReal_coe]

end Cert.Proof

end
-- ==== Proof.RouteTally.lean ====
/- HOW MANY TOKENS CHOSE AN EXPERT. The kernel counts them as a sum over its blocks, and a token's place among them by a product with a square
   of ones and zeros; both are the number of tokens that chose the expert before a given one (`seen`). -/
module

public import proofs.«01_k».proof.Proof.RouteColumn
public import proofs.«01_k».proof.Proof.RouteReal

@[expose] public section

set_option maxRecDepth 16384

noncomputable section

namespace Cert.RouteKernelIdeal.Block

open Cert.RouteKernelIdeal Cert.RouteKernelIdeal.Gen Cert.Proof
open Idealize.ShloMosaic Idealize.ShloMosaic.TcCoe Idealize.SL.Sem
open scoped BigOperators

/-- 1 where a token chose expert `e`. -/
def took (lg : Fin 8 → ℝ) (le : Fin 64 → ℝ) (e : ℕ) : ℕ := if e = pick lg le 0 ∨ e = pick lg le 1 then 1 else 0

theorem took_le (lg : Fin 8 → ℝ) (le : Fin 64 → ℝ) (e : ℕ) : took lg le e ≤ 1 := by unfold took; split <;> omega

section
variable (G : Fin 32768 → Fin 8 → ℝ) (L : Fin 32768 → Fin 64 → ℝ)

/-- The same of token `j`. -/
def tookAt (e j : ℕ) : ℕ := if h : j < 32768 then took (G ⟨j, h⟩) (L ⟨j, h⟩) e else 0

/-- How many of the first `n` tokens chose expert `e`. -/
def seen (e n : ℕ) : ℕ := ∑ j ∈ Finset.range n, tookAt G L e j

theorem seen_le (e n : ℕ) : seen G L e n ≤ n := by
  refine (Finset.sum_le_card_nsmul _ _ 1 fun j _ => ?_).trans (by simp)
  unfold tookAt
  split
  · exact took_le _ _ _
  · exact Nat.zero_le _

theorem seen_none (e n : ℕ) (he : 64 ≤ e) : seen G L e n = 0 := Finset.sum_eq_zero fun j _ => by
  unfold tookAt
  split
  · rename_i h
    have h0 := pick_lt (G ⟨j, h⟩) (L ⟨j, h⟩) 0
    have h1 := pick_lt (G ⟨j, h⟩) (L ⟨j, h⟩) 1
    exact if_neg (by omega)
  · rfl

/-- The tokens before token `k` of point `t`'s block: those before the block, and those of the block. -/
theorem seen_block (t : Fin cfg0.N) (e k : ℕ) (hk : k ≤ 512) :
    seen G L e (t.val * 512 + k) = seen G L e (t.val * 512) + ∑ j : Fin 512, if j.val < k then took (G (row t j)) (L (row t j)) e else 0 := by
  have hj : ∀ j : Fin 512, (if j.val < k then took (G (row t j)) (L (row t j)) e else 0) = (fun j : ℕ => if j < k then tookAt G L e (t.val * 512 + j) else 0) j.val := fun j => by
    have e : tookAt G L e (t.val * 512 + j.val) = took (G (row t j)) (L (row t j)) e := dif_pos (row t j).isLt
    dsimp only
    rw [e]
  unfold seen
  rw [Finset.sum_range_add, Finset.sum_congr rfl fun j _ => hj j, Fin.sum_univ_eq_sum_range (fun j : ℕ => if j < k then tookAt G L e (t.val * 512 + j) else 0) 512, ← Finset.sum_filter]
  refine congrArg₂ (· + ·) rfl (Finset.sum_congr (Finset.ext fun j => ?_) fun _ _ => rfl)
  rw [Finset.mem_range, Finset.mem_filter, Finset.mem_range]
  omega

end

theorem nat_sum {n : ℕ} (f : Fin n → ℕ) : (((∑ k, f k : ℕ) : ℝ) : EReal) = ∑ k, ((f k : ℝ) : EReal) := by rw [Nat.cast_sum, coe_sum]

/-! ## One block -/

variable {p : FVec Ideal S256x512 .f32} {q : FVec Ideal S128x512 .f32} {b : Vec Ideal S128x1 .f32} {lg : Fin 512 → Fin 8 → ℝ} {le : Fin 512 → Fin 64 → ℝ}

theorem hits_apply (h : ∀ c, Column p q b c (lg c) (le c)) (r : Fin 128) (c : Fin 512) : hits (F := Ideal) p q b (ix2 r c) = ((took (lg c) (le c) r.val : ℝ) : EReal) := by
  unfold hits k0_pay31
  simp only [pointwise]
  rw [hit1 (h c), hit2 (h c)]
  unfold took
  by_cases h0 : r.val = pick (lg c) (le c) 0
  · rw [if_pos (Or.inl h0), decide_eq_true h0]
    generalize decide (r.val = pick (lg c) (le c) 1) = d
    show ((((BitVec.setWidth 32 (IntOp.ori (BitVec.ofBool true) (BitVec.ofBool d))).toInt : ℝ)) : EReal) = _
    rw [show (BitVec.setWidth 32 (IntOp.ori (BitVec.ofBool true) (BitVec.ofBool d))).toInt = 1 by revert d; decide]
    norm_num
  · by_cases h1 : r.val = pick (lg c) (le c) 1
    · rw [if_pos (Or.inr h1), decide_eq_true h1, decide_eq_false h0]
      show ((((BitVec.setWidth 32 (IntOp.ori (BitVec.ofBool false) (BitVec.ofBool true))).toInt : ℝ)) : EReal) = _
      rw [show (BitVec.setWidth 32 (IntOp.ori (BitVec.ofBool false) (BitVec.ofBool true))).toInt = 1 by decide]
      norm_num
    · rw [if_neg (not_or.mpr ⟨h0, h1⟩), decide_eq_false h0, decide_eq_false h1]
      show ((((BitVec.setWidth 32 (IntOp.ori (BitVec.ofBool false) (BitVec.ofBool false))).toInt : ℝ)) : EReal) = _
      rw [show (BitVec.setWidth 32 (IntOp.ori (BitVec.ofBool false) (BitVec.ofBool false))).toInt = 0 by decide]
      norm_num

theorem tally_apply (h : ∀ c, Column p q b c (lg c) (le c)) (y : Vec Ideal S128x128 .f32) (r l : Fin 128) (n : ℕ) (hy : y (ix2 r l) = ((n : ℝ) : EReal)) :
    tally (F := Ideal) p q b y (ix2 r l) = (((n + ∑ c, took (lg c) (le c) r.val : ℕ) : ℝ) : EReal) := by
  unfold tally k0_pay33
  simp only [pointwise]
  rw [Nat.cast_add, EReal.coe_add, nat_sum, ← hy]
  exact congrArg (y (ix2 r l) + ·) (Finset.sum_congr rfl fun c _ => hits_apply h r c)

theorem ranks_apply (h : ∀ c, Column p q b c (lg c) (le c)) (E : Vec Ideal S512x512 .bf16) (hE : ∀ j k : Fin 512, E (ix2 j k) = (((if j.val < k.val then 1 else 0 : ℕ) : ℝ) : EReal))
    (y : Vec Ideal S128x128 .f32) (r : Fin 128) (c : Fin 512) (n : ℕ) (hy : y (ix2 r 0) = ((n : ℝ) : EReal)) :
    ranks (F := Ideal) p q b E y (ix2 r c) = (((n + ∑ j : Fin 512, (if j.val < c.val then took (lg j) (le j) r.val else 0) : ℕ) : ℝ) : EReal) := by
  unfold ranks k0_pay32
  simp only [pointwise]
  rw [Nat.cast_add, EReal.coe_add, nat_sum, ← hy, add_comm (y (ix2 r 0))]
  refine congrArg₂ (· + ·) ((zero_add _).trans (Finset.sum_congr rfl fun j _ => ?_)) (congrArg y (congrArg₂ ix2 (Fin.ext ?_) rfl))
  · refine (congrArg₂ (· * ·) (hits_apply h r j) (hE j c)).trans ?_
    rw [← EReal.coe_mul, ← Nat.cast_mul]
    split
    · rw [Nat.mul_one]
    · rw [Nat.mul_zero]
  · show 0 + 1 * r.val = r.val; omega

end Cert.RouteKernelIdeal.Block

end
-- ==== Proof.RouteRun.lean ====
/- THE ROUTER'S BLOCKS IN TERMS OF THE LOGITS. A point is handed its rows, the weight of the norm, and the router's matrix and bias; from them its
   logits follow (`column_of`), from the logits of all points what was counted before each of them (`before_seen`), and from both the
   numbers it leaves and what it counts (`ids_block`, `tally_block`). Nothing here depends on how the rows came about, so both calls of the router use it. -/
module

public import proofs.«01_k».proof.Proof.RouteTally

@[expose] public section

set_option maxRecDepth 16384

noncomputable section

namespace Cert.RouteKernelIdeal.Block

open Cert.RouteKernelIdeal Cert.RouteKernelIdeal.Gen Cert.Proof
open Idealize.ShloMosaic Idealize.ShloMosaic.TcCoe Idealize.SL.Sem
open scoped BigOperators

/-- The group's logits of token `i`. -/
def groupLogit (a : Vec Ideal S32768x1024 .bf16) (w : Vec Ideal S1024x1024 .bf16) (x : Vec Ideal S32768x1024 .f32) (ln : Vec Ideal S1024 .f32)
    (wg : Vec Ideal S1024x8 .f32) (bg : Vec Ideal S8 .f32) (i : Fin 32768) (g : Fin 8) : ℝ :=
  tokLogit (fun k => a (ix2 i k)) (fun k n => w (ix2 k n)) (fun n => x (ix2 i n)) (fun k => ln (ix1 k)) (fun k => wg (ix2 k g)) (bg (ix1 g))

/-- The experts' logits of token `i`. -/
def expertLogit (a : Vec Ideal S32768x1024 .bf16) (w : Vec Ideal S1024x1024 .bf16) (x : Vec Ideal S32768x1024 .f32) (ln : Vec Ideal S1024 .f32)
    (we : Vec Ideal S1024x64 .f32) (be : Vec Ideal S64 .f32) (i : Fin 32768) (e : Fin 64) : ℝ :=
  tokLogit (fun k => a (ix2 i k)) (fun k n => w (ix2 k n)) (fun n => x (ix2 i n)) (fun k => ln (ix1 k)) (fun k => we (ix2 k e)) (be (ix1 e))

/-- A column of a point's logits is the logits of token `i` when the row under it is token `i`'s row. -/
theorem column_of (a : Vec Ideal S32768x1024 .bf16) (w : Vec Ideal S1024x1024 .bf16) (res : Vec Ideal S32768x1024 .f32) (ln : Vec Ideal S1024 .f32)
    (wg : Vec Ideal S1024x8 .f32) (bg : Vec Ideal S8 .f32) (we : Vec Ideal S1024x64 .f32) (be : Vec Ideal S64 .f32)
    (h3 : ∀ i, ∃ z : ℝ, ln i = (z : EReal)) (h4 : ∀ i, ∃ z : ℝ, wg i = (z : EReal)) (h5 : ∀ i, ∃ z : ℝ, bg i = (z : EReal))
    (h6 : ∀ i, ∃ z : ℝ, we i = (z : EReal)) (h7 : ∀ i, ∃ z : ℝ, be i = (z : EReal))
    (x : Vec Ideal S512x1024 .f32) (g : Vec Ideal S1x1024 .f32) (i : Fin 32768) (r : Fin 512)
    (hx : ∀ n, x (ix2 r n) = tokRow (fun k => a (ix2 i k)) (fun k n => w (ix2 k n)) (fun n => res (ix2 i n)) n) (hg : ∀ k, g (ix2 0 k) = ln (ix1 k)) :
    Column (prodP x g (scr (wr we wg))) (prodQ x g (scr (wr we wg))) (br be bg) r (groupLogit a w res ln wg bg i) (expertLogit a w res ln we be i) := by
  have hn : ∀ k, k0_pay8 (F := Ideal) x g (ix2 r k)
      = tokNorm (fun k => a (ix2 i k)) (fun k n => w (ix2 k n)) (fun n => res (ix2 i n)) (fun k => ln (ix1 k)) k := fun k => by
    rw [pay8_apply, hg]
    unfold tokNorm
    rw [funext hx, hx]
  refine ⟨fun j => ?_, fun e => ?_⟩
  · refine (logit_apply _ _ _ _ (at8 64 (by decide) j) r _ hn).trans ?_
    have ew : ∀ k, wr we wg (ix2 k (at8 64 (by decide) j)) = wg (ix2 k j) := fun k => wr_group we wg k j
    have eb : br be bg (ix2 (at8 64 (by decide) j) 0) = bg (ix1 j) := br_group be bg j
    refine Eq.trans ?_ ((split_dot _ _ _ (tokNorm_real _ _ _ _ fun k => h3 _) (fun k => h4 _)).trans (tokLogit_eq _ _ _ _ _ _ (fun k => h3 _) (fun k => h4 _) (h5 (ix1 j))))
    rw [eb]
    simp only [← ew]
  · refine (logit_apply _ _ _ _ (⟨e.val, by omega⟩ : Fin 128) r _ hn).trans ?_
    refine Eq.trans ?_ ((split_dot _ _ _ (tokNorm_real _ _ _ _ fun k => h3 _) (fun k => h6 _)).trans (tokLogit_eq _ _ _ _ _ _ (fun k => h3 _) (fun k => h6 _) (h7 (ix1 e))))
    rw [br_expert]
    simp only [← wr_expert we wg]

/-! ## From the columns to the blocks -/

variable {p : Fin cfg0.N → FVec Ideal S256x512 .f32} {q : Fin cfg0.N → FVec Ideal S128x512 .f32} {b : Vec Ideal S128x1 .f32}
  {G : Fin 32768 → Fin 8 → ℝ} {L : Fin 32768 → Fin 64 → ℝ} (h : ∀ t r, Column (p t) (q t) b r (G (row t r)) (L (row t r)))

include h

/-- What a point counts with the points before it: the tokens up to the end of its block. -/
theorem tally_block (t : Fin cfg0.N) (y : Vec Ideal S128x128 .f32) (r l : Fin 128) (hy : y (ix2 r l) = ((seen G L r.val (t.val * 512) : ℝ) : EReal)) :
    tally (F := Ideal) (p t) (q t) b y (ix2 r l) = ((seen G L r.val (t.val * 512 + 512) : ℝ) : EReal) := by
  rw [tally_apply (h t) _ r l _ hy, seen_block _ _ t r.val 512 (Nat.le_refl _)]
  simp only [if_pos (Fin.isLt _)]

/-- What was counted before a point: the tokens of the points before it. -/
theorem before_seen (y : Fin cfg0.N → Vec Ideal S128x128 .f32) (h0 : ∀ hn, y ⟨0, hn⟩ = k0_pay3 (F := Ideal))
    (hs : ∀ n (hn : n + 1 < cfg0.N), y ⟨n + 1, hn⟩ = tally (p ⟨n, Nat.lt_of_succ_lt hn⟩) (q ⟨n, Nat.lt_of_succ_lt hn⟩) b (y ⟨n, Nat.lt_of_succ_lt hn⟩))
    (n : ℕ) (hn : n < cfg0.N) (r l : Fin 128) : y ⟨n, hn⟩ (ix2 r l) = ((seen G L r.val (n * 512) : ℝ) : EReal) := by
  induction n with
  | zero =>
    rw [h0, Nat.zero_mul]
    show Ideal.ofBits .f32 0x00000000#32 = _
    simp [Ideal.ofBits, Ideal.ieee, seen]
  | succ n ih => rw [hs n hn, tally_block h ⟨n, Nat.lt_of_succ_lt hn⟩ _ r l (ih (Nat.lt_of_succ_lt hn)), Nat.succ_mul]

/-- The numbers a point leaves. -/
theorem ids_block (t : Fin cfg0.N) (y : Vec Ideal S128x128 .f32) (hy : ∀ r l : Fin 128, y (ix2 r l) = ((seen G L r.val (t.val * 512) : ℝ) : EReal))
    (E : Vec Ideal S512x512 .bf16) (hE : ∀ j k : Fin 512, E (ix2 j k) = (((if j.val < k.val then 1 else 0 : ℕ) : ℝ) : EReal)) (s : Fin 8) (r : Fin 512) :
    idsBlk (F := Ideal) (p t) (q t) b (ranks (p t) (q t) b E y) (FloatOps.ofBits .f32 0x00000000#32) (ix2 s r) = idsWord (G (row t r)) (L (row t r))
      (seen G L (pick (G (row t r)) (L (row t r)) 0) (row t r).val) (seen G L (pick (G (row t r)) (L (row t r)) 1) (row t r).val) s.val := by
  have hr : ∀ e : Fin 128, ranks (F := Ideal) (p t) (q t) b E y (ix2 e r) = ((seen G L e.val (row t r).val : ℝ) : EReal) := fun e => by
    rw [ranks_apply (h t) _ hE _ e r _ (hy e 0)]
    exact congrArg (fun n : ℕ => ((n : ℝ) : EReal)) (seen_block _ _ t e.val r.val r.isLt.le).symm
  have hb : ∀ e, seen G L e (row t r).val ≤ 65536 := fun e => (seen_le _ _ _ _).trans (by have := (row t r).isLt; omega)
  exact ids_apply (h t r) _ _ _ (hb _) (hb _) (hr _) (hr _) s

omit h in
/-- Every token is a row of some point's block. -/
theorem row_surj (i : Fin 32768) : ∃ (t : Fin cfg0.N) (r : Fin 512), row t r = i :=
  ⟨⟨i.val / 512, by have := N_eq; have := i.isLt; omega⟩, ⟨i.val % 512, Nat.mod_lt _ (by decide)⟩, Fin.ext (by show i.val / 512 * 512 + i.val % 512 = i.val; omega)⟩

end Cert.RouteKernelIdeal.Block

end
-- ==== Proof.RouteKept.lean ====
/- THE RESULTS OF THE ROUTER'S KERNEL. The numbers' array holds a token's two experts and how many tokens before it chose each of them, the
   weights' array its two weights, the counts' array how many tokens chose an expert; `ids_eq`, `gates_eq` and `counts_eq` give them as
   functions of the tokens' logits. -/
module

public import proofs.«01_k».proof.Proof.RouteRun

@[expose] public section

set_option maxRecDepth 16384

noncomputable section

namespace Cert.RouteKernelIdeal.Block

open Cert.RouteKernelIdeal Cert.RouteKernelIdeal.Gen Cert.Proof
open Idealize.ShloMosaic Idealize.ShloMosaic.TcCoe Idealize.SL.Sem
open scoped BigOperators

variable (m : (ℓ : Loc nD τ sig) → Buf (Elt Ideal) ℓ) (c : Dev nD)

/-- The logits, of the arguments in memory. -/
abbrev memGroup (i : Fin 32768) : Fin 8 → ℝ :=
  groupLogit (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) i
abbrev memExpert (i : Fin 32768) : Fin 64 → ℝ :=
  expertLogit (m ((c : Thread nD τ).loc main_arg0)) (m ((c : Thread nD τ).loc main_arg1)) (m ((c : Thread nD τ).loc main_arg2)) (m ((c : Thread nD τ).loc main_arg3))
    (m ((c : Thread nD τ).loc main_arg6)) (m ((c : Thread nD τ).loc main_arg7)) i

theorem row_apply (t : Fin cfg0.N) (r : Fin 512) (n : Fin 1024) : k0_pay2 (F := Ideal) (iblk m c 2 t) (iblk m c 0 t) (iblk m c 1 t) (ix2 r n)
      = tokRow (fun k => m ((c : Thread nD τ).loc main_arg0) (ix2 (row t r) k)) (fun k n => m ((c : Thread nD τ).loc main_arg1) (ix2 k n))
          (fun n => m ((c : Thread nD τ).loc main_arg2) (ix2 (row t r) n)) n := by
  rw [pay2_apply, iblk2_apply]
  unfold tokRow
  exact congrArg₂ (· + ·) rfl (Finset.sum_congr rfl fun k _ => by rw [iblk0_apply, iblk1_apply])

variable (h3 : ∀ i, ∃ z : ℝ, m ((c : Thread nD τ).loc main_arg3) i = (z : EReal)) (h4 : ∀ i, ∃ z : ℝ, m ((c : Thread nD τ).loc main_arg4) i = (z : EReal))
  (h5 : ∀ i, ∃ z : ℝ, m ((c : Thread nD τ).loc main_arg5) i = (z : EReal)) (h6 : ∀ i, ∃ z : ℝ, m ((c : Thread nD τ).loc main_arg6) i = (z : EReal))
  (h7 : ∀ i, ∃ z : ℝ, m ((c : Thread nD τ).loc main_arg7) i = (z : EReal))

include h3 h4 h5 h6 h7

theorem column (t : Fin cfg0.N) (r : Fin 512) : Column (P m c t) (Q m c t) (memB m c) r (memGroup m c (row t r)) (memExpert m c (row t r)) :=
  column_of _ _ _ _ _ _ _ _ h3 h4 h5 h6 h7 _ _ _ _ (row_apply m c t r) (iblk3_apply m c t)

theorem before_apply (t : Fin cfg0.N) (r l : Fin 128) : before m c t (ix2 r l) = ((seen (memGroup m c) (memExpert m c) r.val (t.val * 512) : ℝ) : EReal) :=
  before_seen (column m c h3 h4 h5 h6 h7) (before m c) (fun _ => if_pos (show 0 % 64 = 0 from rfl))
    (fun n hn => (if_neg (show ¬(n + 1) % 64 = 0 by have := N_eq; omega)).trans (tally_after m c ⟨n, Nat.lt_of_succ_lt hn⟩)) t.val t.isLt r l

/-- The numbers' array. -/
theorem ids_row (s : Fin 8) (t : Fin cfg0.N) (r : Fin 512) :
    Value.G8 m c (ix2 s (row t r)) = idsWord (memGroup m c (row t r)) (memExpert m c (row t r))
      (seen (memGroup m c) (memExpert m c) (pick (memGroup m c (row t r)) (memExpert m c (row t r)) 0) (row t r).val)
      (seen (memGroup m c) (memExpert m c) (pick (memGroup m c (row t r)) (memExpert m c (row t r)) 1) (row t r).val) s.val := by
  obtain ⟨-, -, -, -, -, -, -, -, -, -, -, -, -, -, e0, e1, -⟩ := idx_facts t
  have hy : ((cfg0.win 8).blk t).view.emb (ix2 s r : S8x512.Idx) = (ix2 s (row t r) : S8x32768.Idx) := funext fun a => Fin.ext (by
    match a with
    | ⟨0, _⟩ => show win0_8.index t (0 : Fin 2) * 8 + 1 * s.val = s.val; omega
    | ⟨1, _⟩ => show win0_8.index t (1 : Fin 2) * 512 + 1 * r.val = t.val * 512 + r.val; omega)
  have f := congrFun ((Value.flushed8_eq m c t (flush0_8 t)).symm.trans (ids_flushed m c t)) (ix2 s r : S8x512.Idx)
  have f' : Value.G8 m c (((cfg0.win 8).blk t).view.emb (ix2 s r : S8x512.Idx)) = idsBlk (P m c t) (Q m c t) (memB m c)
    (ranks (P m c t) (Q m c t) (memB m c) (iblk m c 6 t) (before m c t)) (FloatOps.ofBits .f32 0x00000000#32) (ix2 s r) := f
  rw [hy] at f'
  rw [f']
  exact ids_block (column m c h3 h4 h5 h6 h7) t _ (before_apply m c h3 h4 h5 h6 h7 t) _ (iblk6_apply m c t) s r

/-- The weights' array. -/
theorem gates_row (n : Fin 128) (t : Fin cfg0.N) (r : Fin 512) :
    Value.G9 m c (ix2 (row t r) n) = weight (memGroup m c (row t r)) (memExpert m c (row t r)) n.val := by
  obtain ⟨-, -, -, -, -, -, -, -, -, -, -, -, -, -, -, -, e0, e1, -⟩ := idx_facts t
  have hy : ((cfg0.win 9).blk t).view.emb (ix2 r n : S512x128.Idx) = (ix2 (row t r) n : S32768x128.Idx) := funext fun a => Fin.ext (by
    match a with
    | ⟨0, _⟩ => show win0_9.index t (0 : Fin 2) * 512 + 1 * r.val = t.val * 512 + r.val; omega
    | ⟨1, _⟩ => show win0_9.index t (1 : Fin 2) * 128 + 1 * n.val = n.val; omega)
  have f := congrFun ((Value.flushed9_eq m c t (flush0_9 t)).symm.trans (gates_flushed m c t)) (ix2 r n : S512x128.Idx)
  have f' : Value.G9 m c (((cfg0.win 9).blk t).view.emb (ix2 r n : S512x128.Idx)) = gatesBlk (P m c t) (Q m c t) (memB m c) (ix2 r n) := f
  rw [hy] at f'
  rw [f']
  exact gates_apply (column m c h3 h4 h5 h6 h7 t r) n

theorem ids_eq (s : Fin 8) (i : Fin 32768) : Value.G8 m c (ix2 s i) = idsWord (memGroup m c i) (memExpert m c i)
      (seen (memGroup m c) (memExpert m c) (pick (memGroup m c i) (memExpert m c i) 0) i.val)
      (seen (memGroup m c) (memExpert m c) (pick (memGroup m c i) (memExpert m c i) 1) i.val) s.val := by
  obtain ⟨t, r, rfl⟩ := row_surj i
  exact ids_row m c h3 h4 h5 h6 h7 s t r

theorem gates_eq (i : Fin 32768) (n : Fin 128) : Value.G9 m c (ix2 i n) = weight (memGroup m c i) (memExpert m c i) n.val := by
  obtain ⟨t, r, rfl⟩ := row_surj i
  exact gates_row m c h3 h4 h5 h6 h7 n t r

/-- The counts' array: it leaves after the last point. -/
theorem counts_eq (r l : Fin 128) : Value.G10 m c (ix2 r l) = ((seen (memGroup m c) (memExpert m c) r.val 32768 : ℝ) : EReal) := by
  have ht : 63 < cfg0.N := by have := N_eq; omega
  obtain ⟨-, -, -, -, -, -, -, -, -, -, -, -, -, -, -, -, -, -, e0, e1⟩ := idx_facts ⟨63, ht⟩
  have hy : ((cfg0.win 10).blk ⟨63, ht⟩).view.emb (ix2 r l : S128x128.Idx) = (ix2 r l : S128x128.Idx) := funext fun a => Fin.ext (by
    match a with
    | ⟨0, _⟩ => show win0_10.index ⟨63, ht⟩ (0 : Fin 2) * 128 + 1 * r.val = r.val; omega
    | ⟨1, _⟩ => show win0_10.index ⟨63, ht⟩ (1 : Fin 2) * 128 + 1 * l.val = l.val; omega)
  have f := congrFun ((Value.flushed10_eq m c ⟨63, ht⟩ ((flush0_10 ⟨63, ht⟩).mpr rfl)).symm.trans (counts_flushed m c ⟨63, ht⟩)) (ix2 r l : S128x128.Idx)
  have f' : Value.G10 m c (((cfg0.win 10).blk ⟨63, ht⟩).view.emb (ix2 r l : S128x128.Idx))
    = tally (P m c ⟨63, ht⟩) (Q m c ⟨63, ht⟩) (memB m c) (before m c ⟨63, ht⟩) (ix2 r l) := f
  rw [hy] at f'
  rw [f']
  exact tally_block (column m c h3 h4 h5 h6 h7) ⟨63, ht⟩ _ r l (before_apply m c h3 h4 h5 h6 h7 ⟨63, ht⟩ r l)

end Cert.RouteKernelIdeal.Block

end
-- ==== Proof.RouteRef.lean ====
/- THE ROUTER'S REFERENCE. Its softmaxes, its two choices of the greatest, and the gather of the chosen group's logits, read at one token; its
   counts of the tokens that chose an expert. The results are the functions of the logits that the kernel's are. -/
module

public import proofs.«01_k».proof.Proof.Gen.RouteReferenceIdeal.Read
public import proofs.«01_k».proof.Proof.RouteKept
public import Idealize.ShloMosaic.Lib.KernelVsHost
public import Idealize.ShloMosaic.Lib.Routing.OpsOne

@[expose] public section

set_option maxRecDepth 16384

noncomputable section

namespace Cert.RouteReferenceIdeal.Block

open Cert.RouteReferenceIdeal Cert.RouteReferenceIdeal.Gen Cert.RouteReferenceIdeal.Read Cert.Proof
open Cert.RouteKernelIdeal.Block (inGroup pick pick_lt pick_ne weight idsWord word_eq took tookAt seen seen_le seen_none groupLogit expertLogit ninf)
open Idealize.ShloMosaic
open scoped BigOperators

/-! ## The pieces -/

theorem zero_bits : (FloatOps.ofBits .f32 0x00000000#32 : Ideal .f32) = 0 := by
  show Ideal.ofBits .f32 0x00000000#32 = 0
  simp [Ideal.ofBits, Ideal.ieee]

/-- The greatest of a row. -/
theorem row_max (y : Vec Ideal S32768x8 .f32) (z : Vec Ideal S_ .f32) (hz : z (Shape.Idx.first h_S_) = ⊥) (i : Fin 32768) (f : Fin 8 → ℝ) (hy : ∀ k, y (ix2 i k) = (f k : EReal)) :
    (Host.reduce (FloatOps.maximumf (F := Ideal) (φ := .f32)) y z reducesTo_S32768x8_S32768_d1 h_S_ : Vec Ideal S32768 .f32) (ix1 i) = (f (nth f 0) : EReal) := by
  have e : (Host.reduce (FloatOps.maximumf (F := Ideal) (φ := .f32)) y z reducesTo_S32768x8_S32768_d1 h_S_ : Vec Ideal S32768 .f32) (ix1 i) = Finset.fold max ⊥ (fun k : Fin 8 => y (ix2 i k)) Finset.univ := by
    simp only [pointwise]
    rw [hz]
  rw [e]
  refine le_antisymm ?_ ?_
  · exact (Finset.fold_max_le _).mpr ⟨bot_le, fun k _ => by rw [hy]; exact EReal.coe_le_coe_iff.mpr (first_le f k)⟩
  · exact (Finset.le_fold_max _).mpr (Or.inr ⟨nth f 0, Finset.mem_univ _, (hy _).symm.le⟩)

/-- One softmax weight. -/
theorem share (f : Fin 8 → ℝ) (k : Fin 8) :
    Ideal.div (Ideal.exp ((f k : EReal) - (f (nth f 0) : EReal))) (0 + ∑ j, Ideal.exp ((f j : EReal) - (f (nth f 0) : EReal))) = (smx f k : EReal) := by
  have e : ∀ j, Ideal.exp ((f j : EReal) - (f (nth f 0) : EReal)) = ((Real.exp (f j - f (nth f 0)) : ℝ) : EReal) := fun j => by rw [← EReal.coe_sub]; rfl
  rw [zero_add]
  simp only [e]
  rw [← coe_sum, div_real _ _ (expsum_pos f _)]
  rfl

theorem along_eq (i : Fin 32768) (r k : Fin 8) : (ix2 i r : S32768x8.Idx).along (1 : Fin 2) k = ix2 i k := funext fun a => by
  unfold Shape.Idx.along
  match a with
  | ⟨0, _⟩ => rfl
  | ⟨1, _⟩ => rfl

/-- The greatest of a row, in order. -/
theorem top_apply (n : ℕ) (x : Vec Ideal S32768x8 .f32) (h : S32768x8.Slices (fun _ => 0) (⟨2, ![32768, n]⟩ : Shape)) (i : Fin 32768) (r : Fin n) (s : Fin 8) (hs : s.val = r.val)
    (f : Fin 8 → ℝ) (hx : ∀ k, x (ix2 i k) = (f k : EReal)) :
    (Host.topK (⟨2, ![32768, n]⟩ : Shape) 1 (FloatOps.cmpfTotal (F := Ideal) (φ := .f32) .gt) x h).1 (ix2 i r) = (f (nth f s) : EReal)
      ∧ (Host.topK (⟨2, ![32768, n]⟩ : Shape) 1 (FloatOps.cmpfTotal (F := Ideal) (φ := .f32) .gt) x h).2 (ix2 i r) = BitVec.ofNat 32 (nth f s).val := by
  have ej : (fun a => ⟨(fun _ => 0 : Fin 2 → ℕ) a + ((ix2 i r : (⟨2, ![32768, n]⟩ : Shape).Idx) (a.cast h.1.symm)).val, Nat.lt_of_lt_of_le (Nat.add_lt_add_left (Fin.isLt _) _) (h.2 a)⟩ : S32768x8.Idx)
      = ix2 i s := funext fun a => Fin.ext (by
    match a with
    | ⟨0, _⟩ => exact Nat.zero_add _
    | ⟨1, _⟩ => exact (Nat.zero_add _).trans hs.symm)
  have eB : (fun k k' : Fin 8 => FloatOps.cmpfTotal (F := Ideal) (φ := .f32) .gt (x ((ix2 i s : S32768x8.Idx).along (1 : Fin 2) k)) (x ((ix2 i s : S32768x8.Idx).along (1 : Fin 2) k')) == 1#1) = gtB f :=
    funext fun k => funext fun k' => by
      rw [along_eq, along_eq, hx, hx]
      show (Ideal.cmpTotal .gt (f k : EReal) (f k' : EReal) == 1#1) = decide (f k' < f k)
      by_cases hl : f k' < f k
      · simp [Ideal.cmpTotal, CmpDirection.ordered, Ideal.cmp, hl]
      · simp [Ideal.cmpTotal, CmpDirection.ordered, Ideal.cmp, hl]
  have es : sortedFrom (fun k k' : Fin 8 => FloatOps.cmpfTotal (F := Ideal) (φ := .f32) .gt (x ((ix2 i s : S32768x8.Idx).along (1 : Fin 2) k)) (x ((ix2 i s : S32768x8.Idx).along (1 : Fin 2) k')) == 1#1) s = nth f s := by
    rw [eB]; rfl
  constructor
  · show x (Shape.Idx.along (s := S32768x8) (fun a => ⟨(fun _ => 0 : Fin 2 → ℕ) a + ((ix2 i r : (⟨2, ![32768, n]⟩ : Shape).Idx) (a.cast h.1.symm)).val, Nat.lt_of_lt_of_le (Nat.add_lt_add_left (Fin.isLt _) _) (h.2 a)⟩) (1 : Fin 2) (sortedFrom _ _)) = _
    rw [ej]
    refine Eq.trans ?_ (hx (nth f s))
    rw [← along_eq i s (nth f s), ← es]
    rfl
  · show BitVec.ofNat 32 (Shape.Idx.along (s := S32768x8) (fun a => ⟨(fun _ => 0 : Fin 2 → ℕ) a + ((ix2 i r : (⟨2, ![32768, n]⟩ : Shape).Idx) (a.cast h.1.symm)).val, Nat.lt_of_lt_of_le (Nat.add_lt_add_left (Fin.isLt _) _) (h.2 a)⟩) (1 : Fin 2) (sortedFrom _ _) (1 : Fin 2)).val = _
    rw [ej]
    refine Eq.trans ?_ (congrArg (fun q : Fin 8 => BitVec.ofNat 32 q.val) es)
    rfl

abbrev chosen : GatherDims S32768x8x8 S32768x1x1 S32768x1x8 := gather_S32768x8x8_S32768x1x1_S32768x1x8_2_1_0_0_1_2_118

/-- The gather of a chosen group's row. -/
theorem gather_apply (x : Vec Ideal S32768x8x8 .f32) (idx : IVec S32768x1x1 32) (i : Fin 32768) (k a : Fin 8) (ha : (idx (ix3 i 0 0)) = BitVec.ofNat 32 a.val) :
    Host.gather chosen x idx (ix3 i 0 k) = x (ix3 i a k) := by
  unfold Host.gather
  refine congrArg x (funext fun b => Fin.ext ?_)
  unfold GatherDims.operandIdx
  match b with
  | ⟨0, _⟩ =>
    show chosen.start (ix3 i 0 k) idx (0 : Fin 3) + chosen.batchCoord (ix3 i 0 k) (0 : Fin 3) + chosen.offCoord (ix3 i 0 k) (0 : Fin 3) = i.val
    rw [GatherDims.start_batching _ _ _ _ (by decide), GatherDims.offCoord_eq_zero _ _ _ (by decide), Nat.zero_add, Nat.add_zero]
    rfl
  | ⟨1, _⟩ =>
    show chosen.start (ix3 i 0 k) idx (1 : Fin 3) + chosen.batchCoord (ix3 i 0 k) (1 : Fin 3) + chosen.offCoord (ix3 i 0 k) (1 : Fin 3) = a.val
    rw [GatherDims.batchCoord_eq_zero _ _ _ (by decide), GatherDims.offCoord_eq_zero _ _ _ (by decide), Nat.add_zero]
    unfold GatherDims.start
    rw [dif_pos (by decide)]
    have ei : chosen.siIdx (ix3 i 0 k) ⟨chosen.startIndexMap.idxOf (1 : Fin 3), by decide⟩ = ix3 i 0 0 := funext fun b => Fin.ext (by
      match b with
      | ⟨0, _⟩ => rfl
      | ⟨1, _⟩ => rfl
      | ⟨2, _⟩ => rfl)
    refine (congrArg (fun v : BitVec 32 => min v.toInt.toNat 7) ((congrArg idx ei).trans ha)).trans ?_
    exact (by decide : ∀ a : Fin 8, min (BitVec.ofNat 32 a.val).toInt.toNat 7 = a.val) a
  | ⟨2, _⟩ =>
    show chosen.start (ix3 i 0 k) idx (2 : Fin 3) + chosen.batchCoord (ix3 i 0 k) (2 : Fin 3) + chosen.offCoord (ix3 i 0 k) (2 : Fin 3) = k.val
    rw [GatherDims.batchCoord_eq_zero _ _ _ (by decide), Nat.add_zero]
    unfold GatherDims.start
    rw [dif_neg (by decide), Nat.zero_add]
    rfl

/-- A conjunction over one bit. -/
theorem one_bit (y : IVec S32768x1x1 1) (z : IVec S_ 1) (hz : z (Shape.Idx.first h_S_) = 1#1) (i : Fin 32768) (hy : y (ix3 i 0 0) = 1#1) :
    (Host.reduce IntOp.andi y z reducesTo_S32768x1x1_S32768x1_d2 h_S_ : IVec S32768x1 1) (ix2 i 0) = 1#1 := by
  simp only [pointwise]
  rw [hz, show (Finset.univ : Finset (Fin 1)) = {0} from rfl, Finset.fold_singleton, hy]
  rfl

/-! ## The choices, two of each token in turn -/

section
variable (G : Fin 32768 → Fin 8 → ℝ) (L : Fin 32768 → Fin 64 → ℝ)

/-- 1 where choice `f` is of expert `e`. -/
def chose (f e : ℕ) : ℕ := if h : f / 2 < 32768 then if pick (G ⟨f / 2, h⟩) (L ⟨f / 2, h⟩) ⟨f % 2, by omega⟩ = e then 1 else 0 else 0

theorem chose_two (n : ℕ) (hn : n < 32768) (s : Fin 8) (hs : s.val < 2) (e : ℕ) : chose G L (2 * n + s.val) e = if pick (G ⟨n, hn⟩) (L ⟨n, hn⟩) s = e then 1 else 0 := by
  unfold chose
  rw [dif_pos (by omega)]
  simp only [show (2 * n + s.val) / 2 = n by omega, show (2 * n + s.val) % 2 = s.val by omega]

/-- The choices of expert `e` among the first `n` tokens' are the tokens that chose it: none chooses one twice. -/
theorem sum_chose (e n : ℕ) (hn : n ≤ 32768) : ∑ f ∈ Finset.range (2 * n), chose G L f e = seen G L e n := by
  induction n with
  | zero => rfl
  | succ n ih =>
    have hn' : n < 32768 := hn
    have h := pick_ne (G ⟨n, hn'⟩) (L ⟨n, hn'⟩)
    have c0 := chose_two G L n hn' 0 (by decide) e
    have c1 := chose_two G L n hn' 1 (by decide) e
    have ht : tookAt G L e n = took (G ⟨n, hn'⟩) (L ⟨n, hn'⟩) e := dif_pos hn'
    rw [Nat.mul_succ, Finset.sum_range_succ, Finset.sum_range_succ, ih (Nat.le_of_lt hn')]
    unfold seen
    rw [Finset.sum_range_succ, ht, Nat.add_assoc]
    refine congrArg (_ + ·) ((congrArg₂ (· + ·) c0 c1).trans ?_)
    unfold took
    split_ifs <;> omega

/-- The choices of the expert before a choice of it. -/
theorem sum_before (n : ℕ) (hn : n < 32768) (s : Fin 8) (hs : s.val < 2) :
    ∑ f ∈ Finset.range (2 * n + s.val), chose G L f (pick (G ⟨n, hn⟩) (L ⟨n, hn⟩) s) = seen G L (pick (G ⟨n, hn⟩) (L ⟨n, hn⟩) s) n := by
  rcases (by omega : s.val = 0 ∨ s.val = 1) with h | h
  · obtain rfl : s = 0 := Fin.ext h
    exact sum_chose G L _ n hn.le
  · obtain rfl : s = 1 := Fin.ext h
    show ∑ f ∈ Finset.range (2 * n + 1), _ = _
    rw [Finset.sum_range_succ, sum_chose G L _ n hn.le]
    refine (congrArg (_ + ·) ((chose_two G L n hn 0 (by decide) _).trans (if_neg ?_))).trans (Nat.add_zero _)
    exact fun e => pick_ne _ _ e.symm

end

theorem list_sum (f : ℕ → ℕ) (n : ℕ) : ((List.range n).map f).sum = ∑ i ∈ Finset.range n, f i := by
  induction n with
  | zero => rfl
  | succ n ih => rw [List.range_succ, List.map_append, List.sum_append, ih, Finset.sum_range_succ, List.map_singleton, List.sum_singleton]

theorem fold_words {n : ℕ} (f : Fin n → ℕ) : Finset.fold IntOp.addi 0#32 (fun k => BitVec.ofNat 32 (f k)) Finset.univ = BitVec.ofNat 32 (∑ k, f k) := by
  induction (Finset.univ : Finset (Fin n)) using Finset.induction_on with
  | empty => rfl
  | insert a s ha ih =>
    rw [Finset.fold_insert ha, ih, Finset.sum_insert ha, BitVec.ofNat_add]
    rfl

/-- A choice's place, where it is one of the expert, and zero. -/
theorem place (n a : ℕ) (ha : a ≤ 1) :
    IntOp.muli (IntOp.subi (BitVec.ofNat 32 (n + a)) (BitVec.ofNat 32 a)) (BitVec.ofNat 32 a) = BitVec.ofNat 32 (n * a) := by
  show (BitVec.ofNat 32 (n + a) - BitVec.ofNat 32 a) * BitVec.ofNat 32 a = _
  rw [BitVec.ofNat_add, BitVec.add_sub_cancel, BitVec.ofNat_mul]

/-- A small number held in a word, as a real. -/
theorem word_real (n : ℕ) (hn : n ≤ 65536) : (FloatOps.sitofp .f32 (BitVec.ofNat 32 n) : Ideal .f32) = ((n : ℝ) : EReal) := by
  show ((((BitVec.ofNat 32 n).toInt : ℝ)) : EReal) = _
  have e : (BitVec.ofNat 32 n).toInt = n := by
    rw [BitVec.toInt_eq_toNat_of_lt (by rw [BitVec.toNat_ofNat]; omega), BitVec.toNat_ofNat, Nat.mod_eq_of_lt (by omega)]
  rw [e, Int.cast_natCast]

/-! ## The reference, one token at a time -/

variable (x0 : Vec Ideal S32768x1024 .bf16) (x1 : Vec Ideal S1024x1024 .bf16) (x2 : Vec Ideal S32768x1024 .f32) (x3 : Vec Ideal S1024 .f32)
  (x4 : Vec Ideal S1024x8 .f32) (x5 : Vec Ideal S8 .f32) (x6 : Vec Ideal S1024x64 .f32) (x7 : Vec Ideal S64 .f32) (i : Fin 32768)

theorem tok_row (n : Fin 1024) : val_main_v3 (F := Ideal) x0 x1 x2 (ix2 i n) = tokRow (fun k => x0 (ix2 i k)) (fun k n => x1 (ix2 k n)) (fun n => x2 (ix2 i n)) n := by
  rw [val_main_v3_apply, val_main_v2_apply]
  have e1 : ∀ k, lidx_main_v2 (ix2 i n) k = ix2 i k := fun k => ValueIdx.eq_ix2 _
  have e2 : ∀ k, ridx_main_v2 (ix2 i n) k = ix2 k n := fun k => ValueIdx.eq_ix2 _
  simp only [e1, e2]
  rfl

theorem tok_norm (k : Fin 1024) : val_main_v16 (F := Ideal) x0 x1 x2 x3 (ix2 i k)
    = tokNorm (fun k => x0 (ix2 i k)) (fun k n => x1 (ix2 k n)) (fun n => x2 (ix2 i n)) (fun k => x3 (ix1 k)) k := by
  rw [val_main_v16_apply, val_main_v13_apply, val_main_v12_apply, val_main_v11_apply, val_main_v10_apply, val_main_v8_apply, val_main_v6_apply,
    val_main_v5_apply, val_main_v7_apply, val_main_v9_apply, val_main_v15_apply, val_main_v14_apply, val_main_cst_apply, val_main_cst_0_apply, val_main_cst_1_apply]
  have e1 : ∀ j, idx_main_v5 (idx_main_v6 (idx_main_v12 (ix2 i k))) j = ix2 i j := fun j => ValueIdx.eq_ix2 _
  have e2 : idx_main_v14 (idx_main_v15 (ix2 i k)) = ix1 k := ValueIdx.eq_ix1 _
  simp only [val_main_v4_apply, e1, e2, tok_row, pointwise]
  unfold tokNorm nrm
  rw [zero_add]

variable (h3 : ∀ i, ∃ z : ℝ, x3 i = (z : EReal)) (h4 : ∀ i, ∃ z : ℝ, x4 i = (z : EReal))
  (h5 : ∀ i, ∃ z : ℝ, x5 i = (z : EReal)) (h6 : ∀ i, ∃ z : ℝ, x6 i = (z : EReal)) (h7 : ∀ i, ∃ z : ℝ, x7 i = (z : EReal))

/-- The token's logits. -/
abbrev lgs : Fin 8 → ℝ := groupLogit x0 x1 x2 x3 x4 x5 i
abbrev les : Fin 64 → ℝ := expertLogit x0 x1 x2 x3 x6 x7 i

include h3 h4 h5 in
theorem group_logit (g : Fin 8) : val_main_v20 (F := Ideal) x0 x1 x2 x3 x4 x5 (ix2 i g) = (lgs x0 x1 x2 x3 x4 x5 i g : EReal) := by
  rw [val_main_v20_apply, val_main_v17_apply, val_main_v19_apply, val_main_v18_apply]
  have e1 : ∀ k, lidx_main_v17 (ix2 i g) k = ix2 i k := fun k => ValueIdx.eq_ix2 _
  have e2 : ∀ k, ridx_main_v17 (ix2 i g) k = ix2 k g := fun k => ValueIdx.eq_ix2 _
  have e3 : idx_main_v18 (idx_main_v19 (ix2 i g)) = ix1 g := ValueIdx.eq_ix1 _
  simp only [e1, e2, e3, tok_norm]
  exact tokLogit_eq _ _ _ _ _ _ (fun k => h3 _) (fun k => h4 _) (h5 (ix1 g))

include h3 h6 h7 in
theorem expert_logit (e : Fin 64) : val_main_v35 (F := Ideal) x0 x1 x2 x3 x6 x7 (ix2 i e) = (les x0 x1 x2 x3 x6 x7 i e : EReal) := by
  rw [val_main_v35_apply, val_main_v32_apply, val_main_v34_apply, val_main_v33_apply]
  have e1 : ∀ k, lidx_main_v32 (ix2 i e) k = ix2 i k := fun k => ValueIdx.eq_ix2 _
  have e2 : ∀ k, ridx_main_v32 (ix2 i e) k = ix2 k e := fun k => ValueIdx.eq_ix2 _
  have e3 : idx_main_v33 (idx_main_v34 (ix2 i e)) = ix1 e := ValueIdx.eq_ix1 _
  simp only [e1, e2, e3, tok_norm]
  exact tokLogit_eq _ _ _ _ _ _ (fun k => h3 _) (fun k => h6 _) (h7 (ix1 e))

include h3 h4 h5 in
theorem group_share (k : Fin 8) : val_main_v31 (F := Ideal) x0 x1 x2 x3 x4 x5 (ix2 i k) = (smx (lgs x0 x1 x2 x3 x4 x5 i) k : EReal) := by
  have em : val_main_v23 (F := Ideal) x0 x1 x2 x3 x4 x5 (ix1 i) = (lgs x0 x1 x2 x3 x4 x5 i (nth (lgs x0 x1 x2 x3 x4 x5 i) 0) : EReal) := by
    rw [val_main_v23_apply, val_main_v22_apply, val_main_cst_3_apply]
    unfold val_main_v21
    rw [row_max _ _ (by rw [val_main_cst_2_apply]; exact ninf) i _ (group_logit x0 x1 x2 x3 x4 x5 i h3 h4 h5), show (FloatOps.ofBits .f32 0xFF800000#32 : Ideal .f32) = ⊥ from ninf]
    exact max_eq_right bot_le
  have e1 : ∀ k, idx_main_v24 (idx_main_v25 (ix2 i k)) = ix1 i := fun k => ValueIdx.eq_ix1 _
  have e2 : ∀ k j, idx_main_v28 (idx_main_v29 (idx_main_v30 (ix2 i k))) j = ix2 i j := fun k j => ValueIdx.eq_ix2 _
  have ee : ∀ k, val_main_v27 (F := Ideal) x0 x1 x2 x3 x4 x5 (ix2 i k)
      = Ideal.exp ((lgs x0 x1 x2 x3 x4 x5 i k : EReal) - (lgs x0 x1 x2 x3 x4 x5 i (nth (lgs x0 x1 x2 x3 x4 x5 i) 0) : EReal)) := fun k => by
    rw [val_main_v27_apply, val_main_v26_apply, val_main_v25_apply, val_main_v24_apply, e1, em, group_logit x0 x1 x2 x3 x4 x5 i h3 h4 h5]
    rfl
  rw [val_main_v31_apply, val_main_v30_apply, val_main_v29_apply, val_main_v28_apply, val_main_cst_4_apply, zero_bits]
  simp only [e2, ee]
  exact share _ k

include h3 h4 h5 in
/-- The group chosen, and its probability. -/
theorem group_top : val_main_values (F := Ideal) x0 x1 x2 x3 x4 x5 (ix2 i 0) = (smx (lgs x0 x1 x2 x3 x4 x5 i) (nth (lgs x0 x1 x2 x3 x4 x5 i) 0) : EReal)
    ∧ val_main_indices (F := Ideal) x0 x1 x2 x3 x4 x5 (ix2 i 0) = BitVec.ofNat 32 (nth (lgs x0 x1 x2 x3 x4 x5 i) 0).val := by
  have e := top_apply 1 _ sliceFits_S32768x8_S32768x1 i 0 0 rfl _ (group_share x0 x1 x2 x3 x4 x5 i h3 h4 h5)
  rw [nth_congr _ _ (smx_lt (lgs x0 x1 x2 x3 x4 x5 i))] at e
  exact e

include h3 h4 h5 h6 h7 in
/-- The chosen group's logits. -/
theorem taken (k : Fin 8) : val_main_v39 (F := Ideal) x0 x1 x2 x3 x4 x5 x6 x7 (ix2 i k)
    = (inGroup (les x0 x1 x2 x3 x6 x7 i) (nth (lgs x0 x1 x2 x3 x4 x5 i) 0) k : EReal) := by
  have e39 : idx_main_v39 (ix2 i k) = ix3 i 0 k := funext fun a => Fin.ext (by
    have := k.isLt
    match a with
    | ⟨0, _⟩ => show (i.val * 8 + k.val) / 8 = i.val; omega
    | ⟨1, _⟩ => rfl
    | ⟨2, _⟩ => show (i.val * 8 + k.val) % 8 = k.val; omega)
  generalize hq : nth (lgs x0 x1 x2 x3 x4 x5 i) 0 = q
  have e37 : val_main_v37 (F := Ideal) x0 x1 x2 x3 x4 x5 (ix3 i 0 0) = BitVec.ofNat 32 q.val := by
    rw [val_main_v37_apply, show idx_main_v37 (ix3 i 0 0) = ix2 i 0 from ValueIdx.eq_ix2 _, (group_top x0 x1 x2 x3 x4 x5 i h3 h4 h5).2, hq]
  have e4 : val_main_call0_v4 (F := Ideal) x0 x1 x2 x3 x4 x5 (ix3 i 0 0) = BitVec.ofNat 32 q.val := by
    rw [val_main_call0_v4_apply, val_main_call0_v1_apply, val_main_call0_v3_apply, e37, val_main_call0_v0_apply, val_main_call0_v2_apply, val_main_call0_c_apply, val_main_call0_c_0_apply]
    exact (by decide : ∀ q : Fin 8, Scalar.select (IntOp.cmpi .slt (BitVec.ofNat 32 q.val) 0#32) (IntOp.addi (BitVec.ofNat 32 q.val) 8#32) (BitVec.ofNat 32 q.val) = BitVec.ofNat 32 q.val) q
  have e11 : val_main_call0_v11 (F := Ideal) x0 x1 x2 x3 x4 x5 (ix2 i 0) = 1#1 := by
    unfold val_main_call0_v11
    refine one_bit _ _ rfl i ?_
    rw [val_main_call0_v10_apply, val_main_call0_v6_apply, val_main_call0_v9_apply, e4, val_main_call0_v5_apply, val_main_call0_v8_apply, val_main_call0_v7_apply, val_main_call0_c_2_apply, val_main_call0_c_1_apply]
    exact (by decide : ∀ q : Fin 8, IntOp.andi (IntOp.cmpi .sge (BitVec.ofNat 32 q.val) 0#32) (IntOp.cmpi .sle (BitVec.ofNat 32 q.val) 7#32) = 1#1) q
  have e36 : idx_main_v36 (ix3 i q k) = ix2 i (⟨8 * q.val + k.val, by omega⟩ : Fin 64) := funext fun a => Fin.ext (by
    have := k.isLt; have := q.isLt
    match a with
    | ⟨0, _⟩ => show ((i.val * 8 + q.val) * 8 + k.val) / 64 = i.val; omega
    | ⟨1, _⟩ => show ((i.val * 8 + q.val) * 8 + k.val) % 64 = 8 * q.val + k.val; omega)
  rw [val_main_v39_apply, e39, val_main_v38_apply, val_main_call0_v13_apply, show idx_main_call0_v13 (ix3 i 0 k) = ix2 i 0 from ValueIdx.eq_ix2 _, e11]
  refine (if_pos (by decide)).trans ?_
  unfold val_main_call0_v12
  refine (gather_apply _ _ i k q e4).trans ?_
  rw [val_main_v36_apply, e36, expert_logit x0 x1 x2 x3 x6 x7 i h3 h6 h7]
  rfl

/-- The chosen group's logits, as the kernel's side names them. -/
abbrev tks : Fin 8 → ℝ := inGroup (les x0 x1 x2 x3 x6 x7 i) (nth (lgs x0 x1 x2 x3 x4 x5 i) 0)

include h3 h4 h5 h6 h7

theorem expert_share (k : Fin 8) : val_main_v50 (F := Ideal) x0 x1 x2 x3 x4 x5 x6 x7 (ix2 i k) = (smx (tks x0 x1 x2 x3 x4 x5 x6 x7 i) k : EReal) := by
  have ht := taken x0 x1 x2 x3 x4 x5 x6 x7 i h3 h4 h5 h6 h7
  change ∀ k, _ = (tks x0 x1 x2 x3 x4 x5 x6 x7 i k : EReal) at ht
  generalize tks x0 x1 x2 x3 x4 x5 x6 x7 i = f at ht ⊢
  have em : val_main_v42 (F := Ideal) x0 x1 x2 x3 x4 x5 x6 x7 (ix1 i) = (f (nth f 0) : EReal) := by
    rw [val_main_v42_apply, val_main_v41_apply, val_main_cst_6_apply]
    unfold val_main_v40
    rw [row_max _ _ (by rw [val_main_cst_5_apply]; exact ninf) i _ ht, show (FloatOps.ofBits .f32 0xFF800000#32 : Ideal .f32) = ⊥ from ninf]
    exact max_eq_right bot_le
  have e1 : ∀ k, idx_main_v43 (idx_main_v44 (ix2 i k)) = ix1 i := fun k => ValueIdx.eq_ix1 _
  have e2 : ∀ k j, idx_main_v47 (idx_main_v48 (idx_main_v49 (ix2 i k))) j = ix2 i j := fun k j => ValueIdx.eq_ix2 _
  have ee : ∀ k, val_main_v46 (F := Ideal) x0 x1 x2 x3 x4 x5 x6 x7 (ix2 i k) = Ideal.exp ((f k : EReal) - (f (nth f 0) : EReal)) := fun k => by
    rw [val_main_v46_apply, val_main_v45_apply, val_main_v44_apply, val_main_v43_apply, e1, em, ht]
    rfl
  rw [val_main_v50_apply, val_main_v49_apply, val_main_v48_apply, val_main_v47_apply, val_main_cst_7_apply, zero_bits]
  simp only [e2, ee]
  exact share f k

/-- The two experts chosen, and their shares. -/
theorem expert_top (r : Fin 2) (s : Fin 8) (hs : s.val = r.val) :
    val_main_values_8 (F := Ideal) x0 x1 x2 x3 x4 x5 x6 x7 (ix2 i r) = (smx (tks x0 x1 x2 x3 x4 x5 x6 x7 i) (nth (tks x0 x1 x2 x3 x4 x5 x6 x7 i) s) : EReal)
    ∧ val_main_indices_9 (F := Ideal) x0 x1 x2 x3 x4 x5 x6 x7 (ix2 i r) = BitVec.ofNat 32 (nth (tks x0 x1 x2 x3 x4 x5 x6 x7 i) s).val := by
  have e := top_apply 2 _ sliceFits_S32768x8_S32768x2 i r s hs _ (expert_share x0 x1 x2 x3 x4 x5 x6 x7 i h3 h4 h5 h6 h7)
  rw [nth_congr _ _ (smx_lt (tks x0 x1 x2 x3 x4 x5 x6 x7 i))] at e
  exact e

/-- The weight at place `r`. -/
theorem gate_apply (r : Fin 2) (s : Fin 8) (hs : s.val = r.val) :
    val_main_v56 (F := Ideal) x0 x1 x2 x3 x4 x5 x6 x7 (ix2 i r) = (gate (lgs x0 x1 x2 x3 x4 x5 i) (tks x0 x1 x2 x3 x4 x5 x6 x7 i) s : EReal) := by
  have ht := fun r s hs => (expert_top x0 x1 x2 x3 x4 x5 x6 x7 i h3 h4 h5 h6 h7 r s hs).1
  have e1 : idx_main_v52 (idx_main_v53 (ix2 i r)) = ix1 i := ValueIdx.eq_ix1 _
  have e2 : ∀ j, idx_main_v51 (ix1 i) j = ix2 i j := fun j => ValueIdx.eq_ix2 _
  have e3 : idx_main_v55 (ix2 i r) = ix2 i 0 := ValueIdx.eq_ix2 _
  rw [val_main_v56_apply, val_main_v54_apply, val_main_v53_apply, val_main_v52_apply, e1, val_main_v51_apply, val_main_cst_10_apply, zero_bits, val_main_v55_apply, e3,
    (group_top x0 x1 x2 x3 x4 x5 i h3 h4 h5).1, ht r s hs, Fin.sum_univ_two, e2, e2, ht 0 0 rfl, ht 1 1 rfl, zero_add]
  unfold gate
  show Ideal.div _ _ * _ = _
  rw [← EReal.coe_add, div_real _ _ (add_pos (smx_pos _ _) (smx_pos _ _)), ← EReal.coe_mul]

/-- The expert's number at place `r`. -/
theorem number_apply (r : Fin 2) (s : Fin 8) (hs : s.val = r.val) :
    val_main_v60 (F := Ideal) x0 x1 x2 x3 x4 x5 x6 x7 (ix2 i r) = BitVec.ofNat 32 (pick (lgs x0 x1 x2 x3 x4 x5 i) (les x0 x1 x2 x3 x6 x7 i) s) := by
  have e1 : idx_main_v59 (ix2 i r) = ix2 i 0 := ValueIdx.eq_ix2 _
  rw [val_main_v60_apply, val_main_v59_apply, e1, val_main_v58_apply, (group_top x0 x1 x2 x3 x4 x5 i h3 h4 h5).2, val_main_v57_apply, val_main_c_apply,
    (expert_top x0 x1 x2 x3 x4 x5 x6 x7 i h3 h4 h5 h6 h7 r s hs).2]
  unfold pick
  exact (by decide : ∀ a b : Fin 8, IntOp.addi (IntOp.muli (BitVec.ofNat 32 a.val) 8#32) (BitVec.ofNat 32 b.val) = BitVec.ofNat 32 (8 * a.val + b.val)) _ _

omit h3 h4 h5 h6 h7 in
/-- All tokens' logits. -/
abbrev lgAll : Fin 32768 → Fin 8 → ℝ := fun i => lgs x0 x1 x2 x3 x4 x5 i
omit h3 h4 h5 h6 h7 in
abbrev leAll : Fin 32768 → Fin 64 → ℝ := fun i => les x0 x1 x2 x3 x6 x7 i

theorem hit_apply (f : Fin 65536) (e : Fin 64) : val_main_v68 (F := Ideal) x0 x1 x2 x3 x4 x5 x6 x7 (ix2 f e)
    = BitVec.ofNat 32 (chose (lgAll x0 x1 x2 x3 x4 x5) (leAll x0 x1 x2 x3 x6 x7) f.val e.val) := by
  have hf : f.val / 2 < 32768 := by omega
  have e1 : idx_main_v61 (idx_main_v62 (idx_main_v65 (ix2 f e))) = ix2 (⟨f.val / 2, hf⟩ : Fin 32768) (⟨f.val % 2, by omega⟩ : Fin 2) := ValueIdx.eq_ix2 _
  rw [val_main_v68_apply, val_main_v67_apply, val_main_v65_apply, val_main_v62_apply, val_main_v61_apply, e1,
    number_apply x0 x1 x2 x3 x4 x5 x6 x7 _ h3 h4 h5 h6 h7 _ (⟨f.val % 2, by omega⟩ : Fin 8) rfl, val_main_v66_apply, val_main_v64_apply, val_main_v63_apply]
  unfold chose
  rw [dif_pos hf]
  refine (congrArg (BitVec.setWidth 32) (word_eq _ e.val (by have := pick_lt (lgs x0 x1 x2 x3 x4 x5 ⟨f.val / 2, hf⟩) (les x0 x1 x2 x3 x6 x7 ⟨f.val / 2, hf⟩) ⟨f.val % 2, by omega⟩; omega) (by omega))).trans ?_
  split
  · rename_i h; rw [decide_eq_true h]; rfl
  · rename_i h; rw [decide_eq_false h]; rfl

/-- A choice's place among those of its expert. -/
theorem rank_apply (r : Fin 2) (s : Fin 8) (hs : s.val = r.val) : val_main_v73 (F := Ideal) x0 x1 x2 x3 x4 x5 x6 x7 (ix2 i r)
    = BitVec.ofNat 32 (seen (lgAll x0 x1 x2 x3 x4 x5) (leAll x0 x1 x2 x3 x6 x7) (pick (lgs x0 x1 x2 x3 x4 x5 i) (les x0 x1 x2 x3 x6 x7 i) s) i.val) := by
  have hh := hit_apply x0 x1 x2 x3 x4 x5 x6 x7 h3 h4 h5 h6 h7
  have hp := pick_lt (lgs x0 x1 x2 x3 x4 x5 i) (les x0 x1 x2 x3 x6 x7 i) s
  have hf : 2 * i.val + s.val < 65536 := by omega
  have e1 : idx_main_v73 (ix2 i r) = ix1 (⟨2 * i.val + s.val, hf⟩ : Fin 65536) := funext fun a => Fin.ext (by
    match a with
    | ⟨0, _⟩ => show i.val * 2 + r.val = 2 * i.val + s.val; omega)
  have e2 : ∀ e : Fin 64, val_main_v71 (F := Ideal) x0 x1 x2 x3 x4 x5 x6 x7 (ix2 (⟨2 * i.val + s.val, hf⟩ : Fin 65536) e)
      = BitVec.ofNat 32 ((∑ f ∈ Finset.range (2 * i.val + s.val), chose (lgAll x0 x1 x2 x3 x4 x5) (leAll x0 x1 x2 x3 x6 x7) f e.val)
          * chose (lgAll x0 x1 x2 x3 x4 x5) (leAll x0 x1 x2 x3 x6 x7) (2 * i.val + s.val) e.val) := fun e => by
    have es : val_main_v69 (F := Ideal) x0 x1 x2 x3 x4 x5 x6 x7 (ix2 (⟨2 * i.val + s.val, hf⟩ : Fin 65536) e)
        = BitVec.ofNat 32 ((List.range (2 * i.val + s.val + 1)).map fun f => chose (lgAll x0 x1 x2 x3 x4 x5) (leAll x0 x1 x2 x3 x6 x7) f e.val).sum :=
      Routing.cumsum_rows (R := 65536) (Rm1 := 65535) (C := 64) rfl _ (chose (lgAll x0 x1 x2 x3 x4 x5) (leAll x0 x1 x2 x3 x6 x7)) hh _ rfl
        reduceWindows_S65536x64_S65536x64_w65536s1p65535_0_w1s1p0_0 h_S_ _ _
    rw [val_main_v71_apply, val_main_v70_apply, hh, es, list_sum, Finset.sum_range_succ]
    refine place _ _ ?_
    rw [chose_two _ _ i.val i.isLt s (by omega)]
    split <;> omega
  rw [val_main_v73_apply, e1]
  unfold val_main_v72
  simp only [pointwise, e2]
  refine (fold_words _).trans (congrArg _ ?_)
  rw [Finset.sum_eq_single (⟨_, hp⟩ : Fin 64)]
  · rw [chose_two _ _ i.val i.isLt s (by omega), if_pos rfl, Nat.mul_one]
    exact sum_before _ _ i.val i.isLt s (by omega)
  · intro e _ he
    rw [chose_two _ _ i.val i.isLt s (by omega), if_neg fun h => he (Fin.ext h.symm), Nat.mul_zero]
  · exact fun hn => absurd (Finset.mem_univ _) hn

/-- A token's four numbers: its two experts, then its places among their tokens. -/
theorem four_apply (k : Fin 4) : val_main_v76 (F := Ideal) x0 x1 x2 x3 x4 x5 x6 x7 (ix2 i k)
    = idsWord (lgs x0 x1 x2 x3 x4 x5 i) (les x0 x1 x2 x3 x6 x7 i)
        (seen (lgAll x0 x1 x2 x3 x4 x5) (leAll x0 x1 x2 x3 x6 x7) (pick (lgs x0 x1 x2 x3 x4 x5 i) (les x0 x1 x2 x3 x6 x7 i) 0) i.val)
        (seen (lgAll x0 x1 x2 x3 x4 x5) (leAll x0 x1 x2 x3 x6 x7) (pick (lgs x0 x1 x2 x3 x4 x5 i) (les x0 x1 x2 x3 x6 x7 i) 1) i.val) k.val := by
  have hn := number_apply x0 x1 x2 x3 x4 x5 x6 x7 i h3 h4 h5 h6 h7
  have hr := rank_apply x0 x1 x2 x3 x4 x5 x6 x7 i h3 h4 h5 h6 h7
  unfold val_main_v76 idsWord
  generalize val_main_v60 (F := Ideal) x0 x1 x2 x3 x4 x5 x6 x7 = y at hn ⊢
  generalize val_main_v73 (F := Ideal) x0 x1 x2 x3 x4 x5 x6 x7 = z at hr ⊢
  simp only [pointwise]
  match k with
  | ⟨0, _⟩ => exact hn 0 0 rfl
  | ⟨1, _⟩ => exact hn 1 1 rfl
  | ⟨2, _⟩ => exact hr 0 0 rfl
  | ⟨3, _⟩ => exact hr 1 1 rfl

/-- The numbers' array. -/
theorem ref_ids (s : Fin 8) : val_main_v78 (F := Ideal) x0 x1 x2 x3 x4 x5 x6 x7 (ix2 s i)
    = idsWord (lgs x0 x1 x2 x3 x4 x5 i) (les x0 x1 x2 x3 x6 x7 i)
        (seen (lgAll x0 x1 x2 x3 x4 x5) (leAll x0 x1 x2 x3 x6 x7) (pick (lgs x0 x1 x2 x3 x4 x5 i) (les x0 x1 x2 x3 x6 x7 i) 0) i.val)
        (seen (lgAll x0 x1 x2 x3 x4 x5) (leAll x0 x1 x2 x3 x6 x7) (pick (lgs x0 x1 x2 x3 x4 x5 i) (les x0 x1 x2 x3 x6 x7 i) 1) i.val) s.val := by
  unfold val_main_v78
  by_cases hs : s.val < 4
  · refine (pad_apply_of_inside _ _ _ _ _ _ _ (ix2 s i) (ix2 (⟨s.val, hs⟩ : Fin 4) i) fun a => ?_).trans ?_
    · match a with
      | ⟨0, _⟩ => show s.val = 0 + s.val * (0 + 1); omega
      | ⟨1, _⟩ => show i.val = 0 + i.val * (0 + 1); omega
    · rw [val_main_v77_apply, show idx_main_v77 (ix2 (⟨s.val, hs⟩ : Fin 4) i) = ix2 i (⟨s.val, hs⟩ : Fin 4) from ValueIdx.eq_ix2 _]
      exact four_apply x0 x1 x2 x3 x4 x5 x6 x7 i h3 h4 h5 h6 h7 ⟨s.val, hs⟩
  · refine (pad_apply_of_not_inside _ _ _ _ _ _ _ (ix2 s i) (0 : Fin 2) ?_).trans ?_
    · rintro ⟨-, -, h⟩
      have h' : (s.val - 0) / (0 + 1) < 4 := h
      omega
    · unfold idsWord
      rw [if_neg (by omega), if_neg (by omega), if_neg (by omega), if_neg (by omega)]
      rfl

/-- The counts' array. -/
theorem ref_counts (r l : Fin 128) : val_main_v82 (F := Ideal) x0 x1 x2 x3 x4 x5 x6 x7 (ix2 r l)
    = ((seen (lgAll x0 x1 x2 x3 x4 x5) (leAll x0 x1 x2 x3 x6 x7) r.val 32768 : ℝ) : EReal) := by
  have hh := hit_apply x0 x1 x2 x3 x4 x5 x6 x7 h3 h4 h5 h6 h7
  rw [val_main_v82_apply, val_main_v81_apply, show idx_main_v81 (idx_main_v82 (ix2 r l)) = ix1 r from ValueIdx.eq_ix1 _]
  unfold val_main_v80
  by_cases hr : r.val < 64
  · refine (pad_apply_of_inside _ _ _ _ _ _ _ (ix1 r) (ix1 (⟨r.val, hr⟩ : Fin 64)) fun a => ?_).trans ?_
    · match a with
      | ⟨0, _⟩ => show r.val = 0 + r.val * (0 + 1); omega
    · rw [val_main_v75_apply]
      have e : val_main_v74 (F := Ideal) x0 x1 x2 x3 x4 x5 x6 x7 (ix1 (⟨r.val, hr⟩ : Fin 64))
          = BitVec.ofNat 32 (seen (lgAll x0 x1 x2 x3 x4 x5) (leAll x0 x1 x2 x3 x6 x7) r.val 32768) := by
        unfold val_main_v74
        simp only [pointwise, hh]
        refine (fold_words _).trans (congrArg _ ?_)
        rw [← sum_chose _ _ _ _ (Nat.le_refl _)]
        exact Fin.sum_univ_eq_sum_range (fun f => chose (lgAll x0 x1 x2 x3 x4 x5) (leAll x0 x1 x2 x3 x6 x7) f r.val) 65536
      rw [e]
      exact word_real _ ((seen_le _ _ _ _).trans (by decide))
  · refine (pad_apply_of_not_inside _ _ _ _ _ _ _ (ix1 r) (0 : Fin 1) ?_).trans ?_
    · rintro ⟨-, -, h⟩
      have h' : (r.val - 0) / (0 + 1) < 64 := h
      omega
    · rw [seen_none _ _ _ _ (by omega)]
      exact word_real 0 (by decide)

/-- The weights' array. -/
theorem ref_gates (n : Fin 128) :
    val_main_v79 (F := Ideal) x0 x1 x2 x3 x4 x5 x6 x7 (ix2 i n) = weight (lgs x0 x1 x2 x3 x4 x5 i) (les x0 x1 x2 x3 x6 x7 i) n.val := by
  unfold val_main_v79 weight
  by_cases hn : n.val < 2
  · refine (pad_apply_of_inside _ _ _ _ _ _ _ (ix2 i n) (ix2 i (⟨n.val, hn⟩ : Fin 2)) fun a => ?_).trans ?_
    · match a with
      | ⟨0, _⟩ => show i.val = 0 + i.val * (0 + 1); omega
      | ⟨1, _⟩ => show n.val = 0 + n.val * (0 + 1); omega
    · rw [gate_apply x0 x1 x2 x3 x4 x5 x6 x7 i h3 h4 h5 h6 h7 _ (⟨n.val, by omega⟩ : Fin 8) rfl]
      rcases (by omega : n.val = 0 ∨ n.val = 1) with h | h
      · rw [if_pos h, show (⟨n.val, by omega⟩ : Fin 8) = 0 from Fin.ext h]
      · rw [if_neg (by omega), if_pos h, show (⟨n.val, by omega⟩ : Fin 8) = 1 from Fin.ext h]
  · refine (pad_apply_of_not_inside _ _ _ _ _ _ _ (ix2 i n) (1 : Fin 2) ?_).trans ?_
    · rintro ⟨-, -, h⟩
      have h' : (n.val - 0) / (0 + 1) < 2 := h
      omega
    · rw [if_neg (by omega), if_neg (by omega)]
      show ((((0#32 : BitVec 32).toInt : ℝ)) : EReal) = 0
      simp

end Cert.RouteReferenceIdeal.Block

end
-- ==== Proof.RouteOutBlock.lean ====
/- WHAT A GRID POINT OF THE ROUTER AFTER THE MIXER LEAVES. The same functions of the rows, the router's matrix and what was counted before as after
   the attention (RouteBlock); only the product that makes the rows is longer. -/
module

public import proofs.«01_k».proof.Proof.Gen.RouteOutKernelIdeal.Value
public import proofs.«01_k».proof.Proof.RouteBlock

@[expose] public section

set_option maxRecDepth 16384

noncomputable section

namespace Cert.RouteOutKernelIdeal.Block

open Cert.RouteOutKernelIdeal Cert.RouteOutKernelIdeal.Gen
open Cert.RouteKernelIdeal.Block (idsBlk gatesBlk scr prodP prodQ tally ranks hz read_scr read_half read_col canon_top)
open Idealize.ShloMosaic Idealize.ShloMosaic.TcCoe Idealize.SL.Sem
open scoped BigOperators

variable {F : FTy → Type} [FloatOps F]

variable (c : Dev nD) (i : grid0.Coords) (a1 : Memref sig .tc .vmem S512x2048 .bf16) (h1 : a1.IsWhole)
  (a2 : Memref sig .tc .vmem S2048x1024 .bf16) (h2 : a2.IsWhole) (a3 : Memref sig .tc .vmem S512x1024 .f32) (h3 : a3.IsWhole)
  (a4 : Memref sig .tc .vmem S1x1024 .f32) (h4 : a4.IsWhole) (a5 : Memref sig .tc .vmem S1024x128 .f32) (h5 : a5.IsWhole)
  (a6 : Memref sig .tc .vmem S128x1 .f32) (h6 : a6.IsWhole) (a7 : Memref sig .tc .vmem S512x512 .bf16) (h7 : a7.IsWhole)
  (a8 : Memref sig .tc .vmem S512x1024 .f32) (h8 : a8.IsWhole) (a9 : Memref sig .tc .vmem S8x512 .i32) (h9 : a9.IsWhole)
  (a10 : Memref sig .tc .vmem S512x128 .f32) (h10 : a10.IsWhole) (a11 : Memref sig .tc .vmem S128x128 .f32) (h11 : a11.IsWhole)
  (a12 : Memref sig .tc .vmem S128x128 .f32) (h12 : a12.IsWhole) (a13 : Memref sig .tc .vmem S256x1024 .bf16) (h13 : a13.IsWhole)
  (x0 : Vec F S512x2048 .bf16) (x1 : Vec F S2048x1024 .bf16) (x2 : Vec F S512x1024 .f32) (x3 : Vec F S1x1024 .f32)
  (x4 : Vec F S1024x128 .f32) (x5 : Vec F S128x1 .f32) (x6 : Vec F S512x512 .bf16)
  (y0 : Vec F S128x128 .f32) (y1 : Vec F S256x1024 .bf16)

/-- What the first point counts. -/
theorem tallyA_eq (hc : cond0_0 i) :
    sout0_A_0 c i a1 h1 a2 h2 a3 h3 a4 h4 a5 h5 a6 h6 a7 h7 a8 h8 a9 h9 a10 h10 a11 h11 a12 h12 a13 h13 hc x0 x1 x2 x3 x4 x5 x6 = tally (prodP (k0_pay2 x2 x0 x1) x3 (scr x4)) (prodQ (k0_pay2 x2 x0 x1) x3 (scr x4)) x5 k0_pay3 := by
  unfold sout0_A_0
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h12.read_unread, h13.read_unread]
  simp only [View.ld_unit_zero (S := S512x1024) hz, View.ld_unit_zero (S := S512x2048) hz, View.ld_unit_zero (S := S2048x1024) hz, View.ld_unit_zero (S := S1x1024) hz, View.ld_unit_zero (S := S128x1) hz, View.ld_unit_zero (S := S512x512) hz, View.readCov_unit_zero (S := S512x1024) _ hz, View.ld_unit_zero (S := S1024x128) hz, View.ld_unit_zero (S := S256x1024) hz, View.ld_unit_zero (S := S128x128) hz, read_scr, read_half, read_col, View.readCov_cons_toLoadRect]
  exact (canon_top _ _).trans rfl

/-- What a later point counts. -/
theorem tallyB_eq (hc : ¬cond0_0 i) :
    sout0_B_0 c i a1 h1 a2 h2 a3 h3 a4 h4 a5 h5 a6 h6 a7 h7 a8 h8 a9 h9 a10 h10 a11 h11 a12 h12 a13 h13 hc x0 x1 x2 x3 x4 x5 x6 y0 y1 = tally (prodP (k0_pay2 x2 x0 x1) x3 y1) (prodQ (k0_pay2 x2 x0 x1) x3 y1) x5 y0 := by
  unfold sout0_B_0
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h12.read_unread, h13.read_unread]
  simp only [View.canon_unit_zero (S := S128x128) hz, View.ld_unit_zero (S := S512x1024) hz, View.ld_unit_zero (S := S512x2048) hz, View.ld_unit_zero (S := S2048x1024) hz, View.ld_unit_zero (S := S1x1024) hz, View.ld_unit_zero (S := S128x1) hz, View.ld_unit_zero (S := S512x512) hz, View.readCov_unit_zero (S := S512x1024) _ hz, View.ld_unit_zero (S := S1024x128) hz, View.ld_unit_zero (S := S256x1024) hz, View.ld_unit_zero (S := S128x128) hz, read_scr, read_half, read_col, View.readCov_cons_toLoadRect]
  rfl

/-- And what each leaves of it in the third result. -/
theorem countsA_eq (hc : cond0_0 i) :
    out0_A_10 c i a1 h1 a2 h2 a3 h3 a4 h4 a5 h5 a6 h6 a7 h7 a8 h8 a9 h9 a10 h10 a11 h11 a12 h12 a13 h13 hc x0 x1 x2 x3 x4 x5 x6 = tally (prodP (k0_pay2 x2 x0 x1) x3 (scr x4)) (prodQ (k0_pay2 x2 x0 x1) x3 (scr x4)) x5 k0_pay3 := by
  unfold out0_A_10
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h12.read_unread, h13.read_unread]
  simp only [View.canon_unit_zero (S := S128x128) hz, View.ld_unit_zero (S := S512x1024) hz, View.ld_unit_zero (S := S512x2048) hz, View.ld_unit_zero (S := S2048x1024) hz, View.ld_unit_zero (S := S1x1024) hz, View.ld_unit_zero (S := S128x1) hz, View.ld_unit_zero (S := S512x512) hz, View.readCov_unit_zero (S := S512x1024) _ hz, View.ld_unit_zero (S := S1024x128) hz, View.ld_unit_zero (S := S256x1024) hz, View.ld_unit_zero (S := S128x128) hz, read_scr, read_half, read_col, View.readCov_cons_toLoadRect]
  rfl

theorem countsB_eq (hc : ¬cond0_0 i) :
    out0_B_10 c i a1 h1 a2 h2 a3 h3 a4 h4 a5 h5 a6 h6 a7 h7 a8 h8 a9 h9 a10 h10 a11 h11 a12 h12 a13 h13 hc x0 x1 x2 x3 x4 x5 x6 y0 y1 = tally (prodP (k0_pay2 x2 x0 x1) x3 y1) (prodQ (k0_pay2 x2 x0 x1) x3 y1) x5 y0 := by
  unfold out0_B_10
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h12.read_unread, h13.read_unread]
  simp only [View.canon_unit_zero (S := S128x128) hz, View.ld_unit_zero (S := S512x1024) hz, View.ld_unit_zero (S := S512x2048) hz, View.ld_unit_zero (S := S2048x1024) hz, View.ld_unit_zero (S := S1x1024) hz, View.ld_unit_zero (S := S128x1) hz, View.ld_unit_zero (S := S512x512) hz, View.readCov_unit_zero (S := S512x1024) _ hz, View.ld_unit_zero (S := S1024x128) hz, View.ld_unit_zero (S := S256x1024) hz, View.ld_unit_zero (S := S128x128) hz, read_scr, read_half, read_col, View.readCov_cons_toLoadRect]
  rfl

/-- What the first point leaves in scratch memory. -/
theorem scrA_eq (hc : cond0_0 i) :
    sout0_A_1 c i a1 h1 a2 h2 a3 h3 a4 h4 a5 h5 a6 h6 a7 h7 a8 h8 a9 h9 a10 h10 a11 h11 a12 h12 a13 h13 hc x0 x1 x2 x3 x4 x5 x6 = scr x4 := by
  unfold sout0_A_1
  rw [View.read_writes_junk_eq_canon]
  unfold kernelRun0_A
  dsimp only
  sl_unfold_words
  simp only [View.readAt_eq_ld, h5.read_unread]
  rw [View.ld_unit_zero hz]
  rfl

/-- The ids' block after the first point. -/
theorem idsA_eq (hc : cond0_0 i) :
    out0_A_8 c i a1 h1 a2 h2 a3 h3 a4 h4 a5 h5 a6 h6 a7 h7 a8 h8 a9 h9 a10 h10 a11 h11 a12 h12 a13 h13 hc x0 x1 x2 x3 x4 x5 x6 = idsBlk (prodP (k0_pay2 x2 x0 x1) x3 (scr x4)) (prodQ (k0_pay2 x2 x0 x1) x3 (scr x4)) x5 (ranks (prodP (k0_pay2 x2 x0 x1) x3 (scr x4)) (prodQ (k0_pay2 x2 x0 x1) x3 (scr x4)) x5 x6 k0_pay3) (FloatOps.ofBits .f32 0x00000000#32) := by
  unfold out0_A_8
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h12.read_unread, h13.read_unread]
  simp only [View.canon_unit_zero (S := S8x512) hz, View.ld_unit_zero (S := S512x1024) hz, View.ld_unit_zero (S := S512x2048) hz, View.ld_unit_zero (S := S2048x1024) hz, View.ld_unit_zero (S := S1x1024) hz, View.ld_unit_zero (S := S128x1) hz, View.ld_unit_zero (S := S512x512) hz, View.readCov_unit_zero (S := S512x1024) _ hz, View.ld_unit_zero (S := S1024x128) hz, View.ld_unit_zero (S := S256x1024) hz, View.ld_unit_zero (S := S128x128) hz, read_scr, read_half, read_col, View.readCov_cons_toLoadRect]
  rfl

/-- The weights' block after the first point. -/
theorem gatesA_eq (hc : cond0_0 i) :
    out0_A_9 c i a1 h1 a2 h2 a3 h3 a4 h4 a5 h5 a6 h6 a7 h7 a8 h8 a9 h9 a10 h10 a11 h11 a12 h12 a13 h13 hc x0 x1 x2 x3 x4 x5 x6 = gatesBlk (prodP (k0_pay2 x2 x0 x1) x3 (scr x4)) (prodQ (k0_pay2 x2 x0 x1) x3 (scr x4)) x5 := by
  unfold out0_A_9
  rw [View.read_writes_junk_eq_canon]
  unfold kernelRun0_A
  dsimp only
  sl_unfold_words
  simp only [View.readAt_eq_ld, h1.read_unread, h2.read_unread, h3.read_unread, h4.read_unread, h5.read_unread, h6.read_unread, h13.read_unread]
  simp only [View.canon_unit_zero (S := S512x128) hz, View.ld_unit_zero (S := S512x1024) hz, View.ld_unit_zero (S := S512x2048) hz, View.ld_unit_zero (S := S2048x1024) hz, View.ld_unit_zero (S := S1x1024) hz, View.ld_unit_zero (S := S128x1) hz, View.readCov_unit_zero (S := S512x1024) _ hz, View.ld_unit_zero (S := S1024x128) hz, read_scr, read_half]
  rfl

/-- The ids' block after a later point. -/
theorem idsB_eq (hc : ¬cond0_0 i) :
    out0_B_8 c i a1 h1 a2 h2 a3 h3 a4 h4 a5 h5 a6 h6 a7 h7 a8 h8 a9 h9 a10 h10 a11 h11 a12 h12 a13 h13 hc x0 x1 x2 x3 x4 x5 x6 y0 y1 = idsBlk (prodP (k0_pay2 x2 x0 x1) x3 y1) (prodQ (k0_pay2 x2 x0 x1) x3 y1) x5 (ranks (prodP (k0_pay2 x2 x0 x1) x3 y1) (prodQ (k0_pay2 x2 x0 x1) x3 y1) x5 x6 y0) (FloatOps.ofBits .f32 0x00000000#32) := by
  unfold out0_B_8
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h12.read_unread, h13.read_unread]
  simp only [View.canon_unit_zero (S := S8x512) hz, View.ld_unit_zero (S := S512x1024) hz, View.ld_unit_zero (S := S512x2048) hz, View.ld_unit_zero (S := S2048x1024) hz, View.ld_unit_zero (S := S1x1024) hz, View.ld_unit_zero (S := S128x1) hz, View.ld_unit_zero (S := S512x512) hz, View.readCov_unit_zero (S := S512x1024) _ hz, View.ld_unit_zero (S := S1024x128) hz, View.ld_unit_zero (S := S256x1024) hz, View.ld_unit_zero (S := S128x128) hz, read_scr, read_half, read_col, View.readCov_cons_toLoadRect]
  rfl

/-- The weights' block after a later point. -/
theorem gatesB_eq (hc : ¬cond0_0 i) :
    out0_B_9 c i a1 h1 a2 h2 a3 h3 a4 h4 a5 h5 a6 h6 a7 h7 a8 h8 a9 h9 a10 h10 a11 h11 a12 h12 a13 h13 hc x0 x1 x2 x3 x4 x5 x6 y0 y1 = gatesBlk (prodP (k0_pay2 x2 x0 x1) x3 y1) (prodQ (k0_pay2 x2 x0 x1) x3 y1) x5 := by
  unfold out0_B_9
  rw [View.read_writes_junk_eq_canon]
  unfold kernelRun0_B
  dsimp only
  sl_unfold_words
  simp only [View.readAt_eq_ld, h1.read_unread, h2.read_unread, h3.read_unread, h4.read_unread, h5.read_unread, h6.read_unread, h13.read_unread]
  simp only [View.canon_unit_zero (S := S512x128) hz, View.ld_unit_zero (S := S512x1024) hz, View.ld_unit_zero (S := S512x2048) hz, View.ld_unit_zero (S := S2048x1024) hz, View.ld_unit_zero (S := S1x1024) hz, View.ld_unit_zero (S := S128x1) hz, View.readCov_unit_zero (S := S512x1024) _ hz, View.ld_unit_zero (S := S256x1024) hz]
  rfl

end Cert.RouteOutKernelIdeal.Block

end
-- ==== Proof.RouteOutKept.lean ====
/- THE ROUTER AFTER THE MIXER. What its points are handed and write back, and its results, in terms of the tokens' logits. The rows come
   from a longer product (`mixed`); given the rows, everything is as after the attention (RouteRun), so the logits are written with the
   rows in the residual's place and nothing to project. -/
module

public import proofs.«01_k».proof.Proof.RouteOutBlock
public import proofs.«01_k».proof.Proof.RouteRun

@[expose] public section

set_option maxRecDepth 16384

noncomputable section

namespace Cert.RouteOutKernelIdeal.Block

open Cert.RouteOutKernelIdeal Cert.RouteOutKernelIdeal.Gen Cert.Proof
open Cert.RouteKernelIdeal.Block (idsBlk gatesBlk scr prodP prodQ tally ranks wr br earlier earlier_apply Column column_of before_seen ids_block tally_block gates_apply
  groupLogit expertLogit pick weight idsWord seen row_surj)
open Idealize.ShloMosaic Idealize.ShloMosaic.TcCoe Idealize.SL.Sem
open Idealize.ShloMosaic.Pipeline (Dat)
open scoped BigOperators

variable (m : (ℓ : Loc nD τ sig) → Buf (Elt Ideal) ℓ)

theorem V_w (c : Dev nD) : (V m c main_v1 : Vec Ideal S1024x128 .f32) = wr (m ((c : Thread nD τ).loc main_arg6)) (m ((c : Thread nD τ).loc main_arg4)) := by
  show StableHlo.after hostOps0 _ (main_v1 : Ref sig .tc) = _
  after_results
  rfl

theorem V_b (c : Dev nD) : (V m c main_v4 : Vec Ideal S128x1 .f32) = br (m ((c : Thread nD τ).loc main_arg7)) (m ((c : Thread nD τ).loc main_arg5)) := by
  show StableHlo.after hostOps0 _ (main_v4 : Ref sig .tc) = _
  after_results
  rfl

theorem V_g (c : Dev nD) : (V m c main_v13 : Vec Ideal S1x1024 .f32) = shapeCast S1x1024 (m ((c : Thread nD τ).loc main_arg3)) shapeCasts_S1024_S1x1024 := by
  show StableHlo.after hostOps0 _ (main_v13 : Ref sig .tc) = _
  after_results
  rfl

theorem V_e (c : Dev nD) : (V m c main_v12 : Vec Ideal S512x512 .bf16) = earlier := by
  show StableHlo.after hostOps0 _ (main_v12 : Ref sig .tc) = _
  after_results
  rfl

/-! ## The blocks -/

/-- Where point `t`'s blocks lie. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_8.index t (0 : Fin 2) = 0 ∧ win0_8.index t (1 : Fin 2) = t.val
    ∧ win0_9.index t (0 : Fin 2) = t.val ∧ win0_9.index t (1 : Fin 2) = 0
    ∧ win0_10.index t (0 : Fin 2) = 0 ∧ win0_10.index t (1 : Fin 2) = 0 :=
  (by decide +kernel : ∀ t : Fin grid0.N, _)

theorem N_eq : cfg0.N = 64 := N_0

/-- The point of the other call's grid with the same number, whose block has the same rows. -/
def pt (t : Fin cfg0.N) : Fin Cert.RouteKernelIdeal.cfg0.N := ⟨t.val, by have := t.isLt; have := N_eq; have := Cert.RouteKernelIdeal.Block.N_eq; omega⟩

/-- And the other way. -/
def tp (t : Fin Cert.RouteKernelIdeal.cfg0.N) : Fin cfg0.N := ⟨t.val, by have := t.isLt; have := N_eq; have := Cert.RouteKernelIdeal.Block.N_eq; omega⟩

/-- The row of the whole array that row `r` of point `t`'s block is. -/
abbrev row (t : Fin cfg0.N) (r : Fin 512) : Fin 32768 := Cert.RouteKernelIdeal.Block.row (pt t) r

theorem iblk0_apply (c : Dev nD) (t : Fin cfg0.N) (r : Fin 512) (k : Fin 2048) :
    (iblk m c 0 t : Vec Ideal S512x2048 .bf16) (ix2 r k) = m ((c : Thread nD τ).loc main_arg0) (ix2 (row t r) k) := by
  obtain ⟨e0, e1, -⟩ := idx_facts t
  refine (congrFun (V_main_arg0 m c) _).trans (congrArg (m ((c : Thread nD τ).loc main_arg0)) (funext fun a => Fin.ext ?_))
  match a with
  | ⟨0, _⟩ => show win0_0.index t (0 : Fin 2) * 512 + 1 * r.val = t.val * 512 + r.val; omega
  | ⟨1, _⟩ => show win0_0.index t (1 : Fin 2) * 2048 + 1 * k.val = k.val; omega

theorem iblk1_apply (c : Dev nD) (t : Fin cfg0.N) (k : Fin 2048) (n : Fin 1024) :
    (iblk m c 1 t : Vec Ideal S2048x1024 .bf16) (ix2 k n) = m ((c : Thread nD τ).loc main_arg1) (ix2 k n) := by
  obtain ⟨-, -, e0, e1, -⟩ := idx_facts t
  refine (congrFun (V_main_arg1 m c) _).trans (congrArg (m ((c : Thread nD τ).loc main_arg1)) (funext fun a => Fin.ext ?_))
  match a with
  | ⟨0, _⟩ => show win0_1.index t (0 : Fin 2) * 2048 + 1 * k.val = k.val; omega
  | ⟨1, _⟩ => show win0_1.index t (1 : Fin 2) * 1024 + 1 * n.val = n.val; omega

theorem iblk2_apply (c : Dev nD) (t : Fin cfg0.N) (r : Fin 512) (n : Fin 1024) :
    (iblk m c 2 t : Vec Ideal S512x1024 .f32) (ix2 r n) = m ((c : Thread nD τ).loc main_arg2) (ix2 (row t r) n) := by
  obtain ⟨-, -, -, -, e0, e1, -⟩ := idx_facts t
  refine (congrFun (V_main_arg2 m c) _).trans (congrArg (m ((c : Thread nD τ).loc main_arg2)) (funext fun a => Fin.ext ?_))
  match a with
  | ⟨0, _⟩ => show win0_2.index t (0 : Fin 2) * 512 + 1 * r.val = t.val * 512 + r.val; omega
  | ⟨1, _⟩ => show win0_2.index t (1 : Fin 2) * 1024 + 1 * n.val = n.val; omega

theorem iblk3_apply (c : Dev nD) (t : Fin cfg0.N) (k : Fin 1024) :
    (iblk m c 3 t : Vec Ideal S1x1024 .f32) (ix2 0 k) = m ((c : Thread nD τ).loc main_arg3) (ix1 k) := by
  obtain ⟨-, -, -, -, -, -, e0, e1, -⟩ := idx_facts t
  have h : (iblk m c 3 t : Vec Ideal S1x1024 .f32) (ix2 0 k) = (V m c main_v13 : Vec Ideal S1x1024 .f32) (ix2 0 k) := by
    refine congrArg (V m c main_v13 : Vec Ideal S1x1024 .f32) (funext fun a => Fin.ext ?_)
    match a with
    | ⟨0, _⟩ => show win0_3.index t (0 : Fin 2) * 1 + 1 * 0 = 0; omega
    | ⟨1, _⟩ => show win0_3.index t (1 : Fin 2) * 1024 + 1 * k.val = k.val; omega
  rw [h, V_g]
  simp only [pointwise]

/-- The router's matrix and bias, of the arguments in memory. -/
abbrev memW (c : Dev nD) : Vec Ideal S1024x128 .f32 := wr (m ((c : Thread nD τ).loc main_arg6)) (m ((c : Thread nD τ).loc main_arg4))
abbrev memB (c : Dev nD) : Vec Ideal S128x1 .f32 := br (m ((c : Thread nD τ).loc main_arg7)) (m ((c : Thread nD τ).loc main_arg5))

/-- Every point is handed the whole of the router's matrix. -/
theorem iblk4_eq (c : Dev nD) (t : Fin cfg0.N) : (iblk m c 4 t : Vec Ideal S1024x128 .f32) = memW m c := by
  obtain ⟨-, -, -, -, -, -, -, -, e0, e1, -⟩ := idx_facts t
  refine Eq.trans ?_ (V_w m c)
  refine funext fun (y : S1024x128.Idx) => congrArg (V m c main_v1 : Vec Ideal S1024x128 .f32) (funext fun a => Fin.ext ?_)
  match a with
  | ⟨0, _⟩ => show win0_4.index t (0 : Fin 2) * 1024 + 1 * (y 0).val = (y 0).val; omega
  | ⟨1, _⟩ => show win0_4.index t (1 : Fin 2) * 128 + 1 * (y 1).val = (y 1).val; omega

/-- And the whole of its bias. -/
theorem iblk5_eq (c : Dev nD) (t : Fin cfg0.N) : (iblk m c 5 t : Vec Ideal S128x1 .f32) = memB m c := by
  obtain ⟨-, -, -, -, -, -, -, -, -, -, e0, e1, -⟩ := idx_facts t
  refine Eq.trans ?_ (V_b m c)
  refine funext fun (y : S128x1.Idx) => congrArg (V m c main_v4 : Vec Ideal S128x1 .f32) (funext fun a => Fin.ext ?_)
  match a with
  | ⟨0, _⟩ => show win0_5.index t (0 : Fin 2) * 128 + 1 * (y 0).val = (y 0).val; omega
  | ⟨1, _⟩ => show win0_5.index t (1 : Fin 2) * 1 + 1 * (y 1).val = (y 1).val; omega

/-- Every point is handed the whole of it. -/
theorem iblk6_apply (c : Dev nD) (t : Fin cfg0.N) (j k : Fin 512) :
    (iblk m c 6 t : Vec Ideal S512x512 .bf16) (ix2 j k) = (((if j.val < k.val then 1 else 0 : ℕ) : ℝ) : EReal) := by
  obtain ⟨-, -, -, -, -, -, -, -, -, -, -, -, e0, e1, -⟩ := idx_facts t
  refine (congrArg (V m c main_v12 : Vec Ideal S512x512 .bf16) (funext fun a => Fin.ext ?_)).trans ((congrFun (V_e m c) (ix2 j k)).trans (earlier_apply j k))
  match a with
  | ⟨0, _⟩ => show win0_6.index t (0 : Fin 2) * 512 + 1 * j.val = j.val; omega
  | ⟨1, _⟩ => show win0_6.index t (1 : Fin 2) * 512 + 1 * k.val = k.val; omega

/-! ## What a point writes back -/

/-- The scratch memory after any point. -/
theorem scr_after (c : Dev nD) (n : ℕ) (hn : n < cfg0.N) : (outsAt0 m c n hn).2.2.2.2.2 = scr (memW m c) := by
  induction n with
  | zero =>
    have e := outsAt0_A m c (⟨0, hn⟩ : Fin cfg0.N) (Nat.zero_mod _)
    refine (congrArg (fun x => x.2.2.2.2.2) e).trans ?_
    dsimp only
    rw [scrA_eq, iblk4_eq]
  | succ n ih =>
    have h0 : ¬(n + 1) % 64 = 0 := by have := N_eq; omega
    have e := outsAt0_B m c (⟨n + 1, hn⟩ : Fin cfg0.N) h0
    exact (congrArg (fun x => x.2.2.2.2.2) e).trans (ih (Nat.lt_of_succ_lt hn))

/-- The two products of point `t`. -/
abbrev P (c : Dev nD) (t : Fin cfg0.N) : FVec Ideal S256x512 .f32 :=
  prodP (k0_pay2 (iblk m c 2 t) (iblk m c 0 t) (iblk m c 1 t)) (iblk m c 3 t) (scr (memW m c))
abbrev Q (c : Dev nD) (t : Fin cfg0.N) : FVec Ideal S128x512 .f32 :=
  prodQ (k0_pay2 (iblk m c 2 t) (iblk m c 0 t) (iblk m c 1 t)) (iblk m c 3 t) (scr (memW m c))

/-- What the points before point `t` counted. -/
def before (c : Dev nD) (t : Fin cfg0.N) : Vec Ideal S128x128 .f32 :=
  if t.val % 64 = 0 then k0_pay3 (F := Ideal) else (outsAt0 m c (t.val - 1) (Nat.lt_of_le_of_lt (Nat.sub_le _ _) t.isLt)).2.2.2.2.1

/-- What point `t` counted with them. -/
theorem tally_after (c : Dev nD) (t : Fin cfg0.N) :
    (outsAt0 m c t.val t.isLt).2.2.2.2.1 = tally (P m c t) (Q m c t) (memB m c) (before m c t) := by
  unfold before
  by_cases h : t.val % 64 = 0
  · refine (congrArg (fun x => x.2.2.2.2.1) (outsAt0_A m c t h)).trans ?_
    dsimp only
    rw [tallyA_eq, iblk4_eq, iblk5_eq, if_pos h]
  · refine (congrArg (fun x => x.2.2.2.2.1) (outsAt0_B m c t h)).trans ?_
    dsimp only
    rw [tallyB_eq, iblk5_eq, scr_after, if_neg h]

theorem ids_flushed (c : Dev nD) (t : Fin cfg0.N) : (dats m 0 c).flushed 8 t = (cfg0.win 8).cut (grid0.coords t)
    (idsBlk (P m c t) (Q m c t) (memB m c)
      (ranks (P m c t) (Q m c t) (memB m c) (iblk m c 6 t) (before m c t)) (FloatOps.ofBits .f32 0x00000000#32)) := by
  unfold before
  by_cases h : t.val % 64 = 0
  · rw [Value.flushed8_A m c t h, idsA_eq, iblk4_eq, iblk5_eq, if_pos h]
  · rw [Value.flushed8_B m c t h, idsB_eq, iblk5_eq, scr_after, if_neg h]

theorem counts_flushed (c : Dev nD) (t : Fin cfg0.N) : (dats m 0 c).flushed 10 t = (cfg0.win 10).cut (grid0.coords t)
    (tally (P m c t) (Q m c t) (memB m c) (before m c t)) := by
  unfold before
  by_cases h : t.val % 64 = 0
  · rw [Value.flushed10_A m c t h, countsA_eq, iblk4_eq, iblk5_eq, if_pos h]
  · rw [Value.flushed10_B m c t h, countsB_eq, iblk5_eq, scr_after, if_neg h]

theorem gates_flushed (c : Dev nD) (t : Fin cfg0.N) :
    (dats m 0 c).flushed 9 t = (cfg0.win 9).cut (grid0.coords t) (gatesBlk (P m c t) (Q m c t) (memB m c)) := by
  by_cases h : t.val % 64 = 0
  · rw [Value.flushed9_A m c t h, gatesA_eq, iblk4_eq, iblk5_eq]
  · rw [Value.flushed9_B m c t h, gatesB_eq, iblk5_eq, scr_after]

/-! ## The results -/

variable (c : Dev nD)

/-- The block at row `r`, column `n`. -/
theorem pay2_apply (x : Vec Ideal S512x1024 .f32) (a : Vec Ideal S512x2048 .bf16) (w : Vec Ideal S2048x1024 .bf16) (r : Fin 512) (n : Fin 1024) :
    k0_pay2 (F := Ideal) x a w (ix2 r n) = x (ix2 r n) + ∑ k : Fin 2048, a (ix2 r k) * w (ix2 k n) := by
  unfold k0_pay2
  simp only [pointwise]
  rw [show (0 : EReal) + ∑ k : Fin 2048, a (ix2 r k) * w (ix2 k n) = ∑ k : Fin 2048, a (ix2 r k) * w (ix2 k n) from zero_add _]

/-- The rows the router reads: the block's own input plus the projected channels. -/
def mixed (a : Vec Ideal S32768x2048 .bf16) (w : Vec Ideal S2048x1024 .bf16) (x : Vec Ideal S32768x1024 .f32) : Vec Ideal S32768x1024 .f32 :=
  fun j => x j + ∑ k : Fin 2048, a (ix2 (j 0) k) * w (ix2 k (j 1))

/-- Nothing to project: with these the other call's rows are the rows it is given. -/
def noRows : Vec Ideal Cert.RouteKernelIdeal.S32768x1024 .bf16 := fun _ => (0 : EReal)
def noMatrix : Vec Ideal Cert.RouteKernelIdeal.S1024x1024 .bf16 := fun _ => (0 : EReal)

theorem nothing (y : Fin 1024 → EReal) (i : Fin 32768) (n : Fin 1024) : tokRow (fun k => noRows (ix2 i k)) (fun k n => noMatrix (ix2 k n)) y n = y n := by
  show y n + ∑ k : Fin 1024, (0 : EReal) * 0 = y n
  simp

/-- The logits, of the arguments in memory. -/
abbrev memGroup (i : Fin 32768) : Fin 8 → ℝ :=
  groupLogit noRows noMatrix (mixed (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5)) i
abbrev memExpert (i : Fin 32768) : Fin 64 → ℝ :=
  expertLogit noRows noMatrix (mixed (m ((c : Thread nD τ).loc main_arg0)) (m ((c : Thread nD τ).loc main_arg1)) (m ((c : Thread nD τ).loc main_arg2)))
    (m ((c : Thread nD τ).loc main_arg3)) (m ((c : Thread nD τ).loc main_arg6)) (m ((c : Thread nD τ).loc main_arg7)) i

theorem row_apply (t : Fin cfg0.N) (r : Fin 512) (n : Fin 1024) : k0_pay2 (F := Ideal) (iblk m c 2 t) (iblk m c 0 t) (iblk m c 1 t) (ix2 r n)
      = tokRow (fun k => noRows (ix2 (row t r) k)) (fun k n => noMatrix (ix2 k n))
          (fun n => mixed (m ((c : Thread nD τ).loc main_arg0)) (m ((c : Thread nD τ).loc main_arg1)) (m ((c : Thread nD τ).loc main_arg2)) (ix2 (row t r) n)) n := by
  rw [pay2_apply, iblk2_apply, nothing]
  exact congrArg₂ (· + ·) rfl (Finset.sum_congr rfl fun k _ => by rw [iblk0_apply, iblk1_apply]; rfl)

variable (h3 : ∀ i, ∃ z : ℝ, m ((c : Thread nD τ).loc main_arg3) i = (z : EReal)) (h4 : ∀ i, ∃ z : ℝ, m ((c : Thread nD τ).loc main_arg4) i = (z : EReal))
  (h5 : ∀ i, ∃ z : ℝ, m ((c : Thread nD τ).loc main_arg5) i = (z : EReal)) (h6 : ∀ i, ∃ z : ℝ, m ((c : Thread nD τ).loc main_arg6) i = (z : EReal))
  (h7 : ∀ i, ∃ z : ℝ, m ((c : Thread nD τ).loc main_arg7) i = (z : EReal))

include h3 h4 h5 h6 h7

theorem column (t : Fin cfg0.N) (r : Fin 512) : Column (P m c t) (Q m c t) (memB m c) r (memGroup m c (row t r)) (memExpert m c (row t r)) :=
  column_of _ _ _ _ _ _ _ _ h3 h4 h5 h6 h7 _ _ _ _ (row_apply m c t r) (iblk3_apply m c t)

theorem before_apply (t : Fin cfg0.N) (r l : Fin 128) : before m c t (ix2 r l) = ((seen (memGroup m c) (memExpert m c) r.val (t.val * 512) : ℝ) : EReal) :=
  before_seen (p := fun t => P m c (tp t)) (q := fun t => Q m c (tp t)) (fun t => column m c h3 h4 h5 h6 h7 (tp t)) (fun t => before m c (tp t))
    (fun _ => if_pos (show 0 % 64 = 0 from rfl))
    (fun n hn => (if_neg (show ¬(n + 1) % 64 = 0 by have := Cert.RouteKernelIdeal.Block.N_eq; omega)).trans (tally_after m c (tp ⟨n, Nat.lt_of_succ_lt hn⟩)))
    (pt t).val (pt t).isLt r l

/-- The numbers' array. -/
theorem ids_row (s : Fin 8) (t : Fin cfg0.N) (r : Fin 512) :
    Value.G8 m c (ix2 s (row t r)) = idsWord (memGroup m c (row t r)) (memExpert m c (row t r))
      (seen (memGroup m c) (memExpert m c) (pick (memGroup m c (row t r)) (memExpert m c (row t r)) 0) (row t r).val)
      (seen (memGroup m c) (memExpert m c) (pick (memGroup m c (row t r)) (memExpert m c (row t r)) 1) (row t r).val) s.val := by
  obtain ⟨-, -, -, -, -, -, -, -, -, -, -, -, -, -, e0, e1, -⟩ := idx_facts t
  have hy : ((cfg0.win 8).blk t).view.emb (ix2 s r : S8x512.Idx) = (ix2 s (row t r) : S8x32768.Idx) := funext fun a => Fin.ext (by
    match a with
    | ⟨0, _⟩ => show win0_8.index t (0 : Fin 2) * 8 + 1 * s.val = s.val; omega
    | ⟨1, _⟩ => show win0_8.index t (1 : Fin 2) * 512 + 1 * r.val = t.val * 512 + r.val; omega)
  have f := congrFun ((Value.flushed8_eq m c t (flush0_8 t)).symm.trans (ids_flushed m c t)) (ix2 s r : S8x512.Idx)
  have f' : Value.G8 m c (((cfg0.win 8).blk t).view.emb (ix2 s r : S8x512.Idx)) = idsBlk (P m c t) (Q m c t) (memB m c)
    (ranks (P m c t) (Q m c t) (memB m c) (iblk m c 6 t) (before m c t)) (FloatOps.ofBits .f32 0x00000000#32) (ix2 s r) := f
  rw [hy] at f'
  rw [f']
  exact ids_block (p := fun t => P m c (tp t)) (q := fun t => Q m c (tp t)) (fun t => column m c h3 h4 h5 h6 h7 (tp t)) (pt t) _ (before_apply m c h3 h4 h5 h6 h7 t) _ (iblk6_apply m c t) s r

/-- The weights' array. -/
theorem gates_row (n : Fin 128) (t : Fin cfg0.N) (r : Fin 512) :
    Value.G9 m c (ix2 (row t r) n) = weight (memGroup m c (row t r)) (memExpert m c (row t r)) n.val := by
  obtain ⟨-, -, -, -, -, -, -, -, -, -, -, -, -, -, -, -, e0, e1, -⟩ := idx_facts t
  have hy : ((cfg0.win 9).blk t).view.emb (ix2 r n : S512x128.Idx) = (ix2 (row t r) n : S32768x128.Idx) := funext fun a => Fin.ext (by
    match a with
    | ⟨0, _⟩ => show win0_9.index t (0 : Fin 2) * 512 + 1 * r.val = t.val * 512 + r.val; omega
    | ⟨1, _⟩ => show win0_9.index t (1 : Fin 2) * 128 + 1 * n.val = n.val; omega)
  have f := congrFun ((Value.flushed9_eq m c t (flush0_9 t)).symm.trans (gates_flushed m c t)) (ix2 r n : S512x128.Idx)
  have f' : Value.G9 m c (((cfg0.win 9).blk t).view.emb (ix2 r n : S512x128.Idx)) = gatesBlk (P m c t) (Q m c t) (memB m c) (ix2 r n) := f
  rw [hy] at f'
  rw [f']
  exact gates_apply (column m c h3 h4 h5 h6 h7 t r) n

theorem ids_eq (s : Fin 8) (i : Fin 32768) : Value.G8 m c (ix2 s i) = idsWord (memGroup m c i) (memExpert m c i)
      (seen (memGroup m c) (memExpert m c) (pick (memGroup m c i) (memExpert m c i) 0) i.val)
      (seen (memGroup m c) (memExpert m c) (pick (memGroup m c i) (memExpert m c i) 1) i.val) s.val := by
  obtain ⟨t, r, rfl⟩ := row_surj i
  exact ids_row m c h3 h4 h5 h6 h7 s (tp t) r

theorem gates_eq (i : Fin 32768) (n : Fin 128) : Value.G9 m c (ix2 i n) = weight (memGroup m c i) (memExpert m c i) n.val := by
  obtain ⟨t, r, rfl⟩ := row_surj i
  exact gates_row m c h3 h4 h5 h6 h7 n (tp t) r

/-- The counts' array: it leaves after the last point. -/
theorem counts_eq (r l : Fin 128) : Value.G10 m c (ix2 r l) = ((seen (memGroup m c) (memExpert m c) r.val 32768 : ℝ) : EReal) := by
  have ht : 63 < cfg0.N := by have := N_eq; omega
  obtain ⟨-, -, -, -, -, -, -, -, -, -, -, -, -, -, -, -, -, -, e0, e1⟩ := idx_facts ⟨63, ht⟩
  have hy : ((cfg0.win 10).blk ⟨63, ht⟩).view.emb (ix2 r l : S128x128.Idx) = (ix2 r l : S128x128.Idx) := funext fun a => Fin.ext (by
    match a with
    | ⟨0, _⟩ => show win0_10.index ⟨63, ht⟩ (0 : Fin 2) * 128 + 1 * r.val = r.val; omega
    | ⟨1, _⟩ => show win0_10.index ⟨63, ht⟩ (1 : Fin 2) * 128 + 1 * l.val = l.val; omega)
  have f := congrFun ((Value.flushed10_eq m c ⟨63, ht⟩ ((flush0_10 ⟨63, ht⟩).mpr rfl)).symm.trans (counts_flushed m c ⟨63, ht⟩)) (ix2 r l : S128x128.Idx)
  have f' : Value.G10 m c (((cfg0.win 10).blk ⟨63, ht⟩).view.emb (ix2 r l : S128x128.Idx))
    = tally (P m c ⟨63, ht⟩) (Q m c ⟨63, ht⟩) (memB m c) (before m c ⟨63, ht⟩) (ix2 r l) := f
  rw [hy] at f'
  rw [f']
  exact tally_block (p := fun t => P m c (tp t)) (q := fun t => Q m c (tp t)) (fun t => column m c h3 h4 h5 h6 h7 (tp t)) (pt ⟨63, ht⟩) _ r l (before_apply m c h3 h4 h5 h6 h7 ⟨63, ht⟩ r l)

end Cert.RouteOutKernelIdeal.Block

end
-- ==== Proof.RouteOutRef.lean ====
/- THE REFERENCE OF THE ROUTER AFTER THE MIXER. Its stages after the rows are those of the reference after the attention, so each stage is that
   reference's at the rows in the residual's place with nothing to project; the results follow (`same_ids`, `same_gates`, `same_counts`). -/
module

public import proofs.«01_k».proof.Proof.Gen.RouteOutReferenceIdeal.Read
public import proofs.«01_k».proof.Proof.Gen.Pre_real_out
public import proofs.«01_k».proof.Proof.RouteRef
public import proofs.«01_k».proof.Proof.RouteOutKept

@[expose] public section

set_option maxRecDepth 16384

noncomputable section

namespace Cert.Pre_real_out

open Idealize.ShloMosaic

/-- What the precondition says: the same as after the attention, for it does not read the rows. -/
theorem reals (a : FVec Ideal S32768x2048 .bf16) (w : FVec Ideal S2048x1024 .bf16) (x : FVec Ideal S32768x1024 .f32) (ln : FVec Ideal S1024 .f32)
    (wg : FVec Ideal S1024x8 .f32) (bg : FVec Ideal S8 .f32) (we : FVec Ideal S1024x64 .f32) (be : FVec Ideal S64 .f32)
    (h : fn (F := Ideal) a w x ln wg bg we be = fun _ => 1#1) :
    (∀ i, ∃ z : ℝ, ln i = (z : EReal)) ∧ (∀ i, ∃ z : ℝ, wg i = (z : EReal)) ∧ (∀ i, ∃ z : ℝ, bg i = (z : EReal))
      ∧ (∀ i, ∃ z : ℝ, we i = (z : EReal)) ∧ (∀ i, ∃ z : ℝ, be i = (z : EReal)) :=
  Cert.Pre_real.reals (fun _ => (0 : EReal)) (fun _ => (0 : EReal)) x ln wg bg we be h

end Cert.Pre_real_out

namespace Cert.RouteOutReferenceIdeal.Block

open Cert.RouteOutReferenceIdeal Cert.RouteOutReferenceIdeal.Gen Cert.RouteOutReferenceIdeal.Read Cert.Proof
open Cert.RouteOutKernelIdeal.Block (mixed noRows noMatrix nothing)
open Idealize.ShloMosaic
open scoped BigOperators

variable (x0 : Vec Ideal S32768x2048 .bf16) (x1 : Vec Ideal S2048x1024 .bf16) (x2 : Vec Ideal S32768x1024 .f32) (x3 : Vec Ideal S1024 .f32)
  (x4 : Vec Ideal S1024x8 .f32) (x5 : Vec Ideal S8 .f32) (x6 : Vec Ideal S1024x64 .f32) (x7 : Vec Ideal S64 .f32)

theorem same_row : val_main_v3 (F := Ideal) x0 x1 x2 = Cert.RouteReferenceIdeal.Read.val_main_v3 (F := Ideal) noRows noMatrix (mixed x0 x1 x2) := by
  have e : ∀ (i : Fin 32768) (n : Fin 1024), val_main_v3 (F := Ideal) x0 x1 x2 (ix2 i n)
      = Cert.RouteReferenceIdeal.Read.val_main_v3 (F := Ideal) noRows noMatrix (mixed x0 x1 x2) (ix2 i n) := fun i n => by
    rw [Cert.RouteReferenceIdeal.Block.tok_row, nothing, val_main_v3_apply, val_main_v2_apply]
    have e1 : ∀ k, lidx_main_v2 (ix2 i n) k = ix2 i k := fun k => ValueIdx.eq_ix2 _
    have e2 : ∀ k, ridx_main_v2 (ix2 i n) k = ix2 k n := fun k => ValueIdx.eq_ix2 _
    simp only [e1, e2]
    rfl
  exact funext fun j => (congrArg _ (ValueIdx.eq_ix2 j)).trans ((e (j 0) (j 1)).trans (congrArg _ (ValueIdx.eq_ix2 j)).symm)

theorem same_norm : val_main_v16 (F := Ideal) x0 x1 x2 x3 = Cert.RouteReferenceIdeal.Read.val_main_v16 (F := Ideal) noRows noMatrix (mixed x0 x1 x2) x3 := by
  unfold val_main_v16 val_main_v13 val_main_v12 val_main_v11 val_main_v10 val_main_v8 val_main_v6 val_main_v5 val_main_v4
  rw [same_row]
  rfl

theorem same_share : val_main_v31 (F := Ideal) x0 x1 x2 x3 x4 x5 = Cert.RouteReferenceIdeal.Read.val_main_v31 (F := Ideal) noRows noMatrix (mixed x0 x1 x2) x3 x4 x5 := by
  have e : val_main_v20 (F := Ideal) x0 x1 x2 x3 x4 x5 = Cert.RouteReferenceIdeal.Read.val_main_v20 (F := Ideal) noRows noMatrix (mixed x0 x1 x2) x3 x4 x5 := by
    unfold val_main_v20 val_main_v17
    rw [same_norm]
    rfl
  unfold val_main_v31 val_main_v30 val_main_v29 val_main_v28 val_main_v27 val_main_v26 val_main_v25 val_main_v24 val_main_v23 val_main_v21
  rw [e]
  rfl

theorem same_group : val_main_indices (F := Ideal) x0 x1 x2 x3 x4 x5 = Cert.RouteReferenceIdeal.Read.val_main_indices (F := Ideal) noRows noMatrix (mixed x0 x1 x2) x3 x4 x5 := by
  unfold val_main_indices
  rw [same_share]
  rfl

theorem same_taken : val_main_v39 (F := Ideal) x0 x1 x2 x3 x4 x5 x6 x7
    = Cert.RouteReferenceIdeal.Read.val_main_v39 (F := Ideal) noRows noMatrix (mixed x0 x1 x2) x3 x4 x5 x6 x7 := by
  have e1 : val_main_v36 (F := Ideal) x0 x1 x2 x3 x6 x7 = Cert.RouteReferenceIdeal.Read.val_main_v36 (F := Ideal) noRows noMatrix (mixed x0 x1 x2) x3 x6 x7 := by
    unfold val_main_v36 val_main_v35 val_main_v32
    rw [same_norm]
    rfl
  have e2 : val_main_call0_v4 (F := Ideal) x0 x1 x2 x3 x4 x5 = Cert.RouteReferenceIdeal.Read.val_main_call0_v4 (F := Ideal) noRows noMatrix (mixed x0 x1 x2) x3 x4 x5 := by
    unfold val_main_call0_v4 val_main_call0_v3 val_main_call0_v1 val_main_v37
    rw [same_group]
    rfl
  unfold val_main_v39 val_main_v38 val_main_call0_v13 val_main_call0_v12 val_main_call0_v11 val_main_call0_v10 val_main_call0_v9 val_main_call0_v6
  rw [e1, e2]
  rfl

theorem same_expert_share : val_main_v50 (F := Ideal) x0 x1 x2 x3 x4 x5 x6 x7
    = Cert.RouteReferenceIdeal.Read.val_main_v50 (F := Ideal) noRows noMatrix (mixed x0 x1 x2) x3 x4 x5 x6 x7 := by
  unfold val_main_v50 val_main_v49 val_main_v48 val_main_v47 val_main_v46 val_main_v45 val_main_v44 val_main_v43 val_main_v42 val_main_v40
  rw [same_taken]
  rfl

/-- The weights. -/
theorem same_gates : val_main_v79 (F := Ideal) x0 x1 x2 x3 x4 x5 x6 x7
    = Cert.RouteReferenceIdeal.Read.val_main_v79 (F := Ideal) noRows noMatrix (mixed x0 x1 x2) x3 x4 x5 x6 x7 := by
  have e : val_main_values_8 (F := Ideal) x0 x1 x2 x3 x4 x5 x6 x7
      = Cert.RouteReferenceIdeal.Read.val_main_values_8 (F := Ideal) noRows noMatrix (mixed x0 x1 x2) x3 x4 x5 x6 x7 := by
    unfold val_main_values_8
    rw [same_expert_share]
    rfl
  unfold val_main_v79 val_main_v56 val_main_v55 val_main_v54 val_main_v53 val_main_v52 val_main_v51 val_main_values
  rw [e, same_share]
  rfl

theorem same_number : val_main_v60 (F := Ideal) x0 x1 x2 x3 x4 x5 x6 x7
    = Cert.RouteReferenceIdeal.Read.val_main_v60 (F := Ideal) noRows noMatrix (mixed x0 x1 x2) x3 x4 x5 x6 x7 := by
  unfold val_main_v60 val_main_v59 val_main_v58 val_main_indices_9
  rw [same_group, same_expert_share]
  rfl

theorem same_hit : val_main_v68 (F := Ideal) x0 x1 x2 x3 x4 x5 x6 x7
    = Cert.RouteReferenceIdeal.Read.val_main_v68 (F := Ideal) noRows noMatrix (mixed x0 x1 x2) x3 x4 x5 x6 x7 := by
  unfold val_main_v68 val_main_v67 val_main_v65 val_main_v62 val_main_v61
  rw [same_number]
  rfl

/-- The experts' numbers with the places. -/
theorem same_ids : val_main_v78 (F := Ideal) x0 x1 x2 x3 x4 x5 x6 x7
    = Cert.RouteReferenceIdeal.Read.val_main_v78 (F := Ideal) noRows noMatrix (mixed x0 x1 x2) x3 x4 x5 x6 x7 := by
  unfold val_main_v78 val_main_v77 val_main_v76 val_main_v73 val_main_v72 val_main_v71 val_main_v70 val_main_v69
  rw [same_number, same_hit]
  rfl

/-- The counts. -/
theorem same_counts : val_main_v82 (F := Ideal) x0 x1 x2 x3 x4 x5 x6 x7
    = Cert.RouteReferenceIdeal.Read.val_main_v82 (F := Ideal) noRows noMatrix (mixed x0 x1 x2) x3 x4 x5 x6 x7 := by
  unfold val_main_v82 val_main_v81 val_main_v80 val_main_v75 val_main_v74
  rw [same_hit]
  rfl

end Cert.RouteOutReferenceIdeal.Block

end
-- ==== Proof.QkvBlock.lean ====
/- WHAT THE QUERY-KEY-VALUE PROJECTION LEAVES. A grid point takes 512 rows, scales each by its root mean square and the weight
   (`pay1_apply`), and multiplies by the whole projection matrix (`pay2_apply`). The points' blocks tile the result array
   (`cover`), so the array after the run is one function of the arguments (`final_o`), and the host reference computes the same
   function (`ref_eq`). -/
module

public import proofs.«01_k».proof.Proof.Norm
public import proofs.«01_k».proof.Proof.Gen.QkvKernelIdeal.Value
public import proofs.«01_k».proof.Proof.Gen.QkvReferenceIdeal.Read
public import Idealize.ShloMosaic.Lib.ValueIdx
public import Idealize.ShloMosaic.Lib.Pointwise

@[expose] public section

set_option maxRecDepth 16384

noncomputable section

namespace Cert.QkvKernelIdeal.Block

open Cert.QkvKernelIdeal Cert.QkvKernelIdeal.Gen Cert.Proof
open Idealize.ShloMosaic Idealize.ShloMosaic.TcCoe Idealize.SL.Sem
open Idealize.ShloMosaic.Pipeline (Dat)
open scoped BigOperators

/-! ## One block -/

/-- The normalised block at row `r`, column `k`. -/
theorem pay1_apply (x : Vec Ideal S512x1024 .f32) (g : Vec Ideal S1x1024 .f32) (r : Fin 512) (k : Fin 1024) :
    k0_pay1 (F := Ideal) x g (ix2 r k) = nrm (fun j => x (ix2 r j)) (x (ix2 r k)) (g (ix2 0 k)) := by
  unfold k0_pay1 nrm
  simp only [pointwise]
  rfl

/-- The product block at row `r`, column `n`. -/
theorem pay2_apply (h : Vec Ideal S512x1024 .bf16) (w : Vec Ideal S1024x1536 .bf16) (r : Fin 512) (n : Fin 1536) :
    k0_pay2 (F := Ideal) h w (ix2 r n) = ∑ k : Fin 1024, h (ix2 r k) * w (ix2 k n) := by
  unfold k0_pay2
  simp only [pointwise]
  exact zero_add _

theorem hz : (![0, 0] : Fin 2 → Nat) = fun _ => 0 := funext fun a => by fin_cases a <;> rfl

/-- What the body leaves in the result's block: the product of the normalised block and the matrix. -/
theorem out_eq {F : FTy → Type} [FloatOps F] (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1536 .bf16) (h4 : a4.IsWhole)
    (a5 : Memref sig .tc .vmem S512x1536 .bf16) (h5 : a5.IsWhole) (a6 : Memref sig .tc .vmem S512x1024 .bf16) (h6 : a6.IsWhole)
    (hc : cond0_0 i) (x : Vec F S512x1024 .f32) (g : Vec F S1x1024 .f32) (w : Vec F S1024x1536 .bf16) :
    out0_A_3 c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  simp only [View.readAt_eq_ld, h2.read_unread, h3.read_unread, h4.read_unread]
  rw [View.canon_unit_zero hz, View.ld_unit_zero hz, View.ld_unit_zero hz, View.ld_unit_zero hz, View.readCov_unit_zero _ hz]

/-! ## The array -/

variable (m : (ℓ : Loc nD τ sig) → Buf (Elt Ideal) ℓ) (ρ : Dev nD → PrngReg)

/-- The projection of the normalised rows, at row `i`, column `n`. -/
def val (x : Vec Ideal S32768x1024 .f32) (g : Vec Ideal S1024 .f32) (w : Vec Ideal S1024x1536 .bf16) (i : Fin 32768) (n : Fin 1536) : EReal :=
  ∑ k : Fin 1024, nrm (fun j => x (ix2 i j)) (x (ix2 i k)) (g (ix1 k)) * w (ix2 k n)

/-- The result array as one function of device `c`'s arguments. -/
def G (c : Dev nD) : Vec Ideal S32768x1536 .bf16 := fun i =>
  val (m ((c : Thread nD τ).loc main_arg0)) (m ((c : Thread nD τ).loc main_arg1)) (m ((c : Thread nD τ).loc main_arg2)) (i 0) (i 1)

/-- Where point `t`'s blocks lie. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem N_eq : cfg0.N = 64 := N_0

/-- The row of the whole array that row `r` of point `t`'s block is. -/
def row (t : Fin cfg0.N) (r : Fin 512) : Fin 32768 :=
  ⟨t.val * 512 + r.val, by have := t.isLt; have := r.isLt; have := N_eq; omega⟩

/-- The rows' block. -/
theorem iblk0_apply (c : Dev nD) (t : Fin cfg0.N) (r : Fin 512) (k : Fin 1024) :
    (iblk m c 0 t : Vec Ideal S512x1024 .f32) (ix2 r k) = m ((c : Thread nD τ).loc main_arg0) (ix2 (row t r) k) := by
  obtain ⟨e0, e1, -⟩ := idx_facts t
  refine (congrFun (V_main_arg0 m c) _).trans (congrArg (m ((c : Thread nD τ).loc main_arg0)) (funext fun a => Fin.ext ?_))
  match a with
  | ⟨0, _⟩ => show win0_0.index t (0 : Fin 2) * 512 + 1 * r.val = t.val * 512 + r.val; omega
  | ⟨1, _⟩ => show win0_0.index t (1 : Fin 2) * 1024 + 1 * k.val = k.val; omega

/-- The weight as the region finds it: the argument read as one row. -/
theorem V_main_v0 (c : Dev nD) : (V m c main_v0 : Vec Ideal S1x1024 .f32)
    = shapeCast S1x1024 (m ((c : Thread nD τ).loc main_arg1)) shapeCasts_S1024_S1x1024 := by
  show StableHlo.after hostOps0 _ (main_v0 : Ref sig .tc) = _
  after_results
  rfl

/-- The weight's block. -/
theorem iblk1_apply (c : Dev nD) (t : Fin cfg0.N) (k : Fin 1024) :
    (iblk m c 1 t : Vec Ideal S1x1024 .f32) (ix2 0 k) = m ((c : Thread nD τ).loc main_arg1) (ix1 k) := by
  obtain ⟨-, -, e0, e1, -⟩ := idx_facts t
  have h : (iblk m c 1 t : Vec Ideal S1x1024 .f32) (ix2 0 k) = (V m c main_v0 : Vec Ideal S1x1024 .f32) (ix2 0 k) := by
    refine congrArg (V m c main_v0 : Vec Ideal S1x1024 .f32) (funext fun a => Fin.ext ?_)
    match a with
    | ⟨0, _⟩ => show win0_1.index t (0 : Fin 2) * 1 + 1 * 0 = 0; omega
    | ⟨1, _⟩ => show win0_1.index t (1 : Fin 2) * 1024 + 1 * k.val = k.val; omega
  rw [h, V_main_v0]
  simp only [pointwise]

/-- The matrix's block: all of it. -/
theorem iblk2_apply (c : Dev nD) (t : Fin cfg0.N) (k : Fin 1024) (n : Fin 1536) :
    (iblk m c 2 t : Vec Ideal S1024x1536 .bf16) (ix2 k n) = m ((c : Thread nD τ).loc main_arg2) (ix2 k n) := by
  obtain ⟨-, -, -, -, e0, e1, -⟩ := idx_facts t
  refine (congrFun (V_main_arg2 m c) _).trans (congrArg (m ((c : Thread nD τ).loc main_arg2)) (funext fun a => Fin.ext ?_))
  match a with
  | ⟨0, _⟩ => show win0_2.index t (0 : Fin 2) * 1024 + 1 * k.val = k.val; omega
  | ⟨1, _⟩ => show win0_2.index t (1 : Fin 2) * 1536 + 1 * n.val = n.val; omega

/-- What point `t` writes back is the function `G` over its block. -/
theorem flushed_eq (c : Dev nD) (t : Fin cfg0.N) :
    (dats m 0 c).flushed 3 t = ((cfg0.win 3).blk t).view.read (Elt Ideal) (G m c) := by
  rw [Value.flushed3_A, out_eq]
  obtain ⟨-, -, -, -, -, -, e0, e1⟩ := idx_facts t
  refine funext fun (y : S512x1536.Idx) => ?_
  obtain ⟨r, n, rfl⟩ : ∃ (r : Fin 512) (n : Fin 1536), y = ix2 r n := ⟨y 0, y 1, ValueIdx.eq_ix2 y⟩
  have hy : ((cfg0.win 3).blk t).view.emb (ix2 r n : S512x1536.Idx) = (ix2 (row t r) n : S32768x1536.Idx) := funext fun a => Fin.ext (by
    match a with
    | ⟨0, _⟩ => show win0_3.index t (0 : Fin 2) * 512 + 1 * r.val = t.val * 512 + r.val; omega
    | ⟨1, _⟩ => show win0_3.index t (1 : Fin 2) * 1536 + 1 * n.val = n.val; omega)
  show k0_pay2 (k0_pay1 (iblk m c 0 t) (iblk m c 1 t)) (iblk m c 2 t) (ix2 r n) = G m c (((cfg0.win 3).blk t).view.emb (ix2 r n : S512x1536.Idx))
  rw [hy, pay2_apply]
  show _ = val _ _ _ (row t r) n
  unfold val
  refine Finset.sum_congr rfl fun k _ => ?_
  rw [pay1_apply, iblk2_apply, iblk1_apply, iblk0_apply]
  simp only [iblk0_apply]

/-- Every index of the result is in a block. -/
theorem cover (i : S32768x1536.Idx) : ∃ t : Fin cfg0.N, (cfg0.win 3).flush t = true ∧ i ∈ ((cfg0.win 3).blk t).view.set := by
  have h0 : (i 0 : Nat) < 32768 := (i 0).isLt
  have h1 : (i 1 : Nat) < 1536 := (i 1).isLt
  have hN := N_eq
  obtain ⟨t, ht⟩ : ∃ t : Fin cfg0.N, t.val = (i 0 : Nat) / 512 := ⟨⟨(i 0 : Nat) / 512, by omega⟩, rfl⟩
  refine ⟨t, flush0_3 t, ?_⟩
  obtain ⟨-, -, -, -, -, -, e0, e1⟩ := idx_facts t
  show i ∈ ((View.whole main_v1).slice (win0_3.rect t)).set
  rw [View.set_slice_whole, Rect.mem_set_unit]
  intro a
  match a with
  | ⟨0, _⟩ => show win0_3.index t (0 : Fin 2) * 512 ≤ (i 0 : Nat) ∧ (i 0 : Nat) < win0_3.index t (0 : Fin 2) * 512 + 512
              rw [e0, ht]; omega
  | ⟨1, _⟩ => show win0_3.index t (1 : Fin 2) * 1536 ≤ (i 1 : Nat) ∧ (i 1 : Nat) < win0_3.index t (1 : Fin 2) * 1536 + 1536
              rw [e1]; omega

/-- The array after the run. -/
theorem final_o (c : Dev nD) : (dats m 0 c).arrAt 3 cfg0.N = G m c :=
  (dats m 0 c).arrAt_eq_of_cover 3 (G m c) (fun t _ => flushed_eq m c t) cover

/-- The run, read. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_o m c), (h c).2⟩) (Value.run_blocks m ρ)

end Cert.QkvKernelIdeal.Block

/-! ## The reference -/

namespace Cert.QkvReferenceIdeal.Block

open Cert.QkvReferenceIdeal Cert.QkvReferenceIdeal.Gen Cert.QkvReferenceIdeal.Read Cert.Proof
open Idealize.ShloMosaic
open scoped BigOperators

/-- The reference's result at row `i`, column `n`. -/
theorem ref_apply (x : Vec Ideal S32768x1024 .f32) (g : Vec Ideal S1024 .f32) (w : Vec Ideal S1024x1536 .bf16) (i : Fin 32768) (n : Fin 1536) :
    val_main_v15 (F := Ideal) x g w (ix2 i n) = Cert.QkvKernelIdeal.Block.val x g w i n := by
  unfold Cert.QkvKernelIdeal.Block.val
  rw [val_main_v15_apply]
  show val_main_v14 (F := Ideal) x g w (ix2 i n) = _
  rw [val_main_v14_apply]
  refine Finset.sum_congr rfl fun k _ => ?_
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply, val_main_v13_apply,
    val_main_cst_apply, val_main_cst_0_apply, val_main_cst_1_apply]
  simp only [val_main_v0_apply]
  have e1 : lidx_main_v14 (ix2 i n) k = ix2 i k := ValueIdx.eq_ix2 _
  have e2 : ∀ j, idx_main_v1 (idx_main_v2 (idx_main_v8 (ix2 i k))) j = ix2 i j := fun j => ValueIdx.eq_ix2 _
  have e3 : idx_main_v10 (idx_main_v11 (ix2 i k)) = ix1 k := ValueIdx.eq_ix1 _
  have e4 : ridx_main_v14 (ix2 i n) k = ix2 k n := ValueIdx.eq_ix2 _
  simp only [e1, e2, e3, e4, pointwise]
  unfold nrm
  rw [zero_add]

/-- So the reference's result is the kernel's function of the arguments. -/
theorem ref_eq (x : Vec Ideal S32768x1024 .f32) (g : Vec Ideal S1024 .f32) (w : Vec Ideal S1024x1536 .bf16) :
    val_main_v15 (F := Ideal) x g w = fun i => Cert.QkvKernelIdeal.Block.val x g w (i 0) (i 1) :=
  funext fun i => (congrArg (val_main_v15 (F := Ideal) x g w) (ValueIdx.eq_ix2 i)).trans (ref_apply x g w (i 0) (i 1))

end Cert.QkvReferenceIdeal.Block

end
-- ==== Proof.InBlock.lean ====
/- WHAT THE STATE-SPACE LAYER'S INPUT PROJECTION LEAVES. A grid point takes 1024 rows, scales each by its root mean square and
   the weight (`pay1_apply`), and multiplies by the wide projection matrix and by the narrow one of the step sizes
   (`pay4_apply`, `pay3_apply`). The points' blocks tile the two result arrays, so each array after the run is one function of
   the arguments (`final4`, `final5`), and the host reference computes the same functions (`ref_wide`, `ref_narrow`). -/
module

public import proofs.«01_k».proof.Proof.Norm
public import proofs.«01_k».proof.Proof.Gen.InKernelIdeal.Value
public import proofs.«01_k».proof.Proof.Gen.InReferenceIdeal.Read
public import Idealize.ShloMosaic.Lib.ValueIdx
public import Idealize.ShloMosaic.Lib.Pointwise

@[expose] public section

set_option maxRecDepth 16384

noncomputable section

namespace Cert.InKernelIdeal.Block

open Cert.InKernelIdeal Cert.InKernelIdeal.Gen Cert.Proof
open Idealize.ShloMosaic Idealize.ShloMosaic.TcCoe Idealize.SL.Sem
open Idealize.ShloMosaic.Pipeline (Dat)
open scoped BigOperators

/-! ## One block -/

/-- The normalised block at row `r`, column `k`. -/
theorem pay1_apply (x : Vec Ideal S1024x1024 .f32) (g : Vec Ideal S1x1024 .f32) (r : Fin 1024) (k : Fin 1024) :
    k0_pay1 (F := Ideal) x g (ix2 r k) = nrm (fun j => x (ix2 r j)) (x (ix2 r k)) (g (ix2 0 k)) := by
  unfold k0_pay1 nrm
  simp only [pointwise]
  rfl

theorem pay2_eq (x : Vec Ideal S1024x1024 .f32) (g : Vec Ideal S1x1024 .f32) : k0_pay2 (F := Ideal) x g = k0_pay1 x g := by
  unfold k0_pay2
  exact shapeCast_self _ _

/-- The narrow product block at row `r`, column `n`. -/
theorem pay3_apply (x : Vec Ideal S1024x1024 .f32) (g : Vec Ideal S1x1024 .f32) (w : Vec Ideal S1024x128 .bf16) (r : Fin 1024) (n : Fin 128) :
    k0_pay3 (F := Ideal) x g w (ix2 r n) = ∑ k : Fin 1024, k0_pay1 (F := Ideal) x g (ix2 r k) * w (ix2 k n) := by
  unfold k0_pay3
  generalize k0_pay1 (F := Ideal) x g = h
  simp only [pointwise]
  exact zero_add _

/-- The wide product block at row `r`, column `n`. -/
theorem pay4_apply (h : Vec Ideal S1024x1024 .bf16) (w : Vec Ideal S1024x5120 .bf16) (r : Fin 1024) (n : Fin 5120) :
    k0_pay4 (F := Ideal) h w (ix2 r n) = ∑ k : Fin 1024, h (ix2 r k) * w (ix2 k n) := by
  unfold k0_pay4
  simp only [pointwise]
  exact zero_add _

theorem hz : (![0, 0] : Fin 2 → Nat) = fun _ => 0 := funext fun a => by fin_cases a <;> rfl

/-- What the body leaves in the wide result's block. -/
theorem out4_eq (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x5120 .bf16) (h4 : a4.IsWhole)
    (a5 : Memref sig .tc .vmem S1024x128 .bf16) (h5 : a5.IsWhole) (a6 : Memref sig .tc .vmem S1024x5120 .bf16) (h6 : a6.IsWhole)
    (a7 : Memref sig .tc .vmem S1024x128 .f32) (h7 : a7.IsWhole) (a8 : Memref sig .tc .vmem S1024x1024 .bf16) (h8 : a8.IsWhole)
    (hc : cond0_0 i) (x : Vec Ideal S1024x1024 .f32) (g : Vec Ideal S1x1024 .f32) (w : Vec Ideal S1024x5120 .bf16) (u : Vec Ideal S1024x128 .bf16) :
    out0_A_4 c i a2 h2 a3 h3 a4 h4 a5 h5 a6 h6 a7 h7 a8 h8 hc x g w u = k0_pay4 (k0_pay1 x g) w := by
  unfold out0_A_4
  rw [View.read_writes_eq_canon _ _ _ (cover0_A_4 c i a2 h2 a3 h3 a4 h4 a5 h5 a6 h6 a7 h7 a8 h8 hc x g w u)]
  unfold kernelRun0_A
  dsimp only
  sl_unfold_words
  simp only [View.readAt_eq_ld, h2.read_unread, h3.read_unread, h4.read_unread, h5.read_unread]
  rw [View.canon_unit_zero hz, View.ld_unit_zero hz, View.ld_unit_zero hz, View.ld_unit_zero hz, View.readCov_unit_zero _ hz, pay2_eq]

/-- What the body leaves in the narrow result's block. -/
theorem out5_eq (c : Dev nD) (i : grid0.Coords) (a2 : Memref sig .tc .vmem S1024x1024 .f32) (h2 : a2.IsWhole)
    (a3 : Memref sig .tc .vmem S1x1024 .f32) (h3 : a3.IsWhole) (a4 : Memref sig .tc .vmem S1024x5120 .bf16) (h4 : a4.IsWhole)
    (a5 : Memref sig .tc .vmem S1024x128 .bf16) (h5 : a5.IsWhole) (a6 : Memref sig .tc .vmem S1024x5120 .bf16) (h6 : a6.IsWhole)
    (a7 : Memref sig .tc .vmem S1024x128 .f32) (h7 : a7.IsWhole) (a8 : Memref sig .tc .vmem S1024x1024 .bf16) (h8 : a8.IsWhole)
    (hc : cond0_0 i) (x : Vec Ideal S1024x1024 .f32) (g : Vec Ideal S1x1024 .f32) (w : Vec Ideal S1024x5120 .bf16) (u : Vec Ideal S1024x128 .bf16) :
    out0_A_5 c i a2 h2 a3 h3 a4 h4 a5 h5 a6 h6 a7 h7 a8 h8 hc x g w u = k0_pay3 x g u := by
  unfold out0_A_5
  rw [View.read_writes_eq_canon _ _ _ (cover0_A_5 c i a2 h2 a3 h3 a4 h4 a5 h5 a6 h6 a7 h7 a8 h8 hc x g w u)]
  unfold kernelRun0_A
  dsimp only
  sl_unfold_words
  simp only [View.readAt_eq_ld, h2.read_unread, h3.read_unread, h4.read_unread, h5.read_unread]
  rw [View.canon_unit_zero hz, View.ld_unit_zero hz, View.ld_unit_zero hz, View.ld_unit_zero hz]

/-! ## The arrays -/

variable (m : (ℓ : Loc nD τ sig) → Buf (Elt Ideal) ℓ) (ρ : Dev nD → PrngReg)

/-- The product of the normalised row `i` and column `n` of a matrix of `N` columns. -/
def val {N : Nat} (x : Vec Ideal S32768x1024 .f32) (g : Vec Ideal S1024 .f32) (w : (⟨2, ![1024, N]⟩ : Shape).Idx → EReal) (i : Fin 32768) (n : Fin N) : EReal :=
  ∑ k : Fin 1024, nrm (fun j => x (ix2 i j)) (x (ix2 i k)) (g (ix1 k)) * w (ix2 k n)

/-- The wide result array as one function of device `c`'s arguments. -/
def G4 (c : Dev nD) : Vec Ideal S32768x5120 .bf16 := fun i =>
  val (N := 5120) (m ((c : Thread nD τ).loc main_arg0)) (m ((c : Thread nD τ).loc main_arg1)) (m ((c : Thread nD τ).loc main_arg2)) (i 0) (i 1)
/-- The narrow result array as one function of device `c`'s arguments. -/
def G5 (c : Dev nD) : Vec Ideal S32768x128 .f32 := fun i =>
  val (N := 128) (m ((c : Thread nD τ).loc main_arg0)) (m ((c : Thread nD τ).loc main_arg1)) (m ((c : Thread nD τ).loc main_arg3)) (i 0) (i 1)

/-- Where point `t`'s blocks lie. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem N_eq : cfg0.N = 32 := N_0

/-- The row of the whole array that row `r` of point `t`'s block is. -/
def row (t : Fin cfg0.N) (r : Fin 1024) : Fin 32768 :=
  ⟨t.val * 1024 + r.val, by have := t.isLt; have := r.isLt; have := N_eq; omega⟩

/-- The rows' block. -/
theorem iblk0_apply (c : Dev nD) (t : Fin cfg0.N) (r : Fin 1024) (k : Fin 1024) :
    (iblk m c 0 t : Vec Ideal S1024x1024 .f32) (ix2 r k) = m ((c : Thread nD τ).loc main_arg0) (ix2 (row t r) k) := by
  obtain ⟨e0, e1, -⟩ := idx_facts t
  refine (congrFun (V_main_arg0 m c) _).trans (congrArg (m ((c : Thread nD τ).loc main_arg0)) (funext fun a => Fin.ext ?_))
  match a with
  | ⟨0, _⟩ => show win0_0.index t (0 : Fin 2) * 1024 + 1 * r.val = t.val * 1024 + r.val; omega
  | ⟨1, _⟩ => show win0_0.index t (1 : Fin 2) * 1024 + 1 * k.val = k.val; omega

/-- The weight as the region finds it: the argument read as one row. -/
theorem V_main_v0 (c : Dev nD) : (V m c main_v0 : Vec Ideal S1x1024 .f32)
    = shapeCast S1x1024 (m ((c : Thread nD τ).loc main_arg1)) shapeCasts_S1024_S1x1024 := by
  show StableHlo.after hostOps0 _ (main_v0 : Ref sig .tc) = _
  after_results
  rfl

/-- The weight's block. -/
theorem iblk1_apply (c : Dev nD) (t : Fin cfg0.N) (k : Fin 1024) :
    (iblk m c 1 t : Vec Ideal S1x1024 .f32) (ix2 0 k) = m ((c : Thread nD τ).loc main_arg1) (ix1 k) := by
  obtain ⟨-, -, e0, e1, -⟩ := idx_facts t
  have h : (iblk m c 1 t : Vec Ideal S1x1024 .f32) (ix2 0 k) = (V m c main_v0 : Vec Ideal S1x1024 .f32) (ix2 0 k) := by
    refine congrArg (V m c main_v0 : Vec Ideal S1x1024 .f32) (funext fun a => Fin.ext ?_)
    match a with
    | ⟨0, _⟩ => show win0_1.index t (0 : Fin 2) * 1 + 1 * 0 = 0; omega
    | ⟨1, _⟩ => show win0_1.index t (1 : Fin 2) * 1024 + 1 * k.val = k.val; omega
  rw [h, V_main_v0]
  simp only [pointwise]

/-- The matrix's block: all of it. -/
theorem iblk2_apply (c : Dev nD) (t : Fin cfg0.N) (k : Fin 1024) (n : Fin 5120) :
    (iblk m c 2 t : Vec Ideal S1024x5120 .bf16) (ix2 k n) = m ((c : Thread nD τ).loc main_arg2) (ix2 k n) := by
  obtain ⟨-, -, -, -, e0, e1, -⟩ := idx_facts t
  refine (congrFun (V_main_arg2 m c) _).trans (congrArg (m ((c : Thread nD τ).loc main_arg2)) (funext fun a => Fin.ext ?_))
  match a with
  | ⟨0, _⟩ => show win0_2.index t (0 : Fin 2) * 1024 + 1 * k.val = k.val; omega
  | ⟨1, _⟩ => show win0_2.index t (1 : Fin 2) * 5120 + 1 * n.val = n.val; omega

/-- The narrow matrix's block: all of it. -/
theorem iblk3_apply (c : Dev nD) (t : Fin cfg0.N) (k : Fin 1024) (n : Fin 128) :
    (iblk m c 3 t : Vec Ideal S1024x128 .bf16) (ix2 k n) = m ((c : Thread nD τ).loc main_arg3) (ix2 k n) := by
  obtain ⟨-, -, -, -, -, -, e0, e1, -⟩ := idx_facts t
  refine (congrFun (V_main_arg3 m c) _).trans (congrArg (m ((c : Thread nD τ).loc main_arg3)) (funext fun a => Fin.ext ?_))
  match a with
  | ⟨0, _⟩ => show win0_3.index t (0 : Fin 2) * 1024 + 1 * k.val = k.val; omega
  | ⟨1, _⟩ => show win0_3.index t (1 : Fin 2) * 128 + 1 * n.val = n.val; omega

/-- What point `t` writes back is the function `G4` over its block. -/
theorem flushed4_eq (c : Dev nD) (t : Fin cfg0.N) :
    (dats m 0 c).flushed 4 t = ((cfg0.win 4).blk t).view.read (Elt Ideal) (G4 m c) := by
  rw [Value.flushed4_A, out4_eq]
  obtain ⟨-, -, -, -, -, -, -, -, e0, e1, -⟩ := idx_facts t
  refine funext fun (y : S1024x5120.Idx) => ?_
  obtain ⟨r, n, rfl⟩ : ∃ (r : Fin 1024) (n : Fin 5120), y = ix2 r n := ⟨y 0, y 1, ValueIdx.eq_ix2 y⟩
  have hy : ((cfg0.win 4).blk t).view.emb (ix2 r n : S1024x5120.Idx) = (ix2 (row t r) n : S32768x5120.Idx) := funext fun a => Fin.ext (by
    match a with
    | ⟨0, _⟩ => show win0_4.index t (0 : Fin 2) * 1024 + 1 * r.val = t.val * 1024 + r.val; omega
    | ⟨1, _⟩ => show win0_4.index t (1 : Fin 2) * 5120 + 1 * n.val = n.val; omega)
  show k0_pay4 (k0_pay1 (iblk m c 0 t) (iblk m c 1 t)) (iblk m c 2 t) (ix2 r n) = G4 m c (((cfg0.win 4).blk t).view.emb (ix2 r n : S1024x5120.Idx))
  rw [hy, pay4_apply]
  show _ = val (N := 5120) _ _ _ (row t r) n
  unfold val
  refine Finset.sum_congr rfl fun k _ => ?_
  rw [pay1_apply, iblk2_apply, iblk1_apply, iblk0_apply]
  simp only [iblk0_apply]

/-- Every index of the result is in a block. -/
theorem cover4 (i : S32768x5120.Idx) : ∃ t : Fin cfg0.N, (cfg0.win 4).flush t = true ∧ i ∈ ((cfg0.win 4).blk t).view.set := by
  have h0 : (i 0 : Nat) < 32768 := (i 0).isLt
  have h1 : (i 1 : Nat) < 5120 := (i 1).isLt
  have hN := N_eq
  obtain ⟨t, ht⟩ : ∃ t : Fin cfg0.N, t.val = (i 0 : Nat) / 1024 := ⟨⟨(i 0 : Nat) / 1024, by omega⟩, rfl⟩
  refine ⟨t, flush0_4 t, ?_⟩
  obtain ⟨-, -, -, -, -, -, -, -, e0, e1, -⟩ := idx_facts t
  show i ∈ ((View.whole main_v1_0).slice (win0_4.rect t)).set
  rw [View.set_slice_whole, Rect.mem_set_unit]
  intro a
  match a with
  | ⟨0, _⟩ => show win0_4.index t (0 : Fin 2) * 1024 ≤ (i 0 : Nat) ∧ (i 0 : Nat) < win0_4.index t (0 : Fin 2) * 1024 + 1024
              rw [e0, ht]; omega
  | ⟨1, _⟩ => show win0_4.index t (1 : Fin 2) * 5120 ≤ (i 1 : Nat) ∧ (i 1 : Nat) < win0_4.index t (1 : Fin 2) * 5120 + 5120
              rw [e1]; omega

/-- The array after the run. -/
theorem final4 (c : Dev nD) : (dats m 0 c).arrAt 4 cfg0.N = G4 m c :=
  (dats m 0 c).arrAt_eq_of_cover 4 (G4 m c) (fun t _ => flushed4_eq m c t) cover4

/-- What point `t` writes back is the function `G5` over its block. -/
theorem flushed5_eq (c : Dev nD) (t : Fin cfg0.N) :
    (dats m 0 c).flushed 5 t = ((cfg0.win 5).blk t).view.read (Elt Ideal) (G5 m c) := by
  rw [Value.flushed5_A, out5_eq]
  obtain ⟨-, -, -, -, -, -, -, -, -, -, e0, e1⟩ := idx_facts t
  refine funext fun (y : S1024x128.Idx) => ?_
  obtain ⟨r, n, rfl⟩ : ∃ (r : Fin 1024) (n : Fin 128), y = ix2 r n := ⟨y 0, y 1, ValueIdx.eq_ix2 y⟩
  have hy : ((cfg0.win 5).blk t).view.emb (ix2 r n : S1024x128.Idx) = (ix2 (row t r) n : S32768x128.Idx) := funext fun a => Fin.ext (by
    match a with
    | ⟨0, _⟩ => show win0_5.index t (0 : Fin 2) * 1024 + 1 * r.val = t.val * 1024 + r.val; omega
    | ⟨1, _⟩ => show win0_5.index t (1 : Fin 2) * 128 + 1 * n.val = n.val; omega)
  show k0_pay3 (iblk m c 0 t) (iblk m c 1 t) (iblk m c 3 t) (ix2 r n) = G5 m c (((cfg0.win 5).blk t).view.emb (ix2 r n : S1024x128.Idx))
  rw [hy, pay3_apply]
  show _ = val (N := 128) _ _ _ (row t r) n
  unfold val
  refine Finset.sum_congr rfl fun k _ => ?_
  rw [pay1_apply, iblk3_apply, iblk1_apply, iblk0_apply]
  simp only [iblk0_apply]

/-- Every index of the result is in a block. -/
theorem cover5 (i : S32768x128.Idx) : ∃ t : Fin cfg0.N, (cfg0.win 5).flush t = true ∧ i ∈ ((cfg0.win 5).blk t).view.set := by
  have h0 : (i 0 : Nat) < 32768 := (i 0).isLt
  have h1 : (i 1 : Nat) < 128 := (i 1).isLt
  have hN := N_eq
  obtain ⟨t, ht⟩ : ∃ t : Fin cfg0.N, t.val = (i 0 : Nat) / 1024 := ⟨⟨(i 0 : Nat) / 1024, by omega⟩, rfl⟩
  refine ⟨t, flush0_5 t, ?_⟩
  obtain ⟨-, -, -, -, -, -, -, -, -, -, e0, e1⟩ := idx_facts t
  show i ∈ ((View.whole main_v1_1).slice (win0_5.rect t)).set
  rw [View.set_slice_whole, Rect.mem_set_unit]
  intro a
  match a with
  | ⟨0, _⟩ => show win0_5.index t (0 : Fin 2) * 1024 ≤ (i 0 : Nat) ∧ (i 0 : Nat) < win0_5.index t (0 : Fin 2) * 1024 + 1024
              rw [e0, ht]; omega
  | ⟨1, _⟩ => show win0_5.index t (1 : Fin 2) * 128 ≤ (i 1 : Nat) ∧ (i 1 : Nat) < win0_5.index t (1 : Fin 2) * 128 + 128
              rw [e1]; omega

/-- The array after the run. -/
theorem final5 (c : Dev nD) : (dats m 0 c).arrAt 5 cfg0.N = G5 m c :=
  (dats m 0 c).arrAt_eq_of_cover 5 (G5 m c) (fun t _ => flushed5_eq m c t) cover5

/-- The run, read. -/
theorem run : θ_run defs (onTc (τ := τ) (main (F := Ideal))) ⟨m, fun _ => 0, ρ⟩ fun r => ∀ c : Dev nD,
      r.2.mem ((c : Thread nD τ).loc main_v1_0) = G4 m c
      ∧ r.2.mem ((c : Thread nD τ).loc main_v1_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (Value.run_blocks m ρ)

end Cert.InKernelIdeal.Block

/-! ## The reference -/

namespace Cert.InReferenceIdeal.Block

open Cert.InReferenceIdeal Cert.InReferenceIdeal.Gen Cert.InReferenceIdeal.Read Cert.Proof
open Idealize.ShloMosaic
open scoped BigOperators

/-- The reference's wide result at row `i`, column `n`. -/
theorem ref_wide_apply (x : Vec Ideal S32768x1024 .f32) (g : Vec Ideal S1024 .f32) (w : Vec Ideal S1024x5120 .bf16) (i : Fin 32768) (n : Fin 5120) :
    val_main_v15 (F := Ideal) x g w (ix2 i n) = Cert.InKernelIdeal.Block.val (N := 5120) x g w i n := by
  unfold Cert.InKernelIdeal.Block.val
  rw [val_main_v15_apply]
  show val_main_v14 (F := Ideal) x g w (ix2 i n) = _
  rw [val_main_v14_apply]
  refine Finset.sum_congr rfl fun k _ => ?_
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply, val_main_v13_apply,
    val_main_cst_apply, val_main_cst_0_apply, val_main_cst_1_apply]
  simp only [val_main_v0_apply]
  have e1 : lidx_main_v14 (ix2 i n) k = ix2 i k := ValueIdx.eq_ix2 _
  have e2 : ∀ j, idx_main_v1 (idx_main_v2 (idx_main_v8 (ix2 i k))) j = ix2 i j := fun j => ValueIdx.eq_ix2 _
  have e3 : idx_main_v10 (idx_main_v11 (ix2 i k)) = ix1 k := ValueIdx.eq_ix1 _
  have e4 : ridx_main_v14 (ix2 i n) k = ix2 k n := ValueIdx.eq_ix2 _
  simp only [e1, e2, e3, e4, pointwise]
  unfold nrm
  rw [zero_add]

/-- So the reference's wide result is the kernel's function of the arguments. -/
theorem ref_wide (x : Vec Ideal S32768x1024 .f32) (g : Vec Ideal S1024 .f32) (w : Vec Ideal S1024x5120 .bf16) :
    val_main_v15 (F := Ideal) x g w = fun i => Cert.InKernelIdeal.Block.val (N := 5120) x g w (i 0) (i 1) :=
  funext fun i => (congrArg (val_main_v15 (F := Ideal) x g w) (ValueIdx.eq_ix2 i)).trans (ref_wide_apply x g w (i 0) (i 1))

/-- The reference's narrow result at row `i`, column `n`. -/
theorem ref_narrow_apply (x : Vec Ideal S32768x1024 .f32) (g : Vec Ideal S1024 .f32) (w : Vec Ideal S1024x128 .bf16) (i : Fin 32768) (n : Fin 128) :
    val_main_v17 (F := Ideal) x g w (ix2 i n) = Cert.InKernelIdeal.Block.val (N := 128) x g w i n := by
  unfold Cert.InKernelIdeal.Block.val
  rw [val_main_v17_apply]
  refine Finset.sum_congr rfl fun k _ => ?_
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply, val_main_v16_apply,
    val_main_cst_apply, val_main_cst_0_apply, val_main_cst_1_apply]
  simp only [val_main_v0_apply]
  have e1 : lidx_main_v17 (ix2 i n) k = ix2 i k := ValueIdx.eq_ix2 _
  have e2 : ∀ j, idx_main_v1 (idx_main_v2 (idx_main_v8 (ix2 i k))) j = ix2 i j := fun j => ValueIdx.eq_ix2 _
  have e3 : idx_main_v10 (idx_main_v11 (ix2 i k)) = ix1 k := ValueIdx.eq_ix1 _
  have e4 : ridx_main_v17 (ix2 i n) k = ix2 k n := ValueIdx.eq_ix2 _
  simp only [e1, e2, e3, e4, pointwise]
  unfold nrm
  rw [zero_add]

/-- So the reference's narrow result is the kernel's function of the arguments. -/
theorem ref_narrow (x : Vec Ideal S32768x1024 .f32) (g : Vec Ideal S1024 .f32) (w : Vec Ideal S1024x128 .bf16) :
    val_main_v17 (F := Ideal) x g w = fun i => Cert.InKernelIdeal.Block.val (N := 128) x g w (i 0) (i 1) :=
  funext fun i => (congrArg (val_main_v17 (F := Ideal) x g w) (ValueIdx.eq_ix2 i)).trans (ref_narrow_apply x g w (i 0) (i 1))

end Cert.InReferenceIdeal.Block

end
-- ==== Proof.OutBlock.lean ====
/- WHAT THE PROJECTION OUT OF THE MIXER LEAVES. A grid point takes 512 rows, multiplies them by the whole projection matrix and adds the
   rows of the residual (`pay2_apply`). The points' blocks tile the result array (`cover`), so the array after the run is
   one function of the arguments (`final_x`), and the host reference computes the same function (`ref_eq`). -/
module

public import proofs.«01_k».proof.Proof.Gen.OutKernelIdeal.Value
public import proofs.«01_k».proof.Proof.Gen.OutReferenceIdeal.Read
public import Idealize.ShloMosaic.Lib.ValueIdx
public import Idealize.ShloMosaic.Lib.Pointwise

@[expose] public section

set_option maxRecDepth 16384

noncomputable section

namespace Cert.OutKernelIdeal.Block

open Cert.OutKernelIdeal Cert.OutKernelIdeal.Gen
open Idealize.ShloMosaic Idealize.ShloMosaic.TcCoe Idealize.SL.Sem
open Idealize.ShloMosaic.Pipeline (Dat)
open scoped BigOperators

/-! ## One block -/

/-- The block at row `r`, column `n`. -/
theorem pay2_apply (x : Vec Ideal S512x1024 .f32) (a : Vec Ideal S512x2048 .bf16) (w : Vec Ideal S2048x1024 .bf16) (r : Fin 512) (n : Fin 1024) :
    k0_pay2 (F := Ideal) x a w (ix2 r n) = x (ix2 r n) + ∑ k : Fin 2048, a (ix2 r k) * w (ix2 k n) := by
  unfold k0_pay2
  simp only [pointwise]
  rw [show (0 : EReal) + ∑ k : Fin 2048, a (ix2 r k) * w (ix2 k n) = ∑ k : Fin 2048, a (ix2 r k) * w (ix2 k n) from zero_add _]

theorem hz : (![0, 0] : Fin 2 → Nat) = fun _ => 0 := funext fun a => by fin_cases a <;> rfl

/-- What the first point leaves in the block. -/
theorem outA_eq {F : FTy → Type} [FloatOps F] (c : Dev nD) (i : grid0.Coords) (a1 : Memref sig .tc .vmem S512x2048 .bf16) (h1 : a1.IsWhole) (a2 : Memref sig .tc .vmem S2048x1024 .bf16) (h2 : a2.IsWhole) (a3 : Memref sig .tc .vmem S512x1024 .f32) (h3 : a3.IsWhole) (a4 : Memref sig .tc .vmem S1x1024 .f32) (h4 : a4.IsWhole) (a5 : Memref sig .tc .vmem S1024x128 .f32) (h5 : a5.IsWhole) (a6 : Memref sig .tc .vmem S128x1 .f32) (h6 : a6.IsWhole) (a7 : Memref sig .tc .vmem S512x512 .bf16) (h7 : a7.IsWhole) (a8 : Memref sig .tc .vmem S512x1024 .f32) (h8 : a8.IsWhole) (a9 : Memref sig .tc .vmem S8x512 .i32) (h9 : a9.IsWhole) (a10 : Memref sig .tc .vmem S512x128 .f32) (h10 : a10.IsWhole) (a11 : Memref sig .tc .vmem S128x128 .f32) (h11 : a11.IsWhole) (a12 : Memref sig .tc .vmem S128x128 .f32) (h12 : a12.IsWhole) (a13 : Memref sig .tc .vmem S256x1024 .bf16) (h13 : a13.IsWhole)
    (hc : cond0_0 i) (x0 : Vec F S512x2048 .bf16) (x1 : Vec F S2048x1024 .bf16) (x2 : Vec F S512x1024 .f32) (x3 : Vec F S1x1024 .f32) (x4 : Vec F S1024x128 .f32) (x5 : Vec F S128x1 .f32) (x6 : Vec F S512x512 .bf16) :
    out0_A_7 c i a1 h1 a2 h2 a3 h3 a4 h4 a5 h5 a6 h6 a7 h7 a8 h8 a9 h9 a10 h10 a11 h11 a12 h12 a13 h13 hc x0 x1 x2 x3 x4 x5 x6 = k0_pay2 x2 x0 x1 := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  simp only [View.readAt_eq_ld, h1.read_unread, h2.read_unread, h3.read_unread]
  rw [View.canon_unit_zero hz, View.ld_unit_zero hz, View.ld_unit_zero hz, View.ld_unit_zero hz]

/-- What a later point leaves in the block. -/
theorem outB_eq {F : FTy → Type} [FloatOps F] (c : Dev nD) (i : grid0.Coords) (a1 : Memref sig .tc .vmem S512x2048 .bf16) (h1 : a1.IsWhole) (a2 : Memref sig .tc .vmem S2048x1024 .bf16) (h2 : a2.IsWhole) (a3 : Memref sig .tc .vmem S512x1024 .f32) (h3 : a3.IsWhole) (a4 : Memref sig .tc .vmem S1x1024 .f32) (h4 : a4.IsWhole) (a5 : Memref sig .tc .vmem S1024x128 .f32) (h5 : a5.IsWhole) (a6 : Memref sig .tc .vmem S128x1 .f32) (h6 : a6.IsWhole) (a7 : Memref sig .tc .vmem S512x512 .bf16) (h7 : a7.IsWhole) (a8 : Memref sig .tc .vmem S512x1024 .f32) (h8 : a8.IsWhole) (a9 : Memref sig .tc .vmem S8x512 .i32) (h9 : a9.IsWhole) (a10 : Memref sig .tc .vmem S512x128 .f32) (h10 : a10.IsWhole) (a11 : Memref sig .tc .vmem S128x128 .f32) (h11 : a11.IsWhole) (a12 : Memref sig .tc .vmem S128x128 .f32) (h12 : a12.IsWhole) (a13 : Memref sig .tc .vmem S256x1024 .bf16) (h13 : a13.IsWhole)
    (hc : ¬cond0_0 i) (x0 : Vec F S512x2048 .bf16) (x1 : Vec F S2048x1024 .bf16) (x2 : Vec F S512x1024 .f32) (x3 : Vec F S1x1024 .f32) (x4 : Vec F S1024x128 .f32) (x5 : Vec F S128x1 .f32) (x6 : Vec F S512x512 .bf16) (y0 : Vec F S128x128 .f32) (y1 : Vec F S256x1024 .bf16) :
    out0_B_7 c i a1 h1 a2 h2 a3 h3 a4 h4 a5 h5 a6 h6 a7 h7 a8 h8 a9 h9 a10 h10 a11 h11 a12 h12 a13 h13 hc x0 x1 x2 x3 x4 x5 x6 y0 y1 = k0_pay2 x2 x0 x1 := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 hc x0 x1 x2 x3 x4 x5 x6 y0 y1)]
  unfold kernelRun0_B
  dsimp only
  sl_unfold_words
  simp only [View.readAt_eq_ld, h1.read_unread, h2.read_unread, h3.read_unread]
  rw [View.canon_unit_zero hz, View.ld_unit_zero hz, View.ld_unit_zero hz, View.ld_unit_zero hz]

/-! ## The array -/

variable (m : (ℓ : Loc nD τ sig) → Buf (Elt Ideal) ℓ) (ρ : Dev nD → PrngReg)

/-- The residual plus the projection, at row `i`, column `n`. -/
def val (a : Vec Ideal S32768x2048 .bf16) (w : Vec Ideal S2048x1024 .bf16) (x : Vec Ideal S32768x1024 .f32) (i : Fin 32768) (n : Fin 1024) : EReal :=
  x (ix2 i n) + ∑ k : Fin 2048, a (ix2 i k) * w (ix2 k n)

/-- The result array as one function of device `c`'s arguments. -/
def G (c : Dev nD) : Vec Ideal S32768x1024 .f32 := fun i =>
  val (m ((c : Thread nD τ).loc main_arg0)) (m ((c : Thread nD τ).loc main_arg1)) (m ((c : Thread nD τ).loc main_arg2)) (i 0) (i 1)

/-- Where point `t`'s blocks lie. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0 :=
  (by decide +kernel : ∀ t : Fin grid0.N, _)

theorem N_eq : cfg0.N = 64 := N_0

/-- The row of the whole array that row `r` of point `t`'s block is. -/
def row (t : Fin cfg0.N) (r : Fin 512) : Fin 32768 :=
  ⟨t.val * 512 + r.val, by have := t.isLt; have := r.isLt; have := N_eq; omega⟩

/-- The block of the mixer's rows. -/
theorem iblk0_apply (c : Dev nD) (t : Fin cfg0.N) (r : Fin 512) (k : Fin 2048) :
    (iblk m c 0 t : Vec Ideal S512x2048 .bf16) (ix2 r k) = m ((c : Thread nD τ).loc main_arg0) (ix2 (row t r) k) := by
  obtain ⟨e0, e1, -⟩ := idx_facts t
  refine (congrFun (V_main_arg0 m c) _).trans (congrArg (m ((c : Thread nD τ).loc main_arg0)) (funext fun a => Fin.ext ?_))
  match a with
  | ⟨0, _⟩ => show win0_0.index t (0 : Fin 2) * 512 + 1 * r.val = t.val * 512 + r.val; omega
  | ⟨1, _⟩ => show win0_0.index t (1 : Fin 2) * 2048 + 1 * k.val = k.val; omega

/-- The matrix's block: all of it. -/
theorem iblk1_apply (c : Dev nD) (t : Fin cfg0.N) (k : Fin 2048) (n : Fin 1024) :
    (iblk m c 1 t : Vec Ideal S2048x1024 .bf16) (ix2 k n) = m ((c : Thread nD τ).loc main_arg1) (ix2 k n) := by
  obtain ⟨-, -, e0, e1, -⟩ := idx_facts t
  refine (congrFun (V_main_arg1 m c) _).trans (congrArg (m ((c : Thread nD τ).loc main_arg1)) (funext fun a => Fin.ext ?_))
  match a with
  | ⟨0, _⟩ => show win0_1.index t (0 : Fin 2) * 2048 + 1 * k.val = k.val; omega
  | ⟨1, _⟩ => show win0_1.index t (1 : Fin 2) * 1024 + 1 * n.val = n.val; omega

/-- The residual's block. -/
theorem iblk2_apply (c : Dev nD) (t : Fin cfg0.N) (r : Fin 512) (n : Fin 1024) :
    (iblk m c 2 t : Vec Ideal S512x1024 .f32) (ix2 r n) = m ((c : Thread nD τ).loc main_arg2) (ix2 (row t r) n) := by
  obtain ⟨-, -, -, -, e0, e1, -⟩ := idx_facts t
  refine (congrFun (V_main_arg2 m c) _).trans (congrArg (m ((c : Thread nD τ).loc main_arg2)) (funext fun a => Fin.ext ?_))
  match a with
  | ⟨0, _⟩ => show win0_2.index t (0 : Fin 2) * 512 + 1 * r.val = t.val * 512 + r.val; omega
  | ⟨1, _⟩ => show win0_2.index t (1 : Fin 2) * 1024 + 1 * n.val = n.val; omega

/-- What point `t` leaves in its block, whichever case it is. -/
theorem flushed_pay (c : Dev nD) (t : Fin cfg0.N) :
    (dats m 0 c).flushed 7 t = (cfg0.win 7).cut (grid0.coords t) (k0_pay2 (iblk m c 2 t) (iblk m c 0 t) (iblk m c 1 t)) := by
  by_cases h : t.val % 64 = 0
  · rw [Value.flushed7_A m c t h, outA_eq]
  · rw [Value.flushed7_B m c t h, outB_eq]

/-- What point `t` writes back is the function `G` over its block. -/
theorem flushed_eq (c : Dev nD) (t : Fin cfg0.N) :
    (dats m 0 c).flushed 7 t = ((cfg0.win 7).blk t).view.read (Elt Ideal) (G m c) := by
  rw [flushed_pay]
  obtain ⟨-, -, -, -, -, -, e0, e1⟩ := idx_facts t
  refine funext fun (y : S512x1024.Idx) => ?_
  obtain ⟨r, n, rfl⟩ : ∃ (r : Fin 512) (n : Fin 1024), y = ix2 r n := ⟨y 0, y 1, ValueIdx.eq_ix2 y⟩
  have hy : ((cfg0.win 7).blk t).view.emb (ix2 r n : S512x1024.Idx) = (ix2 (row t r) n : S32768x1024.Idx) := funext fun a => Fin.ext (by
    match a with
    | ⟨0, _⟩ => show win0_7.index t (0 : Fin 2) * 512 + 1 * r.val = t.val * 512 + r.val; omega
    | ⟨1, _⟩ => show win0_7.index t (1 : Fin 2) * 1024 + 1 * n.val = n.val; omega)
  show k0_pay2 (iblk m c 2 t) (iblk m c 0 t) (iblk m c 1 t) (ix2 r n) = G m c (((cfg0.win 7).blk t).view.emb (ix2 r n : S512x1024.Idx))
  rw [hy, pay2_apply, iblk2_apply]
  show _ = val _ _ _ (row t r) n
  unfold val
  exact congrArg₂ (· + ·) rfl (Finset.sum_congr rfl fun k _ => by rw [iblk0_apply, iblk1_apply])

/-- Every index of the result is in a block. -/
theorem cover (i : S32768x1024.Idx) : ∃ t : Fin cfg0.N, (cfg0.win 7).flush t = true ∧ i ∈ ((cfg0.win 7).blk t).view.set := by
  have h0 : (i 0 : Nat) < 32768 := (i 0).isLt
  have h1 : (i 1 : Nat) < 1024 := (i 1).isLt
  have hN := N_eq
  obtain ⟨t, ht⟩ : ∃ t : Fin cfg0.N, t.val = (i 0 : Nat) / 512 := ⟨⟨(i 0 : Nat) / 512, by omega⟩, rfl⟩
  refine ⟨t, flush0_7 t, ?_⟩
  obtain ⟨-, -, -, -, -, -, e0, e1⟩ := idx_facts t
  show i ∈ ((View.whole main_v14_0).slice (win0_7.rect t)).set
  rw [View.set_slice_whole, Rect.mem_set_unit]
  intro a
  match a with
  | ⟨0, _⟩ => show win0_7.index t (0 : Fin 2) * 512 ≤ (i 0 : Nat) ∧ (i 0 : Nat) < win0_7.index t (0 : Fin 2) * 512 + 512
              rw [e0, ht]; omega
  | ⟨1, _⟩ => show win0_7.index t (1 : Fin 2) * 1024 ≤ (i 1 : Nat) ∧ (i 1 : Nat) < win0_7.index t (1 : Fin 2) * 1024 + 1024
              rw [e1]; omega

/-- The array after the run. -/
theorem final_x (c : Dev nD) : (dats m 0 c).arrAt 7 cfg0.N = G m c :=
  (dats m 0 c).arrAt_eq_of_cover 7 (G m c) (fun t _ => flushed_eq m c t) cover

/-- The run, read. -/
theorem run : θ_run defs (onTc (τ := τ) (main (F := Ideal))) ⟨m, fun _ => 0, ρ⟩ fun r => ∀ c : Dev nD,
      r.2.mem ((c : Thread nD τ).loc main_v14_0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final_x m c), (h c).2.2.2.2⟩) (Value.run_blocks m ρ)

end Cert.OutKernelIdeal.Block

/-! ## The reference -/

namespace Cert.OutReferenceIdeal.Block

open Cert.OutReferenceIdeal Cert.OutReferenceIdeal.Gen Cert.OutReferenceIdeal.Read
open Idealize.ShloMosaic
open scoped BigOperators

/-- The reference's result is the kernel's function of the arguments. -/
theorem ref_eq (a : Vec Ideal S32768x2048 .bf16) (w : Vec Ideal S2048x1024 .bf16) (x : Vec Ideal S32768x1024 .f32) :
    val_main_v3 (F := Ideal) a w x = fun i => Cert.OutKernelIdeal.Block.val a w x (i 0) (i 1) := by
  refine funext fun (i : S32768x1024.Idx) => ?_
  unfold Cert.OutKernelIdeal.Block.val
  rw [val_main_v3_apply, val_main_v2_apply]
  refine congrArg₂ (· + ·) (congrArg x (ValueIdx.eq_ix2 i)) (Finset.sum_congr rfl fun k _ => ?_)
  rw [val_main_v0_apply, val_main_v1_apply]
  have e1 : lidx_main_v2 i k = ix2 (i 0) k := ValueIdx.eq_ix2 _
  have e2 : ridx_main_v2 i k = ix2 k (i 1) := ValueIdx.eq_ix2 _
  rw [e1, e2]
  rfl

end Cert.OutReferenceIdeal.Block

end
-- ==== Proof.HeadsBlock.lean ====
/- WHAT THE PROJECTION OF THE ATTENTION HEADS LEAVES. A grid point takes 512 rows, multiplies them by the whole projection matrix and adds the
   rows of the residual (`pay2_apply`). The points' blocks tile the result array (`cover`), so the array after the run is
   one function of the arguments (`final_x`), and the host reference computes the same function (`ref_eq`). -/
module

public import proofs.«01_k».proof.Proof.Gen.HeadsKernelIdeal.Value
public import proofs.«01_k».proof.Proof.Gen.HeadsReferenceIdeal.Read
public import Idealize.ShloMosaic.Lib.ValueIdx
public import Idealize.ShloMosaic.Lib.Pointwise

@[expose] public section

set_option maxRecDepth 16384

noncomputable section

namespace Cert.HeadsKernelIdeal.Block

open Cert.HeadsKernelIdeal Cert.HeadsKernelIdeal.Gen
open Idealize.ShloMosaic Idealize.ShloMosaic.TcCoe Idealize.SL.Sem
open Idealize.ShloMosaic.Pipeline (Dat)
open scoped BigOperators

/-! ## One block -/

/-- The block at row `r`, column `n`. -/
theorem pay2_apply (x : Vec Ideal S512x1024 .f32) (a : Vec Ideal S512x1024 .bf16) (w : Vec Ideal S1024x1024 .bf16) (r : Fin 512) (n : Fin 1024) :
    k0_pay2 (F := Ideal) x a w (ix2 r n) = x (ix2 r n) + ∑ k : Fin 1024, a (ix2 r k) * w (ix2 k n) := by
  unfold k0_pay2
  simp only [pointwise]
  rw [show (0 : EReal) + ∑ k : Fin 1024, a (ix2 r k) * w (ix2 k n) = ∑ k : Fin 1024, a (ix2 r k) * w (ix2 k n) from zero_add _]

theorem hz : (![0, 0] : Fin 2 → Nat) = fun _ => 0 := funext fun a => by fin_cases a <;> rfl

/-- What the first point leaves in the block. -/
theorem outA_eq {F : FTy → Type} [FloatOps F] (c : Dev nD) (i : grid0.Coords) (a1 : Memref sig .tc .vmem S512x1024 .bf16) (h1 : a1.IsWhole) (a2 : Memref sig .tc .vmem S1024x1024 .bf16) (h2 : a2.IsWhole) (a3 : Memref sig .tc .vmem S512x1024 .f32) (h3 : a3.IsWhole) (a4 : Memref sig .tc .vmem S1x1024 .f32) (h4 : a4.IsWhole) (a5 : Memref sig .tc .vmem S1024x128 .f32) (h5 : a5.IsWhole) (a6 : Memref sig .tc .vmem S128x1 .f32) (h6 : a6.IsWhole) (a7 : Memref sig .tc .vmem S512x512 .bf16) (h7 : a7.IsWhole) (a8 : Memref sig .tc .vmem S512x1024 .f32) (h8 : a8.IsWhole) (a9 : Memref sig .tc .vmem S8x512 .i32) (h9 : a9.IsWhole) (a10 : Memref sig .tc .vmem S512x128 .f32) (h10 : a10.IsWhole) (a11 : Memref sig .tc .vmem S128x128 .f32) (h11 : a11.IsWhole) (a12 : Memref sig .tc .vmem S128x128 .f32) (h12 : a12.IsWhole) (a13 : Memref sig .tc .vmem S256x1024 .bf16) (h13 : a13.IsWhole)
    (hc : cond0_0 i) (x0 : Vec F S512x1024 .bf16) (x1 : Vec F S1024x1024 .bf16) (x2 : Vec F S512x1024 .f32) (x3 : Vec F S1x1024 .f32) (x4 : Vec F S1024x128 .f32) (x5 : Vec F S128x1 .f32) (x6 : Vec F S512x512 .bf16) :
    out0_A_7 c i a1 h1 a2 h2 a3 h3 a4 h4 a5 h5 a6 h6 a7 h7 a8 h8 a9 h9 a10 h10 a11 h11 a12 h12 a13 h13 hc x0 x1 x2 x3 x4 x5 x6 = k0_pay2 x2 x0 x1 := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  simp only [View.readAt_eq_ld, h1.read_unread, h2.read_unread, h3.read_unread]
  rw [View.canon_unit_zero hz, View.ld_unit_zero hz, View.ld_unit_zero hz, View.ld_unit_zero hz]

/-- What a later point leaves in the block. -/
theorem outB_eq {F : FTy → Type} [FloatOps F] (c : Dev nD) (i : grid0.Coords) (a1 : Memref sig .tc .vmem S512x1024 .bf16) (h1 : a1.IsWhole) (a2 : Memref sig .tc .vmem S1024x1024 .bf16) (h2 : a2.IsWhole) (a3 : Memref sig .tc .vmem S512x1024 .f32) (h3 : a3.IsWhole) (a4 : Memref sig .tc .vmem S1x1024 .f32) (h4 : a4.IsWhole) (a5 : Memref sig .tc .vmem S1024x128 .f32) (h5 : a5.IsWhole) (a6 : Memref sig .tc .vmem S128x1 .f32) (h6 : a6.IsWhole) (a7 : Memref sig .tc .vmem S512x512 .bf16) (h7 : a7.IsWhole) (a8 : Memref sig .tc .vmem S512x1024 .f32) (h8 : a8.IsWhole) (a9 : Memref sig .tc .vmem S8x512 .i32) (h9 : a9.IsWhole) (a10 : Memref sig .tc .vmem S512x128 .f32) (h10 : a10.IsWhole) (a11 : Memref sig .tc .vmem S128x128 .f32) (h11 : a11.IsWhole) (a12 : Memref sig .tc .vmem S128x128 .f32) (h12 : a12.IsWhole) (a13 : Memref sig .tc .vmem S256x1024 .bf16) (h13 : a13.IsWhole)
    (hc : ¬cond0_0 i) (x0 : Vec F S512x1024 .bf16) (x1 : Vec F S1024x1024 .bf16) (x2 : Vec F S512x1024 .f32) (x3 : Vec F S1x1024 .f32) (x4 : Vec F S1024x128 .f32) (x5 : Vec F S128x1 .f32) (x6 : Vec F S512x512 .bf16) (y0 : Vec F S128x128 .f32) (y1 : Vec F S256x1024 .bf16) :
    out0_B_7 c i a1 h1 a2 h2 a3 h3 a4 h4 a5 h5 a6 h6 a7 h7 a8 h8 a9 h9 a10 h10 a11 h11 a12 h12 a13 h13 hc x0 x1 x2 x3 x4 x5 x6 y0 y1 = k0_pay2 x2 x0 x1 := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 hc x0 x1 x2 x3 x4 x5 x6 y0 y1)]
  unfold kernelRun0_B
  dsimp only
  sl_unfold_words
  simp only [View.readAt_eq_ld, h1.read_unread, h2.read_unread, h3.read_unread]
  rw [View.canon_unit_zero hz, View.ld_unit_zero hz, View.ld_unit_zero hz, View.ld_unit_zero hz]

/-! ## The array -/

variable (m : (ℓ : Loc nD τ sig) → Buf (Elt Ideal) ℓ) (ρ : Dev nD → PrngReg)

/-- The residual plus the projection, at row `i`, column `n`. -/
def val (a : Vec Ideal S32768x1024 .bf16) (w : Vec Ideal S1024x1024 .bf16) (x : Vec Ideal S32768x1024 .f32) (i : Fin 32768) (n : Fin 1024) : EReal :=
  x (ix2 i n) + ∑ k : Fin 1024, a (ix2 i k) * w (ix2 k n)

/-- The result array as one function of device `c`'s arguments. -/
def G (c : Dev nD) : Vec Ideal S32768x1024 .f32 := fun i =>
  val (m ((c : Thread nD τ).loc main_arg0)) (m ((c : Thread nD τ).loc main_arg1)) (m ((c : Thread nD τ).loc main_arg2)) (i 0) (i 1)

/-- Where point `t`'s blocks lie. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0 :=
  (by decide +kernel : ∀ t : Fin grid0.N, _)

theorem N_eq : cfg0.N = 64 := N_0

/-- The row of the whole array that row `r` of point `t`'s block is. -/
def row (t : Fin cfg0.N) (r : Fin 512) : Fin 32768 :=
  ⟨t.val * 512 + r.val, by have := t.isLt; have := r.isLt; have := N_eq; omega⟩

/-- The block of the heads' rows. -/
theorem iblk0_apply (c : Dev nD) (t : Fin cfg0.N) (r : Fin 512) (k : Fin 1024) :
    (iblk m c 0 t : Vec Ideal S512x1024 .bf16) (ix2 r k) = m ((c : Thread nD τ).loc main_arg0) (ix2 (row t r) k) := by
  obtain ⟨e0, e1, -⟩ := idx_facts t
  refine (congrFun (V_main_arg0 m c) _).trans (congrArg (m ((c : Thread nD τ).loc main_arg0)) (funext fun a => Fin.ext ?_))
  match a with
  | ⟨0, _⟩ => show win0_0.index t (0 : Fin 2) * 512 + 1 * r.val = t.val * 512 + r.val; omega
  | ⟨1, _⟩ => show win0_0.index t (1 : Fin 2) * 1024 + 1 * k.val = k.val; omega

/-- The matrix's block: all of it. -/
theorem iblk1_apply (c : Dev nD) (t : Fin cfg0.N) (k : Fin 1024) (n : Fin 1024) :
    (iblk m c 1 t : Vec Ideal S1024x1024 .bf16) (ix2 k n) = m ((c : Thread nD τ).loc main_arg1) (ix2 k n) := by
  obtain ⟨-, -, e0, e1, -⟩ := idx_facts t
  refine (congrFun (V_main_arg1 m c) _).trans (congrArg (m ((c : Thread nD τ).loc main_arg1)) (funext fun a => Fin.ext ?_))
  match a with
  | ⟨0, _⟩ => show win0_1.index t (0 : Fin 2) * 1024 + 1 * k.val = k.val; omega
  | ⟨1, _⟩ => show win0_1.index t (1 : Fin 2) * 1024 + 1 * n.val = n.val; omega

/-- The residual's block. -/
theorem iblk2_apply (c : Dev nD) (t : Fin cfg0.N) (r : Fin 512) (n : Fin 1024) :
    (iblk m c 2 t : Vec Ideal S512x1024 .f32) (ix2 r n) = m ((c : Thread nD τ).loc main_arg2) (ix2 (row t r) n) := by
  obtain ⟨-, -, -, -, e0, e1, -⟩ := idx_facts t
  refine (congrFun (V_main_arg2 m c) _).trans (congrArg (m ((c : Thread nD τ).loc main_arg2)) (funext fun a => Fin.ext ?_))
  match a with
  | ⟨0, _⟩ => show win0_2.index t (0 : Fin 2) * 512 + 1 * r.val = t.val * 512 + r.val; omega
  | ⟨1, _⟩ => show win0_2.index t (1 : Fin 2) * 1024 + 1 * n.val = n.val; omega

/-- What point `t` leaves in its block, whichever case it is. -/
theorem flushed_pay (c : Dev nD) (t : Fin cfg0.N) :
    (dats m 0 c).flushed 7 t = (cfg0.win 7).cut (grid0.coords t) (k0_pay2 (iblk m c 2 t) (iblk m c 0 t) (iblk m c 1 t)) := by
  by_cases h : t.val % 64 = 0
  · rw [Value.flushed7_A m c t h, outA_eq]
  · rw [Value.flushed7_B m c t h, outB_eq]

/-- What point `t` writes back is the function `G` over its block. -/
theorem flushed_eq (c : Dev nD) (t : Fin cfg0.N) :
    (dats m 0 c).flushed 7 t = ((cfg0.win 7).blk t).view.read (Elt Ideal) (G m c) := by
  rw [flushed_pay]
  obtain ⟨-, -, -, -, -, -, e0, e1⟩ := idx_facts t
  refine funext fun (y : S512x1024.Idx) => ?_
  obtain ⟨r, n, rfl⟩ : ∃ (r : Fin 512) (n : Fin 1024), y = ix2 r n := ⟨y 0, y 1, ValueIdx.eq_ix2 y⟩
  have hy : ((cfg0.win 7).blk t).view.emb (ix2 r n : S512x1024.Idx) = (ix2 (row t r) n : S32768x1024.Idx) := funext fun a => Fin.ext (by
    match a with
    | ⟨0, _⟩ => show win0_7.index t (0 : Fin 2) * 512 + 1 * r.val = t.val * 512 + r.val; omega
    | ⟨1, _⟩ => show win0_7.index t (1 : Fin 2) * 1024 + 1 * n.val = n.val; omega)
  show k0_pay2 (iblk m c 2 t) (iblk m c 0 t) (iblk m c 1 t) (ix2 r n) = G m c (((cfg0.win 7).blk t).view.emb (ix2 r n : S512x1024.Idx))
  rw [hy, pay2_apply, iblk2_apply]
  show _ = val _ _ _ (row t r) n
  unfold val
  exact congrArg₂ (· + ·) rfl (Finset.sum_congr rfl fun k _ => by rw [iblk0_apply, iblk1_apply])

/-- Every index of the result is in a block. -/
theorem cover (i : S32768x1024.Idx) : ∃ t : Fin cfg0.N, (cfg0.win 7).flush t = true ∧ i ∈ ((cfg0.win 7).blk t).view.set := by
  have h0 : (i 0 : Nat) < 32768 := (i 0).isLt
  have h1 : (i 1 : Nat) < 1024 := (i 1).isLt
  have hN := N_eq
  obtain ⟨t, ht⟩ : ∃ t : Fin cfg0.N, t.val = (i 0 : Nat) / 512 := ⟨⟨(i 0 : Nat) / 512, by omega⟩, rfl⟩
  refine ⟨t, flush0_7 t, ?_⟩
  obtain ⟨-, -, -, -, -, -, e0, e1⟩ := idx_facts t
  show i ∈ ((View.whole main_v14_0).slice (win0_7.rect t)).set
  rw [View.set_slice_whole, Rect.mem_set_unit]
  intro a
  match a with
  | ⟨0, _⟩ => show win0_7.index t (0 : Fin 2) * 512 ≤ (i 0 : Nat) ∧ (i 0 : Nat) < win0_7.index t (0 : Fin 2) * 512 + 512
              rw [e0, ht]; omega
  | ⟨1, _⟩ => show win0_7.index t (1 : Fin 2) * 1024 ≤ (i 1 : Nat) ∧ (i 1 : Nat) < win0_7.index t (1 : Fin 2) * 1024 + 1024
              rw [e1]; omega

/-- The array after the run. -/
theorem final_x (c : Dev nD) : (dats m 0 c).arrAt 7 cfg0.N = G m c :=
  (dats m 0 c).arrAt_eq_of_cover 7 (G m c) (fun t _ => flushed_eq m c t) cover

/-- The run, read. -/
theorem run : θ_run defs (onTc (τ := τ) (main (F := Ideal))) ⟨m, fun _ => 0, ρ⟩ fun r => ∀ c : Dev nD,
      r.2.mem ((c : Thread nD τ).loc main_v14_0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final_x m c), (h c).2.2.2.2⟩) (Value.run_blocks m ρ)

end Cert.HeadsKernelIdeal.Block

/-! ## The reference -/

namespace Cert.HeadsReferenceIdeal.Block

open Cert.HeadsReferenceIdeal Cert.HeadsReferenceIdeal.Gen Cert.HeadsReferenceIdeal.Read
open Idealize.ShloMosaic
open scoped BigOperators

/-- The reference's result is the kernel's function of the arguments. -/
theorem ref_eq (a : Vec Ideal S32768x1024 .bf16) (w : Vec Ideal S1024x1024 .bf16) (x : Vec Ideal S32768x1024 .f32) :
    val_main_v3 (F := Ideal) a w x = fun i => Cert.HeadsKernelIdeal.Block.val a w x (i 0) (i 1) := by
  refine funext fun (i : S32768x1024.Idx) => ?_
  unfold Cert.HeadsKernelIdeal.Block.val
  rw [val_main_v3_apply, val_main_v2_apply]
  refine congrArg₂ (· + ·) (congrArg x (ValueIdx.eq_ix2 i)) (Finset.sum_congr rfl fun k _ => ?_)
  rw [val_main_v0_apply, val_main_v1_apply]
  have e1 : lidx_main_v2 i k = ix2 (i 0) k := ValueIdx.eq_ix2 _
  have e2 : ridx_main_v2 i k = ix2 k (i 1) := ValueIdx.eq_ix2 _
  rw [e1, e2]
  rfl

end Cert.HeadsReferenceIdeal.Block

end
-- ==== Proof.AttnWords.lean ====
/- THE WINDOW AND THE BUCKETS of the attention's biases, as words: the distance from a query back to a key (`distW`), whether it is
   in the window (`windowW`), and the bucket of a distance (`bucketW`). A query sees the 128 keys up to its own (`windowW_eq`), and the
   bucket of a distance below 128 is one of the 32 (`bucketW_lt`). -/
module

public import Idealize.ShloMosaic.PureOps.Ideal
public import Idealize.ShloMosaic.Lib.ValueIdx
public import Idealize.ShloMosaic.Lib.Pointwise

@[expose] public section

set_option maxRecDepth 16384

noncomputable section

namespace Cert.Proof

open Idealize.ShloMosaic
open scoped BigOperators

/-- The distance as a word. -/
def distW (r : Fin 128) (k : Fin 256) : BitVec 32 := IntOp.subi (IntOp.addi (BitVec.ofNat 32 r.val) 128#32) (BitVec.ofNat 32 k.val)

/-- The bucket of a distance of sixteen and more, from the conversion of its scaled logarithm. -/
def largeW (w : BitVec 32) : BitVec 32 := IntOp.minsi (IntOp.addi 16#32 w) 31#32

/-- The scaled logarithm of a distance. -/
def logW (d : BitVec 32) : EReal :=
  Ideal.div (Ideal.log (Ideal.div (FloatOps.sitofp (F := Ideal) .f32 (IntOp.maxsi (IntOp.maxsi d 0#32) 1#32)) (Ideal.ofBits .f32 0x41800000#32)))
    (Ideal.ofBits .f32 0x40051592#32) * Ideal.ofBits .f32 0x41800000#32

/-- The bucket of a distance, as a word. -/
def bucketW (d : BitVec 32) : BitVec 32 :=
  Scalar.select (IntOp.cmpi .slt (IntOp.maxsi d 0#32) 16#32) (IntOp.maxsi d 0#32)
    (largeW (FloatOps.fptosi (F := Ideal) (φ := .f32) 32 (logW d)))

/-- The key is in the query's window, as a word. -/
def windowW (d : BitVec 32) : BitVec 1 := IntOp.andi (IntOp.cmpi .sge d 0#32) (IntOp.cmpi .slt d 128#32)

/-- A query sees the keys of its window. -/
abbrev Sees (r : Fin 128) (k : Fin 256) : Prop := r.val < k.val ∧ k.val ≤ r.val + 128

/-- A small number's word is the number. -/
theorem toInt_small (n : ℕ) (h : n < 1024) : (BitVec.ofNat 32 n).toInt = n := by
  rw [BitVec.toInt_eq_toNat_of_lt (by rw [BitVec.toNat_ofNat]; omega), BitVec.toNat_ofNat]
  omega

/-- The distance's word as an integer. -/
theorem distW_toInt (r : Fin 128) (k : Fin 256) : (distW r k).toInt = (r.val : ℤ) + 128 - k.val := by
  have hr := r.isLt
  have hk := k.isLt
  show ((BitVec.ofNat 32 r.val + 128#32) - BitVec.ofNat 32 k.val).toInt = _
  rw [BitVec.toInt_sub, BitVec.toInt_add, toInt_small _ (by omega), toInt_small _ (by omega), toInt_small _ (by omega), Int.bmod_def, Int.bmod_def]
  norm_num
  omega

theorem windowW_eq (r : Fin 128) (k : Fin 256) : windowW (distW r k) = BitVec.ofBool (decide (Sees r k)) := by
  have h := distW_toInt r k
  show BitVec.ofBool ((0#32).sle (distW r k)) &&& BitVec.ofBool ((distW r k).slt 128#32) = _
  rw [BitVec.sle_eq_decide, BitVec.slt_eq_decide, h, show (0#32).toInt = 0 from rfl, show (128#32).toInt = 128 from rfl]
  by_cases h1 : r.val < k.val <;> by_cases h2 : k.val ≤ r.val + 128 <;>
    simp only [Sees, h1, h2, decide_true, decide_false, and_true, and_false, true_and, false_and] <;>
    first
      | rw [decide_eq_true (by omega), decide_eq_true (by omega)]; rfl
      | rw [decide_eq_true (by omega), decide_eq_false (by omega)]; rfl
      | rw [decide_eq_false (by omega), decide_eq_true (by omega)]; rfl
      | rw [decide_eq_false (by omega), decide_eq_false (by omega)]; rfl

theorem distW_eq (r : Fin 128) (k : Fin 256) (hs : Sees r k) : distW r k = BitVec.ofNat 32 (r.val + 128 - k.val) := by
  apply BitVec.eq_of_toInt_eq
  obtain ⟨h1, h2⟩ := hs
  have hr := r.isLt
  rw [distW_toInt, toInt_small _ (by omega)]
  omega

theorem small : ∀ n : Fin 128, IntOp.maxsi (BitVec.ofNat 32 n.val) 0#32 = BitVec.ofNat 32 n.val
    ∧ IntOp.cmpi .slt (BitVec.ofNat 32 n.val) 16#32 = BitVec.ofBool (decide (n.val < 16)) ∧ (BitVec.ofNat 32 n.val).toInt = n.val := by
  decide +kernel

theorem small1 : ∀ n : Fin 128, 16 ≤ n.val → IntOp.maxsi (BitVec.ofNat 32 n.val) 1#32 = BitVec.ofNat 32 n.val := by decide +kernel

theorem largeW_lt : ∀ n : Fin 200, (largeW (BitVec.ofNat 32 n.val)).toNat < 32 := by decide +kernel

theorem c16 : Ideal.ofBits .f32 0x41800000#32 = ((16 : ℝ) : EReal) := by
  simp [Ideal.ofBits, Ideal.ieee, -EReal.coe_mul]; norm_num

theorem clog : ∃ c : ℝ, 1 ≤ c ∧ Ideal.ofBits .f32 0x40051592#32 = (c : EReal) := by
  refine ⟨8721810 / 4194304, by norm_num, ?_⟩
  simp [Ideal.ofBits, Ideal.ieee, -EReal.coe_mul]; norm_num

/-- The scaled logarithm of a distance from sixteen to 127 is a real in [0, 112]. -/
theorem logW_real (n : Fin 128) (hn : 16 ≤ n.val) : ∃ x : ℝ, 0 ≤ x ∧ x ≤ 112 ∧ logW (BitVec.ofNat 32 n.val) = (x : EReal) := by
  obtain ⟨c, hc, ec⟩ := clog
  have hN : (16 : ℝ) ≤ (n.val : ℝ) := by exact_mod_cast hn
  have hN' : (n.val : ℝ) ≤ 127 := by have := n.isLt; exact_mod_cast (by omega : n.val ≤ 127)
  have e0 : (FloatOps.sitofp (F := Ideal) .f32 (BitVec.ofNat 32 n.val) : EReal) = ((n.val : ℝ) : EReal) := by
    show (((BitVec.ofNat 32 n.val).toInt : ℝ) : EReal) = _
    rw [(small n).2.2]; norm_cast
  have hl0 : 0 ≤ Real.log ((n.val : ℝ) / 16) := Real.log_nonneg (by linarith [(le_div_iff₀ (by norm_num : (0 : ℝ) < 16)).mpr (by linarith : 1 * 16 ≤ (n.val : ℝ))])
  have hl1 : Real.log ((n.val : ℝ) / 16) ≤ 7 := by
    have := Real.log_le_sub_one_of_pos (by positivity : 0 < (n.val : ℝ) / 16)
    have : (n.val : ℝ) / 16 ≤ 8 := by linarith
    linarith
  refine ⟨Real.log ((n.val : ℝ) / 16) / c * 16, by positivity, ?_, ?_⟩
  · have : Real.log ((n.val : ℝ) / 16) / c ≤ 7 := (div_le_iff₀ (by linarith)).mpr (by nlinarith)
    linarith
  · unfold logW
    rw [(small n).1, small1 n hn, e0, c16, ec, Ideal.div_coe (ne_of_gt (by linarith : (0 : ℝ) < c)), Ideal.div_coe (by norm_num : (16 : ℝ) ≠ 0), ← EReal.coe_mul, Ideal.log_coe, if_neg (by
      have : (0 : ℝ) < (n.val : ℝ) * (1 / 16) := by positivity
      linarith), ← EReal.coe_mul, ← EReal.coe_mul]
    rw [mul_one_div, mul_one_div]

/-- The bucket of a distance below 128. -/
theorem bucketW_lt (n : Fin 128) : (bucketW (BitVec.ofNat 32 n.val)).toNat < 32 := by
  unfold bucketW
  rw [(small n).1, (small n).2.1, Scalar.select_decide]
  by_cases hn : n.val < 16
  · rw [if_pos hn, BitVec.toNat_ofNat]; omega
  · rw [if_neg hn]
    obtain ⟨x, h0, h1, e⟩ := logW_real n (by omega)
    rw [e]
    show (largeW (Ideal.fptosi 32 (x : EReal))).toNat < 32
    have hf0 : 0 ≤ ⌊x⌋ := Int.floor_nonneg.mpr h0
    have hf1 : ⌊x⌋ ≤ 112 := by have := Int.floor_le x; exact_mod_cast this.trans h1
    obtain ⟨j, hj⟩ := Int.eq_ofNat_of_zero_le hf0
    have e2 : Ideal.fptosi 32 (x : EReal) = BitVec.ofNat 32 j := by
      rw [Ideal.fptosi, Ideal.toIntClamped_coe, if_pos h0, hj, min_eq_right (by norm_num; omega), max_eq_right (by norm_num)]
      rfl
    rw [e2]
    exact largeW_lt ⟨j, by omega⟩

/-- The bucket of the key for the query; outside the window any of them. -/
def bk (r : Fin 128) (k : Fin 256) : Fin 32 := ⟨(bucketW (distW r k)).toNat % 32, Nat.mod_lt _ (by norm_num)⟩

/-- In the window the bucket's word is the bucket. -/
theorem bucketW_eq (r : Fin 128) (k : Fin 256) (h : Sees r k) : bucketW (distW r k) = BitVec.ofNat 32 (bk r k).val := by
  have hlt : (bucketW (distW r k)).toNat < 32 := by
    rw [distW_eq r k h]
    exact bucketW_lt ⟨r.val + 128 - k.val, by obtain ⟨h1, h2⟩ := h; omega⟩
  show _ = BitVec.ofNat 32 ((bucketW (distW r k)).toNat % 32)
  rw [Nat.mod_eq_of_lt hlt, BitVec.ofNat_toNat, BitVec.setWidth_eq]

/-- The sum with a bucket's indicator is that bucket's term. -/
theorem sum_indicator (f : Fin 32 → EReal) (b : Fin 32) :
    ∑ x : Fin 32, f x * FloatOps.uitofp (F := Ideal) .f32 (IntOp.cmpi .eq (BitVec.ofNat 32 b.val) (BitVec.ofNat 32 x.val)) = f b := by
  have e : ∀ x : Fin 32, (FloatOps.uitofp (F := Ideal) .f32 (IntOp.cmpi .eq (BitVec.ofNat 32 b.val) (BitVec.ofNat 32 x.val)) : EReal)
      = if x = b then 1 else 0 := by
    intro x
    have h : IntOp.cmpi .eq (BitVec.ofNat 32 b.val) (BitVec.ofNat 32 x.val) = BitVec.ofBool (decide (x = b)) := by
      revert b x
      decide +kernel
    rw [h]
    by_cases hx : x = b
    · rw [if_pos hx, decide_eq_true hx]
      show (((BitVec.ofBool true).toNat : ℝ) : EReal) = 1
      simp
    · rw [if_neg hx, decide_eq_false hx]
      show (((BitVec.ofBool false).toNat : ℝ) : EReal) = 0
      simp
  rw [Finset.sum_eq_single b]
  · rw [e, if_pos rfl, mul_one]
  · intro x _ hx
    rw [e, if_neg hx, mul_zero]
  · intro h
    exact absurd (Finset.mem_univ b) h

end Cert.Proof

end
-- ==== Proof.AttnTable.lean ====
/- THE TABLE OF BIASES that the attention's kernel reads: what the host operations before the call make of the bucket biases. -/
module

public import proofs.«01_k».proof.Proof.Gen.KernelIdeal.Value
public import proofs.«01_k».proof.Proof.AttnWords
public import Idealize.ShloMosaic.Lib.ValueIdx
public import Idealize.ShloMosaic.Lib.Pointwise

@[expose] public section

set_option maxRecDepth 16384

noncomputable section

namespace Cert.KernelIdeal.Block

open Cert.KernelIdeal Cert.KernelIdeal.Gen Cert.Proof
open Idealize.ShloMosaic Idealize.ShloMosaic.TcCoe Idealize.SL.Sem
open Idealize.ShloMosaic.Pipeline (Dat)
open scoped BigOperators

variable (m : (ℓ : Loc nD τ sig) → Buf (Elt Ideal) ℓ)

/-- How far key `k` of the two blocks lies behind query `r`. -/
def dist : IVec S128x256 32 :=
  subi (broadcastInDim S128x256 ![0, 1] bcast_S128x1_S128x256_0_1
      (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- The distance, and no less than 0. -/
def dist0 : IVec S128x256 32 := maxsi dist (broadcastInDim S128x256 ![] bcast_S_S128x256 (constantI S_ 32 0#32))

/-- The bucket of a distance of sixteen and more. -/
def large : IVec S128x256 32 :=
  minsi (addi (broadcastInDim S128x256 ![] bcast_S_S128x256 (constantI S_ 32 16#32))
      (fptosi (F := Ideal) 32 (mulf (Host.divf (Host.log (Host.divf
          (sitofp .f32 (maxsi dist0 (broadcastInDim S128x256 ![] bcast_S_S128x256 (constantI S_ 32 1#32))))
          (broadcastInDim S128x256 ![] bcast_S_S128x256 (constant S_ .f32 0x41800000#32))))
        (broadcastInDim S128x256 ![] bcast_S_S128x256 (constant S_ .f32 0x40051592#32)))
        (broadcastInDim S128x256 ![] bcast_S_S128x256 (constant S_ .f32 0x41800000#32)))))
    (broadcastInDim S128x256 ![] bcast_S_S128x256 (constantI S_ 32 31#32))

/-- The bucket. -/
def bucket : IVec S128x256 32 := select (cmpi .slt dist0 (broadcastInDim S128x256 ![] bcast_S_S128x256 (constantI S_ 32 16#32))) dist0 large

/-- The biases: the bucket's row of the table of biases, taken by a product with the bucket's indicator. -/
def biases (rel : FVec Ideal S32x16 .f32) : FVec Ideal S16x128x256 .f32 :=
  Host.dotGeneral (F := Ideal) dot_S16x32_S32x128x256_S16x128x256_1_0_0_12_n_n (some .fp32) (transpose S16x32 [1, 0] rel transposes_S32x16_S16x32_1_0)
    (uitofp .f32 (cmpi .eq
      (broadcastInDim S32x128x256 ![0, 1, 2] bcast_S1x128x256_S32x128x256_0_1_2 (broadcastInDim S1x128x256 ![1, 2] bcast_S128x256_S1x128x256_1_2 bucket))
      (broadcastInDim S32x128x256 ![0, 1, 2] bcast_S32x1x1_S32x128x256_0_1_2 (broadcastInDim S32x1x1 ![0] bcast_S32_S32x1x1_0 (iotaInDim S32 32 0)))))

/-- The key is in the query's window. -/
def window : IVec S128x256 1 :=
  andi (cmpi .sge dist (broadcastInDim S128x256 ![] bcast_S_S128x256 (constantI S_ 32 0#32)))
    (cmpi .slt dist (broadcastInDim S128x256 ![] bcast_S_S128x256 (constantI S_ 32 128#32)))

/-- The biases, minus infinity outside the window. -/
def masked (rel : FVec Ideal S32x16 .f32) : FVec Ideal S16x128x256 .f32 :=
  select (broadcastInDim S16x128x256 ![0, 1, 2] bcast_S1x128x256_S16x128x256_0_1_2 (broadcastInDim S1x128x256 ![1, 2] bcast_S128x256_S1x128x256_1_2 window))
    (biases rel) (broadcastInDim S16x128x256 ![] bcast_S_S16x128x256 (constant (F := Ideal) S_ .f32 0xFF800000#32))

/-- For a sequence's first block: minus infinity over the keys of the block before as well. -/
def first (rel : FVec Ideal S32x16 .f32) : FVec Ideal S16x128x256 .f32 :=
  select (broadcastInDim S16x128x256 ![0, 1, 2] bcast_S1x1x256_S16x128x256_0_1_2 (broadcastInDim S1x1x256 ![1, 2] bcast_S1x256_S1x1x256_1_2
      (cmpi .slt (broadcastInDim S1x256 ![1] bcast_S256_S1x256_1 (iotaInDim S256 32 0)) (broadcastInDim S1x256 ![] bcast_S_S1x256 (constantI S_ 32 128#32)))))
    (broadcastInDim S16x128x256 ![] bcast_S_S16x128x256 (constant (F := Ideal) S_ .f32 0xFF800000#32)) (masked rel)

/-- The two tables. -/
def table (rel : FVec Ideal S32x16 .f32) : FVec Ideal S2x16x128x256 .f32 :=
  concatenate S2x16x128x256 0 [⟨S1x16x128x256, broadcastInDim S1x16x128x256 ![1, 2, 3] bcast_S16x128x256_S1x16x128x256_1_2_3 (first rel)⟩,
    ⟨S1x16x128x256, broadcastInDim S1x16x128x256 ![1, 2, 3] bcast_S16x128x256_S1x16x128x256_1_2_3 (masked rel)⟩]
    concatenates_S1x16x128x256_S1x16x128x256_S2x16x128x256_d0

/-- The table as the call finds it. -/
theorem V_table (c : Dev nD) : (V m c main_v51 : Vec Ideal S2x16x128x256 .f32) = table (m ((c : Thread nD τ).loc main_arg1)) := by
  show StableHlo.after (List.flatten [hostOps0, hostOps0_1, hostOps0_2, hostOps0_3, hostOps0_4, hostOps0_5, hostOps0_6]) (fun b => m (c, b)) (main_v51 : Ref sig .tc) = _
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq, id]
  rfl

theorem dist_apply (r : Fin 128) (k : Fin 256) : dist (ix2 r k) = distW r k := by
  unfold dist
  simp only [pointwise]
  rfl

theorem bucket_apply (r : Fin 128) (k : Fin 256) : bucket (ix2 r k) = bucketW (distW r k) := by
  unfold bucket large dist0
  simp only [pointwise, dist_apply]
  rfl

theorem window_apply (r : Fin 128) (k : Fin 256) : window (ix2 r k) = windowW (distW r k) := by
  unfold window
  simp only [pointwise, dist_apply]
  rfl

theorem biases_apply (rel : Vec Ideal S32x16 .f32) (h : Fin 16) (r : Fin 128) (k : Fin 256) (hs : Sees r k) :
    biases rel (ix3 h r k) = rel (ix2 (bk r k) h) := by
  unfold biases
  simp only [pointwise]
  show 0 + ∑ x : Fin 32, rel (ix2 x h) * FloatOps.uitofp (F := Ideal) .f32 (IntOp.cmpi .eq (bucket (ix2 r k)) (BitVec.ofNat 32 x.val)) = _
  rw [zero_add, bucket_apply, bucketW_eq r k hs]
  exact sum_indicator (fun x => rel (ix2 x h)) (bk r k)

theorem masked_apply (rel : Vec Ideal S32x16 .f32) (h : Fin 16) (r : Fin 128) (k : Fin 256) :
    masked rel (ix3 h r k) = if Sees r k then rel (ix2 (bk r k) h) else ⊥ := by
  unfold masked
  simp only [pointwise]
  show Scalar.select (window (ix2 r k)) (biases rel (ix3 h r k)) (Ideal.ofBits .f32 0xFF800000#32) = _
  rw [window_apply, windowW_eq]
  by_cases hs : Sees r k
  · rw [if_pos hs, decide_eq_true hs, ← biases_apply rel h r k hs]
    rfl
  · rw [if_neg hs, decide_eq_false hs]
    show Ideal.ofBits .f32 0xFF800000#32 = ⊥
    simp [Ideal.ofBits, Ideal.ieee]

/-- A key of the block before. -/
theorem before_eq : ∀ k : Fin 256, IntOp.cmpi .slt (BitVec.ofNat 32 k.val) 128#32 = BitVec.ofBool (decide (k.val < 128)) := by decide +kernel

theorem first_apply (rel : Vec Ideal S32x16 .f32) (h : Fin 16) (r : Fin 128) (k : Fin 256) :
    first rel (ix3 h r k) = if k.val < 128 then ⊥ else masked rel (ix3 h r k) := by
  unfold first
  simp only [pointwise]
  show Scalar.select (IntOp.cmpi .slt (BitVec.ofNat 32 k.val) 128#32) (Ideal.ofBits .f32 0xFF800000#32) (masked rel (ix3 h r k)) = _
  rw [before_eq]
  by_cases hs : k.val < 128
  · rw [if_pos hs, decide_eq_true hs]
    show Ideal.ofBits .f32 0xFF800000#32 = ⊥
    simp [Ideal.ofBits, Ideal.ieee]
  · rw [if_neg hs, decide_eq_false hs]
    rfl

theorem table_apply (rel : Vec Ideal S32x16 .f32) (tb : Fin 2) (h : Fin 16) (r : Fin 128) (k : Fin 256) :
    table rel (ix4 tb h r k) = if tb.val < 1 then first rel (ix3 h r k) else masked rel (ix3 h r k) := by
  unfold table
  simp only [pointwise]
  by_cases hlt : tb.val < 1
  · rw [if_pos hlt, dif_pos hlt]
    rfl
  · rw [if_neg hlt, dif_neg hlt]
    rfl

/-- The tables' entries: the bias where the query sees the key, and minus infinity elsewhere. -/
theorem table_eq (rel : Vec Ideal S32x16 .f32) (tb : Fin 2) (h : Fin 16) (r : Fin 128) (k : Fin 256) :
    table rel (ix4 tb h r k) = if Sees r k ∧ (tb.val < 1 → 128 ≤ k.val) then rel (ix2 (bk r k) h) else ⊥ := by
  rw [table_apply, first_apply, masked_apply]
  by_cases ht : tb.val < 1
  · rw [if_pos ht]
    by_cases hk : k.val < 128
    · rw [if_pos hk, if_neg (by omega)]
    · rw [if_neg hk]
      exact if_congr ⟨fun h => ⟨h, fun _ => by omega⟩, fun h => h.1⟩ rfl rfl
  · rw [if_neg ht]
    exact if_congr ⟨fun h => ⟨h, fun h' => absurd h' ht⟩, fun h => h.1⟩ rfl rfl

end Cert.KernelIdeal.Block
end
-- ==== Proof.AttnArray.lean ====
/- THE ATTENTION'S ARRAY. Grid point `t` takes the 128 queries of block `t`, and the keys and values of the block before it (of its own
   block, if it is the first of its sequence: these are masked) and of its own. The points' blocks tile the result array (`cover`), so the
   array after the run is one function of the arguments (`final_o`). -/
module

public import proofs.«01_k».proof.Proof.AttnBlock
public import proofs.«01_k».proof.Proof.AttnTable

@[expose] public section

set_option maxRecDepth 16384

noncomputable section

namespace Cert.KernelIdeal.Block

open Cert.KernelIdeal Cert.KernelIdeal.Gen Cert.Proof
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Row `r` of block `t`. -/
def qrow (t : Fin 256) (r : Fin 128) : Fin 32768 := ⟨t.val * 128 + r.val, by have := t.isLt; have := r.isLt; omega⟩

/-- The block before `t`, and the first block of a sequence itself. -/
def before (t : Fin 256) : Fin 256 := ⟨t.val - (if t.val % 16 = 0 then 0 else 1), by have := t.isLt; omega⟩

/-- The row of the `k`-th of the two blocks' keys. -/
def krow (t : Fin 256) (k : Fin 256) : Fin 32768 :=
  if h : k.val < 128 then qrow (before t) ⟨k.val, h⟩ else qrow t ⟨k.val - 128, by have := k.isLt; omega⟩

/-- The columns of a head's queries, of its keys and of its values. -/
def cq (h : Fin 16) (d : Fin 64) : Fin 1536 := ⟨h.val * 64 + d.val, by have := h.isLt; have := d.isLt; omega⟩
def ck (h : Fin 16) (d : Fin 64) : Fin 1536 := ⟨1024 + (h.val / 4 * 64 + d.val), by have := h.isLt; have := d.isLt; omega⟩
def cv (h : Fin 16) (d : Fin 64) : Fin 1536 := ⟨1280 + (h.val / 4 * 64 + d.val), by have := h.isLt; have := d.isLt; omega⟩

/-- The bias of a key for a query of block `t`. -/
def bias (rel : Vec Ideal S32x16 .f32) (t : Fin 256) (h : Fin 16) (r : Fin 128) (k : Fin 256) : EReal :=
  if Sees r k ∧ (t.val % 16 = 0 → 128 ≤ k.val) then rel (ix2 (bk r k) h) else ⊥

/-- The attention of query `r` of block `t` and head `h`, at column `d`. -/
def val (x : Vec Ideal S32768x1536 .bf16) (rel : Vec Ideal S32x16 .f32) (s : Vec Ideal S16 .f32) (t : Fin 256) (r : Fin 128) (h : Fin 16) (d : Fin 64) : EReal :=
  head (fun k => (∑ j : Fin 64, x (ix2 (qrow t r) (cq h j)) * x (ix2 (krow t k) (ck h j))) * qs + bias rel t h r k * lg)
    (s (ix1 h) * lg) (fun k => x (ix2 (krow t k) (cv h d)))

/-- The attention's whole result. -/
def result (x : Vec Ideal S32768x1536 .bf16) (rel : Vec Ideal S32x16 .f32) (s : Vec Ideal S16 .f32) : Vec Ideal S32768x1024 .bf16 := fun i =>
  val x rel s
    ⟨(i 0 : Nat) / 128, by have : (i 0 : Nat) < 32768 := (i 0).isLt; omega⟩ ⟨(i 0 : Nat) % 128, Nat.mod_lt _ (by norm_num)⟩
    ⟨(i 1 : Nat) / 64, by have : (i 1 : Nat) < 1024 := (i 1).isLt; omega⟩ ⟨(i 1 : Nat) % 64, Nat.mod_lt _ (by norm_num)⟩

/-- The result array as one function of device `c`'s arguments. -/
def G (c : Dev nD) : Vec Ideal S32768x1024 .bf16 :=
  result (m ((c : Thread nD τ).loc main_arg0)) (m ((c : Thread nD τ).loc main_arg1)) (m ((c : Thread nD τ).loc main_arg2))

/-- Where point `t`'s blocks lie. -/
theorem idx_facts : ∀ t : Fin cfg0.N, (win0_0.index t (0 : Fin 1) = 0
    ∧ win0_1.index t (0 : Fin 2) = t.val ∧ win0_1.index t (1 : Fin 2) = 0)
    ∧ (win0_2.index t (0 : Fin 2) = t.val - (if t.val % 16 = 0 then 0 else 1) ∧ win0_2.index t (1 : Fin 2) = 4
    ∧ win0_3.index t (0 : Fin 2) = t.val ∧ win0_3.index t (1 : Fin 2) = 4)
    ∧ (win0_4.index t (0 : Fin 2) = t.val - (if t.val % 16 = 0 then 0 else 1) ∧ win0_4.index t (1 : Fin 2) = 5
    ∧ win0_5.index t (0 : Fin 2) = t.val ∧ win0_5.index t (1 : Fin 2) = 5)
    ∧ (win0_6.index t (0 : Fin 4) = 0 ∧ win0_6.index t (1 : Fin 4) = 0 ∧ win0_6.index t (2 : Fin 4) = 0 ∧ win0_6.index t (3 : Fin 4) = 0)
    ∧ (win0_7.index t (0 : Fin 2) = t.val ∧ win0_7.index t (1 : Fin 2) = 0) ∧ (grid0.coords t (1 : Fin 2)).val = t.val % 16 :=
  (by decide +kernel : ∀ t : Fin grid0.N, _)

theorem N_eq : cfg0.N = 256 := N_0

/-- The point as a block's number. -/
def num (t : Fin cfg0.N) : Fin 256 := ⟨t.val, by have := t.isLt; have := N_eq; omega⟩

/-- The sinks' block: all of them. -/
theorem iblk0_apply (c : Dev nD) (t : Fin cfg0.N) (h : Fin 16) :
    (iblk m c 0 t : Vec Ideal S16 .f32) (ix1 h) = m ((c : Thread nD τ).loc main_arg2) (ix1 h) := by
  obtain ⟨⟨e0, -⟩, -⟩ := idx_facts t
  refine (congrFun (V_main_arg2 m c) _).trans (congrArg (m ((c : Thread nD τ).loc main_arg2)) (funext fun a => Fin.ext ?_))
  match a with
  | ⟨0, _⟩ => show win0_0.index t (0 : Fin 1) * 16 + 1 * h.val = h.val; omega

/-- The queries' block. -/
theorem X_apply (c : Dev nD) (t : Fin cfg0.N) (r : Fin 128) (h : Fin 16) (j : Fin 64) :
    (X0_1 m c t : Vec Ideal S128x1024 .bf16) (ix2 r (qcol h j)) = m ((c : Thread nD τ).loc main_arg0) (ix2 (qrow (num t) r) (cq h j)) := by
  obtain ⟨⟨-, e0, e1⟩, -⟩ := idx_facts t
  unfold X0_1 Pipeline.Window.fill
  rw [dif_pos (moved0_1 t _)]
  refine (congrFun (V_main_arg0 m c) _).trans (congrArg (m ((c : Thread nD τ).loc main_arg0)) (funext fun a => Fin.ext ?_))
  match a with
  | ⟨0, _⟩ => show win0_1.index t (0 : Fin 2) * 128 + 1 * r.val = t.val * 128 + r.val; omega
  | ⟨1, _⟩ => show win0_1.index t (1 : Fin 2) * 1024 + 1 * (h.val * 64 + j.val) = h.val * 64 + j.val; omega

/-- The keys' block before. -/
theorem iblk2_apply (c : Dev nD) (t : Fin cfg0.N) (r : Fin 128) (h : Fin 16) (j : Fin 64) :
    (iblk m c 2 t : Vec Ideal S128x256 .bf16) (ix2 r (kcol h j)) = m ((c : Thread nD τ).loc main_arg0) (ix2 (qrow (before (num t)) r) (ck h j)) := by
  obtain ⟨-, ⟨e0, e1, -⟩, -⟩ := idx_facts t
  refine (congrFun (V_main_arg0 m c) _).trans (congrArg (m ((c : Thread nD τ).loc main_arg0)) (funext fun a => Fin.ext ?_))
  match a with
  | ⟨0, _⟩ => show win0_2.index t (0 : Fin 2) * 128 + 1 * r.val = (t.val - (if t.val % 16 = 0 then 0 else 1)) * 128 + r.val; rw [e0]; omega
  | ⟨1, _⟩ => show win0_2.index t (1 : Fin 2) * 256 + 1 * (h.val / 4 * 64 + j.val) = 1024 + (h.val / 4 * 64 + j.val); omega

/-- The keys' own block. -/
theorem iblk3_apply (c : Dev nD) (t : Fin cfg0.N) (r : Fin 128) (h : Fin 16) (j : Fin 64) :
    (iblk m c 3 t : Vec Ideal S128x256 .bf16) (ix2 r (kcol h j)) = m ((c : Thread nD τ).loc main_arg0) (ix2 (qrow (num t) r) (ck h j)) := by
  obtain ⟨-, ⟨-, -, e0, e1⟩, -⟩ := idx_facts t
  refine (congrFun (V_main_arg0 m c) _).trans (congrArg (m ((c : Thread nD τ).loc main_arg0)) (funext fun a => Fin.ext ?_))
  match a with
  | ⟨0, _⟩ => show win0_3.index t (0 : Fin 2) * 128 + 1 * r.val = t.val * 128 + r.val; omega
  | ⟨1, _⟩ => show win0_3.index t (1 : Fin 2) * 256 + 1 * (h.val / 4 * 64 + j.val) = 1024 + (h.val / 4 * 64 + j.val); omega

/-- The values' block before. -/
theorem iblk4_apply (c : Dev nD) (t : Fin cfg0.N) (r : Fin 128) (h : Fin 16) (j : Fin 64) :
    (iblk m c 4 t : Vec Ideal S128x256 .bf16) (ix2 r (kcol h j)) = m ((c : Thread nD τ).loc main_arg0) (ix2 (qrow (before (num t)) r) (cv h j)) := by
  obtain ⟨-, -, ⟨e0, e1, -⟩, -⟩ := idx_facts t
  refine (congrFun (V_main_arg0 m c) _).trans (congrArg (m ((c : Thread nD τ).loc main_arg0)) (funext fun a => Fin.ext ?_))
  match a with
  | ⟨0, _⟩ => show win0_4.index t (0 : Fin 2) * 128 + 1 * r.val = (t.val - (if t.val % 16 = 0 then 0 else 1)) * 128 + r.val; rw [e0]; omega
  | ⟨1, _⟩ => show win0_4.index t (1 : Fin 2) * 256 + 1 * (h.val / 4 * 64 + j.val) = 1280 + (h.val / 4 * 64 + j.val); omega

/-- The values' own block. -/
theorem iblk5_apply (c : Dev nD) (t : Fin cfg0.N) (r : Fin 128) (h : Fin 16) (j : Fin 64) :
    (iblk m c 5 t : Vec Ideal S128x256 .bf16) (ix2 r (kcol h j)) = m ((c : Thread nD τ).loc main_arg0) (ix2 (qrow (num t) r) (cv h j)) := by
  obtain ⟨-, -, ⟨-, -, e0, e1⟩, -⟩ := idx_facts t
  refine (congrFun (V_main_arg0 m c) _).trans (congrArg (m ((c : Thread nD τ).loc main_arg0)) (funext fun a => Fin.ext ?_))
  match a with
  | ⟨0, _⟩ => show win0_5.index t (0 : Fin 2) * 128 + 1 * r.val = t.val * 128 + r.val; omega
  | ⟨1, _⟩ => show win0_5.index t (1 : Fin 2) * 256 + 1 * (h.val / 4 * 64 + j.val) = 1280 + (h.val / 4 * 64 + j.val); omega

/-- The tables' block: all of them, read at the point's table. -/
theorem iblk6_apply (c : Dev nD) (t : Fin cfg0.N) (h : Fin 16) (r : Fin 128) (k : Fin 256) :
    (iblk m c 6 t : Vec Ideal S2x16x128x256 .f32) (ix4 (tbl (grid0.coords t)) h r k) = bias (m ((c : Thread nD τ).loc main_arg1)) (num t) h r k := by
  obtain ⟨-, -, -, ⟨e0, e1, e2, e3⟩, -, e4⟩ := idx_facts t
  have e : (iblk m c 6 t : Vec Ideal S2x16x128x256 .f32) (ix4 (tbl (grid0.coords t)) h r k)
      = (V m c main_v51 : Vec Ideal S2x16x128x256 .f32) (ix4 (tbl (grid0.coords t)) h r k) := by
    refine congrArg (V m c main_v51 : Vec Ideal S2x16x128x256 .f32) (funext fun a => Fin.ext ?_)
    match a with
    | ⟨0, _⟩ => show win0_6.index t (0 : Fin 4) * 2 + 1 * (tbl (grid0.coords t)).val = (tbl (grid0.coords t)).val; omega
    | ⟨1, _⟩ => show win0_6.index t (1 : Fin 4) * 16 + 1 * h.val = h.val; omega
    | ⟨2, _⟩ => show win0_6.index t (2 : Fin 4) * 128 + 1 * r.val = r.val; omega
    | ⟨3, _⟩ => show win0_6.index t (3 : Fin 4) * 256 + 1 * k.val = k.val; omega
  rw [e, V_table, table_eq]
  unfold bias
  have et : (tbl (grid0.coords t)).val = min (t.val % 16) 1 := congrArg (fun n : Nat => min n 1) e4
  have en : (num t).val = t.val := rfl
  exact if_congr (and_congr_right fun _ => imp_congr_left (by rw [et, en]; omega)) rfl rfl

/-- What a point leaves at a row and a head's column: the attention there. -/
theorem point_eq (c : Dev nD) (t : Fin cfg0.N) (r : Fin 128) (h : Fin 16) (d : Fin 64) :
    point (tbl (grid0.coords t)) (iblk m c 0 t) (X0_1 m c t) (iblk m c 2 t) (iblk m c 3 t) (iblk m c 4 t) (iblk m c 5 t) (iblk m c 6 t) r h d
      = val (m ((c : Thread nD τ).loc main_arg0)) (m ((c : Thread nD τ).loc main_arg1)) (m ((c : Thread nD τ).loc main_arg2)) (num t) r h d := by
  have e1 : ∀ (k : Fin 256) (j : Fin 64), two (iblk m c 2 t) (iblk m c 3 t) k (kcol h j)
      = m ((c : Thread nD τ).loc main_arg0) (ix2 (krow (num t) k) (ck h j)) := by
    intro k j
    unfold two krow
    by_cases hk : k.val < 128
    · rw [dif_pos hk, dif_pos hk]; exact iblk2_apply m c t _ h j
    · rw [dif_neg hk, dif_neg hk]; exact iblk3_apply m c t _ h j
  have e2 : ∀ (k : Fin 256) (j : Fin 64), two (iblk m c 4 t) (iblk m c 5 t) k (kcol h j)
      = m ((c : Thread nD τ).loc main_arg0) (ix2 (krow (num t) k) (cv h j)) := by
    intro k j
    unfold two krow
    by_cases hk : k.val < 128
    · rw [dif_pos hk, dif_pos hk]; exact iblk4_apply m c t _ h j
    · rw [dif_neg hk, dif_neg hk]; exact iblk5_apply m c t _ h j
  unfold point val
  simp only [e1, e2, X_apply, iblk0_apply, iblk6_apply]

/-- What point `t` writes back is the function `G` over its block. -/
theorem flushed_eq (c : Dev nD) (t : Fin cfg0.N) :
    (dats m 0 c).flushed 7 t = ((cfg0.win 7).blk t).view.read (Elt Ideal) (G m c) := by
  rw [Value.flushed7_A, out_eq]
  obtain ⟨-, -, -, -, ⟨e0, e1⟩, -⟩ := idx_facts t
  refine funext fun (y : S128x1024.Idx) => ?_
  have h0 : (y 0 : Nat) < 128 := (y 0).isLt
  have h1 : (y 1 : Nat) < 1024 := (y 1).isLt
  obtain ⟨r, h, d, hr, hhd⟩ : ∃ (r : Fin 128) (h : Fin 16) (d : Fin 64), (y 0 : Nat) = r.val ∧ (y 1 : Nat) = h.val * 64 + d.val :=
    ⟨⟨(y 0 : Nat), h0⟩, ⟨(y 1 : Nat) / 64, by omega⟩, ⟨(y 1 : Nat) % 64, by omega⟩, rfl, by show _ = (y 1 : Nat) / 64 * 64 + (y 1 : Nat) % 64; omega⟩
  have hy0 : ((((cfg0.win 7).blk t).view.emb y) (0 : Fin 2) : Nat) = t.val * 128 + r.val := by
    show win0_7.index t (0 : Fin 2) * 128 + 1 * (y 0 : Nat) = _; omega
  have hy1 : ((((cfg0.win 7).blk t).view.emb y) (1 : Fin 2) : Nat) = h.val * 64 + d.val := by
    show win0_7.index t (1 : Fin 2) * 1024 + 1 * (y 1 : Nat) = _; omega
  show whole (tbl (grid0.coords t)) (iblk m c 0 t) (X0_1 m c t) (iblk m c 2 t) (iblk m c 3 t) (iblk m c 4 t) (iblk m c 5 t) (iblk m c 6 t) y
    = G m c (((cfg0.win 7).blk t).view.emb y)
  rw [whole_of _ _ _ _ _ _ _ _ r h d y hr hhd, point_eq]
  unfold G result
  have hr' := r.isLt
  have hd' := d.isLt
  congr 1 <;> apply Fin.ext
  · show t.val = _ / 128; rw [hy0]; omega
  · show r.val = _ % 128; rw [hy0]; omega
  · show h.val = _ / 64; rw [hy1]; omega
  · show d.val = _ % 64; rw [hy1]; omega

/-- Every index of the result is in a block. -/
theorem cover (i : S32768x1024.Idx) : ∃ t : Fin cfg0.N, (cfg0.win 7).flush t = true ∧ i ∈ ((cfg0.win 7).blk t).view.set := by
  have h0 : (i 0 : Nat) < 32768 := (i 0).isLt
  have h1 : (i 1 : Nat) < 1024 := (i 1).isLt
  have hN := N_eq
  obtain ⟨t, ht⟩ : ∃ t : Fin cfg0.N, t.val = (i 0 : Nat) / 128 := ⟨⟨(i 0 : Nat) / 128, by omega⟩, rfl⟩
  refine ⟨t, flush0_7 t, ?_⟩
  obtain ⟨-, -, -, -, ⟨e0, e1⟩, -⟩ := idx_facts t
  show i ∈ ((View.whole main_v52).slice (win0_7.rect t)).set
  rw [View.set_slice_whole, Rect.mem_set_unit]
  intro a
  match a with
  | ⟨0, _⟩ => show win0_7.index t (0 : Fin 2) * 128 ≤ (i 0 : Nat) ∧ (i 0 : Nat) < win0_7.index t (0 : Fin 2) * 128 + 128
              rw [e0, ht]; omega
  | ⟨1, _⟩ => show win0_7.index t (1 : Fin 2) * 1024 ≤ (i 1 : Nat) ∧ (i 1 : Nat) < win0_7.index t (1 : Fin 2) * 1024 + 1024
              rw [e1]; omega

/-- The array after the run. -/
theorem final_o (c : Dev nD) : (dats m 0 c).arrAt 7 cfg0.N = G m c :=
  (dats m 0 c).arrAt_eq_of_cover 7 (G m c) (fun t _ => flushed_eq m c t) cover

/-- The run, read. -/
theorem run : θ_run defs (onTc (τ := τ) (main (F := Ideal))) ⟨m, fun _ => 0, ρ⟩ fun r => ∀ c : Dev nD,
      r.2.mem ((c : Thread nD τ).loc main_v52) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_o m c), (h c).2⟩) (Value.run_blocks m ρ)

end Cert.KernelIdeal.Block

end
-- ==== Proof.AttnMath.lean ====
/- THE TWO SOFTMAXES. The kernel scales the logits to base two, weights the values by the powers of two, and divides once by their sum;
   the reference takes exponentials, divides each by the sum, and then weights the values. With the logits below plus infinity and the sink
   a number, they agree (`head_eq`): the sum is a positive number, and to scale by a positive number respects sums, differences and maxima. -/
module

public import proofs.«01_k».proof.Proof.AttnBlock

@[expose] public section

noncomputable section

namespace Cert.Proof

open Idealize.ShloMosaic Cert.KernelIdeal.Block
open scoped BigOperators

/-- To scale by a number of no sign respects a sum of any values. -/
theorem sum_scale {n : ℕ} (f : Fin n → EReal) (c : ℝ) (hc : 0 ≤ c) : (∑ k, f k) * (c : EReal) = ∑ k, f k * (c : EReal) := by
  have h0 : (0 : EReal) ≤ (c : EReal) := EReal.coe_nonneg.mpr hc
  induction (Finset.univ : Finset (Fin n)) using Finset.induction_on with
  | empty => simp
  | insert a s ha ih => rw [Finset.sum_insert ha, Finset.sum_insert ha, EReal.right_distrib_of_nonneg_of_ne_top h0 (EReal.coe_ne_top c), ih]

/-- To scale by a number of no sign respects a maximum. -/
theorem max_scale (x y : EReal) (c : ℝ) (hc : 0 ≤ c) : max x y * (c : EReal) = max (x * c) (y * c) :=
  Monotone.map_max (f := fun z : EReal => z * (c : EReal)) fun _ _ h => mul_le_mul_of_nonneg_right h (EReal.coe_nonneg.mpr hc)

/-- A power of two of the logarithm's multiple is the exponential. -/
theorem exp2_scale (x : EReal) : Ideal.exp2 (x * lg) = Ideal.exp x := by
  have h2 : 0 < Real.log 2 := Real.log_pos (by norm_num)
  have hlg : 0 < (Real.log 2)⁻¹ := inv_pos.mpr h2
  induction x using EReal.rec with
  | bot => rw [EReal.bot_mul_coe_of_pos hlg]; rfl
  | top => rw [EReal.top_mul_coe_of_pos hlg]; rfl
  | coe r =>
    rw [← EReal.coe_mul, Ideal.exp2_coe, Ideal.exp_coe]
    congr 1
    show (2 : ℝ) ^ (r * (Real.log 2)⁻¹) = Real.exp r
    rw [Real.rpow_def_of_pos (by norm_num)]
    congr 1
    field_simp

/-- Below plus infinity an exponential is a number of no sign. -/
theorem exp_real (x : EReal) (h : x ≠ ⊤) : ∃ p : ℝ, 0 ≤ p ∧ Ideal.exp x = (p : EReal) := by
  induction x using EReal.rec with
  | bot => exact ⟨0, le_refl _, rfl⟩
  | top => exact absurd rfl h
  | coe r => exact ⟨Real.exp r, (Real.exp_pos r).le, rfl⟩

/-- The largest logit, with the sink. -/
def top (l : Fin 256 → EReal) (s : EReal) : EReal := max (Finset.fold max ⊥ l Finset.univ) s

/-- The sum of the exponentials, with the sink's. -/
def den (l : Fin 256 → EReal) (s : EReal) : EReal := (∑ k, Ideal.exp (l k - top l s)) + Ideal.exp (s - top l s)

/-- The largest logit is a number. -/
theorem top_real (l : Fin 256 → EReal) (s : ℝ) (hl : ∀ k, l k ≠ ⊤) : ∃ M : ℝ, top l s = (M : EReal) := by
  have h1 : top l s ≠ ⊤ := by
    have : Finset.fold max ⊥ l Finset.univ < ⊤ := by
      rw [Finset.fold_max_lt]
      exact ⟨bot_lt_top, fun k _ => lt_top_iff_ne_top.mpr (hl k)⟩
    exact (max_lt this (EReal.coe_lt_top s)).ne
  have h2 : top l s ≠ ⊥ := fun h => by
    have : (s : EReal) ≤ ⊥ := h ▸ le_max_right _ _
    exact EReal.coe_ne_bot s (le_bot_iff.mp this)
  exact ⟨(top l s).toReal, (EReal.coe_toReal h1 h2).symm⟩

/-- The sum of the exponentials is a positive number. -/
theorem den_real (l : Fin 256 → EReal) (s : ℝ) (hl : ∀ k, l k ≠ ⊤) : ∃ D : ℝ, 0 < D ∧ den l s = (D : EReal) := by
  obtain ⟨M, hM⟩ := top_real l s hl
  have hp : ∀ k, ∃ p : ℝ, 0 ≤ p ∧ Ideal.exp (l k - top l s) = (p : EReal) := fun k => exp_real _ (by
    rw [hM]
    induction h : l k using EReal.rec with
    | bot => rw [EReal.bot_sub]; exact bot_ne_top
    | top => exact absurd h (hl k)
    | coe r => rw [← EReal.coe_sub]; exact EReal.coe_ne_top _)
  choose p hp0 hp using hp
  refine ⟨(∑ k, p k) + Real.exp (s - M), add_pos_of_nonneg_of_pos (Finset.sum_nonneg fun k _ => hp0 k) (Real.exp_pos _), ?_⟩
  have hs : ((∑ k, p k : ℝ) : EReal) = ∑ k, (p k : EReal) := by
    induction (Finset.univ : Finset (Fin 256)) using Finset.induction_on with
    | empty => simp
    | insert a t ha ih => rw [Finset.sum_insert ha, Finset.sum_insert ha, EReal.coe_add, ih]
  unfold den
  rw [EReal.coe_add, hs, Finset.sum_congr rfl fun k _ => hp k, hM, ← EReal.coe_sub, Ideal.exp_coe]

/-- The kernel's head, from logits and a sink scaled to base two, is the reference's. -/
theorem head_eq (l v : Fin 256 → EReal) (s : ℝ) (hl : ∀ k, l k ≠ ⊤) :
    head (fun k => l k * lg) ((s : EReal) * lg) v = ∑ k, v k * Ideal.div (Ideal.exp (l k - top l s)) (den l s) := by
  have h2 : 0 < Real.log 2 := Real.log_pos (by norm_num)
  have hlg : 0 < (Real.log 2)⁻¹ := inv_pos.mpr h2
  have hm : max (Finset.fold max ⊥ (fun k => l k * lg) Finset.univ) ((s : EReal) * lg) = top l s * lg := by
    unfold top
    rw [max_scale _ _ _ hlg.le]
    congr 1
    have := Finset.fold_hom (op := max) (op' := max) (b := (⊥ : EReal)) (f := l) (s := Finset.univ) (m := fun z : EReal => z * lg)
      fun x y => max_scale x y _ hlg.le
    rw [← this]
    congr 1
    exact (EReal.bot_mul_coe_of_pos hlg).symm
  have he : ∀ x, Ideal.exp2 (x * lg - top l s * lg) = Ideal.exp (x - top l s) := fun x => by
    rw [← exp2_scale, sub_eq_add_neg x, EReal.right_distrib_of_nonneg_of_ne_top (EReal.coe_nonneg.mpr hlg.le) (EReal.coe_ne_top _), EReal.neg_mul, ← sub_eq_add_neg]
  obtain ⟨D, hD, eD⟩ := den_real l s hl
  unfold head
  rw [hm]
  simp only [he]
  show Ideal.div _ (den l s) = _
  rw [eD, Ideal.div_coe hD.ne', sum_scale _ _ (by positivity)]
  refine Finset.sum_congr rfl fun k _ => ?_
  rw [Ideal.div_coe hD.ne', mul_comm _ (v k), mul_assoc]

end Cert.Proof

end
-- ==== Proof.AttnRef.lean ====
/- THE REFERENCE'S ATTENTION, READ AT AN INDEX: its queries, keys and values (`q_apply`, `keys_apply`, `values_apply`) are the argument's
   entries, or zero for the block before a sequence's first; its mask and biases (`logit_apply`) those of the words of `AttnWords`. -/
module

public import proofs.«01_k».proof.Proof.AttnArray
public import proofs.«01_k».proof.Proof.AttnMath
public import proofs.«01_k».proof.Proof.Gen.ReferenceIdeal.Read
public import Idealize.ShloMosaic.Lib.ValueIdxRank6

@[expose] public section

set_option maxRecDepth 16384

noncomputable section

namespace Cert.ReferenceIdeal.Block

open Cert.ReferenceIdeal Cert.ReferenceIdeal.Gen Cert.ReferenceIdeal.Read Cert.Proof
open Idealize.ShloMosaic
open Cert.KernelIdeal.Block (qrow krow before cq ck cv bias)
open scoped BigOperators

/-- Block `n` of sequence `b` among all blocks. -/
def blk (b n : Fin 16) : Fin 256 := ⟨b.val * 16 + n.val, by have := b.isLt; have := n.isLt; omega⟩

/-- Head `g` of key head `kv` among all heads. -/
def hd (kv g : Fin 4) : Fin 16 := ⟨kv.val * 4 + g.val, by have := kv.isLt; have := g.isLt; omega⟩

/-- The argument by sequences. -/
theorem seq_apply (x : Vec Ideal S32768x1536 .bf16) (b n : Fin 16) (r : Fin 128) (j : Fin 1536) (i : S16x2048x1536.Idx)
    (h0 : (i 0).val = b.val) (h1 : (i 1).val = n.val * 128 + r.val) (h2 : (i 2).val = j.val) :
    val_main_v0 (F := Ideal) x i = x (ix2 (qrow (blk b n) r) j) := by
  rw [val_main_v0_apply]
  have hj := j.isLt
  refine congrArg x (funext fun a => Fin.ext ?_)
  match a with
  | ⟨0, _⟩ => show (((i 0).val * 2048 + (i 1).val) * 1536 + (i 2).val) / 1536 = (b.val * 16 + n.val) * 128 + r.val; rw [h0, h1, h2]; omega
  | ⟨1, _⟩ => show (((i 0).val * 2048 + (i 1).val) * 1536 + (i 2).val) % 1536 = j.val; rw [h0, h1, h2]; omega

/-- The queries. -/
theorem q_apply (x : Vec Ideal S32768x1536 .bf16) (b n : Fin 16) (r : Fin 128) (kv g : Fin 4) (d : Fin 64) :
    val_main_v2 (F := Ideal) x (ix6 b n r kv g d) = x (ix2 (qrow (blk b n) r) (cq (hd kv g) d)) := by
  have hb := b.isLt; have hn := n.isLt; have hr := r.isLt; have hkv := kv.isLt; have hg := g.isLt; have hd' := d.isLt
  unfold val_main_v2
  rw [shapeCast_apply _ _ _ (ix3 b (⟨n.val * 128 + r.val, by omega⟩ : Fin 2048) (⟨(kv.val * 4 + g.val) * 64 + d.val, by omega⟩ : Fin 1024))
    (by rw [Shape.rowMajor_val_six, Shape.rowMajor_val_three]
        show (b.val * 2048 + (n.val * 128 + r.val)) * 1024 + ((kv.val * 4 + g.val) * 64 + d.val)
          = ((((b.val * 16 + n.val) * 128 + r.val) * 4 + kv.val) * 4 + g.val) * 64 + d.val
        omega), val_main_v1_apply]
  exact seq_apply x b n r _ _ rfl rfl rfl

/-- A block's keys and values. -/
theorem k_apply (x : Vec Ideal S32768x1536 .bf16) (b n : Fin 16) (r : Fin 128) (kv g : Fin 4) (d : Fin 64) :
    val_main_v5 (F := Ideal) x (ix5 b n r kv d) = x (ix2 (qrow (blk b n) r) (ck (hd kv g) d)) := by
  have hb := b.isLt; have hn := n.isLt; have hr := r.isLt; have hkv := kv.isLt; have hg := g.isLt; have hd' := d.isLt
  rw [val_main_v5_apply, val_main_v3_apply]
  refine seq_apply x b n r _ _ ?_ ?_ ?_
  · show ((((b.val * 16 + n.val) * 128 + r.val) * 4 + kv.val) * 64 + d.val) / 524288 = _; omega
  · show ((((b.val * 16 + n.val) * 128 + r.val) * 4 + kv.val) * 64 + d.val) / 256 % 2048 = _; omega
  · show 1024 + ((((b.val * 16 + n.val) * 128 + r.val) * 4 + kv.val) * 64 + d.val) % 256 = 1024 + ((kv.val * 4 + g.val) / 4 * 64 + d.val); omega

theorem v_apply (x : Vec Ideal S32768x1536 .bf16) (b n : Fin 16) (r : Fin 128) (kv g : Fin 4) (d : Fin 64) :
    val_main_v6 (F := Ideal) x (ix5 b n r kv d) = x (ix2 (qrow (blk b n) r) (cv (hd kv g) d)) := by
  have hb := b.isLt; have hn := n.isLt; have hr := r.isLt; have hkv := kv.isLt; have hg := g.isLt; have hd' := d.isLt
  rw [val_main_v6_apply, val_main_v4_apply]
  refine seq_apply x b n r _ _ ?_ ?_ ?_
  · show ((((b.val * 16 + n.val) * 128 + r.val) * 4 + kv.val) * 64 + d.val) / 524288 = _; omega
  · show ((((b.val * 16 + n.val) * 128 + r.val) * 4 + kv.val) * 64 + d.val) / 256 % 2048 = _; omega
  · show 1280 + ((((b.val * 16 + n.val) * 128 + r.val) * 4 + kv.val) * 64 + d.val) % 256 = 1280 + ((kv.val * 4 + g.val) / 4 * 64 + d.val); omega

/-- An array by blocks, each beneath the block before it. -/
def band (y : Vec Ideal S16x16x128x4x64 .bf16) (z : Vec Ideal S_ .bf16) : Vec Ideal S16x16x256x4x64 .bf16 :=
  concatenate S16x16x256x4x64 2 [⟨S16x16x128x4x64, pad S16x16x128x4x64 ![0, 1, 0, 0, 0] ![0, 0, 0, 0, 0] ![0, 0, 0, 0, 0]
      (extractStridedSlice S16x15x128x4x64 ![0, 0, 0, 0, 0] y slices_S16x16x128x4x64_S16x15x128x4x64_0_0_0_0_0) z
      pads_S16x15x128x4x64_S16x16x128x4x64_000_100_000_000_000 h_S_⟩, ⟨S16x16x128x4x64, y⟩] concatenates_S16x16x128x4x64_S16x16x128x4x64_S16x16x256x4x64_d2

/-- Its entries, but for the block before a sequence's first. -/
theorem band_apply (y : Vec Ideal S16x16x128x4x64 .bf16) (z : Vec Ideal S_ .bf16) (b n : Fin 16) (k : Fin 256) (kv : Fin 4) (d : Fin 64)
    (h : n.val = 0 → 128 ≤ k.val) :
    band y z (ix5 b n k kv d) = if hk : k.val < 128 then y (ix5 b ⟨n.val - 1, by have := n.isLt; omega⟩ ⟨k.val, hk⟩ kv d)
      else y (ix5 b n ⟨k.val - 128, by have := k.isLt; omega⟩ kv d) := by
  have hb := b.isLt; have hn := n.isLt; have hkv := kv.isLt; have hd' := d.isLt
  unfold band
  simp only [pointwise]
  by_cases hk : k.val < 128
  · rw [dif_pos hk, dif_pos hk, dif_pos (fun a => by
      match a with
      | ⟨0, _⟩ => exact ⟨Nat.zero_le _, by show (b.val - 0) % (0 + 1) = 0; omega, by show (b.val - 0) / (0 + 1) < 16; omega⟩
      | ⟨1, _⟩ => exact ⟨by show 1 ≤ n.val; omega, by show (n.val - 1) % (0 + 1) = 0; omega, by show (n.val - 1) / (0 + 1) < 15; omega⟩
      | ⟨2, _⟩ => exact ⟨Nat.zero_le _, by show (k.val - 0) % (0 + 1) = 0; omega, by show (k.val - 0) / (0 + 1) < 128; omega⟩
      | ⟨3, _⟩ => exact ⟨Nat.zero_le _, by show (kv.val - 0) % (0 + 1) = 0; omega, by show (kv.val - 0) / (0 + 1) < 4; omega⟩
      | ⟨4, _⟩ => exact ⟨Nat.zero_le _, by show (d.val - 0) % (0 + 1) = 0; omega, by show (d.val - 0) / (0 + 1) < 64; omega⟩)]
    refine congrArg y (funext fun a => Fin.ext ?_)
    match a with
    | ⟨0, _⟩ => show 0 + (b.val - 0) / (0 + 1) = b.val; omega
    | ⟨1, _⟩ => show 0 + (n.val - 1) / (0 + 1) = n.val - 1; omega
    | ⟨2, _⟩ => show 0 + (k.val - 0) / (0 + 1) = k.val; omega
    | ⟨3, _⟩ => show 0 + (kv.val - 0) / (0 + 1) = kv.val; omega
    | ⟨4, _⟩ => show 0 + (d.val - 0) / (0 + 1) = d.val; omega
  · rw [dif_neg hk, dif_neg hk]
    rfl

/-- The rows of the two blocks. -/
theorem krow_eq (b n : Fin 16) (k : Fin 256) (h : n.val = 0 → 128 ≤ k.val) :
    krow (blk b n) k = if hk : k.val < 128 then qrow (blk b ⟨n.val - 1, by have := n.isLt; omega⟩) ⟨k.val, hk⟩
      else qrow (blk b n) ⟨k.val - 128, by have := k.isLt; omega⟩ := by
  have hb := b.isLt; have hn := n.isLt
  unfold krow
  by_cases hk : k.val < 128
  · rw [dif_pos hk, dif_pos hk]
    refine congrArg (fun t => qrow t ⟨k.val, hk⟩) (Fin.ext ?_)
    show (b.val * 16 + n.val) - (if (b.val * 16 + n.val) % 16 = 0 then 0 else 1) = b.val * 16 + (n.val - 1)
    rw [if_neg (by omega)]
    omega
  · rw [dif_neg hk, dif_neg hk]

/-- The keys of the two blocks. -/
theorem keys_apply (x : Vec Ideal S32768x1536 .bf16) (b n : Fin 16) (k : Fin 256) (kv g : Fin 4) (d : Fin 64) (h : n.val = 0 → 128 ≤ k.val) :
    val_main_v9 (F := Ideal) x (ix5 b n k kv d) = x (ix2 (krow (blk b n) k) (ck (hd kv g) d)) := by
  refine (band_apply (val_main_v5 (F := Ideal) x) (val_main_call0_v0 (F := Ideal)) b n k kv d h).trans ?_
  rw [krow_eq b n k h]
  by_cases hk : k.val < 128
  · rw [dif_pos hk, dif_pos hk, k_apply x _ _ _ kv g d]
  · rw [dif_neg hk, dif_neg hk, k_apply x _ _ _ kv g d]

/-- The values of the two blocks. -/
theorem values_apply (x : Vec Ideal S32768x1536 .bf16) (b n : Fin 16) (k : Fin 256) (kv g : Fin 4) (d : Fin 64) (h : n.val = 0 → 128 ≤ k.val) :
    val_main_v12 (F := Ideal) x (ix5 b n k kv d) = x (ix2 (krow (blk b n) k) (cv (hd kv g) d)) := by
  refine (band_apply (val_main_v6 (F := Ideal) x) (val_main_call1_v0 (F := Ideal)) b n k kv d h).trans ?_
  rw [krow_eq b n k h]
  by_cases hk : k.val < 128
  · rw [dif_pos hk, dif_pos hk, v_apply x _ _ _ kv g d]
  · rw [dif_neg hk, dif_neg hk, v_apply x _ _ _ kv g d]

/-- A block's number is zero. -/
theorem zero_cmp : ∀ n : Fin 16, IntOp.cmpi .eq (BitVec.ofNat 32 n.val) 0#32 = BitVec.ofBool (decide (n.val = 0)) := by decide +kernel

/-- The two masks' bits. -/
theorem mask_bits (p q s : Prop) [Decidable p] [Decidable q] [Decidable s] (t : Prop) [Decidable t] (ht : t ↔ ¬ (q ∧ s)) :
    IntOp.andi (BitVec.ofBool (decide p)) (~~~ IntOp.andi (BitVec.ofBool (decide q)) (BitVec.ofBool (decide s))) = BitVec.ofBool (decide (p ∧ t)) := by
  by_cases hp : p <;> by_cases hq : q <;> by_cases hs : s <;> simp [ht, hp, hq, hs] <;> rfl

/-- The mask. -/
theorem mask_apply (n : Fin 16) (r : Fin 128) (k : Fin 256) :
    val_main_v47 (F := Ideal) (ix3 n r k) = BitVec.ofBool (decide (Sees r k ∧ (n.val = 0 → 128 ≤ k.val))) := by
  have e : val_main_v47 (F := Ideal) (ix3 n r k) = IntOp.andi (windowW (distW r k))
      (~~~ IntOp.andi (IntOp.cmpi .eq (BitVec.ofNat 32 n.val) 0#32) (IntOp.cmpi .slt (BitVec.ofNat 32 k.val) 128#32)) := by
    simp only [val_main_v47_apply, val_main_v46_apply, val_main_v45_apply, val_main_v44_apply, val_main_v43_apply, val_main_v42_apply,
      val_main_v41_apply, val_main_v40_apply, val_main_v39_apply, val_main_v38_apply, val_main_v37_apply, val_main_v36_apply, val_main_v35_apply,
      val_main_v34_apply, val_main_v33_apply, val_main_v32_apply, val_main_v31_apply, val_main_v30_apply, val_main_v29_apply, val_main_v28_apply,
      val_main_v27_apply, val_main_v26_apply, val_main_v25_apply, val_main_v24_apply, val_main_v23_apply, val_main_v22_apply, val_main_v21_apply,
      val_main_v20_apply, val_main_v19_apply, val_main_v18_apply, val_main_v17_apply, val_main_c_1_apply, val_main_c_2_apply, val_main_c_3_apply,
      val_main_c_4_apply, val_main_c_5_apply]
    rfl
  rw [e, windowW_eq, Cert.KernelIdeal.Block.before_eq]
  rw [zero_cmp]
  exact mask_bits _ _ _ _ (by omega)

/-- The bucket. -/
theorem bucket_apply (r : Fin 128) (k : Fin 256) : val_main_v67 (F := Ideal) (ix2 r k) = bucketW (distW r k) := by
  simp only [val_main_v67_apply, val_main_v66_apply, val_main_v65_apply, val_main_v64_apply, val_main_v63_apply, val_main_v62_apply, val_main_v61_apply,
    val_main_v60_apply, val_main_v59_apply, val_main_v58_apply, val_main_v57_apply, val_main_v56_apply, val_main_v55_apply, val_main_v54_apply,
    val_main_v53_apply, val_main_v52_apply, val_main_v51_apply, val_main_v50_apply, val_main_v49_apply, val_main_v48_apply,
    val_main_v25_apply, val_main_v24_apply, val_main_v23_apply, val_main_v22_apply, val_main_v21_apply,
    val_main_v20_apply, val_main_v19_apply, val_main_v18_apply, val_main_v17_apply, val_main_c_1_apply, val_main_c_6_apply, val_main_c_7_apply,
    val_main_cst_8_apply, val_main_cst_9_apply, val_main_cst_10_apply, val_main_c_11_apply, val_main_c_12_apply, val_main_c_13_apply]
  rfl

/-- The gather's row of the biases. -/
theorem gather_apply (x : Vec Ideal S32x16 .f32) (idx : IVec S128x256x1 32) (r : Fin 128) (k : Fin 256) (h : Fin 16) :
    Host.gather gather_S32x16_S128x256x1_S128x256x16_2_0_n_n_0_2_116 x idx (ix3 r k h)
      = x (ix2 (⟨min (idx (ix3 r k 0)).toInt.toNat 31, by omega⟩ : Fin 32) h) := by
  unfold Host.gather
  refine congrArg x (funext fun a => Fin.ext ?_)
  match a with
  | ⟨0, _⟩ =>
    show gather_S32x16_S128x256x1_S128x256x16_2_0_n_n_0_2_116.start (ix3 r k h) idx 0 + gather_S32x16_S128x256x1_S128x256x16_2_0_n_n_0_2_116.batchCoord (ix3 r k h) 0 + gather_S32x16_S128x256x1_S128x256x16_2_0_n_n_0_2_116.offCoord (ix3 r k h) 0 = min (idx (ix3 r k 0)).toInt.toNat 31
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S32x16_S128x256x1_S128x256x16_2_0_n_n_0_2_116.startIndexMap from List.mem_singleton.mpr rfl)]
    have hsi : gather_S32x16_S128x256x1_S128x256x16_2_0_n_n_0_2_116.siIdx (ix3 r k h) ⟨List.idxOf (0 : Fin 2) gather_S32x16_S128x256x1_S128x256x16_2_0_n_n_0_2_116.startIndexMap, List.idxOf_lt_length_iff.2 (List.mem_singleton.mpr rfl)⟩ = ix3 r k 0 :=
      funext fun b => Fin.ext (by
        match b with
        | ⟨0, _⟩ => rfl
        | ⟨1, _⟩ => rfl
        | ⟨2, _⟩ => rfl)
    rw [hsi]
    rfl
  | ⟨1, _⟩ =>
    show gather_S32x16_S128x256x1_S128x256x16_2_0_n_n_0_2_116.start (ix3 r k h) idx 1 + gather_S32x16_S128x256x1_S128x256x16_2_0_n_n_0_2_116.batchCoord (ix3 r k h) 1 + gather_S32x16_S128x256x1_S128x256x16_2_0_n_n_0_2_116.offCoord (ix3 r k h) 1 = h.val
    rw [GatherDims.batchCoord_eq_zero _ _ _ List.not_mem_nil]
    unfold GatherDims.start
    rw [dif_neg (show (1 : Fin 2) ∉ gather_S32x16_S128x256x1_S128x256x16_2_0_n_n_0_2_116.startIndexMap by decide)]
    show 0 + 0 + gather_S32x16_S128x256x1_S128x256x16_2_0_n_n_0_2_116.offCoord (ix3 r k h) 1 = h.val
    rw [Nat.zero_add]
    rfl

/-- A bucket is none below zero, and no more than 31. -/
theorem bucket_word : ∀ b : Fin 32, (Scalar.select (IntOp.cmpi .slt (BitVec.ofNat 32 b.val) 0#32) (IntOp.addi (BitVec.ofNat 32 b.val) 32#32)
    (BitVec.ofNat 32 b.val) : BitVec 32).toInt.toNat = b.val := by decide +kernel

/-- The bias of a key that the query sees. -/
theorem bias_apply (rel : Vec Ideal S32x16 .f32) (kv g : Fin 4) (r : Fin 128) (k : Fin 256) (hs : Sees r k) :
    val_main_v76 (F := Ideal) rel (ix4 kv g r k) = rel (ix2 (bk r k) (hd kv g)) := by
  have hkv := kv.isLt; have hg := g.isLt; have hr := r.isLt; have hk := k.isLt
  have e1 : idx_main_v75 (idx_main_v76 (ix4 kv g r k)) = ix3 r k (hd kv g) := funext fun a => Fin.ext (by
    match a with
    | ⟨0, _⟩ => show (((kv.val * 4 + g.val) * 128 + r.val) * 256 + k.val) / 256 % 128 = r.val; omega
    | ⟨1, _⟩ => show (((kv.val * 4 + g.val) * 128 + r.val) * 256 + k.val) % 256 = k.val; omega
    | ⟨2, _⟩ => show (((kv.val * 4 + g.val) * 128 + r.val) * 256 + k.val) / 32768 = kv.val * 4 + g.val; omega)
  rw [val_main_v76_apply, val_main_v75_apply, e1]
  unfold val_main_v74
  rw [gather_apply]
  refine congrArg (fun z : Fin 32 => rel (ix2 z (hd kv g))) (Fin.ext ?_)
  show min (val_main_v73 (F := Ideal) (ix3 r k 0)).toInt.toNat 31 = (bk r k).val
  have e2 : val_main_v73 (F := Ideal) (ix3 r k 0) = Scalar.select (IntOp.cmpi .slt (val_main_v67 (F := Ideal) (ix2 r k)) 0#32)
      (IntOp.addi (val_main_v67 (F := Ideal) (ix2 r k)) 32#32) (val_main_v67 (F := Ideal) (ix2 r k)) := by
    have e3 : idx_main_v73 (ix3 r k 0) = ix2 r k := ValueIdx.eq_ix2 _
    rw [val_main_v73_apply, e3]
    simp only [val_main_v72_apply, val_main_v71_apply, val_main_v70_apply, val_main_v69_apply, val_main_v68_apply, val_main_c_14_apply, val_main_c_15_apply]
  rw [e2, bucket_apply, bucketW_eq r k hs, bucket_word]
  have := (bk r k).isLt
  omega

/-- An eighth. -/
theorem eighth : Ideal.ofBits .f32 0x3E000000#32 = ((8⁻¹ : ℝ) : EReal) := by
  simp [Ideal.ofBits, Ideal.ieee, -EReal.coe_mul]; norm_num

/-- The masked logits. -/
theorem logit_apply (x : Vec Ideal S32768x1536 .bf16) (rel : Vec Ideal S32x16 .f32) (b n : Fin 16) (kv g : Fin 4) (r : Fin 128) (k : Fin 256) :
    val_main_v80 (F := Ideal) x rel (ix6 b kv g n r k)
      = if Sees r k ∧ (n.val = 0 → 128 ≤ k.val)
        then (∑ j : Fin 64, x (ix2 (krow (blk b n) k) (ck (hd kv g) j)) * x (ix2 (qrow (blk b n) r) (cq (hd kv g) j))) * ((8⁻¹ : ℝ) : EReal)
          + rel (ix2 (bk r k) (hd kv g))
        else ⊥ := by
  have e0 : idx_main_call3_v1 (ix6 b kv g n r k) = ix3 n r k := ValueIdx.eq_ix3 _
  rw [val_main_v80_apply, val_main_call3_v1_apply, e0, mask_apply]
  by_cases hv : Sees r k ∧ (n.val = 0 → 128 ≤ k.val)
  · rw [if_pos hv, decide_eq_true hv]
    show val_main_v79 (F := Ideal) x rel (ix6 b kv g n r k) = _
    have e1 : idx_main_v77 (idx_main_v78 (ix6 b kv g n r k)) = ix4 kv g r k := ValueIdx.eq_ix4 _
    rw [val_main_v79_apply, val_main_v78_apply, val_main_v77_apply, e1, bias_apply rel kv g r k hv.1, val_main_v16_apply, val_main_v15_apply,
      val_main_cst_apply, val_main_v14_apply, val_main_v13_apply]
    have e2 : ∀ j, lidx_main_v13 (idx_main_v14 (ix6 b kv g n r k)) j = ix5 b n k kv j := fun j => ValueIdx.eq_ix5 _
    have e3 : ∀ j, ridx_main_v13 (idx_main_v14 (ix6 b kv g n r k)) j = ix6 b n r kv g j := fun j => ValueIdx.eq_ix6 _
    simp only [e2, e3, keys_apply x b n k kv g _ hv.2, q_apply]
    show _ * Ideal.ofBits .f32 0x3E000000#32 + _ = _
    rw [eighth]
  · rw [if_neg hv, decide_eq_false hv]
    show Ideal.ofBits .f32 0xFF800000#32 = ⊥
    simp [Ideal.ofBits, Ideal.ieee]

/-- The logits of a query, as a function of the key. -/
def logits (x : Vec Ideal S32768x1536 .bf16) (rel : Vec Ideal S32x16 .f32) (b n : Fin 16) (kv g : Fin 4) (r : Fin 128) (k : Fin 256) : EReal :=
  val_main_v80 (F := Ideal) x rel (ix6 b kv g n r k)

/-- The sink. -/
theorem sink_apply (s : Vec Ideal S16 .f32) (i : S1x4x4x1x1x1.Idx) (kv g : Fin 4) (h1 : (i 1).val = kv.val) (h2 : (i 2).val = g.val) :
    val_main_v82 (F := Ideal) s i = s (ix1 (hd kv g)) := by
  rw [val_main_v82_apply, val_main_v81_apply]
  refine congrArg s (funext fun a => Fin.ext ?_)
  match a with
  | ⟨0, _⟩ => show (i 1).val * 4 + (i 2).val = kv.val * 4 + g.val; rw [h1, h2]

/-- The indices that a row's maximum is taken over. -/
theorem row_fiber (b : Fin 16) (kv g : Fin 4) (n : Fin 16) (r : Fin 128) (i : S16x4x4x16x128x256.Idx) :
    reducesTo_S16x4x4x16x128x256_S16x4x4x16x128_d5.drop i = ix5 b kv g n r ↔ ∃ k : Fin 256, ix6 b kv g n r k = i := by
  constructor
  · intro e
    refine ⟨i 5, funext fun a => Fin.ext ?_⟩
    match a with
    | ⟨0, _⟩ => exact (congrArg Fin.val (congrFun e (0 : Fin 5))).symm
    | ⟨1, _⟩ => exact (congrArg Fin.val (congrFun e (1 : Fin 5))).symm
    | ⟨2, _⟩ => exact (congrArg Fin.val (congrFun e (2 : Fin 5))).symm
    | ⟨3, _⟩ => exact (congrArg Fin.val (congrFun e (3 : Fin 5))).symm
    | ⟨4, _⟩ => exact (congrArg Fin.val (congrFun e (4 : Fin 5))).symm
    | ⟨5, _⟩ => rfl
  · rintro ⟨k, rfl⟩
    refine funext fun a => Fin.ext ?_
    match a with
    | ⟨0, _⟩ => rfl
    | ⟨1, _⟩ => rfl
    | ⟨2, _⟩ => rfl
    | ⟨3, _⟩ => rfl
    | ⟨4, _⟩ => rfl

/-- The largest logit. -/
theorem top_apply (x : Vec Ideal S32768x1536 .bf16) (rel : Vec Ideal S32x16 .f32) (s : Vec Ideal S16 .f32) (b n : Fin 16) (kv g : Fin 4) (r : Fin 128) :
    val_main_v86 (F := Ideal) x rel s (ix6 b kv g n r 0) = top (logits x rel b n kv g r) (s (ix1 (hd kv g))) := by
  have e1 : idx_main_v84 (ix6 b kv g n r 0) = ix5 b kv g n r := ValueIdx.eq_ix5 _
  rw [val_main_v86_apply, val_main_v85_apply, sink_apply s _ kv g rfl rfl, val_main_v84_apply, e1]
  have e2 : val_main_v83 (F := Ideal) x rel (ix5 b kv g n r) = Finset.fold max ⊥ (logits x rel b n kv g r) Finset.univ := by
    unfold val_main_v83 logits
    generalize val_main_v80 (F := Ideal) x rel = y
    simp only [pointwise]
    have e3 : (val_main_cst_17 (F := Ideal)) (Shape.Idx.first h_S_) = ⊥ := by
      show Ideal.ofBits .f32 0xFF800000#32 = ⊥
      simp [Ideal.ofBits, Ideal.ieee]
    rw [e3]
    exact Finset.fold_filter_eq_fold_of_fiber max _ (fun k : Fin 256 => (ix6 b kv g n r k : S16x4x4x16x128x256.Idx)) (fun _ _ e => congrFun e 5) (row_fiber b kv g n r) ⊥ y
  rw [e2]
  rfl

/-- The exponentials. -/
theorem exp_apply (x : Vec Ideal S32768x1536 .bf16) (rel : Vec Ideal S32x16 .f32) (s : Vec Ideal S16 .f32) (b n : Fin 16) (kv g : Fin 4) (r : Fin 128) (k : Fin 256) :
    val_main_v89 (F := Ideal) x rel s (ix6 b kv g n r k)
      = Ideal.exp (logits x rel b n kv g r k - top (logits x rel b n kv g r) (s (ix1 (hd kv g)))) := by
  have e1 : idx_main_v87 (ix6 b kv g n r k) = ix6 b kv g n r 0 := ValueIdx.eq_ix6 _
  rw [val_main_v89_apply, val_main_v88_apply, val_main_v87_apply, e1, top_apply]
  rfl

/-- The sum of the exponentials. -/
theorem den_apply (x : Vec Ideal S32768x1536 .bf16) (rel : Vec Ideal S32x16 .f32) (s : Vec Ideal S16 .f32) (b n : Fin 16) (kv g : Fin 4) (r : Fin 128) :
    val_main_v95 (F := Ideal) x rel s (ix6 b kv g n r 0) = den (logits x rel b n kv g r) (s (ix1 (hd kv g))) := by
  have e1 : idx_main_v91 (ix6 b kv g n r 0) = ix5 b kv g n r := ValueIdx.eq_ix5 _
  have e2 : ∀ k, idx_main_v90 (ix5 b kv g n r) k = ix6 b kv g n r k := fun k => ValueIdx.eq_ix6 _
  rw [val_main_v95_apply, val_main_v94_apply, val_main_v93_apply, val_main_v92_apply, sink_apply s _ kv g rfl rfl, top_apply, val_main_v91_apply, e1,
    val_main_v90_apply, val_main_cst_18_apply]
  simp only [e2, exp_apply]
  unfold den
  have e3 : (FloatOps.ofBits .f32 0x00000000#32 : Ideal .f32) = 0 := by
    show Ideal.ofBits .f32 0x00000000#32 = 0
    simp [Ideal.ofBits, Ideal.ieee]
  rw [e3, zero_add]
  rfl

/-- The reference's attention. -/
theorem out_apply (x : Vec Ideal S32768x1536 .bf16) (rel : Vec Ideal S32x16 .f32) (s : Vec Ideal S16 .f32) (b n : Fin 16) (kv g : Fin 4) (r : Fin 128) (d : Fin 64) :
    val_main_v102 (F := Ideal) x rel s (ix6 b n r kv g d)
      = ∑ k : Fin 256, val_main_v12 (F := Ideal) x (ix5 b n k kv d) * Ideal.div (Ideal.exp (logits x rel b n kv g r k - top (logits x rel b n kv g r) (s (ix1 (hd kv g)))))
          (den (logits x rel b n kv g r) (s (ix1 (hd kv g)))) := by
  have e1 : ∀ k, lidx_main_v101 (idx_main_v102 (ix6 b n r kv g d)) k = ix5 b n k kv d := fun k => ValueIdx.eq_ix5 _
  have e2 : ∀ k, ridx_main_v101 (idx_main_v102 (ix6 b n r kv g d)) k = ix6 b kv g n r k := fun k => ValueIdx.eq_ix6 _
  have e3 : ∀ k, idx_main_v96 (ix6 b kv g n r k) = ix6 b kv g n r 0 := fun k => ValueIdx.eq_ix6 _
  rw [val_main_v102_apply, val_main_v101_apply]
  refine Finset.sum_congr rfl fun k _ => ?_
  rw [e1, e2, val_main_v100_apply, val_main_v99_apply, val_main_v98_apply, val_main_v97_apply, val_main_v96_apply, e3, exp_apply, den_apply]
  rfl

/-- The result at a row and a head's column. -/
theorem result_apply (x : Vec Ideal S32768x1536 .bf16) (rel : Vec Ideal S32x16 .f32) (s : Vec Ideal S16 .f32) (b n : Fin 16) (kv g : Fin 4) (r : Fin 128) (d : Fin 64)
    (i : S32768x1024.Idx) (h0 : (i 0).val = (b.val * 16 + n.val) * 128 + r.val) (h1 : (i 1).val = (kv.val * 4 + g.val) * 64 + d.val) :
    val_main_v104 (F := Ideal) x rel s i = val_main_v102 (F := Ideal) x rel s (ix6 b n r kv g d) := by
  have hb := b.isLt; have hn := n.isLt; have hr := r.isLt; have hkv := kv.isLt; have hg := g.isLt; have hd' := d.isLt
  rw [val_main_v104_apply]
  show val_main_v103 (F := Ideal) x rel s i = _
  unfold val_main_v103
  exact shapeCast_apply _ _ _ _ (by
    rw [Shape.rowMajor_val_six, Shape.rowMajor_val_two]
    show ((((b.val * 16 + n.val) * 128 + r.val) * 4 + kv.val) * 4 + g.val) * 64 + d.val = (i 0).val * 1024 + (i 1).val
    rw [h0, h1]
    omega)

/-- The kernel's logits are the reference's, scaled to base two. -/
theorem logits_scale (x : Vec Ideal S32768x1536 .bf16) (rel : Vec Ideal S32x16 .f32) (b n : Fin 16) (kv g : Fin 4) (r : Fin 128) (k : Fin 256) :
    (∑ j : Fin 64, x (ix2 (qrow (blk b n) r) (cq (hd kv g) j)) * x (ix2 (krow (blk b n) k) (ck (hd kv g) j))) * Cert.KernelIdeal.Block.qs
      + bias rel (blk b n) (hd kv g) r k * Cert.KernelIdeal.Block.lg = logits x rel b n kv g r k * Cert.KernelIdeal.Block.lg := by
  have h2 : 0 < Real.log 2 := Real.log_pos (by norm_num)
  have hlg : 0 < (Real.log 2)⁻¹ := inv_pos.mpr h2
  have hn := n.isLt
  unfold logits bias
  rw [logit_apply]
  have hc : (Sees r k ∧ ((blk b n).val % 16 = 0 → 128 ≤ k.val)) ↔ (Sees r k ∧ (n.val = 0 → 128 ≤ k.val)) := by
    have : (blk b n).val % 16 = n.val := by show (b.val * 16 + n.val) % 16 = n.val; omega
    rw [this]
  by_cases hv : Sees r k ∧ (n.val = 0 → 128 ≤ k.val)
  · rw [if_pos hv, if_pos (hc.mpr hv), EReal.right_distrib_of_nonneg_of_ne_top (EReal.coe_nonneg.mpr hlg.le) (EReal.coe_ne_top _), mul_assoc, ← EReal.coe_mul]
    simp only [mul_comm (x (ix2 (qrow (blk b n) r) _))]
  · rw [if_neg hv, if_neg (fun h => hv (hc.mp h)), EReal.bot_mul_coe_of_pos hlg, EReal.add_bot]

/-- With numbers for arguments, a logit is below plus infinity. -/
theorem logits_ne_top (x : Vec Ideal S32768x1536 .bf16) (rel : Vec Ideal S32x16 .f32) (hx : ∀ i, ∃ z : ℝ, x i = (z : EReal)) (hrel : ∀ i, ∃ z : ℝ, rel i = (z : EReal))
    (b n : Fin 16) (kv g : Fin 4) (r : Fin 128) (k : Fin 256) : logits x rel b n kv g r k ≠ ⊤ := by
  choose y hy using hx
  choose w hw using hrel
  unfold logits
  rw [logit_apply]
  by_cases hv : Sees r k ∧ (n.val = 0 → 128 ≤ k.val)
  · rw [if_pos hv]
    simp only [hy, hw, ← EReal.coe_mul]
    have hs : ∀ f : Fin 64 → ℝ, ∑ j, (f j : EReal) = ((∑ j, f j : ℝ) : EReal) := by
      intro f
      induction (Finset.univ : Finset (Fin 64)) using Finset.induction_on with
      | empty => simp
      | insert a t ha ih => rw [Finset.sum_insert ha, Finset.sum_insert ha, EReal.coe_add, ih]
    rw [hs, ← EReal.coe_mul, ← EReal.coe_add]
    exact EReal.coe_ne_top _
  · rw [if_neg hv]
    exact bot_ne_top

/-- With numbers for arguments, the reference's result is the kernel's. -/
theorem ref_apply (x : Vec Ideal S32768x1536 .bf16) (rel : Vec Ideal S32x16 .f32) (s : Vec Ideal S16 .f32) (hx : ∀ i, ∃ z : ℝ, x i = (z : EReal))
    (hrel : ∀ i, ∃ z : ℝ, rel i = (z : EReal)) (hs : ∀ i, ∃ z : ℝ, s i = (z : EReal)) (b n : Fin 16) (kv g : Fin 4) (r : Fin 128) (d : Fin 64) :
    val_main_v102 (F := Ideal) x rel s (ix6 b n r kv g d) = Cert.KernelIdeal.Block.val x rel s (blk b n) r (hd kv g) d := by
  obtain ⟨z, hz⟩ := hs (ix1 (hd kv g))
  have hl := logits_ne_top x rel hx hrel b n kv g r
  have ev : Cert.KernelIdeal.Block.val x rel s (blk b n) r (hd kv g) d
      = Cert.KernelIdeal.Block.head (fun k => logits x rel b n kv g r k * Cert.KernelIdeal.Block.lg) (s (ix1 (hd kv g)) * Cert.KernelIdeal.Block.lg)
        (fun k => x (ix2 (krow (blk b n) k) (cv (hd kv g) d))) :=
    congrArg (fun f => Cert.KernelIdeal.Block.head f (s (ix1 (hd kv g)) * Cert.KernelIdeal.Block.lg) (fun k => x (ix2 (krow (blk b n) k) (cv (hd kv g) d))))
      (funext fun k => logits_scale x rel b n kv g r k)
  rw [ev, out_apply, hz, head_eq _ _ z hl]
  refine Finset.sum_congr rfl fun k _ => ?_
  by_cases hv : Sees r k ∧ (n.val = 0 → 128 ≤ k.val)
  · rw [values_apply x b n k kv g d hv.2]
  · obtain ⟨M, hM⟩ := top_real _ z hl
    obtain ⟨D, hD, eD⟩ := den_real _ z hl
    have e : logits x rel b n kv g r k = ⊥ := by unfold logits; rw [logit_apply, if_neg hv]
    rw [e, EReal.bot_sub, Ideal.exp_bot, eD, Ideal.div_coe hD.ne', zero_mul, mul_zero, mul_zero]

/-- So the whole results agree. -/
theorem ref_eq (x : Vec Ideal S32768x1536 .bf16) (rel : Vec Ideal S32x16 .f32) (s : Vec Ideal S16 .f32) (hx : ∀ i, ∃ z : ℝ, x i = (z : EReal))
    (hrel : ∀ i, ∃ z : ℝ, rel i = (z : EReal)) (hs : ∀ i, ∃ z : ℝ, s i = (z : EReal)) :
    val_main_v104 (F := Ideal) x rel s = Cert.KernelIdeal.Block.result x rel s := by
  refine funext fun (i : S32768x1024.Idx) => ?_
  have h0 : (i 0 : Nat) < 32768 := (i 0).isLt
  have h1 : (i 1 : Nat) < 1024 := (i 1).isLt
  have e := result_apply x rel s ⟨(i 0 : Nat) / 128 / 16, by omega⟩ ⟨(i 0 : Nat) / 128 % 16, by omega⟩ ⟨(i 1 : Nat) / 64 / 4, by omega⟩ ⟨(i 1 : Nat) / 64 % 4, by omega⟩
    ⟨(i 0 : Nat) % 128, by omega⟩ ⟨(i 1 : Nat) % 64, by omega⟩ i
    (by show (i 0 : Nat) = ((i 0 : Nat) / 128 / 16 * 16 + (i 0 : Nat) / 128 % 16) * 128 + (i 0 : Nat) % 128; omega)
    (by show (i 1 : Nat) = ((i 1 : Nat) / 64 / 4 * 4 + (i 1 : Nat) / 64 % 4) * 64 + (i 1 : Nat) % 64; omega)
  rw [e, ref_apply x rel s hx hrel hs]
  unfold Cert.KernelIdeal.Block.result
  congr 1 <;> apply Fin.ext
  · show (i 0 : Nat) / 128 / 16 * 16 + (i 0 : Nat) / 128 % 16 = (i 0 : Nat) / 128; omega
  · show (i 1 : Nat) / 64 / 4 * 4 + (i 1 : Nat) / 64 % 4 = (i 1 : Nat) / 64; omega

end Cert.ReferenceIdeal.Block

end
-- ==== Proof.lean ====
module

public import proofs.«01_k».proof.Proof.Gen.KernelIdeal.Value
public import proofs.«01_k».proof.Proof.Gen.RouteOutKernelIdeal.Value
public import proofs.«01_k».proof.Proof.Gen.RouteOutReferenceIdeal.Run
public import proofs.«01_k».proof.Proof.Gen.RouteOutReferenceIdeal.Read
public import proofs.«01_k».proof.Proof.Gen.Pre_real_out
public import proofs.«01_k».proof.Proof.Gen.RouteOutKernel
public import proofs.«01_k».proof.Proof.Gen.RouteOutKernel.Skeleton
public import proofs.«01_k».proof.Proof.Gen.RouteOutKernel.Launch
public import proofs.«01_k».proof.Proof.Gen.RouteOutKernel.Points
public import proofs.«01_k».proof.Proof.Gen.RouteOutKernel.Frame
public import proofs.«01_k».proof.Proof.Gen.RouteOutKernelIdeal
public import proofs.«01_k».proof.Proof.Gen.RouteOutKernelIdeal.Skeleton
public import proofs.«01_k».proof.Proof.Gen.RouteOutKernelIdeal.Launch
public import proofs.«01_k».proof.Proof.Gen.RouteOutKernelIdeal.Points
public import proofs.«01_k».proof.Proof.Gen.RouteOutKernelIdeal.Frame
public import proofs.«01_k».proof.Proof.Gen.RouteOutReferenceIdeal
public import proofs.«01_k».proof.Proof.Gen.RouteKernelIdeal.Value
public import proofs.«01_k».proof.Proof.Gen.RouteReferenceIdeal.Run
public import proofs.«01_k».proof.Proof.Gen.RouteReferenceIdeal.Read
public import proofs.«01_k».proof.Proof.Gen.Pre_real
public import proofs.«01_k».proof.Proof.Gen.RouteKernel
public import proofs.«01_k».proof.Proof.Gen.RouteKernel.Skeleton
public import proofs.«01_k».proof.Proof.Gen.RouteKernel.Launch
public import proofs.«01_k».proof.Proof.Gen.RouteKernel.Points
public import proofs.«01_k».proof.Proof.Gen.RouteKernel.Frame
public import proofs.«01_k».proof.Proof.Gen.RouteKernelIdeal
public import proofs.«01_k».proof.Proof.Gen.RouteKernelIdeal.Skeleton
public import proofs.«01_k».proof.Proof.Gen.RouteKernelIdeal.Launch
public import proofs.«01_k».proof.Proof.Gen.RouteKernelIdeal.Points
public import proofs.«01_k».proof.Proof.Gen.RouteKernelIdeal.Frame
public import proofs.«01_k».proof.Proof.Gen.RouteReferenceIdeal
public import proofs.«01_k».proof.Proof.Gen.HeadsKernelIdeal.Value
public import proofs.«01_k».proof.Proof.Gen.HeadsReferenceIdeal.Run
public import proofs.«01_k».proof.Proof.Gen.HeadsReferenceIdeal.Read
public import proofs.«01_k».proof.Proof.Gen.HeadsKernel
public import proofs.«01_k».proof.Proof.Gen.HeadsKernel.Skeleton
public import proofs.«01_k».proof.Proof.Gen.HeadsKernel.Launch
public import proofs.«01_k».proof.Proof.Gen.HeadsKernel.Points
public import proofs.«01_k».proof.Proof.Gen.HeadsKernel.Frame
public import proofs.«01_k».proof.Proof.Gen.HeadsKernelIdeal
public import proofs.«01_k».proof.Proof.Gen.HeadsKernelIdeal.Skeleton
public import proofs.«01_k».proof.Proof.Gen.HeadsKernelIdeal.Launch
public import proofs.«01_k».proof.Proof.Gen.HeadsKernelIdeal.Points
public import proofs.«01_k».proof.Proof.Gen.HeadsKernelIdeal.Frame
public import proofs.«01_k».proof.Proof.Gen.HeadsReferenceIdeal
public import proofs.«01_k».proof.Proof.Gen.OutKernelIdeal.Value
public import proofs.«01_k».proof.Proof.Gen.OutReferenceIdeal.Run
public import proofs.«01_k».proof.Proof.Gen.OutReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.QkvKernelIdeal.Value
public import proofs.«01_k».proof.Proof.Gen.InKernelIdeal.Value
public import proofs.«01_k».proof.Proof.Gen.ReferenceIdeal.Run
public import proofs.«01_k».proof.Proof.Gen.ReferenceIdeal.Read
public import proofs.«01_k».proof.Proof.Gen.QkvReferenceIdeal.Run
public import proofs.«01_k».proof.Proof.Gen.QkvReferenceIdeal.Read
public import proofs.«01_k».proof.Proof.Gen.InReferenceIdeal.Run
public import proofs.«01_k».proof.Proof.Gen.InReferenceIdeal.Read
public import proofs.«01_k».proof.Proof.RouteRef
public import proofs.«01_k».proof.Proof.RouteOutRef
public import proofs.«01_k».proof.Defs
public import proofs.«01_k».proof.Proof.QkvBlock
public import proofs.«01_k».proof.Proof.InBlock
public import proofs.«01_k».proof.Proof.OutBlock
public import proofs.«01_k».proof.Proof.HeadsBlock
public import proofs.«01_k».proof.Proof.AttnArray
public import proofs.«01_k».proof.Proof.AttnRef
public import proofs.«01_k».proof.Proof.AttnFinite
public import Idealize.ShloMosaic.Lib.Quiescent
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.QkvKernel
public import proofs.«01_k».proof.Proof.Gen.QkvKernel.Skeleton
public import proofs.«01_k».proof.Proof.Gen.QkvKernel.Launch
public import proofs.«01_k».proof.Proof.Gen.QkvKernel.Points
public import proofs.«01_k».proof.Proof.Gen.QkvKernel.Frame
public import proofs.«01_k».proof.Proof.Gen.QkvKernelIdeal
public import proofs.«01_k».proof.Proof.Gen.QkvKernelIdeal.Skeleton
public import proofs.«01_k».proof.Proof.Gen.QkvKernelIdeal.Launch
public import proofs.«01_k».proof.Proof.Gen.QkvKernelIdeal.Points
public import proofs.«01_k».proof.Proof.Gen.QkvKernelIdeal.Frame
public import proofs.«01_k».proof.Proof.Gen.QkvReferenceIdeal
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.Pre_finite
public import Idealize.ShloMosaic.Adequacy
public import Idealize.ShloMosaic.Init

@[expose] public section

noncomputable section

namespace Cert.Proof

open Idealize.ShloMosaic Idealize.SL.Sem

/-- The reference `ReferenceIdeal` runs and keeps its arguments. -/
theorem frame_ReferenceIdeal : quiescent_ReferenceIdeal (hReferenceIdeal := Cert.ReferenceIdeal.Gen.facts) := fun m g _ =>
  (θ_run (Cert.ReferenceIdeal.defs (F := Ideal)) _ _).mono (fun r h => ⟨fun c => ⟨(h c).2.1, (h c).2.2.1, (h c).2.2.2⟩, sem_eq_zero_of_no_sems (by decide) r.2⟩)
    (Cert.ReferenceIdeal.Value.run (F := Ideal) m g)

/-- The reference `ReferenceIdeal` runs and keeps its arguments. -/
theorem frame_ReferenceIdeal_pre_finite : quiescent_ReferenceIdeal_pre_finite (hReferenceIdeal := Cert.ReferenceIdeal.Gen.facts) (hPre_finite := Cert.Pre_finite.Gen.facts) := fun m g _ =>
  (θ_run (Cert.ReferenceIdeal.defs (F := Ideal)) _ _).mono (fun r h => ⟨fun c => ⟨(h c).2.1, (h c).2.2.1, (h c).2.2.2⟩, sem_eq_zero_of_no_sems (by decide) r.2⟩)
    (Cert.ReferenceIdeal.Value.run (F := Ideal) m g)

/-- The reference `QkvReferenceIdeal` runs and keeps its arguments. -/
theorem frame_QkvReferenceIdeal : quiescent_QkvReferenceIdeal (hQkvReferenceIdeal := Cert.QkvReferenceIdeal.Gen.facts) := fun m g _ =>
  (θ_run (Cert.QkvReferenceIdeal.defs (F := Ideal)) _ _).mono (fun r h => ⟨fun c => ⟨(h c).2.1, (h c).2.2.1, (h c).2.2.2⟩, sem_eq_zero_of_no_sems (by decide) r.2⟩)
    (Cert.QkvReferenceIdeal.Value.run (F := Ideal) m g)

/-- The reference `InReferenceIdeal` runs and keeps its arguments. -/
theorem frame_InReferenceIdeal : quiescent_InReferenceIdeal (hInReferenceIdeal := Cert.InReferenceIdeal.Gen.facts) := fun m g _ =>
  (θ_run (Cert.InReferenceIdeal.defs (F := Ideal)) _ _).mono (fun r h => ⟨fun c => ⟨(h c).2.2.1, (h c).2.2.2.1, (h c).2.2.2.2.1, (h c).2.2.2.2.2⟩, sem_eq_zero_of_no_sems (by decide) r.2⟩)
    (Cert.InReferenceIdeal.Value.run (F := Ideal) m g)

/-- The reference `OutReferenceIdeal` runs and keeps its arguments. -/
theorem frame_OutReferenceIdeal : quiescent_OutReferenceIdeal (hOutReferenceIdeal := Cert.OutReferenceIdeal.Gen.facts) := fun m g _ =>
  (θ_run (Cert.OutReferenceIdeal.defs (F := Ideal)) _ _).mono (fun r h => ⟨fun c => (h c).2, sem_eq_zero_of_no_sems (by decide) r.2⟩)
    (Cert.OutReferenceIdeal.Value.run (F := Ideal) m g)

/-- The reference `HeadsReferenceIdeal` runs and keeps its arguments. -/
theorem frame_HeadsReferenceIdeal : quiescent_HeadsReferenceIdeal (hHeadsReferenceIdeal := Cert.HeadsReferenceIdeal.Gen.facts) := fun m g _ =>
  (θ_run (Cert.HeadsReferenceIdeal.defs (F := Ideal)) _ _).mono (fun r h => ⟨fun c => (h c).2, sem_eq_zero_of_no_sems (by decide) r.2⟩)
    (Cert.HeadsReferenceIdeal.Value.run (F := Ideal) m g)

/-- The reference `RouteReferenceIdeal` runs and keeps its arguments. -/
theorem frame_RouteReferenceIdeal : quiescent_RouteReferenceIdeal (hRouteReferenceIdeal := Cert.RouteReferenceIdeal.Gen.facts) := fun m g _ =>
  (θ_run (Cert.RouteReferenceIdeal.defs (F := Ideal)) _ _).mono (fun r h => ⟨fun c => (h c).2.2.2, sem_eq_zero_of_no_sems (by decide) r.2⟩)
    (Cert.RouteReferenceIdeal.Value.run (F := Ideal) m g)

/-- The same where the weights are finite. -/
theorem frame_RouteReferenceIdeal_pre_real : quiescent_RouteReferenceIdeal_pre_real (hRouteReferenceIdeal := Cert.RouteReferenceIdeal.Gen.facts)
    (hPre_real := Cert.Pre_real.Gen.facts) := fun m g _ => frame_RouteReferenceIdeal m g trivial

/-- The reference `RouteOutReferenceIdeal` runs and keeps its arguments. -/
theorem frame_RouteOutReferenceIdeal : quiescent_RouteOutReferenceIdeal (hRouteOutReferenceIdeal := Cert.RouteOutReferenceIdeal.Gen.facts) := fun m g _ =>
  (θ_run (Cert.RouteOutReferenceIdeal.defs (F := Ideal)) _ _).mono (fun r h => ⟨fun c => (h c).2.2.2, sem_eq_zero_of_no_sems (by decide) r.2⟩)
    (Cert.RouteOutReferenceIdeal.Value.run (F := Ideal) m g)

/-- The same where the weights are finite. -/
theorem frame_RouteOutReferenceIdeal_pre_real_out : quiescent_RouteOutReferenceIdeal_pre_real_out (hRouteOutReferenceIdeal := Cert.RouteOutReferenceIdeal.Gen.facts)
    (hPre_real_out := Cert.Pre_real_out.Gen.facts) := fun m g _ => frame_RouteOutReferenceIdeal m g trivial

/-- The attention equals its reference where the arguments are finite. -/
theorem attention : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.KernelIdeal.Block.G m c, Cert.KernelIdeal.Block.run m g,
    (θ_run (Cert.ReferenceIdeal.defs (F := Ideal)) _ _).mono (fun r h c => ⟨(h c).1.trans ?_, (h c).2⟩) (Cert.ReferenceIdeal.Value.run (F := Ideal) m' g')⟩
  obtain ⟨hx, hrel, hs⟩ := Cert.Pre_finite.reals _ _ _ (hpre c)
  rw [Cert.ReferenceIdeal.Read.val_main_v104_eq, (hagree c).1, (hagree c).2.1, (hagree c).2.2]
  exact Cert.ReferenceIdeal.Block.ref_eq _ _ _ hx hrel hs

/-- The first projection equals its reference. -/
theorem qkv : algebraic_QkvKernelIdeal_QkvReferenceIdeal (hQkvKernelIdeal := Cert.QkvKernelIdeal.Gen.facts)
    (hQkvReferenceIdeal := Cert.QkvReferenceIdeal.Gen.facts) := by
  intro m g m' g' _ hagree
  refine ⟨fun c => Cert.QkvKernelIdeal.Block.G m c, Cert.QkvKernelIdeal.Block.run m g,
    (θ_run (Cert.QkvReferenceIdeal.defs (F := Ideal)) _ _).mono (fun r h c => ⟨(h c).1.trans ?_, (h c).2⟩) (Cert.QkvReferenceIdeal.Value.run (F := Ideal) m' g')⟩
  rw [(hagree c).1, (hagree c).2.1, (hagree c).2.2]
  exact (Cert.QkvReferenceIdeal.Read.val_main_v15_eq _ _ _).trans (Cert.QkvReferenceIdeal.Block.ref_eq _ _ _)

/-- The second projection equals its reference in both results. -/
theorem inproj : algebraic_InKernelIdeal_InReferenceIdeal (hInKernelIdeal := Cert.InKernelIdeal.Gen.facts)
    (hInReferenceIdeal := Cert.InReferenceIdeal.Gen.facts) := by
  intro m g m' g' _ hagree
  refine ⟨fun c => Cert.InKernelIdeal.Block.G4 m c, fun c => Cert.InKernelIdeal.Block.G5 m c, Cert.InKernelIdeal.Block.run m g,
    (θ_run (Cert.InReferenceIdeal.defs (F := Ideal)) _ _).mono (fun r h c => ⟨(h c).1.trans ?_, (h c).2.1.trans ?_, (h c).2.2⟩)
      (Cert.InReferenceIdeal.Value.run (F := Ideal) m' g')⟩
  · rw [(hagree c).1, (hagree c).2.1, (hagree c).2.2.1]
    exact (Cert.InReferenceIdeal.Read.val_main_v15_eq _ _ _).trans (Cert.InReferenceIdeal.Block.ref_wide _ _ _)
  · rw [(hagree c).1, (hagree c).2.1, (hagree c).2.2.2]
    exact (Cert.InReferenceIdeal.Read.val_main_v17_eq _ _ _).trans (Cert.InReferenceIdeal.Block.ref_narrow _ _ _)

/-- The projection out of the state-space mixer equals its reference. -/
theorem outproj : algebraic_OutKernelIdeal_OutReferenceIdeal (hOutKernelIdeal := Cert.OutKernelIdeal.Gen.facts)
    (hOutReferenceIdeal := Cert.OutReferenceIdeal.Gen.facts) := by
  intro m g m' g' _ hagree
  refine ⟨fun c => Cert.OutKernelIdeal.Block.G m c, Cert.OutKernelIdeal.Block.run m g,
    (θ_run (Cert.OutReferenceIdeal.defs (F := Ideal)) _ _).mono (fun r h c => ⟨(h c).1.trans ?_, (h c).2⟩) (Cert.OutReferenceIdeal.Value.run (F := Ideal) m' g')⟩
  rw [(hagree c).1, (hagree c).2.1, (hagree c).2.2.1]
  exact (Cert.OutReferenceIdeal.Read.val_main_v3_eq _ _ _).trans (Cert.OutReferenceIdeal.Block.ref_eq _ _ _)

/-- The projection of the attention's heads equals its reference. -/
theorem headsproj : algebraic_HeadsKernelIdeal_HeadsReferenceIdeal (hHeadsKernelIdeal := Cert.HeadsKernelIdeal.Gen.facts)
    (hHeadsReferenceIdeal := Cert.HeadsReferenceIdeal.Gen.facts) := by
  intro m g m' g' _ hagree
  refine ⟨fun c => Cert.HeadsKernelIdeal.Block.G m c, Cert.HeadsKernelIdeal.Block.run m g,
    (θ_run (Cert.HeadsReferenceIdeal.defs (F := Ideal)) _ _).mono (fun r h c => ⟨(h c).1.trans ?_, (h c).2⟩) (Cert.HeadsReferenceIdeal.Value.run (F := Ideal) m' g')⟩
  rw [(hagree c).1, (hagree c).2.1, (hagree c).2.2.1]
  exact (Cert.HeadsReferenceIdeal.Read.val_main_v3_eq _ _ _).trans (Cert.HeadsReferenceIdeal.Block.ref_eq _ _ _)

/-- A function of eight arguments at equal arguments. -/
theorem congr8 {α₀ α₁ α₂ α₃ α₄ α₅ α₆ α₇ β : Type} (f : α₀ → α₁ → α₂ → α₃ → α₄ → α₅ → α₆ → α₇ → β) {a₀ b₀ : α₀} {a₁ b₁ : α₁} {a₂ b₂ : α₂} {a₃ b₃ : α₃}
    {a₄ b₄ : α₄} {a₅ b₅ : α₅} {a₆ b₆ : α₆} {a₇ b₇ : α₇} (e₀ : a₀ = b₀) (e₁ : a₁ = b₁) (e₂ : a₂ = b₂) (e₃ : a₃ = b₃) (e₄ : a₄ = b₄) (e₅ : a₅ = b₅)
    (e₆ : a₆ = b₆) (e₇ : a₇ = b₇) : f a₀ a₁ a₂ a₃ a₄ a₅ a₆ a₇ = f b₀ b₁ b₂ b₃ b₄ b₅ b₆ b₇ := by
  rw [e₀, e₁, e₂, e₃, e₄, e₅, e₆, e₇]

/-- The choice of experts equals its reference: the experts' numbers with the tokens' places, the gates and the counts, where the weights of norm and router are finite. -/
theorem route : algebraic_RouteKernelIdeal_RouteReferenceIdeal_pre_real (hRouteKernelIdeal := Cert.RouteKernelIdeal.Gen.facts)
    (hRouteReferenceIdeal := Cert.RouteReferenceIdeal.Gen.facts) (hPre_real := Cert.Pre_real.Gen.facts) := by
  intro m g m' g' hpre hagree
  refine ⟨fun c => Cert.RouteKernelIdeal.Value.G8 m c, fun c => Cert.RouteKernelIdeal.Value.G9 m c, fun c => Cert.RouteKernelIdeal.Value.G10 m c,
    (θ_run (Cert.RouteKernelIdeal.defs (F := Ideal)) _ _).mono (fun r h c => (h c).2) (Cert.RouteKernelIdeal.Value.run (F := Ideal) m g),
    (θ_run (Cert.RouteReferenceIdeal.defs (F := Ideal)) _ _).mono (fun r h c => ?_) (Cert.RouteReferenceIdeal.Value.run (F := Ideal) m' g')⟩
  obtain ⟨h3, h4, h5, h6, h7⟩ := Cert.Pre_real.reals _ _ _ _ _ _ _ _ (hpre c)
  obtain ⟨e0, e1, e2, e3, e4, e5, e6, e7⟩ := hagree c
  have ids := (h c).1.trans (Cert.RouteReferenceIdeal.Read.val_main_v78_eq _)
  have gates := (h c).2.1.trans (Cert.RouteReferenceIdeal.Read.val_main_v79_eq _)
  have counts := (h c).2.2.1.trans (Cert.RouteReferenceIdeal.Read.val_main_v82_eq _)
  refine ⟨funext fun i => ?_, funext fun i => ?_, funext fun i => ?_, (h c).2.2.2⟩
  · refine (congrFun (ids.trans (congr8 (Cert.RouteReferenceIdeal.Read.val_main_v78 (F := Ideal)) e0 e1 e2 e3 e4 e5 e6 e7)) i).trans ?_
    rw [ValueIdx.eq_ix2 i]
    exact (Cert.RouteReferenceIdeal.Block.ref_ids _ _ _ _ _ _ _ _ (i 1) h3 h4 h5 h6 h7 (i 0)).trans
      (Cert.RouteKernelIdeal.Block.ids_eq m c h3 h4 h5 h6 h7 (i 0) (i 1)).symm
  · refine (congrFun (gates.trans (congr8 (Cert.RouteReferenceIdeal.Read.val_main_v79 (F := Ideal)) e0 e1 e2 e3 e4 e5 e6 e7)) i).trans ?_
    rw [ValueIdx.eq_ix2 i]
    exact (Cert.RouteReferenceIdeal.Block.ref_gates _ _ _ _ _ _ _ _ (i 0) h3 h4 h5 h6 h7 (i 1)).trans
      (Cert.RouteKernelIdeal.Block.gates_eq m c h3 h4 h5 h6 h7 (i 0) (i 1)).symm
  · refine (congrFun (counts.trans (congr8 (Cert.RouteReferenceIdeal.Read.val_main_v82 (F := Ideal)) e0 e1 e2 e3 e4 e5 e6 e7)) i).trans ?_
    rw [ValueIdx.eq_ix2 i]
    exact (Cert.RouteReferenceIdeal.Block.ref_counts _ _ _ _ _ _ _ _ h3 h4 h5 h6 h7 (i 0) (i 1)).trans
      (Cert.RouteKernelIdeal.Block.counts_eq m c h3 h4 h5 h6 h7 (i 0) (i 1)).symm

/-- The same after the mixer. -/
theorem route_out : algebraic_RouteOutKernelIdeal_RouteOutReferenceIdeal_pre_real_out (hRouteOutKernelIdeal := Cert.RouteOutKernelIdeal.Gen.facts)
    (hRouteOutReferenceIdeal := Cert.RouteOutReferenceIdeal.Gen.facts) (hPre_real_out := Cert.Pre_real_out.Gen.facts) := by
  intro m g m' g' hpre hagree
  refine ⟨fun c => Cert.RouteOutKernelIdeal.Value.G8 m c, fun c => Cert.RouteOutKernelIdeal.Value.G9 m c, fun c => Cert.RouteOutKernelIdeal.Value.G10 m c,
    (θ_run (Cert.RouteOutKernelIdeal.defs (F := Ideal)) _ _).mono (fun r h c => (h c).2) (Cert.RouteOutKernelIdeal.Value.run (F := Ideal) m g),
    (θ_run (Cert.RouteOutReferenceIdeal.defs (F := Ideal)) _ _).mono (fun r h c => ?_) (Cert.RouteOutReferenceIdeal.Value.run (F := Ideal) m' g')⟩
  obtain ⟨h3, h4, h5, h6, h7⟩ := Cert.Pre_real_out.reals _ _ _ _ _ _ _ _ (hpre c)
  obtain ⟨e0, e1, e2, e3, e4, e5, e6, e7⟩ := hagree c
  have ids := (h c).1.trans (Cert.RouteOutReferenceIdeal.Read.val_main_v78_eq _)
  have gates := (h c).2.1.trans (Cert.RouteOutReferenceIdeal.Read.val_main_v79_eq _)
  have counts := (h c).2.2.1.trans (Cert.RouteOutReferenceIdeal.Read.val_main_v82_eq _)
  refine ⟨funext fun i => ?_, funext fun i => ?_, funext fun i => ?_, (h c).2.2.2⟩
  · refine (congrFun (ids.trans (congr8 (Cert.RouteOutReferenceIdeal.Read.val_main_v78 (F := Ideal)) e0 e1 e2 e3 e4 e5 e6 e7)) i).trans ?_
    rw [ValueIdx.eq_ix2 i]
    exact ((congrFun (Cert.RouteOutReferenceIdeal.Block.same_ids _ _ _ _ _ _ _ _) _).trans (Cert.RouteReferenceIdeal.Block.ref_ids _ _ _ _ _ _ _ _ (i 1) h3 h4 h5 h6 h7 (i 0))).trans
      (Cert.RouteOutKernelIdeal.Block.ids_eq m c h3 h4 h5 h6 h7 (i 0) (i 1)).symm
  · refine (congrFun (gates.trans (congr8 (Cert.RouteOutReferenceIdeal.Read.val_main_v79 (F := Ideal)) e0 e1 e2 e3 e4 e5 e6 e7)) i).trans ?_
    rw [ValueIdx.eq_ix2 i]
    exact ((congrFun (Cert.RouteOutReferenceIdeal.Block.same_gates _ _ _ _ _ _ _ _) _).trans (Cert.RouteReferenceIdeal.Block.ref_gates _ _ _ _ _ _ _ _ (i 0) h3 h4 h5 h6 h7 (i 1))).trans
      (Cert.RouteOutKernelIdeal.Block.gates_eq m c h3 h4 h5 h6 h7 (i 0) (i 1)).symm
  · refine (congrFun (counts.trans (congr8 (Cert.RouteOutReferenceIdeal.Read.val_main_v82 (F := Ideal)) e0 e1 e2 e3 e4 e5 e6 e7)) i).trans ?_
    rw [ValueIdx.eq_ix2 i]
    exact ((congrFun (Cert.RouteOutReferenceIdeal.Block.same_counts _ _ _ _ _ _ _ _) _).trans (Cert.RouteReferenceIdeal.Block.ref_counts _ _ _ _ _ _ _ _ h3 h4 h5 h6 h7 (i 0) (i 1))).trans
      (Cert.RouteOutKernelIdeal.Block.counts_eq m c h3 h4 h5 h6 h7 (i 0) (i 1)).symm

theorem claim : Cert.Claim := ⟨Cert.Kernel.Gen.facts, Cert.KernelIdeal.Gen.facts, Cert.ReferenceIdeal.Gen.facts, Cert.QkvKernel.Gen.facts, Cert.QkvKernelIdeal.Gen.facts, Cert.QkvReferenceIdeal.Gen.facts, Cert.InKernel.Gen.facts, Cert.InKernelIdeal.Gen.facts, Cert.InReferenceIdeal.Gen.facts, Cert.OutKernel.Gen.facts, Cert.OutKernelIdeal.Gen.facts, Cert.OutReferenceIdeal.Gen.facts, Cert.HeadsKernel.Gen.facts, Cert.HeadsKernelIdeal.Gen.facts, Cert.HeadsReferenceIdeal.Gen.facts, Cert.RouteKernel.Gen.facts, Cert.RouteKernelIdeal.Gen.facts, Cert.RouteReferenceIdeal.Gen.facts,
  Cert.RouteOutKernel.Gen.facts, Cert.RouteOutKernelIdeal.Gen.facts, Cert.RouteOutReferenceIdeal.Gen.facts, Cert.Pre_finite.Gen.facts, Cert.Pre_real.Gen.facts, Cert.Pre_real_out.Gen.facts,
  fun m g _ => Cert.Kernel.Gen.frame m g, fun m g _ => Cert.KernelIdeal.Gen.frame m g, fun m g _ => Cert.KernelIdeal.Gen.frame m g,
  frame_ReferenceIdeal, frame_ReferenceIdeal_pre_finite,
  fun m g _ => Cert.QkvKernel.Gen.frame m g, fun m g _ => Cert.QkvKernelIdeal.Gen.frame m g, frame_QkvReferenceIdeal,
  fun m g _ => Cert.InKernel.Gen.frame m g, fun m g _ => Cert.InKernelIdeal.Gen.frame m g, frame_InReferenceIdeal,
  fun m g _ => Cert.OutKernel.Gen.frame m g, fun m g _ => Cert.OutKernelIdeal.Gen.frame m g, frame_OutReferenceIdeal,
  fun m g _ => Cert.HeadsKernel.Gen.frame m g, fun m g _ => Cert.HeadsKernelIdeal.Gen.frame m g, frame_HeadsReferenceIdeal,
  fun m g _ => Cert.RouteKernel.Gen.frame m g, fun m g _ => Cert.RouteKernelIdeal.Gen.frame m g, fun m g _ => Cert.RouteKernelIdeal.Gen.frame m g,
  frame_RouteReferenceIdeal, frame_RouteReferenceIdeal_pre_real,
  fun m g _ => Cert.RouteOutKernel.Gen.frame m g, fun m g _ => Cert.RouteOutKernelIdeal.Gen.frame m g, fun m g _ => Cert.RouteOutKernelIdeal.Gen.frame m g,
  frame_RouteOutReferenceIdeal, frame_RouteOutReferenceIdeal_pre_real_out,
  ⟨IdealRules.named_const.statement Cert.KernelIdeal.κ "qscale" .f32 0x3E38AA3B#32 ((8⁻¹ * (Real.log 2)⁻¹ : ℝ) : EReal) rfl,
    IdealRules.named_const.statement Cert.KernelIdeal.κ "log2e" .f32 0x3FB8AA3B#32 (((Real.log 2)⁻¹ : ℝ) : EReal) rfl⟩,
  attention, trivial, qkv, trivial, inproj, trivial, outproj, trivial, headsproj, trivial, route, trivial, route_out⟩

end Cert.Proof

end
